-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Hidden (m : (ℓ : Loc Cert.Hidden.nD Cert.Hidden.τ Cert.Hidden.sig) → Buf (Elt Bits) ℓ) : Prop :=
  True

def Pre_HiddenIdeal (m : (ℓ : Loc Cert.HiddenIdeal.nD Cert.HiddenIdeal.τ Cert.HiddenIdeal.sig) → Buf (Elt Ideal) ℓ) : Prop :=
  True

def Pre_HiddenRefIdeal (m : (ℓ : Loc Cert.HiddenRefIdeal.nD Cert.HiddenRefIdeal.τ Cert.HiddenRefIdeal.sig) → Buf (Elt Ideal) ℓ) : Prop :=
  True

def Pre_GradFf2 (m : (ℓ : Loc Cert.GradFf2.nD Cert.GradFf2.τ Cert.GradFf2.sig) → Buf (Elt Bits) ℓ) : Prop :=
  True

def Pre_GradFf2Ideal (m : (ℓ : Loc Cert.GradFf2Ideal.nD Cert.GradFf2Ideal.τ Cert.GradFf2Ideal.sig) → Buf (Elt Ideal) ℓ) : Prop :=
  True

def Pre_GradFf2RefIdeal (m : (ℓ : Loc Cert.GradFf2RefIdeal.nD Cert.GradFf2RefIdeal.τ Cert.GradFf2RefIdeal.sig) → Buf (Elt Ideal) ℓ) : Prop :=
  True

def Pre_GradFf1 (m : (ℓ : Loc Cert.GradFf1.nD Cert.GradFf1.τ Cert.GradFf1.sig) → Buf (Elt Bits) ℓ) : Prop :=
  True

def Pre_GradFf1Ideal (m : (ℓ : Loc Cert.GradFf1Ideal.nD Cert.GradFf1Ideal.τ Cert.GradFf1Ideal.sig) → Buf (Elt Ideal) ℓ) : Prop :=
  True

def Pre_GradFf1RefIdeal (m : (ℓ : Loc Cert.GradFf1RefIdeal.nD Cert.GradFf1RefIdeal.τ Cert.GradFf1RefIdeal.sig) → Buf (Elt Ideal) ℓ) : Prop :=
  True

def Pre_GradH2 (m : (ℓ : Loc Cert.GradH2.nD Cert.GradH2.τ Cert.GradH2.sig) → Buf (Elt Bits) ℓ) : Prop :=
  True

def Pre_GradH2Ideal (m : (ℓ : Loc Cert.GradH2Ideal.nD Cert.GradH2Ideal.τ Cert.GradH2Ideal.sig) → Buf (Elt Ideal) ℓ) : Prop :=
  True

def Pre_GradH2RefIdeal (m : (ℓ : Loc Cert.GradH2RefIdeal.nD Cert.GradH2RefIdeal.τ Cert.GradH2RefIdeal.sig) → Buf (Elt Ideal) ℓ) : Prop :=
  True

def Pre_GradO (m : (ℓ : Loc Cert.GradO.nD Cert.GradO.τ Cert.GradO.sig) → Buf (Elt Bits) ℓ) : Prop :=
  True

def Pre_GradOIdeal (m : (ℓ : Loc Cert.GradOIdeal.nD Cert.GradOIdeal.τ Cert.GradOIdeal.sig) → Buf (Elt Ideal) ℓ) : Prop :=
  True

def Pre_GradORefIdeal (m : (ℓ : Loc Cert.GradORefIdeal.nD Cert.GradORefIdeal.τ Cert.GradORefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpRefIdeal (m : (ℓ : Loc Cert.GradUpRefIdeal.nD Cert.GradUpRefIdeal.τ Cert.GradUpRefIdeal.sig) → Buf (Elt Ideal) ℓ) : Prop :=
  True

def Pre_Branches (m : (ℓ : Loc Cert.Branches.nD Cert.Branches.τ Cert.Branches.sig) → Buf (Elt Bits) ℓ) : Prop :=
  True

def Pre_BranchesIdeal (m : (ℓ : Loc Cert.BranchesIdeal.nD Cert.BranchesIdeal.τ Cert.BranchesIdeal.sig) → Buf (Elt Ideal) ℓ) : Prop :=
  True

def Pre_BranchesRefIdeal (m : (ℓ : Loc Cert.BranchesRefIdeal.nD Cert.BranchesRefIdeal.τ Cert.BranchesRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_GradNorm1 (m : (ℓ : Loc Cert.GradNorm1.nD Cert.GradNorm1.τ Cert.GradNorm1.sig) → Buf (Elt Bits) ℓ) : Prop :=
  True

def Pre_GradNorm1Ideal (m : (ℓ : Loc Cert.GradNorm1Ideal.nD Cert.GradNorm1Ideal.τ Cert.GradNorm1Ideal.sig) → Buf (Elt Ideal) ℓ) : Prop :=
  True

def Pre_GradNorm1RefIdeal (m : (ℓ : Loc Cert.GradNorm1RefIdeal.nD Cert.GradNorm1RefIdeal.τ Cert.GradNorm1RefIdeal.sig) → Buf (Elt Ideal) ℓ) : Prop :=
  True

def Pre_GradNorm2 (m : (ℓ : Loc Cert.GradNorm2.nD Cert.GradNorm2.τ Cert.GradNorm2.sig) → Buf (Elt Bits) ℓ) : Prop :=
  True

def Pre_GradNorm2Ideal (m : (ℓ : Loc Cert.GradNorm2Ideal.nD Cert.GradNorm2Ideal.τ Cert.GradNorm2Ideal.sig) → Buf (Elt Ideal) ℓ) : Prop :=
  True

def Pre_GradNorm2RefIdeal (m : (ℓ : Loc Cert.GradNorm2RefIdeal.nD Cert.GradNorm2RefIdeal.τ Cert.GradNorm2RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Hidden [hHidden : Cert.Hidden.Facts] : Prop :=
  ∀ (m : (ℓ : Loc Cert.Hidden.nD Cert.Hidden.τ Cert.Hidden.sig) → Buf (Elt Bits) ℓ) (g : Dev Cert.Hidden.nD → PrngReg), Pre_Hidden m →
    θ_run (Cert.Hidden.defs (F := Bits)) (onTc (τ := Cert.Hidden.τ) (Cert.Hidden.main (F := Bits))) ⟨m, fun _ => 0, g⟩ (fun r => (∀ c : Dev Cert.Hidden.nD,
      r.2.mem ((c.tc : Thread Cert.Hidden.nD Cert.Hidden.τ).loc Cert.Hidden.main_arg0) = m ((c.tc : Thread Cert.Hidden.nD Cert.Hidden.τ).loc Cert.Hidden.main_arg0)
      ∧ r.2.mem ((c.tc : Thread Cert.Hidden.nD Cert.Hidden.τ).loc Cert.Hidden.main_arg1) = m ((c.tc : Thread Cert.Hidden.nD Cert.Hidden.τ).loc Cert.Hidden.main_arg1)
      ∧ r.2.mem ((c.tc : Thread Cert.Hidden.nD Cert.Hidden.τ).loc Cert.Hidden.main_arg2) = m ((c.tc : Thread Cert.Hidden.nD Cert.Hidden.τ).loc Cert.Hidden.main_arg2))
      ∧ r.2.sem = fun _ => 0)

def quiescent_HiddenIdeal [hHiddenIdeal : Cert.HiddenIdeal.Facts] : Prop :=
  ∀ (m : (ℓ : Loc Cert.HiddenIdeal.nD Cert.HiddenIdeal.τ Cert.HiddenIdeal.sig) → Buf (Elt Ideal) ℓ) (g : Dev Cert.HiddenIdeal.nD → PrngReg), Pre_HiddenIdeal m →
    θ_run (Cert.HiddenIdeal.defs (F := Ideal)) (onTc (τ := Cert.HiddenIdeal.τ) (Cert.HiddenIdeal.main (F := Ideal))) ⟨m, fun _ => 0, g⟩ (fun r => (∀ c : Dev Cert.HiddenIdeal.nD,
      r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
      ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
      ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ r.2.sem = fun _ => 0)

def quiescent_HiddenRefIdeal [hHiddenRefIdeal : Cert.HiddenRefIdeal.Facts] : Prop :=
  ∀ (m : (ℓ : Loc Cert.HiddenRefIdeal.nD Cert.HiddenRefIdeal.τ Cert.HiddenRefIdeal.sig) → Buf (Elt Ideal) ℓ) (g : Dev Cert.HiddenRefIdeal.nD → PrngReg), Pre_HiddenRefIdeal m →
    θ_run (Cert.HiddenRefIdeal.defs (F := Ideal)) (onTc (τ := Cert.HiddenRefIdeal.τ) (Cert.HiddenRefIdeal.main (F := Ideal))) ⟨m, fun _ => 0, g⟩ (fun r => (∀ c : Dev Cert.HiddenRefIdeal.nD,
      r.2.mem ((c.tc : Thread Cert.HiddenRefIdeal.nD Cert.HiddenRefIdeal.τ).loc Cert.HiddenRefIdeal.main_arg0) = m ((c.tc : Thread Cert.HiddenRefIdeal.nD Cert.HiddenRefIdeal.τ).loc Cert.HiddenRefIdeal.main_arg0)
      ∧ r.2.mem ((c.tc : Thread Cert.HiddenRefIdeal.nD Cert.HiddenRefIdeal.τ).loc Cert.HiddenRefIdeal.main_arg1) = m ((c.tc : Thread Cert.HiddenRefIdeal.nD Cert.HiddenRefIdeal.τ).loc Cert.HiddenRefIdeal.main_arg1)
      ∧ r.2.mem ((c.tc : Thread Cert.HiddenRefIdeal.nD Cert.HiddenRefIdeal.τ).loc Cert.HiddenRefIdeal.main_arg2) = m ((c.tc : Thread Cert.HiddenRefIdeal.nD Cert.HiddenRefIdeal.τ).loc Cert.HiddenRefIdeal.main_arg2))
      ∧ r.2.sem = fun _ => 0)

def quiescent_GradFf2 [hGradFf2 : Cert.GradFf2.Facts] : Prop :=
  ∀ (m : (ℓ : Loc Cert.GradFf2.nD Cert.GradFf2.τ Cert.GradFf2.sig) → Buf (Elt Bits) ℓ) (g : Dev Cert.GradFf2.nD → PrngReg), Pre_GradFf2 m →
    θ_run (Cert.GradFf2.defs (F := Bits)) (onTc (τ := Cert.GradFf2.τ) (Cert.GradFf2.main (F := Bits))) ⟨m, fun _ => 0, g⟩ (fun r => (∀ c : Dev Cert.GradFf2.nD,
      r.2.mem ((c.tc : Thread Cert.GradFf2.nD Cert.GradFf2.τ).loc Cert.GradFf2.main_arg0) = m ((c.tc : Thread Cert.GradFf2.nD Cert.GradFf2.τ).loc Cert.GradFf2.main_arg0)
      ∧ r.2.mem ((c.tc : Thread Cert.GradFf2.nD Cert.GradFf2.τ).loc Cert.GradFf2.main_arg1) = m ((c.tc : Thread Cert.GradFf2.nD Cert.GradFf2.τ).loc Cert.GradFf2.main_arg1)
      ∧ r.2.mem ((c.tc : Thread Cert.GradFf2.nD Cert.GradFf2.τ).loc Cert.GradFf2.main_arg2) = m ((c.tc : Thread Cert.GradFf2.nD Cert.GradFf2.τ).loc Cert.GradFf2.main_arg2))
      ∧ r.2.sem = fun _ => 0)

def quiescent_GradFf2Ideal [hGradFf2Ideal : Cert.GradFf2Ideal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg), Pre_GradFf2Ideal m →
    θ_run (Cert.GradFf2Ideal.defs (F := Ideal)) (onTc (τ := Cert.GradFf2Ideal.τ) (Cert.GradFf2Ideal.main (F := Ideal))) ⟨m, fun _ => 0, g⟩ (fun r => (∀ c : Dev Cert.GradFf2Ideal.nD,
      r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
      ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1)
      ∧ r.2.mem ((c.tc : Thread Cert.GradFf2Ideal.nD Cert.GradFf2Ideal.τ).loc Cert.GradFf2Ideal.main_arg2) = m ((c.tc : Thread Cert.GradFf2Ideal.nD Cert.GradFf2Ideal.τ).loc Cert.GradFf2Ideal.main_arg2))
      ∧ r.2.sem = fun _ => 0)

def quiescent_GradFf2RefIdeal [hGradFf2RefIdeal : Cert.GradFf2RefIdeal.Facts] : Prop :=
  ∀ (m : (ℓ : Loc Cert.GradFf2RefIdeal.nD Cert.GradFf2RefIdeal.τ Cert.GradFf2RefIdeal.sig) → Buf (Elt Ideal) ℓ) (g : Dev Cert.GradFf2RefIdeal.nD → PrngReg), Pre_GradFf2RefIdeal m →
    θ_run (Cert.GradFf2RefIdeal.defs (F := Ideal)) (onTc (τ := Cert.GradFf2RefIdeal.τ) (Cert.GradFf2RefIdeal.main (F := Ideal))) ⟨m, fun _ => 0, g⟩ (fun r => (∀ c : Dev Cert.GradFf2RefIdeal.nD,
      r.2.mem ((c.tc : Thread Cert.GradFf2RefIdeal.nD Cert.GradFf2RefIdeal.τ).loc Cert.GradFf2RefIdeal.main_arg0) = m ((c.tc : Thread Cert.GradFf2RefIdeal.nD Cert.GradFf2RefIdeal.τ).loc Cert.GradFf2RefIdeal.main_arg0)
      ∧ r.2.mem ((c.tc : Thread Cert.GradFf2RefIdeal.nD Cert.GradFf2RefIdeal.τ).loc Cert.GradFf2RefIdeal.main_arg1) = m ((c.tc : Thread Cert.GradFf2RefIdeal.nD Cert.GradFf2RefIdeal.τ).loc Cert.GradFf2RefIdeal.main_arg1)
      ∧ r.2.mem ((c.tc : Thread Cert.GradFf2RefIdeal.nD Cert.GradFf2RefIdeal.τ).loc Cert.GradFf2RefIdeal.main_arg2) = m ((c.tc : Thread Cert.GradFf2RefIdeal.nD Cert.GradFf2RefIdeal.τ).loc Cert.GradFf2RefIdeal.main_arg2))
      ∧ r.2.sem = fun _ => 0)

def quiescent_GradFf1 [hGradFf1 : Cert.GradFf1.Facts] : Prop :=
  ∀ (m : (ℓ : Loc Cert.GradFf1.nD Cert.GradFf1.τ Cert.GradFf1.sig) → Buf (Elt Bits) ℓ) (g : Dev Cert.GradFf1.nD → PrngReg), Pre_GradFf1 m →
    θ_run (Cert.GradFf1.defs (F := Bits)) (onTc (τ := Cert.GradFf1.τ) (Cert.GradFf1.main (F := Bits))) ⟨m, fun _ => 0, g⟩ (fun r => (∀ c : Dev Cert.GradFf1.nD,
      r.2.mem ((c.tc : Thread Cert.GradFf1.nD Cert.GradFf1.τ).loc Cert.GradFf1.main_arg0) = m ((c.tc : Thread Cert.GradFf1.nD Cert.GradFf1.τ).loc Cert.GradFf1.main_arg0)
      ∧ r.2.mem ((c.tc : Thread Cert.GradFf1.nD Cert.GradFf1.τ).loc Cert.GradFf1.main_arg1) = m ((c.tc : Thread Cert.GradFf1.nD Cert.GradFf1.τ).loc Cert.GradFf1.main_arg1)
      ∧ r.2.mem ((c.tc : Thread Cert.GradFf1.nD Cert.GradFf1.τ).loc Cert.GradFf1.main_arg2) = m ((c.tc : Thread Cert.GradFf1.nD Cert.GradFf1.τ).loc Cert.GradFf1.main_arg2))
      ∧ r.2.sem = fun _ => 0)

def quiescent_GradFf1Ideal [hGradFf1Ideal : Cert.GradFf1Ideal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg), Pre_GradFf1Ideal m →
    θ_run (Cert.GradFf1Ideal.defs (F := Ideal)) (onTc (τ := Cert.GradFf1Ideal.τ) (Cert.GradFf1Ideal.main (F := Ideal))) ⟨m, fun _ => 0, g⟩ (fun r => (∀ c : Dev Cert.GradFf1Ideal.nD,
      r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
      ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1)
      ∧ r.2.mem ((c.tc : Thread Cert.GradFf1Ideal.nD Cert.GradFf1Ideal.τ).loc Cert.GradFf1Ideal.main_arg2) = m ((c.tc : Thread Cert.GradFf1Ideal.nD Cert.GradFf1Ideal.τ).loc Cert.GradFf1Ideal.main_arg2))
      ∧ r.2.sem = fun _ => 0)

def quiescent_GradFf1RefIdeal [hGradFf1RefIdeal : Cert.GradFf1RefIdeal.Facts] : Prop :=
  ∀ (m : (ℓ : Loc Cert.GradFf1RefIdeal.nD Cert.GradFf1RefIdeal.τ Cert.GradFf1RefIdeal.sig) → Buf (Elt Ideal) ℓ) (g : Dev Cert.GradFf1RefIdeal.nD → PrngReg), Pre_GradFf1RefIdeal m →
    θ_run (Cert.GradFf1RefIdeal.defs (F := Ideal)) (onTc (τ := Cert.GradFf1RefIdeal.τ) (Cert.GradFf1RefIdeal.main (F := Ideal))) ⟨m, fun _ => 0, g⟩ (fun r => (∀ c : Dev Cert.GradFf1RefIdeal.nD,
      r.2.mem ((c.tc : Thread Cert.GradFf1RefIdeal.nD Cert.GradFf1RefIdeal.τ).loc Cert.GradFf1RefIdeal.main_arg0) = m ((c.tc : Thread Cert.GradFf1RefIdeal.nD Cert.GradFf1RefIdeal.τ).loc Cert.GradFf1RefIdeal.main_arg0)
      ∧ r.2.mem ((c.tc : Thread Cert.GradFf1RefIdeal.nD Cert.GradFf1RefIdeal.τ).loc Cert.GradFf1RefIdeal.main_arg1) = m ((c.tc : Thread Cert.GradFf1RefIdeal.nD Cert.GradFf1RefIdeal.τ).loc Cert.GradFf1RefIdeal.main_arg1)
      ∧ r.2.mem ((c.tc : Thread Cert.GradFf1RefIdeal.nD Cert.GradFf1RefIdeal.τ).loc Cert.GradFf1RefIdeal.main_arg2) = m ((c.tc : Thread Cert.GradFf1RefIdeal.nD Cert.GradFf1RefIdeal.τ).loc Cert.GradFf1RefIdeal.main_arg2))
      ∧ r.2.sem = fun _ => 0)

def quiescent_GradH2 [hGradH2 : Cert.GradH2.Facts] : Prop :=
  ∀ (m : (ℓ : Loc Cert.GradH2.nD Cert.GradH2.τ Cert.GradH2.sig) → Buf (Elt Bits) ℓ) (g : Dev Cert.GradH2.nD → PrngReg), Pre_GradH2 m →
    θ_run (Cert.GradH2.defs (F := Bits)) (onTc (τ := Cert.GradH2.τ) (Cert.GradH2.main (F := Bits))) ⟨m, fun _ => 0, g⟩ (fun r => (∀ c : Dev Cert.GradH2.nD,
      r.2.mem ((c.tc : Thread Cert.GradH2.nD Cert.GradH2.τ).loc Cert.GradH2.main_arg0) = m ((c.tc : Thread Cert.GradH2.nD Cert.GradH2.τ).loc Cert.GradH2.main_arg0)
      ∧ r.2.mem ((c.tc : Thread Cert.GradH2.nD Cert.GradH2.τ).loc Cert.GradH2.main_arg1) = m ((c.tc : Thread Cert.GradH2.nD Cert.GradH2.τ).loc Cert.GradH2.main_arg1)
      ∧ r.2.mem ((c.tc : Thread Cert.GradH2.nD Cert.GradH2.τ).loc Cert.GradH2.main_arg2) = m ((c.tc : Thread Cert.GradH2.nD Cert.GradH2.τ).loc Cert.GradH2.main_arg2))
      ∧ r.2.sem = fun _ => 0)

def quiescent_GradH2Ideal [hGradH2Ideal : Cert.GradH2Ideal.Facts] : Prop :=
  ∀ (m : (ℓ : Loc Cert.GradH2Ideal.nD Cert.GradH2Ideal.τ Cert.GradH2Ideal.sig) → Buf (Elt Ideal) ℓ) (g : Dev Cert.GradH2Ideal.nD → PrngReg), Pre_GradH2Ideal m →
    θ_run (Cert.GradH2Ideal.defs (F := Ideal)) (onTc (τ := Cert.GradH2Ideal.τ) (Cert.GradH2Ideal.main (F := Ideal))) ⟨m, fun _ => 0, g⟩ (fun r => (∀ c : Dev Cert.GradH2Ideal.nD,
      r.2.mem ((c.tc : Thread Cert.GradH2Ideal.nD Cert.GradH2Ideal.τ).loc Cert.GradH2Ideal.main_arg0) = m ((c.tc : Thread Cert.GradH2Ideal.nD Cert.GradH2Ideal.τ).loc Cert.GradH2Ideal.main_arg0)
      ∧ r.2.mem ((c.tc : Thread Cert.GradH2Ideal.nD Cert.GradH2Ideal.τ).loc Cert.GradH2Ideal.main_arg1) = m ((c.tc : Thread Cert.GradH2Ideal.nD Cert.GradH2Ideal.τ).loc Cert.GradH2Ideal.main_arg1)
      ∧ r.2.mem ((c.tc : Thread Cert.GradH2Ideal.nD Cert.GradH2Ideal.τ).loc Cert.GradH2Ideal.main_arg2) = m ((c.tc : Thread Cert.GradH2Ideal.nD Cert.GradH2Ideal.τ).loc Cert.GradH2Ideal.main_arg2))
      ∧ r.2.sem = fun _ => 0)

def quiescent_GradH2RefIdeal [hGradH2RefIdeal : Cert.GradH2RefIdeal.Facts] : Prop :=
  ∀ (m : (ℓ : Loc Cert.GradH2RefIdeal.nD Cert.GradH2RefIdeal.τ Cert.GradH2RefIdeal.sig) → Buf (Elt Ideal) ℓ) (g : Dev Cert.GradH2RefIdeal.nD → PrngReg), Pre_GradH2RefIdeal m →
    θ_run (Cert.GradH2RefIdeal.defs (F := Ideal)) (onTc (τ := Cert.GradH2RefIdeal.τ) (Cert.GradH2RefIdeal.main (F := Ideal))) ⟨m, fun _ => 0, g⟩ (fun r => (∀ c : Dev Cert.GradH2RefIdeal.nD,
      r.2.mem ((c.tc : Thread Cert.GradH2RefIdeal.nD Cert.GradH2RefIdeal.τ).loc Cert.GradH2RefIdeal.main_arg0) = m ((c.tc : Thread Cert.GradH2RefIdeal.nD Cert.GradH2RefIdeal.τ).loc Cert.GradH2RefIdeal.main_arg0)
      ∧ r.2.mem ((c.tc : Thread Cert.GradH2RefIdeal.nD Cert.GradH2RefIdeal.τ).loc Cert.GradH2RefIdeal.main_arg1) = m ((c.tc : Thread Cert.GradH2RefIdeal.nD Cert.GradH2RefIdeal.τ).loc Cert.GradH2RefIdeal.main_arg1)
      ∧ r.2.mem ((c.tc : Thread Cert.GradH2RefIdeal.nD Cert.GradH2RefIdeal.τ).loc Cert.GradH2RefIdeal.main_arg2) = m ((c.tc : Thread Cert.GradH2RefIdeal.nD Cert.GradH2RefIdeal.τ).loc Cert.GradH2RefIdeal.main_arg2))
      ∧ r.2.sem = fun _ => 0)

def quiescent_GradO [hGradO : Cert.GradO.Facts] : Prop :=
  ∀ (m : (ℓ : Loc Cert.GradO.nD Cert.GradO.τ Cert.GradO.sig) → Buf (Elt Bits) ℓ) (g : Dev Cert.GradO.nD → PrngReg), Pre_GradO m →
    θ_run (Cert.GradO.defs (F := Bits)) (onTc (τ := Cert.GradO.τ) (Cert.GradO.main (F := Bits))) ⟨m, fun _ => 0, g⟩ (fun r => (∀ c : Dev Cert.GradO.nD,
      r.2.mem ((c.tc : Thread Cert.GradO.nD Cert.GradO.τ).loc Cert.GradO.main_arg0) = m ((c.tc : Thread Cert.GradO.nD Cert.GradO.τ).loc Cert.GradO.main_arg0)
      ∧ r.2.mem ((c.tc : Thread Cert.GradO.nD Cert.GradO.τ).loc Cert.GradO.main_arg1) = m ((c.tc : Thread Cert.GradO.nD Cert.GradO.τ).loc Cert.GradO.main_arg1)
      ∧ r.2.mem ((c.tc : Thread Cert.GradO.nD Cert.GradO.τ).loc Cert.GradO.main_arg2) = m ((c.tc : Thread Cert.GradO.nD Cert.GradO.τ).loc Cert.GradO.main_arg2))
      ∧ r.2.sem = fun _ => 0)

def quiescent_GradOIdeal [hGradOIdeal : Cert.GradOIdeal.Facts] : Prop :=
  ∀ (m : (ℓ : Loc Cert.GradOIdeal.nD Cert.GradOIdeal.τ Cert.GradOIdeal.sig) → Buf (Elt Ideal) ℓ) (g : Dev Cert.GradOIdeal.nD → PrngReg), Pre_GradOIdeal m →
    θ_run (Cert.GradOIdeal.defs (F := Ideal)) (onTc (τ := Cert.GradOIdeal.τ) (Cert.GradOIdeal.main (F := Ideal))) ⟨m, fun _ => 0, g⟩ (fun r => (∀ c : Dev Cert.GradOIdeal.nD,
      r.2.mem ((c.tc : Thread Cert.GradOIdeal.nD Cert.GradOIdeal.τ).loc Cert.GradOIdeal.main_arg0) = m ((c.tc : Thread Cert.GradOIdeal.nD Cert.GradOIdeal.τ).loc Cert.GradOIdeal.main_arg0)
      ∧ r.2.mem ((c.tc : Thread Cert.GradOIdeal.nD Cert.GradOIdeal.τ).loc Cert.GradOIdeal.main_arg1) = m ((c.tc : Thread Cert.GradOIdeal.nD Cert.GradOIdeal.τ).loc Cert.GradOIdeal.main_arg1)
      ∧ r.2.mem ((c.tc : Thread Cert.GradOIdeal.nD Cert.GradOIdeal.τ).loc Cert.GradOIdeal.main_arg2) = m ((c.tc : Thread Cert.GradOIdeal.nD Cert.GradOIdeal.τ).loc Cert.GradOIdeal.main_arg2))
      ∧ r.2.sem = fun _ => 0)

def quiescent_GradORefIdeal [hGradORefIdeal : Cert.GradORefIdeal.Facts] : Prop :=
  ∀ (m : (ℓ : Loc Cert.GradORefIdeal.nD Cert.GradORefIdeal.τ Cert.GradORefIdeal.sig) → Buf (Elt Ideal) ℓ) (g : Dev Cert.GradORefIdeal.nD → PrngReg), Pre_GradORefIdeal m →
    θ_run (Cert.GradORefIdeal.defs (F := Ideal)) (onTc (τ := Cert.GradORefIdeal.τ) (Cert.GradORefIdeal.main (F := Ideal))) ⟨m, fun _ => 0, g⟩ (fun r => (∀ c : Dev Cert.GradORefIdeal.nD,
      r.2.mem ((c.tc : Thread Cert.GradORefIdeal.nD Cert.GradORefIdeal.τ).loc Cert.GradORefIdeal.main_arg0) = m ((c.tc : Thread Cert.GradORefIdeal.nD Cert.GradORefIdeal.τ).loc Cert.GradORefIdeal.main_arg0)
      ∧ r.2.mem ((c.tc : Thread Cert.GradORefIdeal.nD Cert.GradORefIdeal.τ).loc Cert.GradORefIdeal.main_arg1) = m ((c.tc : Thread Cert.GradORefIdeal.nD Cert.GradORefIdeal.τ).loc Cert.GradORefIdeal.main_arg1)
      ∧ r.2.mem ((c.tc : Thread Cert.GradORefIdeal.nD Cert.GradORefIdeal.τ).loc Cert.GradORefIdeal.main_arg2) = m ((c.tc : Thread Cert.GradORefIdeal.nD Cert.GradORefIdeal.τ).loc Cert.GradORefIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1)
      ∧ r.2.mem ((c.tc : Thread Cert.GradUp.nD Cert.GradUp.τ).loc Cert.GradUp.main_arg2) = m ((c.tc : Thread Cert.GradUp.nD Cert.GradUp.τ).loc Cert.GradUp.main_arg2)
      ∧ r.2.mem ((c.tc : Thread Cert.GradUp.nD Cert.GradUp.τ).loc Cert.GradUp.main_arg3) = m ((c.tc : Thread Cert.GradUp.nD Cert.GradUp.τ).loc Cert.GradUp.main_arg3)
      ∧ r.2.mem ((c.tc : Thread Cert.GradUp.nD Cert.GradUp.τ).loc Cert.GradUp.main_arg4) = m ((c.tc : Thread Cert.GradUp.nD Cert.GradUp.τ).loc Cert.GradUp.main_arg4)
      ∧ r.2.mem ((c.tc : Thread Cert.GradUp.nD Cert.GradUp.τ).loc Cert.GradUp.main_arg5) = m ((c.tc : Thread Cert.GradUp.nD Cert.GradUp.τ).loc Cert.GradUp.main_arg5))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1)
      ∧ r.2.mem ((c.tc : Thread Cert.GradUpIdeal.nD Cert.GradUpIdeal.τ).loc Cert.GradUpIdeal.main_arg2) = m ((c.tc : Thread Cert.GradUpIdeal.nD Cert.GradUpIdeal.τ).loc Cert.GradUpIdeal.main_arg2)
      ∧ r.2.mem ((c.tc : Thread Cert.GradUpIdeal.nD Cert.GradUpIdeal.τ).loc Cert.GradUpIdeal.main_arg3) = m ((c.tc : Thread Cert.GradUpIdeal.nD Cert.GradUpIdeal.τ).loc Cert.GradUpIdeal.main_arg3)
      ∧ r.2.mem ((c.tc : Thread Cert.GradUpIdeal.nD Cert.GradUpIdeal.τ).loc Cert.GradUpIdeal.main_arg4) = m ((c.tc : Thread Cert.GradUpIdeal.nD Cert.GradUpIdeal.τ).loc Cert.GradUpIdeal.main_arg4)
      ∧ r.2.mem ((c.tc : Thread Cert.GradUpIdeal.nD Cert.GradUpIdeal.τ).loc Cert.GradUpIdeal.main_arg5) = m ((c.tc : Thread Cert.GradUpIdeal.nD Cert.GradUpIdeal.τ).loc Cert.GradUpIdeal.main_arg5))
      ∧ r.2.sem = fun _ => 0)

def quiescent_GradUpRefIdeal [hGradUpRefIdeal : Cert.GradUpRefIdeal.Facts] : Prop :=
  ∀ (m : (ℓ : Loc Cert.GradUpRefIdeal.nD Cert.GradUpRefIdeal.τ Cert.GradUpRefIdeal.sig) → Buf (Elt Ideal) ℓ) (g : Dev Cert.GradUpRefIdeal.nD → PrngReg), Pre_GradUpRefIdeal m →
    θ_run (Cert.GradUpRefIdeal.defs (F := Ideal)) (onTc (τ := Cert.GradUpRefIdeal.τ) (Cert.GradUpRefIdeal.main (F := Ideal))) ⟨m, fun _ => 0, g⟩ (fun r => (∀ c : Dev Cert.GradUpRefIdeal.nD,
      r.2.mem ((c.tc : Thread Cert.GradUpRefIdeal.nD Cert.GradUpRefIdeal.τ).loc Cert.GradUpRefIdeal.main_arg0) = m ((c.tc : Thread Cert.GradUpRefIdeal.nD Cert.GradUpRefIdeal.τ).loc Cert.GradUpRefIdeal.main_arg0)
      ∧ r.2.mem ((c.tc : Thread Cert.GradUpRefIdeal.nD Cert.GradUpRefIdeal.τ).loc Cert.GradUpRefIdeal.main_arg1) = m ((c.tc : Thread Cert.GradUpRefIdeal.nD Cert.GradUpRefIdeal.τ).loc Cert.GradUpRefIdeal.main_arg1)
      ∧ r.2.mem ((c.tc : Thread Cert.GradUpRefIdeal.nD Cert.GradUpRefIdeal.τ).loc Cert.GradUpRefIdeal.main_arg2) = m ((c.tc : Thread Cert.GradUpRefIdeal.nD Cert.GradUpRefIdeal.τ).loc Cert.GradUpRefIdeal.main_arg2)
      ∧ r.2.mem ((c.tc : Thread Cert.GradUpRefIdeal.nD Cert.GradUpRefIdeal.τ).loc Cert.GradUpRefIdeal.main_arg3) = m ((c.tc : Thread Cert.GradUpRefIdeal.nD Cert.GradUpRefIdeal.τ).loc Cert.GradUpRefIdeal.main_arg3)
      ∧ r.2.mem ((c.tc : Thread Cert.GradUpRefIdeal.nD Cert.GradUpRefIdeal.τ).loc Cert.GradUpRefIdeal.main_arg4) = m ((c.tc : Thread Cert.GradUpRefIdeal.nD Cert.GradUpRefIdeal.τ).loc Cert.GradUpRefIdeal.main_arg4)
      ∧ r.2.mem ((c.tc : Thread Cert.GradUpRefIdeal.nD Cert.GradUpRefIdeal.τ).loc Cert.GradUpRefIdeal.main_arg5) = m ((c.tc : Thread Cert.GradUpRefIdeal.nD Cert.GradUpRefIdeal.τ).loc Cert.GradUpRefIdeal.main_arg5))
      ∧ r.2.sem = fun _ => 0)

def quiescent_Branches [hBranches : Cert.Branches.Facts] : Prop :=
  ∀ (m : (ℓ : Loc Cert.Branches.nD Cert.Branches.τ Cert.Branches.sig) → Buf (Elt Bits) ℓ) (g : Dev Cert.Branches.nD → PrngReg), Pre_Branches m →
    θ_run (Cert.Branches.defs (F := Bits)) (onTc (τ := Cert.Branches.τ) (Cert.Branches.main (F := Bits))) ⟨m, fun _ => 0, g⟩ (fun r => (∀ c : Dev Cert.Branches.nD,
      r.2.mem ((c.tc : Thread Cert.Branches.nD Cert.Branches.τ).loc Cert.Branches.main_arg0) = m ((c.tc : Thread Cert.Branches.nD Cert.Branches.τ).loc Cert.Branches.main_arg0)
      ∧ r.2.mem ((c.tc : Thread Cert.Branches.nD Cert.Branches.τ).loc Cert.Branches.main_arg1) = m ((c.tc : Thread Cert.Branches.nD Cert.Branches.τ).loc Cert.Branches.main_arg1)
      ∧ r.2.mem ((c.tc : Thread Cert.Branches.nD Cert.Branches.τ).loc Cert.Branches.main_arg2) = m ((c.tc : Thread Cert.Branches.nD Cert.Branches.τ).loc Cert.Branches.main_arg2)
      ∧ r.2.mem ((c.tc : Thread Cert.Branches.nD Cert.Branches.τ).loc Cert.Branches.main_arg3) = m ((c.tc : Thread Cert.Branches.nD Cert.Branches.τ).loc Cert.Branches.main_arg3)
      ∧ r.2.mem ((c.tc : Thread Cert.Branches.nD Cert.Branches.τ).loc Cert.Branches.main_arg4) = m ((c.tc : Thread Cert.Branches.nD Cert.Branches.τ).loc Cert.Branches.main_arg4)
      ∧ r.2.mem ((c.tc : Thread Cert.Branches.nD Cert.Branches.τ).loc Cert.Branches.main_arg5) = m ((c.tc : Thread Cert.Branches.nD Cert.Branches.τ).loc Cert.Branches.main_arg5))
      ∧ r.2.sem = fun _ => 0)

def quiescent_BranchesIdeal [hBranchesIdeal : Cert.BranchesIdeal.Facts] : Prop :=
  ∀ (m : (ℓ : Loc Cert.BranchesIdeal.nD Cert.BranchesIdeal.τ Cert.BranchesIdeal.sig) → Buf (Elt Ideal) ℓ) (g : Dev Cert.BranchesIdeal.nD → PrngReg), Pre_BranchesIdeal m →
    θ_run (Cert.BranchesIdeal.defs (F := Ideal)) (onTc (τ := Cert.BranchesIdeal.τ) (Cert.BranchesIdeal.main (F := Ideal))) ⟨m, fun _ => 0, g⟩ (fun r => (∀ c : Dev Cert.BranchesIdeal.nD,
      r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
      ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
      ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
      ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
      ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4)
      ∧ r.2.mem ((c.tc : Thread Cert.BranchesIdeal.nD Cert.BranchesIdeal.τ).loc Cert.BranchesIdeal.main_arg5) = m ((c.tc : Thread Cert.BranchesIdeal.nD Cert.BranchesIdeal.τ).loc Cert.BranchesIdeal.main_arg5))
      ∧ r.2.sem = fun _ => 0)

def quiescent_BranchesRefIdeal [hBranchesRefIdeal : Cert.BranchesRefIdeal.Facts] : Prop :=
  ∀ (m : (ℓ : Loc Cert.BranchesRefIdeal.nD Cert.BranchesRefIdeal.τ Cert.BranchesRefIdeal.sig) → Buf (Elt Ideal) ℓ) (g : Dev Cert.BranchesRefIdeal.nD → PrngReg), Pre_BranchesRefIdeal m →
    θ_run (Cert.BranchesRefIdeal.defs (F := Ideal)) (onTc (τ := Cert.BranchesRefIdeal.τ) (Cert.BranchesRefIdeal.main (F := Ideal))) ⟨m, fun _ => 0, g⟩ (fun r => (∀ c : Dev Cert.BranchesRefIdeal.nD,
      r.2.mem ((c.tc : Thread Cert.BranchesRefIdeal.nD Cert.BranchesRefIdeal.τ).loc Cert.BranchesRefIdeal.main_arg0) = m ((c.tc : Thread Cert.BranchesRefIdeal.nD Cert.BranchesRefIdeal.τ).loc Cert.BranchesRefIdeal.main_arg0)
      ∧ r.2.mem ((c.tc : Thread Cert.BranchesRefIdeal.nD Cert.BranchesRefIdeal.τ).loc Cert.BranchesRefIdeal.main_arg1) = m ((c.tc : Thread Cert.BranchesRefIdeal.nD Cert.BranchesRefIdeal.τ).loc Cert.BranchesRefIdeal.main_arg1)
      ∧ r.2.mem ((c.tc : Thread Cert.BranchesRefIdeal.nD Cert.BranchesRefIdeal.τ).loc Cert.BranchesRefIdeal.main_arg2) = m ((c.tc : Thread Cert.BranchesRefIdeal.nD Cert.BranchesRefIdeal.τ).loc Cert.BranchesRefIdeal.main_arg2)
      ∧ r.2.mem ((c.tc : Thread Cert.BranchesRefIdeal.nD Cert.BranchesRefIdeal.τ).loc Cert.BranchesRefIdeal.main_arg3) = m ((c.tc : Thread Cert.BranchesRefIdeal.nD Cert.BranchesRefIdeal.τ).loc Cert.BranchesRefIdeal.main_arg3)
      ∧ r.2.mem ((c.tc : Thread Cert.BranchesRefIdeal.nD Cert.BranchesRefIdeal.τ).loc Cert.BranchesRefIdeal.main_arg4) = m ((c.tc : Thread Cert.BranchesRefIdeal.nD Cert.BranchesRefIdeal.τ).loc Cert.BranchesRefIdeal.main_arg4)
      ∧ r.2.mem ((c.tc : Thread Cert.BranchesRefIdeal.nD Cert.BranchesRefIdeal.τ).loc Cert.BranchesRefIdeal.main_arg5) = m ((c.tc : Thread Cert.BranchesRefIdeal.nD Cert.BranchesRefIdeal.τ).loc Cert.BranchesRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_GradNorm1 [hGradNorm1 : Cert.GradNorm1.Facts] : Prop :=
  ∀ (m : (ℓ : Loc Cert.GradNorm1.nD Cert.GradNorm1.τ Cert.GradNorm1.sig) → Buf (Elt Bits) ℓ) (g : Dev Cert.GradNorm1.nD → PrngReg), Pre_GradNorm1 m →
    θ_run (Cert.GradNorm1.defs (F := Bits)) (onTc (τ := Cert.GradNorm1.τ) (Cert.GradNorm1.main (F := Bits))) ⟨m, fun _ => 0, g⟩ (fun r => (∀ c : Dev Cert.GradNorm1.nD,
      r.2.mem ((c.tc : Thread Cert.GradNorm1.nD Cert.GradNorm1.τ).loc Cert.GradNorm1.main_arg0) = m ((c.tc : Thread Cert.GradNorm1.nD Cert.GradNorm1.τ).loc Cert.GradNorm1.main_arg0)
      ∧ r.2.mem ((c.tc : Thread Cert.GradNorm1.nD Cert.GradNorm1.τ).loc Cert.GradNorm1.main_arg1) = m ((c.tc : Thread Cert.GradNorm1.nD Cert.GradNorm1.τ).loc Cert.GradNorm1.main_arg1)
      ∧ r.2.mem ((c.tc : Thread Cert.GradNorm1.nD Cert.GradNorm1.τ).loc Cert.GradNorm1.main_arg2) = m ((c.tc : Thread Cert.GradNorm1.nD Cert.GradNorm1.τ).loc Cert.GradNorm1.main_arg2)
      ∧ r.2.mem ((c.tc : Thread Cert.GradNorm1.nD Cert.GradNorm1.τ).loc Cert.GradNorm1.main_arg3) = m ((c.tc : Thread Cert.GradNorm1.nD Cert.GradNorm1.τ).loc Cert.GradNorm1.main_arg3)
      ∧ r.2.mem ((c.tc : Thread Cert.GradNorm1.nD Cert.GradNorm1.τ).loc Cert.GradNorm1.main_arg4) = m ((c.tc : Thread Cert.GradNorm1.nD Cert.GradNorm1.τ).loc Cert.GradNorm1.main_arg4))
      ∧ r.2.sem = fun _ => 0)

def quiescent_GradNorm1Ideal [hGradNorm1Ideal : Cert.GradNorm1Ideal.Facts] : Prop :=
  ∀ (m : (ℓ : Loc Cert.GradNorm1Ideal.nD Cert.GradNorm1Ideal.τ Cert.GradNorm1Ideal.sig) → Buf (Elt Ideal) ℓ) (g : Dev Cert.GradNorm1Ideal.nD → PrngReg), Pre_GradNorm1Ideal m →
    θ_run (Cert.GradNorm1Ideal.defs (F := Ideal)) (onTc (τ := Cert.GradNorm1Ideal.τ) (Cert.GradNorm1Ideal.main (F := Ideal))) ⟨m, fun _ => 0, g⟩ (fun r => (∀ c : Dev Cert.GradNorm1Ideal.nD,
      r.2.mem ((c.tc : Thread Cert.GradNorm1Ideal.nD Cert.GradNorm1Ideal.τ).loc Cert.GradNorm1Ideal.main_arg0) = m ((c.tc : Thread Cert.GradNorm1Ideal.nD Cert.GradNorm1Ideal.τ).loc Cert.GradNorm1Ideal.main_arg0)
      ∧ r.2.mem ((c.tc : Thread Cert.GradNorm1Ideal.nD Cert.GradNorm1Ideal.τ).loc Cert.GradNorm1Ideal.main_arg1) = m ((c.tc : Thread Cert.GradNorm1Ideal.nD Cert.GradNorm1Ideal.τ).loc Cert.GradNorm1Ideal.main_arg1)
      ∧ r.2.mem ((c.tc : Thread Cert.GradNorm1Ideal.nD Cert.GradNorm1Ideal.τ).loc Cert.GradNorm1Ideal.main_arg2) = m ((c.tc : Thread Cert.GradNorm1Ideal.nD Cert.GradNorm1Ideal.τ).loc Cert.GradNorm1Ideal.main_arg2)
      ∧ r.2.mem ((c.tc : Thread Cert.GradNorm1Ideal.nD Cert.GradNorm1Ideal.τ).loc Cert.GradNorm1Ideal.main_arg3) = m ((c.tc : Thread Cert.GradNorm1Ideal.nD Cert.GradNorm1Ideal.τ).loc Cert.GradNorm1Ideal.main_arg3)
      ∧ r.2.mem ((c.tc : Thread Cert.GradNorm1Ideal.nD Cert.GradNorm1Ideal.τ).loc Cert.GradNorm1Ideal.main_arg4) = m ((c.tc : Thread Cert.GradNorm1Ideal.nD Cert.GradNorm1Ideal.τ).loc Cert.GradNorm1Ideal.main_arg4))
      ∧ r.2.sem = fun _ => 0)

def quiescent_GradNorm1RefIdeal [hGradNorm1RefIdeal : Cert.GradNorm1RefIdeal.Facts] : Prop :=
  ∀ (m : (ℓ : Loc Cert.GradNorm1RefIdeal.nD Cert.GradNorm1RefIdeal.τ Cert.GradNorm1RefIdeal.sig) → Buf (Elt Ideal) ℓ) (g : Dev Cert.GradNorm1RefIdeal.nD → PrngReg), Pre_GradNorm1RefIdeal m →
    θ_run (Cert.GradNorm1RefIdeal.defs (F := Ideal)) (onTc (τ := Cert.GradNorm1RefIdeal.τ) (Cert.GradNorm1RefIdeal.main (F := Ideal))) ⟨m, fun _ => 0, g⟩ (fun r => (∀ c : Dev Cert.GradNorm1RefIdeal.nD,
      r.2.mem ((c.tc : Thread Cert.GradNorm1RefIdeal.nD Cert.GradNorm1RefIdeal.τ).loc Cert.GradNorm1RefIdeal.main_arg0) = m ((c.tc : Thread Cert.GradNorm1RefIdeal.nD Cert.GradNorm1RefIdeal.τ).loc Cert.GradNorm1RefIdeal.main_arg0)
      ∧ r.2.mem ((c.tc : Thread Cert.GradNorm1RefIdeal.nD Cert.GradNorm1RefIdeal.τ).loc Cert.GradNorm1RefIdeal.main_arg1) = m ((c.tc : Thread Cert.GradNorm1RefIdeal.nD Cert.GradNorm1RefIdeal.τ).loc Cert.GradNorm1RefIdeal.main_arg1)
      ∧ r.2.mem ((c.tc : Thread Cert.GradNorm1RefIdeal.nD Cert.GradNorm1RefIdeal.τ).loc Cert.GradNorm1RefIdeal.main_arg2) = m ((c.tc : Thread Cert.GradNorm1RefIdeal.nD Cert.GradNorm1RefIdeal.τ).loc Cert.GradNorm1RefIdeal.main_arg2)
      ∧ r.2.mem ((c.tc : Thread Cert.GradNorm1RefIdeal.nD Cert.GradNorm1RefIdeal.τ).loc Cert.GradNorm1RefIdeal.main_arg3) = m ((c.tc : Thread Cert.GradNorm1RefIdeal.nD Cert.GradNorm1RefIdeal.τ).loc Cert.GradNorm1RefIdeal.main_arg3)
      ∧ r.2.mem ((c.tc : Thread Cert.GradNorm1RefIdeal.nD Cert.GradNorm1RefIdeal.τ).loc Cert.GradNorm1RefIdeal.main_arg4) = m ((c.tc : Thread Cert.GradNorm1RefIdeal.nD Cert.GradNorm1RefIdeal.τ).loc Cert.GradNorm1RefIdeal.main_arg4))
      ∧ r.2.sem = fun _ => 0)

def quiescent_GradNorm2 [hGradNorm2 : Cert.GradNorm2.Facts] : Prop :=
  ∀ (m : (ℓ : Loc Cert.GradNorm2.nD Cert.GradNorm2.τ Cert.GradNorm2.sig) → Buf (Elt Bits) ℓ) (g : Dev Cert.GradNorm2.nD → PrngReg), Pre_GradNorm2 m →
    θ_run (Cert.GradNorm2.defs (F := Bits)) (onTc (τ := Cert.GradNorm2.τ) (Cert.GradNorm2.main (F := Bits))) ⟨m, fun _ => 0, g⟩ (fun r => (∀ c : Dev Cert.GradNorm2.nD,
      r.2.mem ((c.tc : Thread Cert.GradNorm2.nD Cert.GradNorm2.τ).loc Cert.GradNorm2.main_arg0) = m ((c.tc : Thread Cert.GradNorm2.nD Cert.GradNorm2.τ).loc Cert.GradNorm2.main_arg0)
      ∧ r.2.mem ((c.tc : Thread Cert.GradNorm2.nD Cert.GradNorm2.τ).loc Cert.GradNorm2.main_arg1) = m ((c.tc : Thread Cert.GradNorm2.nD Cert.GradNorm2.τ).loc Cert.GradNorm2.main_arg1)
      ∧ r.2.mem ((c.tc : Thread Cert.GradNorm2.nD Cert.GradNorm2.τ).loc Cert.GradNorm2.main_arg2) = m ((c.tc : Thread Cert.GradNorm2.nD Cert.GradNorm2.τ).loc Cert.GradNorm2.main_arg2)
      ∧ r.2.mem ((c.tc : Thread Cert.GradNorm2.nD Cert.GradNorm2.τ).loc Cert.GradNorm2.main_arg3) = m ((c.tc : Thread Cert.GradNorm2.nD Cert.GradNorm2.τ).loc Cert.GradNorm2.main_arg3)
      ∧ r.2.mem ((c.tc : Thread Cert.GradNorm2.nD Cert.GradNorm2.τ).loc Cert.GradNorm2.main_arg4) = m ((c.tc : Thread Cert.GradNorm2.nD Cert.GradNorm2.τ).loc Cert.GradNorm2.main_arg4)
      ∧ r.2.mem ((c.tc : Thread Cert.GradNorm2.nD Cert.GradNorm2.τ).loc Cert.GradNorm2.main_arg5) = m ((c.tc : Thread Cert.GradNorm2.nD Cert.GradNorm2.τ).loc Cert.GradNorm2.main_arg5)
      ∧ r.2.mem ((c.tc : Thread Cert.GradNorm2.nD Cert.GradNorm2.τ).loc Cert.GradNorm2.main_arg6) = m ((c.tc : Thread Cert.GradNorm2.nD Cert.GradNorm2.τ).loc Cert.GradNorm2.main_arg6))
      ∧ r.2.sem = fun _ => 0)

def quiescent_GradNorm2Ideal [hGradNorm2Ideal : Cert.GradNorm2Ideal.Facts] : Prop :=
  ∀ (m : (ℓ : Loc Cert.GradNorm2Ideal.nD Cert.GradNorm2Ideal.τ Cert.GradNorm2Ideal.sig) → Buf (Elt Ideal) ℓ) (g : Dev Cert.GradNorm2Ideal.nD → PrngReg), Pre_GradNorm2Ideal m →
    θ_run (Cert.GradNorm2Ideal.defs (F := Ideal)) (onTc (τ := Cert.GradNorm2Ideal.τ) (Cert.GradNorm2Ideal.main (F := Ideal))) ⟨m, fun _ => 0, g⟩ (fun r => (∀ c : Dev Cert.GradNorm2Ideal.nD,
      r.2.mem ((c.tc : Thread Cert.GradNorm2Ideal.nD Cert.GradNorm2Ideal.τ).loc Cert.GradNorm2Ideal.main_arg0) = m ((c.tc : Thread Cert.GradNorm2Ideal.nD Cert.GradNorm2Ideal.τ).loc Cert.GradNorm2Ideal.main_arg0)
      ∧ r.2.mem ((c.tc : Thread Cert.GradNorm2Ideal.nD Cert.GradNorm2Ideal.τ).loc Cert.GradNorm2Ideal.main_arg1) = m ((c.tc : Thread Cert.GradNorm2Ideal.nD Cert.GradNorm2Ideal.τ).loc Cert.GradNorm2Ideal.main_arg1)
      ∧ r.2.mem ((c.tc : Thread Cert.GradNorm2Ideal.nD Cert.GradNorm2Ideal.τ).loc Cert.GradNorm2Ideal.main_arg2) = m ((c.tc : Thread Cert.GradNorm2Ideal.nD Cert.GradNorm2Ideal.τ).loc Cert.GradNorm2Ideal.main_arg2)
      ∧ r.2.mem ((c.tc : Thread Cert.GradNorm2Ideal.nD Cert.GradNorm2Ideal.τ).loc Cert.GradNorm2Ideal.main_arg3) = m ((c.tc : Thread Cert.GradNorm2Ideal.nD Cert.GradNorm2Ideal.τ).loc Cert.GradNorm2Ideal.main_arg3)
      ∧ r.2.mem ((c.tc : Thread Cert.GradNorm2Ideal.nD Cert.GradNorm2Ideal.τ).loc Cert.GradNorm2Ideal.main_arg4) = m ((c.tc : Thread Cert.GradNorm2Ideal.nD Cert.GradNorm2Ideal.τ).loc Cert.GradNorm2Ideal.main_arg4)
      ∧ r.2.mem ((c.tc : Thread Cert.GradNorm2Ideal.nD Cert.GradNorm2Ideal.τ).loc Cert.GradNorm2Ideal.main_arg5) = m ((c.tc : Thread Cert.GradNorm2Ideal.nD Cert.GradNorm2Ideal.τ).loc Cert.GradNorm2Ideal.main_arg5)
      ∧ r.2.mem ((c.tc : Thread Cert.GradNorm2Ideal.nD Cert.GradNorm2Ideal.τ).loc Cert.GradNorm2Ideal.main_arg6) = m ((c.tc : Thread Cert.GradNorm2Ideal.nD Cert.GradNorm2Ideal.τ).loc Cert.GradNorm2Ideal.main_arg6))
      ∧ r.2.sem = fun _ => 0)

def quiescent_GradNorm2RefIdeal [hGradNorm2RefIdeal : Cert.GradNorm2RefIdeal.Facts] : Prop :=
  ∀ (m : (ℓ : Loc Cert.GradNorm2RefIdeal.nD Cert.GradNorm2RefIdeal.τ Cert.GradNorm2RefIdeal.sig) → Buf (Elt Ideal) ℓ) (g : Dev Cert.GradNorm2RefIdeal.nD → PrngReg), Pre_GradNorm2RefIdeal m →
    θ_run (Cert.GradNorm2RefIdeal.defs (F := Ideal)) (onTc (τ := Cert.GradNorm2RefIdeal.τ) (Cert.GradNorm2RefIdeal.main (F := Ideal))) ⟨m, fun _ => 0, g⟩ (fun r => (∀ c : Dev Cert.GradNorm2RefIdeal.nD,
      r.2.mem ((c.tc : Thread Cert.GradNorm2RefIdeal.nD Cert.GradNorm2RefIdeal.τ).loc Cert.GradNorm2RefIdeal.main_arg0) = m ((c.tc : Thread Cert.GradNorm2RefIdeal.nD Cert.GradNorm2RefIdeal.τ).loc Cert.GradNorm2RefIdeal.main_arg0)
      ∧ r.2.mem ((c.tc : Thread Cert.GradNorm2RefIdeal.nD Cert.GradNorm2RefIdeal.τ).loc Cert.GradNorm2RefIdeal.main_arg1) = m ((c.tc : Thread Cert.GradNorm2RefIdeal.nD Cert.GradNorm2RefIdeal.τ).loc Cert.GradNorm2RefIdeal.main_arg1)
      ∧ r.2.mem ((c.tc : Thread Cert.GradNorm2RefIdeal.nD Cert.GradNorm2RefIdeal.τ).loc Cert.GradNorm2RefIdeal.main_arg2) = m ((c.tc : Thread Cert.GradNorm2RefIdeal.nD Cert.GradNorm2RefIdeal.τ).loc Cert.GradNorm2RefIdeal.main_arg2)
      ∧ r.2.mem ((c.tc : Thread Cert.GradNorm2RefIdeal.nD Cert.GradNorm2RefIdeal.τ).loc Cert.GradNorm2RefIdeal.main_arg3) = m ((c.tc : Thread Cert.GradNorm2RefIdeal.nD Cert.GradNorm2RefIdeal.τ).loc Cert.GradNorm2RefIdeal.main_arg3)
      ∧ r.2.mem ((c.tc : Thread Cert.GradNorm2RefIdeal.nD Cert.GradNorm2RefIdeal.τ).loc Cert.GradNorm2RefIdeal.main_arg4) = m ((c.tc : Thread Cert.GradNorm2RefIdeal.nD Cert.GradNorm2RefIdeal.τ).loc Cert.GradNorm2RefIdeal.main_arg4)
      ∧ r.2.mem ((c.tc : Thread Cert.GradNorm2RefIdeal.nD Cert.GradNorm2RefIdeal.τ).loc Cert.GradNorm2RefIdeal.main_arg5) = m ((c.tc : Thread Cert.GradNorm2RefIdeal.nD Cert.GradNorm2RefIdeal.τ).loc Cert.GradNorm2RefIdeal.main_arg5)
      ∧ r.2.mem ((c.tc : Thread Cert.GradNorm2RefIdeal.nD Cert.GradNorm2RefIdeal.τ).loc Cert.GradNorm2RefIdeal.main_arg6) = m ((c.tc : Thread Cert.GradNorm2RefIdeal.nD Cert.GradNorm2RefIdeal.τ).loc Cert.GradNorm2RefIdeal.main_arg6))
      ∧ r.2.sem = fun _ => 0)

def preserves_Kernel_KernelIdeal : Prop :=
  IdealRules.named_const.Statement Cert.KernelIdeal.κ "qk_scale_log2e" .f32 0x3E0293EE#32 (((11863283 / 134217728) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)) (v2 : (c : Dev Cert.KernelIdeal.nD) → Buf (Elt Ideal) ((c.tc : Thread Cert.KernelIdeal.nD Cert.KernelIdeal.τ).loc Cert.KernelIdeal.main_v56_2)) (v3 : (c : Dev Cert.KernelIdeal.nD) → Buf (Elt Ideal) ((c.tc : Thread Cert.KernelIdeal.nD Cert.KernelIdeal.τ).loc Cert.KernelIdeal.main_v56_3)) (v4 : (c : Dev Cert.KernelIdeal.nD) → Buf (Elt Ideal) ((c.tc : Thread Cert.KernelIdeal.nD Cert.KernelIdeal.τ).loc Cert.KernelIdeal.main_v56_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_v56_2) = v2 c
          ∧ r.2.mem ((c.tc : Thread Cert.KernelIdeal.nD Cert.KernelIdeal.τ).loc Cert.KernelIdeal.main_v56_3) = v3 c
          ∧ r.2.mem ((c.tc : Thread Cert.KernelIdeal.nD Cert.KernelIdeal.τ).loc Cert.KernelIdeal.main_v56_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v128) = v2 c
          ∧ r.2.mem ((c.tc : Thread Cert.ReferenceIdeal.nD Cert.ReferenceIdeal.τ).loc Cert.ReferenceIdeal.main_v107) = v3 c
          ∧ r.2.mem ((c.tc : Thread Cert.ReferenceIdeal.nD Cert.ReferenceIdeal.τ).loc Cert.ReferenceIdeal.main_v89) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Hidden_HiddenIdeal : Prop :=
  True

def algebraic_HiddenIdeal_HiddenRefIdeal [hHiddenIdeal : Cert.HiddenIdeal.Facts] [hHiddenRefIdeal : Cert.HiddenRefIdeal.Facts] : Prop :=
  ∀ (m : (ℓ : Loc Cert.HiddenIdeal.nD Cert.HiddenIdeal.τ Cert.HiddenIdeal.sig) → Buf (Elt Ideal) ℓ) (g : Dev Cert.HiddenIdeal.nD → PrngReg)
    (m' : (ℓ : Loc Cert.HiddenRefIdeal.nD Cert.HiddenRefIdeal.τ Cert.HiddenRefIdeal.sig) → Buf (Elt Ideal) ℓ) (g' : Dev Cert.HiddenRefIdeal.nD → PrngReg), Pre_HiddenIdeal m →
    (∀ c : Dev Cert.HiddenIdeal.nD,
      m' ((c.tc : Thread Cert.HiddenRefIdeal.nD Cert.HiddenRefIdeal.τ).loc Cert.HiddenRefIdeal.main_arg0) = m ((c.tc : Thread Cert.HiddenIdeal.nD Cert.HiddenIdeal.τ).loc Cert.HiddenIdeal.main_arg0)
      ∧ m' ((c.tc : Thread Cert.HiddenRefIdeal.nD Cert.HiddenRefIdeal.τ).loc Cert.HiddenRefIdeal.main_arg1) = m ((c.tc : Thread Cert.HiddenIdeal.nD Cert.HiddenIdeal.τ).loc Cert.HiddenIdeal.main_arg1)
      ∧ m' ((c.tc : Thread Cert.HiddenRefIdeal.nD Cert.HiddenRefIdeal.τ).loc Cert.HiddenRefIdeal.main_arg2) = m ((c.tc : Thread Cert.HiddenIdeal.nD Cert.HiddenIdeal.τ).loc Cert.HiddenIdeal.main_arg2)) →
    ∃ (v0 : (c : Dev Cert.HiddenIdeal.nD) → Buf (Elt Ideal) ((c.tc : Thread Cert.HiddenIdeal.nD Cert.HiddenIdeal.τ).loc Cert.HiddenIdeal.main_v3)),
      θ_run (Cert.HiddenIdeal.defs (F := Ideal)) (onTc (τ := Cert.HiddenIdeal.τ) (Cert.HiddenIdeal.main (F := Ideal))) ⟨m, fun _ => 0, g⟩ (fun r => ∀ c : Dev Cert.HiddenIdeal.nD,
          r.2.mem ((c.tc : Thread Cert.HiddenIdeal.nD Cert.HiddenIdeal.τ).loc Cert.HiddenIdeal.main_v3) = v0 c
          ∧ r.2.mem ((c.tc : Thread Cert.HiddenIdeal.nD Cert.HiddenIdeal.τ).loc Cert.HiddenIdeal.main_arg0) = m ((c.tc : Thread Cert.HiddenIdeal.nD Cert.HiddenIdeal.τ).loc Cert.HiddenIdeal.main_arg0)
          ∧ r.2.mem ((c.tc : Thread Cert.HiddenIdeal.nD Cert.HiddenIdeal.τ).loc Cert.HiddenIdeal.main_arg1) = m ((c.tc : Thread Cert.HiddenIdeal.nD Cert.HiddenIdeal.τ).loc Cert.HiddenIdeal.main_arg1)
          ∧ r.2.mem ((c.tc : Thread Cert.HiddenIdeal.nD Cert.HiddenIdeal.τ).loc Cert.HiddenIdeal.main_arg2) = m ((c.tc : Thread Cert.HiddenIdeal.nD Cert.HiddenIdeal.τ).loc Cert.HiddenIdeal.main_arg2))
      ∧ θ_run (Cert.HiddenRefIdeal.defs (F := Ideal)) (onTc (τ := Cert.HiddenRefIdeal.τ) (Cert.HiddenRefIdeal.main (F := Ideal))) ⟨m', fun _ => 0, g'⟩ (fun r => ∀ c : Dev Cert.HiddenRefIdeal.nD,
          r.2.mem ((c.tc : Thread Cert.HiddenRefIdeal.nD Cert.HiddenRefIdeal.τ).loc Cert.HiddenRefIdeal.main_v16) = v0 c
          ∧ r.2.mem ((c.tc : Thread Cert.HiddenRefIdeal.nD Cert.HiddenRefIdeal.τ).loc Cert.HiddenRefIdeal.main_arg0) = m' ((c.tc : Thread Cert.HiddenRefIdeal.nD Cert.HiddenRefIdeal.τ).loc Cert.HiddenRefIdeal.main_arg0)
          ∧ r.2.mem ((c.tc : Thread Cert.HiddenRefIdeal.nD Cert.HiddenRefIdeal.τ).loc Cert.HiddenRefIdeal.main_arg1) = m' ((c.tc : Thread Cert.HiddenRefIdeal.nD Cert.HiddenRefIdeal.τ).loc Cert.HiddenRefIdeal.main_arg1)
          ∧ r.2.mem ((c.tc : Thread Cert.HiddenRefIdeal.nD Cert.HiddenRefIdeal.τ).loc Cert.HiddenRefIdeal.main_arg2) = m' ((c.tc : Thread Cert.HiddenRefIdeal.nD Cert.HiddenRefIdeal.τ).loc Cert.HiddenRefIdeal.main_arg2))

def preserves_GradFf2_GradFf2Ideal : Prop :=
  True

def algebraic_GradFf2Ideal_GradFf2RefIdeal [hGradFf2Ideal : Cert.GradFf2Ideal.Facts] [hGradFf2RefIdeal : Cert.GradFf2RefIdeal.Facts] : Prop :=
  ∀ (m : (ℓ : Loc Cert.GradFf2Ideal.nD Cert.GradFf2Ideal.τ Cert.GradFf2Ideal.sig) → Buf (Elt Ideal) ℓ) (g : Dev Cert.GradFf2Ideal.nD → PrngReg)
    (m' : (ℓ : Loc Cert.GradFf2RefIdeal.nD Cert.GradFf2RefIdeal.τ Cert.GradFf2RefIdeal.sig) → Buf (Elt Ideal) ℓ) (g' : Dev Cert.GradFf2RefIdeal.nD → PrngReg), Pre_GradFf2Ideal m →
    (∀ c : Dev Cert.GradFf2Ideal.nD,
      m' ((c.tc : Thread Cert.GradFf2RefIdeal.nD Cert.GradFf2RefIdeal.τ).loc Cert.GradFf2RefIdeal.main_arg0) = m ((c.tc : Thread Cert.GradFf2Ideal.nD Cert.GradFf2Ideal.τ).loc Cert.GradFf2Ideal.main_arg0)
      ∧ m' ((c.tc : Thread Cert.GradFf2RefIdeal.nD Cert.GradFf2RefIdeal.τ).loc Cert.GradFf2RefIdeal.main_arg1) = m ((c.tc : Thread Cert.GradFf2Ideal.nD Cert.GradFf2Ideal.τ).loc Cert.GradFf2Ideal.main_arg1)
      ∧ m' ((c.tc : Thread Cert.GradFf2RefIdeal.nD Cert.GradFf2RefIdeal.τ).loc Cert.GradFf2RefIdeal.main_arg2) = m ((c.tc : Thread Cert.GradFf2Ideal.nD Cert.GradFf2Ideal.τ).loc Cert.GradFf2Ideal.main_arg2)) →
    ∃ (v0 : (c : Dev Cert.GradFf2Ideal.nD) → Buf (Elt Ideal) ((c.tc : Thread Cert.GradFf2Ideal.nD Cert.GradFf2Ideal.τ).loc Cert.GradFf2Ideal.main_v3)),
      θ_run (Cert.GradFf2Ideal.defs (F := Ideal)) (onTc (τ := Cert.GradFf2Ideal.τ) (Cert.GradFf2Ideal.main (F := Ideal))) ⟨m, fun _ => 0, g⟩ (fun r => ∀ c : Dev Cert.GradFf2Ideal.nD,
          r.2.mem ((c.tc : Thread Cert.GradFf2Ideal.nD Cert.GradFf2Ideal.τ).loc Cert.GradFf2Ideal.main_v3) = v0 c
          ∧ r.2.mem ((c.tc : Thread Cert.GradFf2Ideal.nD Cert.GradFf2Ideal.τ).loc Cert.GradFf2Ideal.main_arg0) = m ((c.tc : Thread Cert.GradFf2Ideal.nD Cert.GradFf2Ideal.τ).loc Cert.GradFf2Ideal.main_arg0)
          ∧ r.2.mem ((c.tc : Thread Cert.GradFf2Ideal.nD Cert.GradFf2Ideal.τ).loc Cert.GradFf2Ideal.main_arg1) = m ((c.tc : Thread Cert.GradFf2Ideal.nD Cert.GradFf2Ideal.τ).loc Cert.GradFf2Ideal.main_arg1)
          ∧ r.2.mem ((c.tc : Thread Cert.GradFf2Ideal.nD Cert.GradFf2Ideal.τ).loc Cert.GradFf2Ideal.main_arg2) = m ((c.tc : Thread Cert.GradFf2Ideal.nD Cert.GradFf2Ideal.τ).loc Cert.GradFf2Ideal.main_arg2))
      ∧ θ_run (Cert.GradFf2RefIdeal.defs (F := Ideal)) (onTc (τ := Cert.GradFf2RefIdeal.τ) (Cert.GradFf2RefIdeal.main (F := Ideal))) ⟨m', fun _ => 0, g'⟩ (fun r => ∀ c : Dev Cert.GradFf2RefIdeal.nD,
          r.2.mem ((c.tc : Thread Cert.GradFf2RefIdeal.nD Cert.GradFf2RefIdeal.τ).loc Cert.GradFf2RefIdeal.main_v16) = v0 c
          ∧ r.2.mem ((c.tc : Thread Cert.GradFf2RefIdeal.nD Cert.GradFf2RefIdeal.τ).loc Cert.GradFf2RefIdeal.main_arg0) = m' ((c.tc : Thread Cert.GradFf2RefIdeal.nD Cert.GradFf2RefIdeal.τ).loc Cert.GradFf2RefIdeal.main_arg0)
          ∧ r.2.mem ((c.tc : Thread Cert.GradFf2RefIdeal.nD Cert.GradFf2RefIdeal.τ).loc Cert.GradFf2RefIdeal.main_arg1) = m' ((c.tc : Thread Cert.GradFf2RefIdeal.nD Cert.GradFf2RefIdeal.τ).loc Cert.GradFf2RefIdeal.main_arg1)
          ∧ r.2.mem ((c.tc : Thread Cert.GradFf2RefIdeal.nD Cert.GradFf2RefIdeal.τ).loc Cert.GradFf2RefIdeal.main_arg2) = m' ((c.tc : Thread Cert.GradFf2RefIdeal.nD Cert.GradFf2RefIdeal.τ).loc Cert.GradFf2RefIdeal.main_arg2))

def preserves_GradFf1_GradFf1Ideal : Prop :=
  True

def algebraic_GradFf1Ideal_GradFf1RefIdeal [hGradFf1Ideal : Cert.GradFf1Ideal.Facts] [hGradFf1RefIdeal : Cert.GradFf1RefIdeal.Facts] : Prop :=
  ∀ (m : (ℓ : Loc Cert.GradFf1Ideal.nD Cert.GradFf1Ideal.τ Cert.GradFf1Ideal.sig) → Buf (Elt Ideal) ℓ) (g : Dev Cert.GradFf1Ideal.nD → PrngReg)
    (m' : (ℓ : Loc Cert.GradFf1RefIdeal.nD Cert.GradFf1RefIdeal.τ Cert.GradFf1RefIdeal.sig) → Buf (Elt Ideal) ℓ) (g' : Dev Cert.GradFf1RefIdeal.nD → PrngReg), Pre_GradFf1Ideal m →
    (∀ c : Dev Cert.GradFf1Ideal.nD,
      m' ((c.tc : Thread Cert.GradFf1RefIdeal.nD Cert.GradFf1RefIdeal.τ).loc Cert.GradFf1RefIdeal.main_arg0) = m ((c.tc : Thread Cert.GradFf1Ideal.nD Cert.GradFf1Ideal.τ).loc Cert.GradFf1Ideal.main_arg0)
      ∧ m' ((c.tc : Thread Cert.GradFf1RefIdeal.nD Cert.GradFf1RefIdeal.τ).loc Cert.GradFf1RefIdeal.main_arg1) = m ((c.tc : Thread Cert.GradFf1Ideal.nD Cert.GradFf1Ideal.τ).loc Cert.GradFf1Ideal.main_arg1)
      ∧ m' ((c.tc : Thread Cert.GradFf1RefIdeal.nD Cert.GradFf1RefIdeal.τ).loc Cert.GradFf1RefIdeal.main_arg2) = m ((c.tc : Thread Cert.GradFf1Ideal.nD Cert.GradFf1Ideal.τ).loc Cert.GradFf1Ideal.main_arg2)) →
    ∃ (v0 : (c : Dev Cert.GradFf1Ideal.nD) → Buf (Elt Ideal) ((c.tc : Thread Cert.GradFf1Ideal.nD Cert.GradFf1Ideal.τ).loc Cert.GradFf1Ideal.main_v0)),
      θ_run (Cert.GradFf1Ideal.defs (F := Ideal)) (onTc (τ := Cert.GradFf1Ideal.τ) (Cert.GradFf1Ideal.main (F := Ideal))) ⟨m, fun _ => 0, g⟩ (fun r => ∀ c : Dev Cert.GradFf1Ideal.nD,
          r.2.mem ((c.tc : Thread Cert.GradFf1Ideal.nD Cert.GradFf1Ideal.τ).loc Cert.GradFf1Ideal.main_v0) = v0 c
          ∧ r.2.mem ((c.tc : Thread Cert.GradFf1Ideal.nD Cert.GradFf1Ideal.τ).loc Cert.GradFf1Ideal.main_arg0) = m ((c.tc : Thread Cert.GradFf1Ideal.nD Cert.GradFf1Ideal.τ).loc Cert.GradFf1Ideal.main_arg0)
          ∧ r.2.mem ((c.tc : Thread Cert.GradFf1Ideal.nD Cert.GradFf1Ideal.τ).loc Cert.GradFf1Ideal.main_arg1) = m ((c.tc : Thread Cert.GradFf1Ideal.nD Cert.GradFf1Ideal.τ).loc Cert.GradFf1Ideal.main_arg1)
          ∧ r.2.mem ((c.tc : Thread Cert.GradFf1Ideal.nD Cert.GradFf1Ideal.τ).loc Cert.GradFf1Ideal.main_arg2) = m ((c.tc : Thread Cert.GradFf1Ideal.nD Cert.GradFf1Ideal.τ).loc Cert.GradFf1Ideal.main_arg2))
      ∧ θ_run (Cert.GradFf1RefIdeal.defs (F := Ideal)) (onTc (τ := Cert.GradFf1RefIdeal.τ) (Cert.GradFf1RefIdeal.main (F := Ideal))) ⟨m', fun _ => 0, g'⟩ (fun r => ∀ c : Dev Cert.GradFf1RefIdeal.nD,
          r.2.mem ((c.tc : Thread Cert.GradFf1RefIdeal.nD Cert.GradFf1RefIdeal.τ).loc Cert.GradFf1RefIdeal.main_v7) = v0 c
          ∧ r.2.mem ((c.tc : Thread Cert.GradFf1RefIdeal.nD Cert.GradFf1RefIdeal.τ).loc Cert.GradFf1RefIdeal.main_arg0) = m' ((c.tc : Thread Cert.GradFf1RefIdeal.nD Cert.GradFf1RefIdeal.τ).loc Cert.GradFf1RefIdeal.main_arg0)
          ∧ r.2.mem ((c.tc : Thread Cert.GradFf1RefIdeal.nD Cert.GradFf1RefIdeal.τ).loc Cert.GradFf1RefIdeal.main_arg1) = m' ((c.tc : Thread Cert.GradFf1RefIdeal.nD Cert.GradFf1RefIdeal.τ).loc Cert.GradFf1RefIdeal.main_arg1)
          ∧ r.2.mem ((c.tc : Thread Cert.GradFf1RefIdeal.nD Cert.GradFf1RefIdeal.τ).loc Cert.GradFf1RefIdeal.main_arg2) = m' ((c.tc : Thread Cert.GradFf1RefIdeal.nD Cert.GradFf1RefIdeal.τ).loc Cert.GradFf1RefIdeal.main_arg2))

def preserves_GradH2_GradH2Ideal : Prop :=
  True

def algebraic_GradH2Ideal_GradH2RefIdeal [hGradH2Ideal : Cert.GradH2Ideal.Facts] [hGradH2RefIdeal : Cert.GradH2RefIdeal.Facts] : Prop :=
  ∀ (m : (ℓ : Loc Cert.GradH2Ideal.nD Cert.GradH2Ideal.τ Cert.GradH2Ideal.sig) → Buf (Elt Ideal) ℓ) (g : Dev Cert.GradH2Ideal.nD → PrngReg)
    (m' : (ℓ : Loc Cert.GradH2RefIdeal.nD Cert.GradH2RefIdeal.τ Cert.GradH2RefIdeal.sig) → Buf (Elt Ideal) ℓ) (g' : Dev Cert.GradH2RefIdeal.nD → PrngReg), Pre_GradH2Ideal m →
    (∀ c : Dev Cert.GradH2Ideal.nD,
      m' ((c.tc : Thread Cert.GradH2RefIdeal.nD Cert.GradH2RefIdeal.τ).loc Cert.GradH2RefIdeal.main_arg0) = m ((c.tc : Thread Cert.GradH2Ideal.nD Cert.GradH2Ideal.τ).loc Cert.GradH2Ideal.main_arg0)
      ∧ m' ((c.tc : Thread Cert.GradH2RefIdeal.nD Cert.GradH2RefIdeal.τ).loc Cert.GradH2RefIdeal.main_arg1) = m ((c.tc : Thread Cert.GradH2Ideal.nD Cert.GradH2Ideal.τ).loc Cert.GradH2Ideal.main_arg1)
      ∧ m' ((c.tc : Thread Cert.GradH2RefIdeal.nD Cert.GradH2RefIdeal.τ).loc Cert.GradH2RefIdeal.main_arg2) = m ((c.tc : Thread Cert.GradH2Ideal.nD Cert.GradH2Ideal.τ).loc Cert.GradH2Ideal.main_arg2)) →
    ∃ (v0 : (c : Dev Cert.GradH2Ideal.nD) → Buf (Elt Ideal) ((c.tc : Thread Cert.GradH2Ideal.nD Cert.GradH2Ideal.τ).loc Cert.GradH2Ideal.main_v0)),
      θ_run (Cert.GradH2Ideal.defs (F := Ideal)) (onTc (τ := Cert.GradH2Ideal.τ) (Cert.GradH2Ideal.main (F := Ideal))) ⟨m, fun _ => 0, g⟩ (fun r => ∀ c : Dev Cert.GradH2Ideal.nD,
          r.2.mem ((c.tc : Thread Cert.GradH2Ideal.nD Cert.GradH2Ideal.τ).loc Cert.GradH2Ideal.main_v0) = v0 c
          ∧ r.2.mem ((c.tc : Thread Cert.GradH2Ideal.nD Cert.GradH2Ideal.τ).loc Cert.GradH2Ideal.main_arg0) = m ((c.tc : Thread Cert.GradH2Ideal.nD Cert.GradH2Ideal.τ).loc Cert.GradH2Ideal.main_arg0)
          ∧ r.2.mem ((c.tc : Thread Cert.GradH2Ideal.nD Cert.GradH2Ideal.τ).loc Cert.GradH2Ideal.main_arg1) = m ((c.tc : Thread Cert.GradH2Ideal.nD Cert.GradH2Ideal.τ).loc Cert.GradH2Ideal.main_arg1)
          ∧ r.2.mem ((c.tc : Thread Cert.GradH2Ideal.nD Cert.GradH2Ideal.τ).loc Cert.GradH2Ideal.main_arg2) = m ((c.tc : Thread Cert.GradH2Ideal.nD Cert.GradH2Ideal.τ).loc Cert.GradH2Ideal.main_arg2))
      ∧ θ_run (Cert.GradH2RefIdeal.defs (F := Ideal)) (onTc (τ := Cert.GradH2RefIdeal.τ) (Cert.GradH2RefIdeal.main (F := Ideal))) ⟨m', fun _ => 0, g'⟩ (fun r => ∀ c : Dev Cert.GradH2RefIdeal.nD,
          r.2.mem ((c.tc : Thread Cert.GradH2RefIdeal.nD Cert.GradH2RefIdeal.τ).loc Cert.GradH2RefIdeal.main_v6) = v0 c
          ∧ r.2.mem ((c.tc : Thread Cert.GradH2RefIdeal.nD Cert.GradH2RefIdeal.τ).loc Cert.GradH2RefIdeal.main_arg0) = m' ((c.tc : Thread Cert.GradH2RefIdeal.nD Cert.GradH2RefIdeal.τ).loc Cert.GradH2RefIdeal.main_arg0)
          ∧ r.2.mem ((c.tc : Thread Cert.GradH2RefIdeal.nD Cert.GradH2RefIdeal.τ).loc Cert.GradH2RefIdeal.main_arg1) = m' ((c.tc : Thread Cert.GradH2RefIdeal.nD Cert.GradH2RefIdeal.τ).loc Cert.GradH2RefIdeal.main_arg1)
          ∧ r.2.mem ((c.tc : Thread Cert.GradH2RefIdeal.nD Cert.GradH2RefIdeal.τ).loc Cert.GradH2RefIdeal.main_arg2) = m' ((c.tc : Thread Cert.GradH2RefIdeal.nD Cert.GradH2RefIdeal.τ).loc Cert.GradH2RefIdeal.main_arg2))

def preserves_GradO_GradOIdeal : Prop :=
  True

def algebraic_GradOIdeal_GradORefIdeal [hGradOIdeal : Cert.GradOIdeal.Facts] [hGradORefIdeal : Cert.GradORefIdeal.Facts] : Prop :=
  ∀ (m : (ℓ : Loc Cert.GradOIdeal.nD Cert.GradOIdeal.τ Cert.GradOIdeal.sig) → Buf (Elt Ideal) ℓ) (g : Dev Cert.GradOIdeal.nD → PrngReg)
    (m' : (ℓ : Loc Cert.GradORefIdeal.nD Cert.GradORefIdeal.τ Cert.GradORefIdeal.sig) → Buf (Elt Ideal) ℓ) (g' : Dev Cert.GradORefIdeal.nD → PrngReg), Pre_GradOIdeal m →
    (∀ c : Dev Cert.GradOIdeal.nD,
      m' ((c.tc : Thread Cert.GradORefIdeal.nD Cert.GradORefIdeal.τ).loc Cert.GradORefIdeal.main_arg0) = m ((c.tc : Thread Cert.GradOIdeal.nD Cert.GradOIdeal.τ).loc Cert.GradOIdeal.main_arg0)
      ∧ m' ((c.tc : Thread Cert.GradORefIdeal.nD Cert.GradORefIdeal.τ).loc Cert.GradORefIdeal.main_arg1) = m ((c.tc : Thread Cert.GradOIdeal.nD Cert.GradOIdeal.τ).loc Cert.GradOIdeal.main_arg1)
      ∧ m' ((c.tc : Thread Cert.GradORefIdeal.nD Cert.GradORefIdeal.τ).loc Cert.GradORefIdeal.main_arg2) = m ((c.tc : Thread Cert.GradOIdeal.nD Cert.GradOIdeal.τ).loc Cert.GradOIdeal.main_arg2)) →
    ∃ (v0 : (c : Dev Cert.GradOIdeal.nD) → Buf (Elt Ideal) ((c.tc : Thread Cert.GradOIdeal.nD Cert.GradOIdeal.τ).loc Cert.GradOIdeal.main_v0)),
      θ_run (Cert.GradOIdeal.defs (F := Ideal)) (onTc (τ := Cert.GradOIdeal.τ) (Cert.GradOIdeal.main (F := Ideal))) ⟨m, fun _ => 0, g⟩ (fun r => ∀ c : Dev Cert.GradOIdeal.nD,
          r.2.mem ((c.tc : Thread Cert.GradOIdeal.nD Cert.GradOIdeal.τ).loc Cert.GradOIdeal.main_v0) = v0 c
          ∧ r.2.mem ((c.tc : Thread Cert.GradOIdeal.nD Cert.GradOIdeal.τ).loc Cert.GradOIdeal.main_arg0) = m ((c.tc : Thread Cert.GradOIdeal.nD Cert.GradOIdeal.τ).loc Cert.GradOIdeal.main_arg0)
          ∧ r.2.mem ((c.tc : Thread Cert.GradOIdeal.nD Cert.GradOIdeal.τ).loc Cert.GradOIdeal.main_arg1) = m ((c.tc : Thread Cert.GradOIdeal.nD Cert.GradOIdeal.τ).loc Cert.GradOIdeal.main_arg1)
          ∧ r.2.mem ((c.tc : Thread Cert.GradOIdeal.nD Cert.GradOIdeal.τ).loc Cert.GradOIdeal.main_arg2) = m ((c.tc : Thread Cert.GradOIdeal.nD Cert.GradOIdeal.τ).loc Cert.GradOIdeal.main_arg2))
      ∧ θ_run (Cert.GradORefIdeal.defs (F := Ideal)) (onTc (τ := Cert.GradORefIdeal.τ) (Cert.GradORefIdeal.main (F := Ideal))) ⟨m', fun _ => 0, g'⟩ (fun r => ∀ c : Dev Cert.GradORefIdeal.nD,
          r.2.mem ((c.tc : Thread Cert.GradORefIdeal.nD Cert.GradORefIdeal.τ).loc Cert.GradORefIdeal.main_v7) = v0 c
          ∧ r.2.mem ((c.tc : Thread Cert.GradORefIdeal.nD Cert.GradORefIdeal.τ).loc Cert.GradORefIdeal.main_arg0) = m' ((c.tc : Thread Cert.GradORefIdeal.nD Cert.GradORefIdeal.τ).loc Cert.GradORefIdeal.main_arg0)
          ∧ r.2.mem ((c.tc : Thread Cert.GradORefIdeal.nD Cert.GradORefIdeal.τ).loc Cert.GradORefIdeal.main_arg1) = m' ((c.tc : Thread Cert.GradORefIdeal.nD Cert.GradORefIdeal.τ).loc Cert.GradORefIdeal.main_arg1)
          ∧ r.2.mem ((c.tc : Thread Cert.GradORefIdeal.nD Cert.GradORefIdeal.τ).loc Cert.GradORefIdeal.main_arg2) = m' ((c.tc : Thread Cert.GradORefIdeal.nD Cert.GradORefIdeal.τ).loc Cert.GradORefIdeal.main_arg2))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v0_0)) (v1 : (c : Dev Cert.GatesIdeal.nD) → Buf (Elt Ideal) ((c.tc : Thread Cert.GatesIdeal.nD Cert.GatesIdeal.τ).loc Cert.GatesIdeal.main_v0_1)) (v2 : (c : Dev Cert.GatesIdeal.nD) → Buf (Elt Ideal) ((c.tc : Thread Cert.GatesIdeal.nD Cert.GatesIdeal.τ).loc Cert.GatesIdeal.main_v0_2)) (v3 : (c : Dev Cert.GatesIdeal.nD) → Buf (Elt Ideal) ((c.tc : Thread Cert.GatesIdeal.nD Cert.GatesIdeal.τ).loc Cert.GatesIdeal.main_v0_3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v0_0) = v0 c
          ∧ r.2.mem ((c.tc : Thread Cert.GatesIdeal.nD Cert.GatesIdeal.τ).loc Cert.GatesIdeal.main_v0_1) = v1 c
          ∧ r.2.mem ((c.tc : Thread Cert.GatesIdeal.nD Cert.GatesIdeal.τ).loc Cert.GatesIdeal.main_v0_2) = v2 c
          ∧ r.2.mem ((c.tc : Thread Cert.GatesIdeal.nD Cert.GatesIdeal.τ).loc Cert.GatesIdeal.main_v0_3) = v3 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v39) = v0 c
          ∧ r.2.mem ((c.tc : Thread Cert.GatesRefIdeal.nD Cert.GatesRefIdeal.τ).loc Cert.GatesRefIdeal.main_v40) = v1 c
          ∧ r.2.mem ((c.tc : Thread Cert.GatesRefIdeal.nD Cert.GatesRefIdeal.τ).loc Cert.GatesRefIdeal.main_v41) = v2 c
          ∧ r.2.mem ((c.tc : Thread Cert.GatesRefIdeal.nD Cert.GatesRefIdeal.τ).loc Cert.GatesRefIdeal.main_v42) = v3 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4))

def preserves_GradUp_GradUpIdeal : Prop :=
  True

def algebraic_GradUpIdeal_GradUpRefIdeal [hGradUpIdeal : Cert.GradUpIdeal.Facts] [hGradUpRefIdeal : Cert.GradUpRefIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpRefIdeal.nD Cert.GradUpRefIdeal.τ Cert.GradUpRefIdeal.sig) → Buf (Elt Ideal) ℓ) (g' : Dev Cert.GradUpRefIdeal.nD → PrngReg), Pre_GradUpIdeal m →
    (∀ c : Dev Cert.GradUpIdeal.nD,
      m' ((c.tc : Thread Cert.GradUpRefIdeal.nD Cert.GradUpRefIdeal.τ).loc Cert.GradUpRefIdeal.main_arg0) = m ((c.tc : Thread Cert.GradUpIdeal.nD Cert.GradUpIdeal.τ).loc Cert.GradUpIdeal.main_arg0)
      ∧ m' ((c.tc : Thread Cert.GradUpRefIdeal.nD Cert.GradUpRefIdeal.τ).loc Cert.GradUpRefIdeal.main_arg1) = m ((c.tc : Thread Cert.GradUpIdeal.nD Cert.GradUpIdeal.τ).loc Cert.GradUpIdeal.main_arg1)
      ∧ m' ((c.tc : Thread Cert.GradUpRefIdeal.nD Cert.GradUpRefIdeal.τ).loc Cert.GradUpRefIdeal.main_arg2) = m ((c.tc : Thread Cert.GradUpIdeal.nD Cert.GradUpIdeal.τ).loc Cert.GradUpIdeal.main_arg2)
      ∧ m' ((c.tc : Thread Cert.GradUpRefIdeal.nD Cert.GradUpRefIdeal.τ).loc Cert.GradUpRefIdeal.main_arg3) = m ((c.tc : Thread Cert.GradUpIdeal.nD Cert.GradUpIdeal.τ).loc Cert.GradUpIdeal.main_arg3)
      ∧ m' ((c.tc : Thread Cert.GradUpRefIdeal.nD Cert.GradUpRefIdeal.τ).loc Cert.GradUpRefIdeal.main_arg4) = m ((c.tc : Thread Cert.GradUpIdeal.nD Cert.GradUpIdeal.τ).loc Cert.GradUpIdeal.main_arg4)
      ∧ m' ((c.tc : Thread Cert.GradUpRefIdeal.nD Cert.GradUpRefIdeal.τ).loc Cert.GradUpRefIdeal.main_arg5) = m ((c.tc : Thread Cert.GradUpIdeal.nD Cert.GradUpIdeal.τ).loc Cert.GradUpIdeal.main_arg5)) →
    ∃ (v0 : (c : Dev Cert.GradUpIdeal.nD) → Buf (Elt Ideal) ((c.tc : Thread Cert.GradUpIdeal.nD Cert.GradUpIdeal.τ).loc Cert.GradUpIdeal.main_v0_0)) (v1 : (c : Dev Cert.GradUpIdeal.nD) → Buf (Elt Ideal) ((c.tc : Thread Cert.GradUpIdeal.nD Cert.GradUpIdeal.τ).loc Cert.GradUpIdeal.main_v0_1)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0_0) = v0 c
          ∧ r.2.mem ((c.tc : Thread Cert.GradUpIdeal.nD Cert.GradUpIdeal.τ).loc Cert.GradUpIdeal.main_v0_1) = v1 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1)
          ∧ r.2.mem ((c.tc : Thread Cert.GradUpIdeal.nD Cert.GradUpIdeal.τ).loc Cert.GradUpIdeal.main_arg2) = m ((c.tc : Thread Cert.GradUpIdeal.nD Cert.GradUpIdeal.τ).loc Cert.GradUpIdeal.main_arg2)
          ∧ r.2.mem ((c.tc : Thread Cert.GradUpIdeal.nD Cert.GradUpIdeal.τ).loc Cert.GradUpIdeal.main_arg3) = m ((c.tc : Thread Cert.GradUpIdeal.nD Cert.GradUpIdeal.τ).loc Cert.GradUpIdeal.main_arg3)
          ∧ r.2.mem ((c.tc : Thread Cert.GradUpIdeal.nD Cert.GradUpIdeal.τ).loc Cert.GradUpIdeal.main_arg4) = m ((c.tc : Thread Cert.GradUpIdeal.nD Cert.GradUpIdeal.τ).loc Cert.GradUpIdeal.main_arg4)
          ∧ r.2.mem ((c.tc : Thread Cert.GradUpIdeal.nD Cert.GradUpIdeal.τ).loc Cert.GradUpIdeal.main_arg5) = m ((c.tc : Thread Cert.GradUpIdeal.nD Cert.GradUpIdeal.τ).loc Cert.GradUpIdeal.main_arg5))
      ∧ θ_run (Cert.GradUpRefIdeal.defs (F := Ideal)) (onTc (τ := Cert.GradUpRefIdeal.τ) (Cert.GradUpRefIdeal.main (F := Ideal))) ⟨m', fun _ => 0, g'⟩ (fun r => ∀ c : Dev Cert.GradUpRefIdeal.nD,
          r.2.mem ((c.tc : Thread Cert.GradUpRefIdeal.nD Cert.GradUpRefIdeal.τ).loc Cert.GradUpRefIdeal.main_v14) = v0 c
          ∧ r.2.mem ((c.tc : Thread Cert.GradUpRefIdeal.nD Cert.GradUpRefIdeal.τ).loc Cert.GradUpRefIdeal.main_v15) = v1 c
          ∧ r.2.mem ((c.tc : Thread Cert.GradUpRefIdeal.nD Cert.GradUpRefIdeal.τ).loc Cert.GradUpRefIdeal.main_arg0) = m' ((c.tc : Thread Cert.GradUpRefIdeal.nD Cert.GradUpRefIdeal.τ).loc Cert.GradUpRefIdeal.main_arg0)
          ∧ r.2.mem ((c.tc : Thread Cert.GradUpRefIdeal.nD Cert.GradUpRefIdeal.τ).loc Cert.GradUpRefIdeal.main_arg1) = m' ((c.tc : Thread Cert.GradUpRefIdeal.nD Cert.GradUpRefIdeal.τ).loc Cert.GradUpRefIdeal.main_arg1)
          ∧ r.2.mem ((c.tc : Thread Cert.GradUpRefIdeal.nD Cert.GradUpRefIdeal.τ).loc Cert.GradUpRefIdeal.main_arg2) = m' ((c.tc : Thread Cert.GradUpRefIdeal.nD Cert.GradUpRefIdeal.τ).loc Cert.GradUpRefIdeal.main_arg2)
          ∧ r.2.mem ((c.tc : Thread Cert.GradUpRefIdeal.nD Cert.GradUpRefIdeal.τ).loc Cert.GradUpRefIdeal.main_arg3) = m' ((c.tc : Thread Cert.GradUpRefIdeal.nD Cert.GradUpRefIdeal.τ).loc Cert.GradUpRefIdeal.main_arg3)
          ∧ r.2.mem ((c.tc : Thread Cert.GradUpRefIdeal.nD Cert.GradUpRefIdeal.τ).loc Cert.GradUpRefIdeal.main_arg4) = m' ((c.tc : Thread Cert.GradUpRefIdeal.nD Cert.GradUpRefIdeal.τ).loc Cert.GradUpRefIdeal.main_arg4)
          ∧ r.2.mem ((c.tc : Thread Cert.GradUpRefIdeal.nD Cert.GradUpRefIdeal.τ).loc Cert.GradUpRefIdeal.main_arg5) = m' ((c.tc : Thread Cert.GradUpRefIdeal.nD Cert.GradUpRefIdeal.τ).loc Cert.GradUpRefIdeal.main_arg5))

def preserves_Branches_BranchesIdeal : Prop :=
  True

def algebraic_BranchesIdeal_BranchesRefIdeal [hBranchesIdeal : Cert.BranchesIdeal.Facts] [hBranchesRefIdeal : Cert.BranchesRefIdeal.Facts] : Prop :=
  ∀ (m : (ℓ : Loc Cert.BranchesIdeal.nD Cert.BranchesIdeal.τ Cert.BranchesIdeal.sig) → Buf (Elt Ideal) ℓ) (g : Dev Cert.BranchesIdeal.nD → PrngReg)
    (m' : (ℓ : Loc Cert.BranchesRefIdeal.nD Cert.BranchesRefIdeal.τ Cert.BranchesRefIdeal.sig) → Buf (Elt Ideal) ℓ) (g' : Dev Cert.BranchesRefIdeal.nD → PrngReg), Pre_BranchesIdeal m →
    (∀ c : Dev Cert.BranchesIdeal.nD,
      m' ((c.tc : Thread Cert.BranchesRefIdeal.nD Cert.BranchesRefIdeal.τ).loc Cert.BranchesRefIdeal.main_arg0) = m ((c.tc : Thread Cert.BranchesIdeal.nD Cert.BranchesIdeal.τ).loc Cert.BranchesIdeal.main_arg0)
      ∧ m' ((c.tc : Thread Cert.BranchesRefIdeal.nD Cert.BranchesRefIdeal.τ).loc Cert.BranchesRefIdeal.main_arg1) = m ((c.tc : Thread Cert.BranchesIdeal.nD Cert.BranchesIdeal.τ).loc Cert.BranchesIdeal.main_arg1)
      ∧ m' ((c.tc : Thread Cert.BranchesRefIdeal.nD Cert.BranchesRefIdeal.τ).loc Cert.BranchesRefIdeal.main_arg2) = m ((c.tc : Thread Cert.BranchesIdeal.nD Cert.BranchesIdeal.τ).loc Cert.BranchesIdeal.main_arg2)
      ∧ m' ((c.tc : Thread Cert.BranchesRefIdeal.nD Cert.BranchesRefIdeal.τ).loc Cert.BranchesRefIdeal.main_arg3) = m ((c.tc : Thread Cert.BranchesIdeal.nD Cert.BranchesIdeal.τ).loc Cert.BranchesIdeal.main_arg3)
      ∧ m' ((c.tc : Thread Cert.BranchesRefIdeal.nD Cert.BranchesRefIdeal.τ).loc Cert.BranchesRefIdeal.main_arg4) = m ((c.tc : Thread Cert.BranchesIdeal.nD Cert.BranchesIdeal.τ).loc Cert.BranchesIdeal.main_arg4)
      ∧ m' ((c.tc : Thread Cert.BranchesRefIdeal.nD Cert.BranchesRefIdeal.τ).loc Cert.BranchesRefIdeal.main_arg5) = m ((c.tc : Thread Cert.BranchesIdeal.nD Cert.BranchesIdeal.τ).loc Cert.BranchesIdeal.main_arg5)) →
    ∃ (v0 : (c : Dev Cert.BranchesIdeal.nD) → Buf (Elt Ideal) ((c.tc : Thread Cert.BranchesIdeal.nD Cert.BranchesIdeal.τ).loc Cert.BranchesIdeal.main_v0_0)) (v1 : (c : Dev Cert.BranchesIdeal.nD) → Buf (Elt Ideal) ((c.tc : Thread Cert.BranchesIdeal.nD Cert.BranchesIdeal.τ).loc Cert.BranchesIdeal.main_v0_1)),
      θ_run (Cert.BranchesIdeal.defs (F := Ideal)) (onTc (τ := Cert.BranchesIdeal.τ) (Cert.BranchesIdeal.main (F := Ideal))) ⟨m, fun _ => 0, g⟩ (fun r => ∀ c : Dev Cert.BranchesIdeal.nD,
          r.2.mem ((c.tc : Thread Cert.BranchesIdeal.nD Cert.BranchesIdeal.τ).loc Cert.BranchesIdeal.main_v0_0) = v0 c
          ∧ r.2.mem ((c.tc : Thread Cert.BranchesIdeal.nD Cert.BranchesIdeal.τ).loc Cert.BranchesIdeal.main_v0_1) = v1 c
          ∧ r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
          ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
          ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
          ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
          ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4)
          ∧ r.2.mem ((c.tc : Thread Cert.BranchesIdeal.nD Cert.BranchesIdeal.τ).loc Cert.BranchesIdeal.main_arg5) = m ((c.tc : Thread Cert.BranchesIdeal.nD Cert.BranchesIdeal.τ).loc Cert.BranchesIdeal.main_arg5))
      ∧ θ_run (Cert.BranchesRefIdeal.defs (F := Ideal)) (onTc (τ := Cert.BranchesRefIdeal.τ) (Cert.BranchesRefIdeal.main (F := Ideal))) ⟨m', fun _ => 0, g'⟩ (fun r => ∀ c : Dev Cert.BranchesRefIdeal.nD,
          r.2.mem ((c.tc : Thread Cert.BranchesRefIdeal.nD Cert.BranchesRefIdeal.τ).loc Cert.BranchesRefIdeal.main_v13) = v0 c
          ∧ r.2.mem ((c.tc : Thread Cert.BranchesRefIdeal.nD Cert.BranchesRefIdeal.τ).loc Cert.BranchesRefIdeal.main_v14) = v1 c
          ∧ r.2.mem ((c.tc : Thread Cert.BranchesRefIdeal.nD Cert.BranchesRefIdeal.τ).loc Cert.BranchesRefIdeal.main_arg0) = m' ((c.tc : Thread Cert.BranchesRefIdeal.nD Cert.BranchesRefIdeal.τ).loc Cert.BranchesRefIdeal.main_arg0)
          ∧ r.2.mem ((c.tc : Thread Cert.BranchesRefIdeal.nD Cert.BranchesRefIdeal.τ).loc Cert.BranchesRefIdeal.main_arg1) = m' ((c.tc : Thread Cert.BranchesRefIdeal.nD Cert.BranchesRefIdeal.τ).loc Cert.BranchesRefIdeal.main_arg1)
          ∧ r.2.mem ((c.tc : Thread Cert.BranchesRefIdeal.nD Cert.BranchesRefIdeal.τ).loc Cert.BranchesRefIdeal.main_arg2) = m' ((c.tc : Thread Cert.BranchesRefIdeal.nD Cert.BranchesRefIdeal.τ).loc Cert.BranchesRefIdeal.main_arg2)
          ∧ r.2.mem ((c.tc : Thread Cert.BranchesRefIdeal.nD Cert.BranchesRefIdeal.τ).loc Cert.BranchesRefIdeal.main_arg3) = m' ((c.tc : Thread Cert.BranchesRefIdeal.nD Cert.BranchesRefIdeal.τ).loc Cert.BranchesRefIdeal.main_arg3)
          ∧ r.2.mem ((c.tc : Thread Cert.BranchesRefIdeal.nD Cert.BranchesRefIdeal.τ).loc Cert.BranchesRefIdeal.main_arg4) = m' ((c.tc : Thread Cert.BranchesRefIdeal.nD Cert.BranchesRefIdeal.τ).loc Cert.BranchesRefIdeal.main_arg4)
          ∧ r.2.mem ((c.tc : Thread Cert.BranchesRefIdeal.nD Cert.BranchesRefIdeal.τ).loc Cert.BranchesRefIdeal.main_arg5) = m' ((c.tc : Thread Cert.BranchesRefIdeal.nD Cert.BranchesRefIdeal.τ).loc Cert.BranchesRefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)) (v3 : (c : Dev Cert.LossIdeal.nD) → Buf (Elt Ideal) ((c.tc : Thread Cert.LossIdeal.nD Cert.LossIdeal.τ).loc Cert.LossIdeal.main_v3_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_v3_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v32) = v0 c
          ∧ r.2.mem ((c.tc : Thread Cert.LossRefIdeal.nD Cert.LossRefIdeal.τ).loc Cert.LossRefIdeal.main_v33) = v1 c
          ∧ r.2.mem ((c.tc : Thread Cert.LossRefIdeal.nD Cert.LossRefIdeal.τ).loc Cert.LossRefIdeal.main_v30) = v2 c
          ∧ r.2.mem ((c.tc : Thread Cert.LossRefIdeal.nD Cert.LossRefIdeal.τ).loc Cert.LossRefIdeal.main_v43) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v18) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_GradNorm1_GradNorm1Ideal : Prop :=
  True

def algebraic_GradNorm1Ideal_GradNorm1RefIdeal [hGradNorm1Ideal : Cert.GradNorm1Ideal.Facts] [hGradNorm1RefIdeal : Cert.GradNorm1RefIdeal.Facts] : Prop :=
  ∀ (m : (ℓ : Loc Cert.GradNorm1Ideal.nD Cert.GradNorm1Ideal.τ Cert.GradNorm1Ideal.sig) → Buf (Elt Ideal) ℓ) (g : Dev Cert.GradNorm1Ideal.nD → PrngReg)
    (m' : (ℓ : Loc Cert.GradNorm1RefIdeal.nD Cert.GradNorm1RefIdeal.τ Cert.GradNorm1RefIdeal.sig) → Buf (Elt Ideal) ℓ) (g' : Dev Cert.GradNorm1RefIdeal.nD → PrngReg), Pre_GradNorm1Ideal m →
    (∀ c : Dev Cert.GradNorm1Ideal.nD,
      m' ((c.tc : Thread Cert.GradNorm1RefIdeal.nD Cert.GradNorm1RefIdeal.τ).loc Cert.GradNorm1RefIdeal.main_arg0) = m ((c.tc : Thread Cert.GradNorm1Ideal.nD Cert.GradNorm1Ideal.τ).loc Cert.GradNorm1Ideal.main_arg0)
      ∧ m' ((c.tc : Thread Cert.GradNorm1RefIdeal.nD Cert.GradNorm1RefIdeal.τ).loc Cert.GradNorm1RefIdeal.main_arg1) = m ((c.tc : Thread Cert.GradNorm1Ideal.nD Cert.GradNorm1Ideal.τ).loc Cert.GradNorm1Ideal.main_arg1)
      ∧ m' ((c.tc : Thread Cert.GradNorm1RefIdeal.nD Cert.GradNorm1RefIdeal.τ).loc Cert.GradNorm1RefIdeal.main_arg2) = m ((c.tc : Thread Cert.GradNorm1Ideal.nD Cert.GradNorm1Ideal.τ).loc Cert.GradNorm1Ideal.main_arg2)
      ∧ m' ((c.tc : Thread Cert.GradNorm1RefIdeal.nD Cert.GradNorm1RefIdeal.τ).loc Cert.GradNorm1RefIdeal.main_arg3) = m ((c.tc : Thread Cert.GradNorm1Ideal.nD Cert.GradNorm1Ideal.τ).loc Cert.GradNorm1Ideal.main_arg3)
      ∧ m' ((c.tc : Thread Cert.GradNorm1RefIdeal.nD Cert.GradNorm1RefIdeal.τ).loc Cert.GradNorm1RefIdeal.main_arg4) = m ((c.tc : Thread Cert.GradNorm1Ideal.nD Cert.GradNorm1Ideal.τ).loc Cert.GradNorm1Ideal.main_arg4)) →
    ∃ (v0 : (c : Dev Cert.GradNorm1Ideal.nD) → Buf (Elt Ideal) ((c.tc : Thread Cert.GradNorm1Ideal.nD Cert.GradNorm1Ideal.τ).loc Cert.GradNorm1Ideal.main_v0_0)) (v1 : (c : Dev Cert.GradNorm1Ideal.nD) → Buf (Elt Ideal) ((c.tc : Thread Cert.GradNorm1Ideal.nD Cert.GradNorm1Ideal.τ).loc Cert.GradNorm1Ideal.main_v0_1)) (v2 : (c : Dev Cert.GradNorm1Ideal.nD) → Buf (Elt Ideal) ((c.tc : Thread Cert.GradNorm1Ideal.nD Cert.GradNorm1Ideal.τ).loc Cert.GradNorm1Ideal.main_v0_2)) (v3 : (c : Dev Cert.GradNorm1Ideal.nD) → Buf (Elt Ideal) ((c.tc : Thread Cert.GradNorm1Ideal.nD Cert.GradNorm1Ideal.τ).loc Cert.GradNorm1Ideal.main_v0_3)),
      θ_run (Cert.GradNorm1Ideal.defs (F := Ideal)) (onTc (τ := Cert.GradNorm1Ideal.τ) (Cert.GradNorm1Ideal.main (F := Ideal))) ⟨m, fun _ => 0, g⟩ (fun r => ∀ c : Dev Cert.GradNorm1Ideal.nD,
          r.2.mem ((c.tc : Thread Cert.GradNorm1Ideal.nD Cert.GradNorm1Ideal.τ).loc Cert.GradNorm1Ideal.main_v0_0) = v0 c
          ∧ r.2.mem ((c.tc : Thread Cert.GradNorm1Ideal.nD Cert.GradNorm1Ideal.τ).loc Cert.GradNorm1Ideal.main_v0_1) = v1 c
          ∧ r.2.mem ((c.tc : Thread Cert.GradNorm1Ideal.nD Cert.GradNorm1Ideal.τ).loc Cert.GradNorm1Ideal.main_v0_2) = v2 c
          ∧ r.2.mem ((c.tc : Thread Cert.GradNorm1Ideal.nD Cert.GradNorm1Ideal.τ).loc Cert.GradNorm1Ideal.main_v0_3) = v3 c
          ∧ r.2.mem ((c.tc : Thread Cert.GradNorm1Ideal.nD Cert.GradNorm1Ideal.τ).loc Cert.GradNorm1Ideal.main_arg0) = m ((c.tc : Thread Cert.GradNorm1Ideal.nD Cert.GradNorm1Ideal.τ).loc Cert.GradNorm1Ideal.main_arg0)
          ∧ r.2.mem ((c.tc : Thread Cert.GradNorm1Ideal.nD Cert.GradNorm1Ideal.τ).loc Cert.GradNorm1Ideal.main_arg1) = m ((c.tc : Thread Cert.GradNorm1Ideal.nD Cert.GradNorm1Ideal.τ).loc Cert.GradNorm1Ideal.main_arg1)
          ∧ r.2.mem ((c.tc : Thread Cert.GradNorm1Ideal.nD Cert.GradNorm1Ideal.τ).loc Cert.GradNorm1Ideal.main_arg2) = m ((c.tc : Thread Cert.GradNorm1Ideal.nD Cert.GradNorm1Ideal.τ).loc Cert.GradNorm1Ideal.main_arg2)
          ∧ r.2.mem ((c.tc : Thread Cert.GradNorm1Ideal.nD Cert.GradNorm1Ideal.τ).loc Cert.GradNorm1Ideal.main_arg3) = m ((c.tc : Thread Cert.GradNorm1Ideal.nD Cert.GradNorm1Ideal.τ).loc Cert.GradNorm1Ideal.main_arg3)
          ∧ r.2.mem ((c.tc : Thread Cert.GradNorm1Ideal.nD Cert.GradNorm1Ideal.τ).loc Cert.GradNorm1Ideal.main_arg4) = m ((c.tc : Thread Cert.GradNorm1Ideal.nD Cert.GradNorm1Ideal.τ).loc Cert.GradNorm1Ideal.main_arg4))
      ∧ θ_run (Cert.GradNorm1RefIdeal.defs (F := Ideal)) (onTc (τ := Cert.GradNorm1RefIdeal.τ) (Cert.GradNorm1RefIdeal.main (F := Ideal))) ⟨m', fun _ => 0, g'⟩ (fun r => ∀ c : Dev Cert.GradNorm1RefIdeal.nD,
          r.2.mem ((c.tc : Thread Cert.GradNorm1RefIdeal.nD Cert.GradNorm1RefIdeal.τ).loc Cert.GradNorm1RefIdeal.main_v54) = v0 c
          ∧ r.2.mem ((c.tc : Thread Cert.GradNorm1RefIdeal.nD Cert.GradNorm1RefIdeal.τ).loc Cert.GradNorm1RefIdeal.main_v30) = v1 c
          ∧ r.2.mem ((c.tc : Thread Cert.GradNorm1RefIdeal.nD Cert.GradNorm1RefIdeal.τ).loc Cert.GradNorm1RefIdeal.main_v33) = v2 c
          ∧ r.2.mem ((c.tc : Thread Cert.GradNorm1RefIdeal.nD Cert.GradNorm1RefIdeal.τ).loc Cert.GradNorm1RefIdeal.main_v38) = v3 c
          ∧ r.2.mem ((c.tc : Thread Cert.GradNorm1RefIdeal.nD Cert.GradNorm1RefIdeal.τ).loc Cert.GradNorm1RefIdeal.main_arg0) = m' ((c.tc : Thread Cert.GradNorm1RefIdeal.nD Cert.GradNorm1RefIdeal.τ).loc Cert.GradNorm1RefIdeal.main_arg0)
          ∧ r.2.mem ((c.tc : Thread Cert.GradNorm1RefIdeal.nD Cert.GradNorm1RefIdeal.τ).loc Cert.GradNorm1RefIdeal.main_arg1) = m' ((c.tc : Thread Cert.GradNorm1RefIdeal.nD Cert.GradNorm1RefIdeal.τ).loc Cert.GradNorm1RefIdeal.main_arg1)
          ∧ r.2.mem ((c.tc : Thread Cert.GradNorm1RefIdeal.nD Cert.GradNorm1RefIdeal.τ).loc Cert.GradNorm1RefIdeal.main_arg2) = m' ((c.tc : Thread Cert.GradNorm1RefIdeal.nD Cert.GradNorm1RefIdeal.τ).loc Cert.GradNorm1RefIdeal.main_arg2)
          ∧ r.2.mem ((c.tc : Thread Cert.GradNorm1RefIdeal.nD Cert.GradNorm1RefIdeal.τ).loc Cert.GradNorm1RefIdeal.main_arg3) = m' ((c.tc : Thread Cert.GradNorm1RefIdeal.nD Cert.GradNorm1RefIdeal.τ).loc Cert.GradNorm1RefIdeal.main_arg3)
          ∧ r.2.mem ((c.tc : Thread Cert.GradNorm1RefIdeal.nD Cert.GradNorm1RefIdeal.τ).loc Cert.GradNorm1RefIdeal.main_arg4) = m' ((c.tc : Thread Cert.GradNorm1RefIdeal.nD Cert.GradNorm1RefIdeal.τ).loc Cert.GradNorm1RefIdeal.main_arg4))

def preserves_GradNorm2_GradNorm2Ideal : Prop :=
  True

def algebraic_GradNorm2Ideal_GradNorm2RefIdeal [hGradNorm2Ideal : Cert.GradNorm2Ideal.Facts] [hGradNorm2RefIdeal : Cert.GradNorm2RefIdeal.Facts] : Prop :=
  ∀ (m : (ℓ : Loc Cert.GradNorm2Ideal.nD Cert.GradNorm2Ideal.τ Cert.GradNorm2Ideal.sig) → Buf (Elt Ideal) ℓ) (g : Dev Cert.GradNorm2Ideal.nD → PrngReg)
    (m' : (ℓ : Loc Cert.GradNorm2RefIdeal.nD Cert.GradNorm2RefIdeal.τ Cert.GradNorm2RefIdeal.sig) → Buf (Elt Ideal) ℓ) (g' : Dev Cert.GradNorm2RefIdeal.nD → PrngReg), Pre_GradNorm2Ideal m →
    (∀ c : Dev Cert.GradNorm2Ideal.nD,
      m' ((c.tc : Thread Cert.GradNorm2RefIdeal.nD Cert.GradNorm2RefIdeal.τ).loc Cert.GradNorm2RefIdeal.main_arg0) = m ((c.tc : Thread Cert.GradNorm2Ideal.nD Cert.GradNorm2Ideal.τ).loc Cert.GradNorm2Ideal.main_arg0)
      ∧ m' ((c.tc : Thread Cert.GradNorm2RefIdeal.nD Cert.GradNorm2RefIdeal.τ).loc Cert.GradNorm2RefIdeal.main_arg1) = m ((c.tc : Thread Cert.GradNorm2Ideal.nD Cert.GradNorm2Ideal.τ).loc Cert.GradNorm2Ideal.main_arg1)
      ∧ m' ((c.tc : Thread Cert.GradNorm2RefIdeal.nD Cert.GradNorm2RefIdeal.τ).loc Cert.GradNorm2RefIdeal.main_arg2) = m ((c.tc : Thread Cert.GradNorm2Ideal.nD Cert.GradNorm2Ideal.τ).loc Cert.GradNorm2Ideal.main_arg2)
      ∧ m' ((c.tc : Thread Cert.GradNorm2RefIdeal.nD Cert.GradNorm2RefIdeal.τ).loc Cert.GradNorm2RefIdeal.main_arg3) = m ((c.tc : Thread Cert.GradNorm2Ideal.nD Cert.GradNorm2Ideal.τ).loc Cert.GradNorm2Ideal.main_arg3)
      ∧ m' ((c.tc : Thread Cert.GradNorm2RefIdeal.nD Cert.GradNorm2RefIdeal.τ).loc Cert.GradNorm2RefIdeal.main_arg4) = m ((c.tc : Thread Cert.GradNorm2Ideal.nD Cert.GradNorm2Ideal.τ).loc Cert.GradNorm2Ideal.main_arg4)
      ∧ m' ((c.tc : Thread Cert.GradNorm2RefIdeal.nD Cert.GradNorm2RefIdeal.τ).loc Cert.GradNorm2RefIdeal.main_arg5) = m ((c.tc : Thread Cert.GradNorm2Ideal.nD Cert.GradNorm2Ideal.τ).loc Cert.GradNorm2Ideal.main_arg5)
      ∧ m' ((c.tc : Thread Cert.GradNorm2RefIdeal.nD Cert.GradNorm2RefIdeal.τ).loc Cert.GradNorm2RefIdeal.main_arg6) = m ((c.tc : Thread Cert.GradNorm2Ideal.nD Cert.GradNorm2Ideal.τ).loc Cert.GradNorm2Ideal.main_arg6)) →
    ∃ (v0 : (c : Dev Cert.GradNorm2Ideal.nD) → Buf (Elt Ideal) ((c.tc : Thread Cert.GradNorm2Ideal.nD Cert.GradNorm2Ideal.τ).loc Cert.GradNorm2Ideal.main_v0_0)) (v1 : (c : Dev Cert.GradNorm2Ideal.nD) → Buf (Elt Ideal) ((c.tc : Thread Cert.GradNorm2Ideal.nD Cert.GradNorm2Ideal.τ).loc Cert.GradNorm2Ideal.main_v0_1)) (v2 : (c : Dev Cert.GradNorm2Ideal.nD) → Buf (Elt Ideal) ((c.tc : Thread Cert.GradNorm2Ideal.nD Cert.GradNorm2Ideal.τ).loc Cert.GradNorm2Ideal.main_v0_2)) (v3 : (c : Dev Cert.GradNorm2Ideal.nD) → Buf (Elt Ideal) ((c.tc : Thread Cert.GradNorm2Ideal.nD Cert.GradNorm2Ideal.τ).loc Cert.GradNorm2Ideal.main_v0_3)) (v4 : (c : Dev Cert.GradNorm2Ideal.nD) → Buf (Elt Ideal) ((c.tc : Thread Cert.GradNorm2Ideal.nD Cert.GradNorm2Ideal.τ).loc Cert.GradNorm2Ideal.main_v0_4)) (v5 : (c : Dev Cert.GradNorm2Ideal.nD) → Buf (Elt Ideal) ((c.tc : Thread Cert.GradNorm2Ideal.nD Cert.GradNorm2Ideal.τ).loc Cert.GradNorm2Ideal.main_v0_5)),
      θ_run (Cert.GradNorm2Ideal.defs (F := Ideal)) (onTc (τ := Cert.GradNorm2Ideal.τ) (Cert.GradNorm2Ideal.main (F := Ideal))) ⟨m, fun _ => 0, g⟩ (fun r => ∀ c : Dev Cert.GradNorm2Ideal.nD,
          r.2.mem ((c.tc : Thread Cert.GradNorm2Ideal.nD Cert.GradNorm2Ideal.τ).loc Cert.GradNorm2Ideal.main_v0_0) = v0 c
          ∧ r.2.mem ((c.tc : Thread Cert.GradNorm2Ideal.nD Cert.GradNorm2Ideal.τ).loc Cert.GradNorm2Ideal.main_v0_1) = v1 c
          ∧ r.2.mem ((c.tc : Thread Cert.GradNorm2Ideal.nD Cert.GradNorm2Ideal.τ).loc Cert.GradNorm2Ideal.main_v0_2) = v2 c
          ∧ r.2.mem ((c.tc : Thread Cert.GradNorm2Ideal.nD Cert.GradNorm2Ideal.τ).loc Cert.GradNorm2Ideal.main_v0_3) = v3 c
          ∧ r.2.mem ((c.tc : Thread Cert.GradNorm2Ideal.nD Cert.GradNorm2Ideal.τ).loc Cert.GradNorm2Ideal.main_v0_4) = v4 c
          ∧ r.2.mem ((c.tc : Thread Cert.GradNorm2Ideal.nD Cert.GradNorm2Ideal.τ).loc Cert.GradNorm2Ideal.main_v0_5) = v5 c
          ∧ r.2.mem ((c.tc : Thread Cert.GradNorm2Ideal.nD Cert.GradNorm2Ideal.τ).loc Cert.GradNorm2Ideal.main_arg0) = m ((c.tc : Thread Cert.GradNorm2Ideal.nD Cert.GradNorm2Ideal.τ).loc Cert.GradNorm2Ideal.main_arg0)
          ∧ r.2.mem ((c.tc : Thread Cert.GradNorm2Ideal.nD Cert.GradNorm2Ideal.τ).loc Cert.GradNorm2Ideal.main_arg1) = m ((c.tc : Thread Cert.GradNorm2Ideal.nD Cert.GradNorm2Ideal.τ).loc Cert.GradNorm2Ideal.main_arg1)
          ∧ r.2.mem ((c.tc : Thread Cert.GradNorm2Ideal.nD Cert.GradNorm2Ideal.τ).loc Cert.GradNorm2Ideal.main_arg2) = m ((c.tc : Thread Cert.GradNorm2Ideal.nD Cert.GradNorm2Ideal.τ).loc Cert.GradNorm2Ideal.main_arg2)
          ∧ r.2.mem ((c.tc : Thread Cert.GradNorm2Ideal.nD Cert.GradNorm2Ideal.τ).loc Cert.GradNorm2Ideal.main_arg3) = m ((c.tc : Thread Cert.GradNorm2Ideal.nD Cert.GradNorm2Ideal.τ).loc Cert.GradNorm2Ideal.main_arg3)
          ∧ r.2.mem ((c.tc : Thread Cert.GradNorm2Ideal.nD Cert.GradNorm2Ideal.τ).loc Cert.GradNorm2Ideal.main_arg4) = m ((c.tc : Thread Cert.GradNorm2Ideal.nD Cert.GradNorm2Ideal.τ).loc Cert.GradNorm2Ideal.main_arg4)
          ∧ r.2.mem ((c.tc : Thread Cert.GradNorm2Ideal.nD Cert.GradNorm2Ideal.τ).loc Cert.GradNorm2Ideal.main_arg5) = m ((c.tc : Thread Cert.GradNorm2Ideal.nD Cert.GradNorm2Ideal.τ).loc Cert.GradNorm2Ideal.main_arg5)
          ∧ r.2.mem ((c.tc : Thread Cert.GradNorm2Ideal.nD Cert.GradNorm2Ideal.τ).loc Cert.GradNorm2Ideal.main_arg6) = m ((c.tc : Thread Cert.GradNorm2Ideal.nD Cert.GradNorm2Ideal.τ).loc Cert.GradNorm2Ideal.main_arg6))
      ∧ θ_run (Cert.GradNorm2RefIdeal.defs (F := Ideal)) (onTc (τ := Cert.GradNorm2RefIdeal.τ) (Cert.GradNorm2RefIdeal.main (F := Ideal))) ⟨m', fun _ => 0, g'⟩ (fun r => ∀ c : Dev Cert.GradNorm2RefIdeal.nD,
          r.2.mem ((c.tc : Thread Cert.GradNorm2RefIdeal.nD Cert.GradNorm2RefIdeal.τ).loc Cert.GradNorm2RefIdeal.main_v64) = v0 c
          ∧ r.2.mem ((c.tc : Thread Cert.GradNorm2RefIdeal.nD Cert.GradNorm2RefIdeal.τ).loc Cert.GradNorm2RefIdeal.main_v30) = v1 c
          ∧ r.2.mem ((c.tc : Thread Cert.GradNorm2RefIdeal.nD Cert.GradNorm2RefIdeal.τ).loc Cert.GradNorm2RefIdeal.main_v33) = v2 c
          ∧ r.2.mem ((c.tc : Thread Cert.GradNorm2RefIdeal.nD Cert.GradNorm2RefIdeal.τ).loc Cert.GradNorm2RefIdeal.main_v38) = v3 c
          ∧ r.2.mem ((c.tc : Thread Cert.GradNorm2RefIdeal.nD Cert.GradNorm2RefIdeal.τ).loc Cert.GradNorm2RefIdeal.main_v66) = v4 c
          ∧ r.2.mem ((c.tc : Thread Cert.GradNorm2RefIdeal.nD Cert.GradNorm2RefIdeal.τ).loc Cert.GradNorm2RefIdeal.main_v63) = v5 c
          ∧ r.2.mem ((c.tc : Thread Cert.GradNorm2RefIdeal.nD Cert.GradNorm2RefIdeal.τ).loc Cert.GradNorm2RefIdeal.main_arg0) = m' ((c.tc : Thread Cert.GradNorm2RefIdeal.nD Cert.GradNorm2RefIdeal.τ).loc Cert.GradNorm2RefIdeal.main_arg0)
          ∧ r.2.mem ((c.tc : Thread Cert.GradNorm2RefIdeal.nD Cert.GradNorm2RefIdeal.τ).loc Cert.GradNorm2RefIdeal.main_arg1) = m' ((c.tc : Thread Cert.GradNorm2RefIdeal.nD Cert.GradNorm2RefIdeal.τ).loc Cert.GradNorm2RefIdeal.main_arg1)
          ∧ r.2.mem ((c.tc : Thread Cert.GradNorm2RefIdeal.nD Cert.GradNorm2RefIdeal.τ).loc Cert.GradNorm2RefIdeal.main_arg2) = m' ((c.tc : Thread Cert.GradNorm2RefIdeal.nD Cert.GradNorm2RefIdeal.τ).loc Cert.GradNorm2RefIdeal.main_arg2)
          ∧ r.2.mem ((c.tc : Thread Cert.GradNorm2RefIdeal.nD Cert.GradNorm2RefIdeal.τ).loc Cert.GradNorm2RefIdeal.main_arg3) = m' ((c.tc : Thread Cert.GradNorm2RefIdeal.nD Cert.GradNorm2RefIdeal.τ).loc Cert.GradNorm2RefIdeal.main_arg3)
          ∧ r.2.mem ((c.tc : Thread Cert.GradNorm2RefIdeal.nD Cert.GradNorm2RefIdeal.τ).loc Cert.GradNorm2RefIdeal.main_arg4) = m' ((c.tc : Thread Cert.GradNorm2RefIdeal.nD Cert.GradNorm2RefIdeal.τ).loc Cert.GradNorm2RefIdeal.main_arg4)
          ∧ r.2.mem ((c.tc : Thread Cert.GradNorm2RefIdeal.nD Cert.GradNorm2RefIdeal.τ).loc Cert.GradNorm2RefIdeal.main_arg5) = m' ((c.tc : Thread Cert.GradNorm2RefIdeal.nD Cert.GradNorm2RefIdeal.τ).loc Cert.GradNorm2RefIdeal.main_arg5)
          ∧ r.2.mem ((c.tc : Thread Cert.GradNorm2RefIdeal.nD Cert.GradNorm2RefIdeal.τ).loc Cert.GradNorm2RefIdeal.main_arg6) = m' ((c.tc : Thread Cert.GradNorm2RefIdeal.nD Cert.GradNorm2RefIdeal.τ).loc Cert.GradNorm2RefIdeal.main_arg6))

def Claim : Prop :=
  ∃ (hKernel : Cert.Kernel.Facts) (hKernelIdeal : Cert.KernelIdeal.Facts) (hReferenceIdeal : Cert.ReferenceIdeal.Facts) (hHidden : Cert.Hidden.Facts) (hHiddenIdeal : Cert.HiddenIdeal.Facts) (hHiddenRefIdeal : Cert.HiddenRefIdeal.Facts) (hGradFf2 : Cert.GradFf2.Facts) (hGradFf2Ideal : Cert.GradFf2Ideal.Facts) (hGradFf2RefIdeal : Cert.GradFf2RefIdeal.Facts) (hGradFf1 : Cert.GradFf1.Facts) (hGradFf1Ideal : Cert.GradFf1Ideal.Facts) (hGradFf1RefIdeal : Cert.GradFf1RefIdeal.Facts) (hGradH2 : Cert.GradH2.Facts) (hGradH2Ideal : Cert.GradH2Ideal.Facts) (hGradH2RefIdeal : Cert.GradH2RefIdeal.Facts) (hGradO : Cert.GradO.Facts) (hGradOIdeal : Cert.GradOIdeal.Facts) (hGradORefIdeal : Cert.GradORefIdeal.Facts) (hGates : Cert.Gates.Facts) (hGatesIdeal : Cert.GatesIdeal.Facts) (hGatesRefIdeal : Cert.GatesRefIdeal.Facts) (hGradUp : Cert.GradUp.Facts) (hGradUpIdeal : Cert.GradUpIdeal.Facts) (hGradUpRefIdeal : Cert.GradUpRefIdeal.Facts) (hBranches : Cert.Branches.Facts) (hBranchesIdeal : Cert.BranchesIdeal.Facts) (hBranchesRefIdeal : Cert.BranchesRefIdeal.Facts) (hLoss : Cert.Loss.Facts) (hLossIdeal : Cert.LossIdeal.Facts) (hLossRefIdeal : Cert.LossRefIdeal.Facts) (hNorm : Cert.Norm.Facts) (hNormIdeal : Cert.NormIdeal.Facts) (hNormRefIdeal : Cert.NormRefIdeal.Facts) (hGradNorm1 : Cert.GradNorm1.Facts) (hGradNorm1Ideal : Cert.GradNorm1Ideal.Facts) (hGradNorm1RefIdeal : Cert.GradNorm1RefIdeal.Facts) (hGradNorm2 : Cert.GradNorm2.Facts) (hGradNorm2Ideal : Cert.GradNorm2Ideal.Facts) (hGradNorm2RefIdeal : Cert.GradNorm2RefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Hidden (hHidden := hHidden)
    ∧ quiescent_HiddenIdeal (hHiddenIdeal := hHiddenIdeal)
    ∧ quiescent_HiddenRefIdeal (hHiddenRefIdeal := hHiddenRefIdeal)
    ∧ quiescent_GradFf2 (hGradFf2 := hGradFf2)
    ∧ quiescent_GradFf2Ideal (hGradFf2Ideal := hGradFf2Ideal)
    ∧ quiescent_GradFf2RefIdeal (hGradFf2RefIdeal := hGradFf2RefIdeal)
    ∧ quiescent_GradFf1 (hGradFf1 := hGradFf1)
    ∧ quiescent_GradFf1Ideal (hGradFf1Ideal := hGradFf1Ideal)
    ∧ quiescent_GradFf1RefIdeal (hGradFf1RefIdeal := hGradFf1RefIdeal)
    ∧ quiescent_GradH2 (hGradH2 := hGradH2)
    ∧ quiescent_GradH2Ideal (hGradH2Ideal := hGradH2Ideal)
    ∧ quiescent_GradH2RefIdeal (hGradH2RefIdeal := hGradH2RefIdeal)
    ∧ quiescent_GradO (hGradO := hGradO)
    ∧ quiescent_GradOIdeal (hGradOIdeal := hGradOIdeal)
    ∧ quiescent_GradORefIdeal (hGradORefIdeal := hGradORefIdeal)
    ∧ quiescent_Gates (hGates := hGates)
    ∧ quiescent_GatesIdeal (hGatesIdeal := hGatesIdeal)
    ∧ quiescent_GatesRefIdeal (hGatesRefIdeal := hGatesRefIdeal)
    ∧ quiescent_GradUp (hGradUp := hGradUp)
    ∧ quiescent_GradUpIdeal (hGradUpIdeal := hGradUpIdeal)
    ∧ quiescent_GradUpRefIdeal (hGradUpRefIdeal := hGradUpRefIdeal)
    ∧ quiescent_Branches (hBranches := hBranches)
    ∧ quiescent_BranchesIdeal (hBranchesIdeal := hBranchesIdeal)
    ∧ quiescent_BranchesRefIdeal (hBranchesRefIdeal := hBranchesRefIdeal)
    ∧ quiescent_Loss (hLoss := hLoss)
    ∧ quiescent_LossIdeal (hLossIdeal := hLossIdeal)
    ∧ quiescent_LossRefIdeal (hLossRefIdeal := hLossRefIdeal)
    ∧ quiescent_Norm (hNorm := hNorm)
    ∧ quiescent_NormIdeal (hNormIdeal := hNormIdeal)
    ∧ quiescent_NormRefIdeal (hNormRefIdeal := hNormRefIdeal)
    ∧ quiescent_GradNorm1 (hGradNorm1 := hGradNorm1)
    ∧ quiescent_GradNorm1Ideal (hGradNorm1Ideal := hGradNorm1Ideal)
    ∧ quiescent_GradNorm1RefIdeal (hGradNorm1RefIdeal := hGradNorm1RefIdeal)
    ∧ quiescent_GradNorm2 (hGradNorm2 := hGradNorm2)
    ∧ quiescent_GradNorm2Ideal (hGradNorm2Ideal := hGradNorm2Ideal)
    ∧ quiescent_GradNorm2RefIdeal (hGradNorm2RefIdeal := hGradNorm2RefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Hidden_HiddenIdeal
    ∧ algebraic_HiddenIdeal_HiddenRefIdeal (hHiddenIdeal := hHiddenIdeal) (hHiddenRefIdeal := hHiddenRefIdeal)
    ∧ preserves_GradFf2_GradFf2Ideal
    ∧ algebraic_GradFf2Ideal_GradFf2RefIdeal (hGradFf2Ideal := hGradFf2Ideal) (hGradFf2RefIdeal := hGradFf2RefIdeal)
    ∧ preserves_GradFf1_GradFf1Ideal
    ∧ algebraic_GradFf1Ideal_GradFf1RefIdeal (hGradFf1Ideal := hGradFf1Ideal) (hGradFf1RefIdeal := hGradFf1RefIdeal)
    ∧ preserves_GradH2_GradH2Ideal
    ∧ algebraic_GradH2Ideal_GradH2RefIdeal (hGradH2Ideal := hGradH2Ideal) (hGradH2RefIdeal := hGradH2RefIdeal)
    ∧ preserves_GradO_GradOIdeal
    ∧ algebraic_GradOIdeal_GradORefIdeal (hGradOIdeal := hGradOIdeal) (hGradORefIdeal := hGradORefIdeal)
    ∧ preserves_Gates_GatesIdeal
    ∧ algebraic_GatesIdeal_GatesRefIdeal (hGatesIdeal := hGatesIdeal) (hGatesRefIdeal := hGatesRefIdeal)
    ∧ preserves_GradUp_GradUpIdeal
    ∧ algebraic_GradUpIdeal_GradUpRefIdeal (hGradUpIdeal := hGradUpIdeal) (hGradUpRefIdeal := hGradUpRefIdeal)
    ∧ preserves_Branches_BranchesIdeal
    ∧ algebraic_BranchesIdeal_BranchesRefIdeal (hBranchesIdeal := hBranchesIdeal) (hBranchesRefIdeal := hBranchesRefIdeal)
    ∧ preserves_Loss_LossIdeal
    ∧ algebraic_LossIdeal_LossRefIdeal (hLossIdeal := hLossIdeal) (hLossRefIdeal := hLossRefIdeal)
    ∧ preserves_Norm_NormIdeal
    ∧ algebraic_NormIdeal_NormRefIdeal (hNormIdeal := hNormIdeal) (hNormRefIdeal := hNormRefIdeal)
    ∧ preserves_GradNorm1_GradNorm1Ideal
    ∧ algebraic_GradNorm1Ideal_GradNorm1RefIdeal (hGradNorm1Ideal := hGradNorm1Ideal) (hGradNorm1RefIdeal := hGradNorm1RefIdeal)
    ∧ preserves_GradNorm2_GradNorm2Ideal
    ∧ algebraic_GradNorm2Ideal_GradNorm2RefIdeal (hGradNorm2Ideal := hGradNorm2Ideal) (hGradNorm2RefIdeal := hGradNorm2RefIdeal)
-- ==== Pre_finite.lean ====
abbrev S2048x8192 : Shape := ⟨2, ![2048, 8192]⟩
abbrev S2048x1024 : Shape := ⟨2, ![2048, 1024]⟩
abbrev S1x128 : Shape := ⟨2, ![1, 128]⟩
abbrev S2048x3072 : Shape := ⟨2, ![2048, 3072]⟩
abbrev S_ : Shape := ⟨0, ![]⟩

class Facts : Prop where
  slices_S2048x8192_S2048x3072_0_1024 : S2048x8192.Slices ![0, 1024] S2048x3072
  bitsLt_bf16_f32 : FTy.bits .bf16 < FTy.bits .f32
  bcast_S_S2048x3072 : S_.BroadcastsInDim S2048x3072 (![] : Fin 0 → Fin S2048x3072.rank)
  bcast_S_S2048x1024 : S_.BroadcastsInDim S2048x1024 (![] : Fin 0 → Fin S2048x1024.rank)
  bcast_S_S1x128 : S_.BroadcastsInDim S1x128 (![] : Fin 0 → Fin S1x128.rank)

variable [Facts]

def fn {F : FTy → Type} [FloatOps F] (main_arg0 : FVec F S2048x8192 .bf16) (main_arg1 : FVec F S2048x1024 .bf16) (main_arg2 : FVec F S1x128 .f32) (main_arg3 : FVec F S1x128 .f32) : IVec S2048x3072 1 × IVec S2048x1024 1 × IVec S1x128 1 × IVec S1x128 1 :=
  let main_v0 : FVec F S2048x3072 .bf16 := (extractStridedSlice S2048x3072 ![0, 1024] · slices_S2048x8192_S2048x3072_0_1024) main_arg0
  let main_v1 : FVec F S2048x3072 .f32 := (extf .f32 · bitsLt_bf16_f32) main_v0
  let main_v2 : FVec F S2048x1024 .f32 := (extf .f32 · bitsLt_bf16_f32) main_arg1
  let main_v3 : FVec F S2048x3072 .f32 := Host.absf main_v1
  let main_cst : FVec F S_ .f32 := constant S_ .f32 0x7F800000#32
  let main_v4 : FVec F S2048x3072 .f32 := broadcastInDim S2048x3072 ![] bcast_S_S2048x3072 main_cst
  let main_v5 : IVec S2048x3072 1 := cmpf .olt main_v3 main_v4
  let main_v6 : FVec F S2048x1024 .f32 := Host.absf main_v2
  let main_cst_0 : FVec F S_ .f32 := constant S_ .f32 0x7F800000#32
  let main_v7 : FVec F S2048x1024 .f32 := broadcastInDim S2048x1024 ![] bcast_S_S2048x1024 main_cst_0
  let main_v8 : IVec S2048x1024 1 := cmpf .olt main_v6 main_v7
  let main_v9 : FVec F S1x128 .f32 := Host.absf main_arg2
  let main_cst_1 : FVec F S_ .f32 := constant S_ .f32 0x7F800000#32
  let main_v10 : FVec F S1x128 .f32 := broadcastInDim S1x128 ![] bcast_S_S1x128 main_cst_1
  let main_v11 : IVec S1x128 1 := cmpf .olt main_v9 main_v10
  let main_v12 : FVec F S1x128 .f32 := Host.absf main_arg3
  let main_cst_2 : FVec F S_ .f32 := constant S_ .f32 0x7F800000#32
  let main_v13 : FVec F S1x128 .f32 := broadcastInDim S1x128 ![] bcast_S_S1x128 main_cst_2
  let main_v14 : IVec S1x128 1 := cmpf .olt main_v12 main_v13
  (main_v5, main_v8, main_v11, main_v14)
-- ==== Kernel.lean ====
abbrev S2048x8192 : Shape := ⟨2, ![2048, 8192]⟩
abbrev S2048x1024 : Shape := ⟨2, ![2048, 1024]⟩
abbrev S1x128 : Shape := ⟨2, ![1, 128]⟩
abbrev S2048x8x128 : Shape := ⟨3, ![2048, 8, 128]⟩
abbrev S8x1x128 : Shape := ⟨3, ![8, 1, 128]⟩
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S2048x128 : Shape := ⟨2, ![2048, 128]⟩
abbrev S1x1x128 : Shape := ⟨3, ![1, 1, 128]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S128 : Shape := ⟨1, ![128]⟩

abbrev nBuf : Space → Nat
  | .hbm => 97
  | .vmem => 29
  | .smem => 0
  | _ => 0

abbrev bufTy : (tb : Table) → Fin (tcTables nBuf tb) → BufTy
  | .hbm, ⟨0, _⟩ => ⟨S2048x8192, .bf16⟩
  | .hbm, ⟨1, _⟩ => ⟨S2048x1024, .bf16⟩
  | .hbm, ⟨2, _⟩ => ⟨S1x128, .f32⟩
  | .hbm, ⟨3, _⟩ => ⟨S1x128, .f32⟩
  | .hbm, ⟨4, _⟩ => ⟨S2048x8192, .f32⟩
  | .hbm, ⟨5, _⟩ => ⟨S2048x1024, .f32⟩
  | .hbm, ⟨6, _⟩ => ⟨S2048x8x128, .f32⟩
  | .hbm, ⟨7, _⟩ => ⟨S2048x1024, .f32⟩
  | .hbm, ⟨8, _⟩ => ⟨S2048x8x128, .f32⟩
  | .hbm, ⟨9, _⟩ => ⟨S2048x1024, .f32⟩
  | .hbm, ⟨10, _⟩ => ⟨S2048x8x128, .f32⟩
  | .hbm, ⟨11, _⟩ => ⟨S8x1x128, .f32⟩
  | .hbm, ⟨12, _⟩ => ⟨S8x1x128, .f32⟩
  | .hbm, ⟨13, _⟩ => ⟨S8x2048x128, .f32⟩
  | .hbm, ⟨14, _⟩ => ⟨S8x2048x128, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S_, .f32⟩
  | .hbm, ⟨22, _⟩ => ⟨S8x2048x1, .f32⟩
  | .hbm, ⟨23, _⟩ => ⟨S8x2048x1, .f32⟩
  | .hbm, ⟨24, _⟩ => ⟨S8x2048x1, .f32⟩
  | .hbm, ⟨25, _⟩ => ⟨S8x2048x128, .f32⟩
  | .hbm, ⟨26, _⟩ => ⟨S8x2048x128, .f32⟩
  | .hbm, ⟨27, _⟩ => ⟨S8x2048x128, .f32⟩
  | .hbm, ⟨28, _⟩ => ⟨S8x2048x128, .f32⟩
  | .hbm, ⟨29, _⟩ => ⟨S8x2048x128, .f32⟩
  | .hbm, ⟨30, _⟩ => ⟨S8x2048x128, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S_, .f32⟩
  | .hbm, ⟨35, _⟩ => ⟨S8x2048x1, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1, .f32⟩
  | .hbm, ⟨41, _⟩ => ⟨S8x2048x128, .f32⟩
  | .hbm, ⟨42, _⟩ => ⟨S8x2048x128, .f32⟩
  | .hbm, ⟨43, _⟩ => ⟨S8x2048x128, .f32⟩
  | .hbm, ⟨44, _⟩ => ⟨S8x2048x128, .f32⟩
  | .hbm, ⟨45, _⟩ => ⟨S8x2048x128, .f32⟩
  | .hbm, ⟨46, _⟩ => ⟨S8x2048x2048, .f32⟩
  | .hbm, ⟨47, _⟩ => ⟨S_, .f32⟩
  | .hbm, ⟨48, _⟩ => ⟨S8x2048x2048, .f32⟩
  | .hbm, ⟨49, _⟩ => ⟨S8x2048x2048, .f32⟩
  | .hbm, ⟨50, _⟩ => ⟨S2048, .i32⟩
  | .hbm, ⟨51, _⟩ => ⟨S1x2048, .i32⟩
  | .hbm, ⟨52, _⟩ => ⟨S2048x1, .i32⟩
  | .hbm, ⟨53, _⟩ => ⟨S2048x2048, .i32⟩
  | .hbm, ⟨54, _⟩ => ⟨S2048x2048, .i32⟩
  | .hbm, ⟨55, _⟩ => ⟨S2048x2048, .i1⟩
  | .hbm, ⟨56, _⟩ => ⟨S8x2048x2048, .f32⟩
  | .hbm, ⟨57, _⟩ => ⟨S_, .f32⟩
  | .hbm, ⟨58, _⟩ => ⟨S8x2048x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .i1⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S8x2048x2048, .f32⟩
  | .hbm, ⟨68, _⟩ => ⟨S8x2048x2048, .f32⟩
  | .hbm, ⟨69, _⟩ => ⟨S8x2048x2048, .f32⟩
  | .hbm, ⟨70, _⟩ => ⟨S8x2048x2048, .f32⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S_, .f32⟩
  | .hbm, ⟨75, _⟩ => ⟨S8x2048x2048, .i1⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S_, .f32⟩
  | .hbm, ⟨80, _⟩ => ⟨S8x2048x2048, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S_, .f32⟩
  | .hbm, ⟨86, _⟩ => ⟨S8x2048x2048, .i1⟩
  | .hbm, ⟨87, _⟩ => ⟨S8x2048x2048, .f32⟩
  | .hbm, ⟨88, _⟩ => ⟨S8x2048x2048, .f32⟩
  | .hbm, ⟨89, _⟩ => ⟨S8x2048x128, .f32⟩
  | .hbm, ⟨90, _⟩ => ⟨S2048x8x128, .f32⟩
  | .hbm, ⟨91, _⟩ => ⟨S2048x1024, .f32⟩
  | .hbm, ⟨92, _⟩ => ⟨S2048x1024, .bf16⟩
  | .hbm, ⟨93, _⟩ => ⟨S2048x1024, .bf16⟩
  | .hbm, ⟨94, _⟩ => ⟨S2048x1024, .bf16⟩
  | .hbm, ⟨95, _⟩ => ⟨S8x1x128, .f32⟩
  | .hbm, ⟨96, _⟩ => ⟨S8x1x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S1x1x128, .f32⟩
  | .local _ .vmem, ⟨19, _⟩ => ⟨S1x1x128, .f32⟩
  | .local _ .vmem, ⟨20, _⟩ => ⟨S1x1x128, .f32⟩
  | .local _ .vmem, ⟨21, _⟩ => ⟨S1x1x128, .f32⟩
  | .local _ .vmem, ⟨22, _⟩ => ⟨S2048x128, .bf16⟩
  | .local _ .vmem, ⟨23, _⟩ => ⟨S2048x128, .bf16⟩
  | .local _ .vmem, ⟨24, _⟩ => ⟨S2048x128, .bf16⟩
  | .local _ .vmem, ⟨25, _⟩ => ⟨S2048x128, .bf16⟩
  | .local _ .vmem, ⟨26, _⟩ => ⟨S2048x128, .f32⟩
  | .local _ .vmem, ⟨27, _⟩ => ⟨S2048x128, .f32⟩
  | .local _ .vmem, ⟨28, _⟩ => ⟨S1x128, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_call0_v0 : Ref sig .tc := ⟨.hbm, 56, rfl⟩
abbrev main_call0_call0_cst : Ref sig .tc := ⟨.hbm, 57, rfl⟩
abbrev main_call0_call0_v0 : Ref sig .tc := ⟨.hbm, 58, rfl⟩
abbrev main_call0_call0_v1 : Ref sig .tc := ⟨.hbm, 59, rfl⟩
abbrev main_call0_call0_v2 : Ref sig .tc := ⟨.hbm, 60, rfl⟩
abbrev main_call0_call0_v3 : Ref sig .tc := ⟨.hbm, 61, rfl⟩
abbrev main_call0_call0_v4 : Ref sig .tc := ⟨.hbm, 62, rfl⟩
abbrev main_call0_call0_v5 : Ref sig .tc := ⟨.hbm, 63, rfl⟩
abbrev main_call0_call0_v6 : Ref sig .tc := ⟨.hbm, 64, rfl⟩
abbrev main_call0_call0_v7 : Ref sig .tc := ⟨.hbm, 65, rfl⟩
abbrev main_call0_call0_v8 : Ref sig .tc := ⟨.hbm, 66, rfl⟩
abbrev main_call0_call0_v9 : Ref sig .tc := ⟨.hbm, 67, rfl⟩
abbrev main_call0_call0_v10 : Ref sig .tc := ⟨.hbm, 68, rfl⟩
abbrev main_call0_call0_v11 : Ref sig .tc := ⟨.hbm, 69, rfl⟩
abbrev main_call0_v1 : Ref sig .tc := ⟨.hbm, 70, rfl⟩
abbrev main_v45 : Ref sig .tc := ⟨.hbm, 71, rfl⟩
abbrev main_v46 : Ref sig .tc := ⟨.hbm, 72, rfl⟩
abbrev main_cst_6 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v47 : Ref sig .tc := ⟨.hbm, 77, rfl⟩
abbrev main_call2_cst : Ref sig .tc := ⟨.hbm, 78, rfl⟩
abbrev main_call2_v0 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_7 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56_0 : Ref sig .tc := ⟨.hbm, 92, rfl⟩
abbrev main_v56_1 : Ref sig .tc := ⟨.hbm, 93, rfl⟩
abbrev main_v56_2 : Ref sig .tc := ⟨.hbm, 94, rfl⟩
abbrev main_v56_3 : Ref sig .tc := ⟨.hbm, 95, rfl⟩
abbrev main_v56_4 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v78 : BitVec 32 := Scalar.addi c0_i32 c8_i32
  let c1_i32 : BitVec 32 := 1#32
  ⟨c0_i32, v78, c1_i32⟩
def k0_mult1 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32 : BitVec 32 := 256#32
  let v119 : BitVec 32 := Scalar.muli arg20 c256_i32
  v119
def k0_off1 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32 : BitVec 32 := 256#32
  let v119 : BitVec 32 := Scalar.muli arg20 c256_i32
  let v120 : BitVec 32 := v119
  let v121 : Index := Scalar.indexCast v120
  let c0_57 : Index := 0#32
  ![v121.toNat, 0]
def k0_mult2 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_58 : BitVec 32 := 256#32
  let v123 : BitVec 32 := Scalar.muli arg20 c256_i32_58
  v123
def k0_mult3 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_60 : BitVec 32 := 256#32
  let v128 : BitVec 32 := Scalar.muli arg20 c256_i32_60
  v128
def k0_cond1 (k0_t1 : Fin k0_t1_loop.trips) : BitVec 1 :=
  let c0_i32 : BitVec 32 := 0#32
  let c1_i32 : BitVec 32 := 1#32
  let arg20 : BitVec 32 := Scf.iv c0_i32 c1_i32 k0_t1
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let c0_i32_101 : BitVec 32 := 0#32
  let v184 : BitVec 32 := Scalar.maxsi v147 c0_i32_101
  let c7_i32_102 : BitVec 32 := 7#32
  let v185 : BitVec 32 := Scalar.minsi v184 c7_i32_102
  let c0_i32_103 : BitVec 32 := 0#32
  let v186 : BitVec 1 := Scalar.cmpi .ne v185 c0_i32_103
  v186

def k0_cond2 (k0_t1 : Fin k0_t1_loop.trips) : BitVec 1 :=
  let c0_i32 : BitVec 32 := 0#32
  let c1_i32 : BitVec 32 := 1#32
  let arg20 : BitVec 32 := Scf.iv c0_i32 c1_i32 k0_t1
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let c0_i32_101 : BitVec 32 := 0#32
  let v184 : BitVec 32 := Scalar.maxsi v147 c0_i32_101
  let c7_i32_102 : BitVec 32 := 7#32
  let v185 : BitVec 32 := Scalar.minsi v184 c7_i32_102
  let c1_i32_130 : BitVec 32 := 1#32
  let v255 : BitVec 32 := Scalar.subi v185 c1_i32_130
  let c0_i32_131 : BitVec 32 := 0#32
  let v256 : BitVec 1 := Scalar.cmpi .ne v255 c0_i32_131
  v256

def k0_cond3 (k0_t1 : Fin k0_t1_loop.trips) : BitVec 1 :=
  let c0_i32 : BitVec 32 := 0#32
  let c1_i32 : BitVec 32 := 1#32
  let arg20 : BitVec 32 := Scf.iv c0_i32 c1_i32 k0_t1
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let c0_i32_101 : BitVec 32 := 0#32
  let v184 : BitVec 32 := Scalar.maxsi v147 c0_i32_101
  let c7_i32_102 : BitVec 32 := 7#32
  let v185 : BitVec 32 := Scalar.minsi v184 c7_i32_102
  let c1_i32_130 : BitVec 32 := 1#32
  let v255 : BitVec 32 := Scalar.subi v185 c1_i32_130
  let c1_i32_132 : BitVec 32 := 1#32
  let v258 : BitVec 32 := Scalar.subi v255 c1_i32_132
  let c0_i32_133 : BitVec 32 := 0#32
  let v259 : BitVec 1 := Scalar.cmpi .ne v258 c0_i32_133
  v259

def k0_cond4 (k0_t1 : Fin k0_t1_loop.trips) : BitVec 1 :=
  let c0_i32 : BitVec 32 := 0#32
  let c1_i32 : BitVec 32 := 1#32
  let arg20 : BitVec 32 := Scf.iv c0_i32 c1_i32 k0_t1
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let c0_i32_101 : BitVec 32 := 0#32
  let v184 : BitVec 32 := Scalar.maxsi v147 c0_i32_101
  let c7_i32_102 : BitVec 32 := 7#32
  let v185 : BitVec 32 := Scalar.minsi v184 c7_i32_102
  let c1_i32_130 : BitVec 32 := 1#32
  let v255 : BitVec 32 := Scalar.subi v185 c1_i32_130
  let c1_i32_132 : BitVec 32 := 1#32
  let v258 : BitVec 32 := Scalar.subi v255 c1_i32_132
  let c1_i32_134 : BitVec 32 := 1#32
  let v261 : BitVec 32 := Scalar.subi v258 c1_i32_134
  let c0_i32_135 : BitVec 32 := 0#32
  let v262 : BitVec 1 := Scalar.cmpi .ne v261 c0_i32_135
  v262

def k0_cond5 (k0_t1 : Fin k0_t1_loop.trips) : BitVec 1 :=
  let c0_i32 : BitVec 32 := 0#32
  let c1_i32 : BitVec 32 := 1#32
  let arg20 : BitVec 32 := Scf.iv c0_i32 c1_i32 k0_t1
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let c0_i32_101 : BitVec 32 := 0#32
  let v184 : BitVec 32 := Scalar.maxsi v147 c0_i32_101
  let c7_i32_102 : BitVec 32 := 7#32
  let v185 : BitVec 32 := Scalar.minsi v184 c7_i32_102
  let c1_i32_130 : BitVec 32 := 1#32
  let v255 : BitVec 32 := Scalar.subi v185 c1_i32_130
  let c1_i32_132 : BitVec 32 := 1#32
  let v258 : BitVec 32 := Scalar.subi v255 c1_i32_132
  let c1_i32_134 : BitVec 32 := 1#32
  let v261 : BitVec 32 := Scalar.subi v258 c1_i32_134
  let c1_i32_136 : BitVec 32 := 1#32
  let v264 : BitVec 32 := Scalar.subi v261 c1_i32_136
  let c0_i32_137 : BitVec 32 := 0#32
  let v265 : BitVec 1 := Scalar.cmpi .ne v264 c0_i32_137
  v265

def k0_cond6 (k0_t1 : Fin k0_t1_loop.trips) : BitVec 1 :=
  let c0_i32 : BitVec 32 := 0#32
  let c1_i32 : BitVec 32 := 1#32
  let arg20 : BitVec 32 := Scf.iv c0_i32 c1_i32 k0_t1
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let c0_i32_101 : BitVec 32 := 0#32
  let v184 : BitVec 32 := Scalar.maxsi v147 c0_i32_101
  let c7_i32_102 : BitVec 32 := 7#32
  let v185 : BitVec 32 := Scalar.minsi v184 c7_i32_102
  let c1_i32_130 : BitVec 32 := 1#32
  let v255 : BitVec 32 := Scalar.subi v185 c1_i32_130
  let c1_i32_132 : BitVec 32 := 1#32
  let v258 : BitVec 32 := Scalar.subi v255 c1_i32_132
  let c1_i32_134 : BitVec 32 := 1#32
  let v261 : BitVec 32 := Scalar.subi v258 c1_i32_134
  let c1_i32_136 : BitVec 32 := 1#32
  let v264 : BitVec 32 := Scalar.subi v261 c1_i32_136
  let c1_i32_138 : BitVec 32 := 1#32
  let v267 : BitVec 32 := Scalar.subi v264 c1_i32_138
  let c0_i32_139 : BitVec 32 := 0#32
  let v268 : BitVec 1 := Scalar.cmpi .ne v267 c0_i32_139
  v268

def k0_cond7 (k0_t1 : Fin k0_t1_loop.trips) : BitVec 1 :=
  let c0_i32 : BitVec 32 := 0#32
  let c1_i32 : BitVec 32 := 1#32
  let arg20 : BitVec 32 := Scf.iv c0_i32 c1_i32 k0_t1
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let c0_i32_101 : BitVec 32 := 0#32
  let v184 : BitVec 32 := Scalar.maxsi v147 c0_i32_101
  let c7_i32_102 : BitVec 32 := 7#32
  let v185 : BitVec 32 := Scalar.minsi v184 c7_i32_102
  let c1_i32_130 : BitVec 32 := 1#32
  let v255 : BitVec 32 := Scalar.subi v185 c1_i32_130
  let c1_i32_132 : BitVec 32 := 1#32
  let v258 : BitVec 32 := Scalar.subi v255 c1_i32_132
  let c1_i32_134 : BitVec 32 := 1#32
  let v261 : BitVec 32 := Scalar.subi v258 c1_i32_134
  let c1_i32_136 : BitVec 32 := 1#32
  let v264 : BitVec 32 := Scalar.subi v261 c1_i32_136
  let c1_i32_138 : BitVec 32 := 1#32
  let v267 : BitVec 32 := Scalar.subi v264 c1_i32_138
  let c1_i32_140 : BitVec 32 := 1#32
  let v270 : BitVec 32 := Scalar.subi v267 c1_i32_140
  let c0_i32_141 : BitVec 32 := 0#32
  let v271 : BitVec 1 := Scalar.cmpi .ne v270 c0_i32_141
  v271

def k0_mult4 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_94 : BitVec 32 := 0#32
  let v176 : BitVec 32 := Scalar.subi arg20 c0_i32_94
  let c256_i32_142 : BitVec 32 := 256#32
  let v273 : BitVec 32 := Scalar.muli v176 c256_i32_142
  v273
def k0_off2 (k0_t1 : Fin k0_t1_loop.trips) (c0_i32_94 : BitVec 32) : Fin 2 → Nat :=
  let c0_i32 : BitVec 32 := 0#32
  let c1_i32 : BitVec 32 := 1#32
  let arg20 : BitVec 32 := Scf.iv c0_i32 c1_i32 k0_t1
  let v176 : BitVec 32 := Scalar.subi arg20 c0_i32_94
  let c256_i32_142 : BitVec 32 := 256#32
  let v273 : BitVec 32 := Scalar.muli v176 c256_i32_142
  let v274 : BitVec 32 := v273
  let v275 : Index := Scalar.indexCast v274
  let c0_143 : Index := 0#32
  ![v275.toNat, 0]
def k0_mult5 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_94 : BitVec 32 := 0#32
  let v176 : BitVec 32 := Scalar.subi arg20 c0_i32_94
  let c256_i32_152 : BitVec 32 := 256#32
  let v304 : BitVec 32 := Scalar.muli v176 c256_i32_152
  v304
def k0_mult6 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_95 : BitVec 32 := 1#32
  let v177 : BitVec 32 := Scalar.subi arg20 c1_i32_95
  let c256_i32_155 : BitVec 32 := 256#32
  let v309 : BitVec 32 := Scalar.muli v177 c256_i32_155
  v309
def k0_mult7 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_95 : BitVec 32 := 1#32
  let v177 : BitVec 32 := Scalar.subi arg20 c1_i32_95
  let c256_i32_164 : BitVec 32 := 256#32
  let v335 : BitVec 32 := Scalar.muli v177 c256_i32_164
  v335
def k0_mult8 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_96 : BitVec 32 := 2#32
  let v178 : BitVec 32 := Scalar.subi arg20 c2_i32_96
  let c256_i32_167 : BitVec 32 := 256#32
  let v340 : BitVec 32 := Scalar.muli v178 c256_i32_167
  v340
def k0_mult9 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_96 : BitVec 32 := 2#32
  let v178 : BitVec 32 := Scalar.subi arg20 c2_i32_96
  let c256_i32_176 : BitVec 32 := 256#32
  let v366 : BitVec 32 := Scalar.muli v178 c256_i32_176
  v366
def k0_mult10 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_97 : BitVec 32 := 3#32
  let v179 : BitVec 32 := Scalar.subi arg20 c3_i32_97
  let c256_i32_179 : BitVec 32 := 256#32
  let v371 : BitVec 32 := Scalar.muli v179 c256_i32_179
  v371
def k0_mult11 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_97 : BitVec 32 := 3#32
  let v179 : BitVec 32 := Scalar.subi arg20 c3_i32_97
  let c256_i32_188 : BitVec 32 := 256#32
  let v397 : BitVec 32 := Scalar.muli v179 c256_i32_188
  v397
def k0_mult12 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_98 : BitVec 32 := 4#32
  let v180 : BitVec 32 := Scalar.subi arg20 c4_i32_98
  let c256_i32_191 : BitVec 32 := 256#32
  let v402 : BitVec 32 := Scalar.muli v180 c256_i32_191
  v402
def k0_mult13 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_98 : BitVec 32 := 4#32
  let v180 : BitVec 32 := Scalar.subi arg20 c4_i32_98
  let c256_i32_200 : BitVec 32 := 256#32
  let v428 : BitVec 32 := Scalar.muli v180 c256_i32_200
  v428
def k0_mult14 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32_99 : BitVec 32 := 5#32
  let v181 : BitVec 32 := Scalar.subi arg20 c5_i32_99
  let c256_i32_203 : BitVec 32 := 256#32
  let v433 : BitVec 32 := Scalar.muli v181 c256_i32_203
  v433
def k0_mult15 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32_99 : BitVec 32 := 5#32
  let v181 : BitVec 32 := Scalar.subi arg20 c5_i32_99
  let c256_i32_212 : BitVec 32 := 256#32
  let v459 : BitVec 32 := Scalar.muli v181 c256_i32_212
  v459
def k0_mult16 (k0_t1 : Fin k0_t1_loop.trips) : BitVec 32 :=
  let c0_i32 : BitVec 32 := 0#32
  let c1_i32 : BitVec 32 := 1#32
  let arg20 : BitVec 32 := Scf.iv c0_i32 c1_i32 k0_t1
  let c6_i32_100 : BitVec 32 := 6#32
  let v182 : BitVec 32 := Scalar.subi arg20 c6_i32_100
  let c256_i32_215 : BitVec 32 := 256#32
  let v464 : BitVec 32 := Scalar.muli v182 c256_i32_215
  v464
def k0_mult17 (k0_t1 : Fin k0_t1_loop.trips) : BitVec 32 :=
  let c0_i32 : BitVec 32 := 0#32
  let c1_i32 : BitVec 32 := 1#32
  let arg20 : BitVec 32 := Scf.iv c0_i32 c1_i32 k0_t1
  let c6_i32_100 : BitVec 32 := 6#32
  let v182 : BitVec 32 := Scalar.subi arg20 c6_i32_100
  let c256_i32_224 : BitVec 32 := 256#32
  let v490 : BitVec 32 := Scalar.muli v182 c256_i32_224
  v490
def k0_mult18 (k0_t1 : Fin k0_t1_loop.trips) : BitVec 32 :=
  let c0_i32 : BitVec 32 := 0#32
  let c1_i32 : BitVec 32 := 1#32
  let arg20 : BitVec 32 := Scf.iv c0_i32 c1_i32 k0_t1
  let c7_i32 : BitVec 32 := 7#32
  let v183 : BitVec 32 := Scalar.subi arg20 c7_i32
  let c256_i32_227 : BitVec 32 := 256#32
  let v495 : BitVec 32 := Scalar.muli v183 c256_i32_227
  v495
def k0_mult19 (k0_t1 : Fin k0_t1_loop.trips) : BitVec 32 :=
  let c0_i32 : BitVec 32 := 0#32
  let c1_i32 : BitVec 32 := 1#32
  let arg20 : BitVec 32 := Scf.iv c0_i32 c1_i32 k0_t1
  let c7_i32 : BitVec 32 := 7#32
  let v183 : BitVec 32 := Scalar.subi arg20 c7_i32
  let c256_i32_236 : BitVec 32 := 256#32
  let v521 : BitVec 32 := Scalar.muli v183 c256_i32_236
  v521
def k0_mult20 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_94 : BitVec 32 := 0#32
  let v176 : BitVec 32 := Scalar.subi arg20 c0_i32_94
  let c256_i32_243 : BitVec 32 := 256#32
  let v551 : BitVec 32 := Scalar.muli v176 c256_i32_243
  v551
def k0_mult21 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_245 : BitVec 32 := 256#32
  let v555 : BitVec 32 := Scalar.muli arg20 c256_i32_245
  v555
def k0_off3 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_245 : BitVec 32 := 256#32
  let v555 : BitVec 32 := Scalar.muli arg20 c256_i32_245
  let v556 : BitVec 32 := v555
  let v557 : Index := Scalar.indexCast v556
  let c0_246 : Index := 0#32
  ![v557.toNat, 0]
def k0_mult22 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_94 : BitVec 32 := 0#32
  let v176 : BitVec 32 := Scalar.subi arg20 c0_i32_94
  let c256_i32_249 : BitVec 32 := 256#32
  let v565 : BitVec 32 := Scalar.muli v176 c256_i32_249
  v565
def k0_mult23 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_94 : BitVec 32 := 0#32
  let v176 : BitVec 32 := Scalar.subi arg20 c0_i32_94
  let c256_i32_255 : BitVec 32 := 256#32
  let v581 : BitVec 32 := Scalar.muli v176 c256_i32_255
  v581
def k0_mult24 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_95 : BitVec 32 := 1#32
  let v177 : BitVec 32 := Scalar.subi arg20 c1_i32_95
  let c256_i32_260 : BitVec 32 := 256#32
  let v608 : BitVec 32 := Scalar.muli v177 c256_i32_260
  v608
def k0_mult25 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_262 : BitVec 32 := 256#32
  let v612 : BitVec 32 := Scalar.muli arg20 c256_i32_262
  v612
def k0_mult26 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_95 : BitVec 32 := 1#32
  let v177 : BitVec 32 := Scalar.subi arg20 c1_i32_95
  let c256_i32_266 : BitVec 32 := 256#32
  let v622 : BitVec 32 := Scalar.muli v177 c256_i32_266
  v622
def k0_mult27 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_95 : BitVec 32 := 1#32
  let v177 : BitVec 32 := Scalar.subi arg20 c1_i32_95
  let c256_i32_272 : BitVec 32 := 256#32
  let v638 : BitVec 32 := Scalar.muli v177 c256_i32_272
  v638
def k0_mult28 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_96 : BitVec 32 := 2#32
  let v178 : BitVec 32 := Scalar.subi arg20 c2_i32_96
  let c256_i32_277 : BitVec 32 := 256#32
  let v665 : BitVec 32 := Scalar.muli v178 c256_i32_277
  v665
def k0_mult29 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_279 : BitVec 32 := 256#32
  let v669 : BitVec 32 := Scalar.muli arg20 c256_i32_279
  v669
def k0_mult30 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_96 : BitVec 32 := 2#32
  let v178 : BitVec 32 := Scalar.subi arg20 c2_i32_96
  let c256_i32_283 : BitVec 32 := 256#32
  let v679 : BitVec 32 := Scalar.muli v178 c256_i32_283
  v679
def k0_mult31 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_96 : BitVec 32 := 2#32
  let v178 : BitVec 32 := Scalar.subi arg20 c2_i32_96
  let c256_i32_289 : BitVec 32 := 256#32
  let v695 : BitVec 32 := Scalar.muli v178 c256_i32_289
  v695
def k0_mult32 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_97 : BitVec 32 := 3#32
  let v179 : BitVec 32 := Scalar.subi arg20 c3_i32_97
  let c256_i32_294 : BitVec 32 := 256#32
  let v722 : BitVec 32 := Scalar.muli v179 c256_i32_294
  v722
def k0_mult33 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_296 : BitVec 32 := 256#32
  let v726 : BitVec 32 := Scalar.muli arg20 c256_i32_296
  v726
def k0_mult34 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_97 : BitVec 32 := 3#32
  let v179 : BitVec 32 := Scalar.subi arg20 c3_i32_97
  let c256_i32_300 : BitVec 32 := 256#32
  let v736 : BitVec 32 := Scalar.muli v179 c256_i32_300
  v736
def k0_mult35 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_97 : BitVec 32 := 3#32
  let v179 : BitVec 32 := Scalar.subi arg20 c3_i32_97
  let c256_i32_306 : BitVec 32 := 256#32
  let v752 : BitVec 32 := Scalar.muli v179 c256_i32_306
  v752
def k0_mult36 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_98 : BitVec 32 := 4#32
  let v180 : BitVec 32 := Scalar.subi arg20 c4_i32_98
  let c256_i32_311 : BitVec 32 := 256#32
  let v779 : BitVec 32 := Scalar.muli v180 c256_i32_311
  v779
def k0_mult37 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_313 : BitVec 32 := 256#32
  let v783 : BitVec 32 := Scalar.muli arg20 c256_i32_313
  v783
def k0_mult38 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_98 : BitVec 32 := 4#32
  let v180 : BitVec 32 := Scalar.subi arg20 c4_i32_98
  let c256_i32_317 : BitVec 32 := 256#32
  let v793 : BitVec 32 := Scalar.muli v180 c256_i32_317
  v793
def k0_mult39 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_98 : BitVec 32 := 4#32
  let v180 : BitVec 32 := Scalar.subi arg20 c4_i32_98
  let c256_i32_323 : BitVec 32 := 256#32
  let v809 : BitVec 32 := Scalar.muli v180 c256_i32_323
  v809
def k0_mult40 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32_99 : BitVec 32 := 5#32
  let v181 : BitVec 32 := Scalar.subi arg20 c5_i32_99
  let c256_i32_328 : BitVec 32 := 256#32
  let v836 : BitVec 32 := Scalar.muli v181 c256_i32_328
  v836
def k0_mult41 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_330 : BitVec 32 := 256#32
  let v840 : BitVec 32 := Scalar.muli arg20 c256_i32_330
  v840
def k0_mult42 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32_99 : BitVec 32 := 5#32
  let v181 : BitVec 32 := Scalar.subi arg20 c5_i32_99
  let c256_i32_334 : BitVec 32 := 256#32
  let v850 : BitVec 32 := Scalar.muli v181 c256_i32_334
  v850
def k0_mult43 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32_99 : BitVec 32 := 5#32
  let v181 : BitVec 32 := Scalar.subi arg20 c5_i32_99
  let c256_i32_340 : BitVec 32 := 256#32
  let v866 : BitVec 32 := Scalar.muli v181 c256_i32_340
  v866
def k0_mult44 (k0_t1 : Fin k0_t1_loop.trips) : BitVec 32 :=
  let c0_i32 : BitVec 32 := 0#32
  let c1_i32 : BitVec 32 := 1#32
  let arg20 : BitVec 32 := Scf.iv c0_i32 c1_i32 k0_t1
  let c6_i32_100 : BitVec 32 := 6#32
  let v182 : BitVec 32 := Scalar.subi arg20 c6_i32_100
  let c256_i32_345 : BitVec 32 := 256#32
  let v893 : BitVec 32 := Scalar.muli v182 c256_i32_345
  v893
def k0_mult45 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_347 : BitVec 32 := 256#32
  let v897 : BitVec 32 := Scalar.muli arg20 c256_i32_347
  v897
def k0_mult46 (k0_t1 : Fin k0_t1_loop.trips) : BitVec 32 :=
  let c0_i32 : BitVec 32 := 0#32
  let c1_i32 : BitVec 32 := 1#32
  let arg20 : BitVec 32 := Scf.iv c0_i32 c1_i32 k0_t1
  let c6_i32_100 : BitVec 32 := 6#32
  let v182 : BitVec 32 := Scalar.subi arg20 c6_i32_100
  let c256_i32_351 : BitVec 32 := 256#32
  let v907 : BitVec 32 := Scalar.muli v182 c256_i32_351
  v907
def k0_mult47 (k0_t1 : Fin k0_t1_loop.trips) : BitVec 32 :=
  let c0_i32 : BitVec 32 := 0#32
  let c1_i32 : BitVec 32 := 1#32
  let arg20 : BitVec 32 := Scf.iv c0_i32 c1_i32 k0_t1
  let c6_i32_100 : BitVec 32 := 6#32
  let v182 : BitVec 32 := Scalar.subi arg20 c6_i32_100
  let c256_i32_357 : BitVec 32 := 256#32
  let v923 : BitVec 32 := Scalar.muli v182 c256_i32_357
  v923
def k0_mult48 (k0_t1 : Fin k0_t1_loop.trips) : BitVec 32 :=
  let c0_i32 : BitVec 32 := 0#32
  let c1_i32 : BitVec 32 := 1#32
  let arg20 : BitVec 32 := Scf.iv c0_i32 c1_i32 k0_t1
  let c7_i32 : BitVec 32 := 7#32
  let v183 : BitVec 32 := Scalar.subi arg20 c7_i32
  let c256_i32_362 : BitVec 32 := 256#32
  let v950 : BitVec 32 := Scalar.muli v183 c256_i32_362
  v950
def k0_mult49 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_364 : BitVec 32 := 256#32
  let v954 : BitVec 32 := Scalar.muli arg20 c256_i32_364
  v954
def k0_mult50 (k0_t1 : Fin k0_t1_loop.trips) : BitVec 32 :=
  let c0_i32 : BitVec 32 := 0#32
  let c1_i32 : BitVec 32 := 1#32
  let arg20 : BitVec 32 := Scf.iv c0_i32 c1_i32 k0_t1
  let c7_i32 : BitVec 32 := 7#32
  let v183 : BitVec 32 := Scalar.subi arg20 c7_i32
  let c256_i32_368 : BitVec 32 := 256#32
  let v964 : BitVec 32 := Scalar.muli v183 c256_i32_368
  v964
def k0_mult51 (k0_t1 : Fin k0_t1_loop.trips) : BitVec 32 :=
  let c0_i32 : BitVec 32 := 0#32
  let c1_i32 : BitVec 32 := 1#32
  let arg20 : BitVec 32 := Scf.iv c0_i32 c1_i32 k0_t1
  let c7_i32 : BitVec 32 := 7#32
  let v183 : BitVec 32 := Scalar.subi arg20 c7_i32
  let c256_i32_374 : BitVec 32 := 256#32
  let v980 : BitVec 32 := Scalar.muli v183 c256_i32_374
  v980
def k0_mult52 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_88 : BitVec 32 := 0#32
  let v169 : BitVec 32 := Scalar.subi arg20 c0_i32_88
  let c256_i32_142 : BitVec 32 := 256#32
  let v273 : BitVec 32 := Scalar.muli v169 c256_i32_142
  v273
def k0_off4 (k0_t1 : Fin k0_t1_loop.trips) (c0_i32_88 : BitVec 32) : Fin 2 → Nat :=
  let c0_i32 : BitVec 32 := 0#32
  let c1_i32 : BitVec 32 := 1#32
  let arg20 : BitVec 32 := Scf.iv c0_i32 c1_i32 k0_t1
  let v169 : BitVec 32 := Scalar.subi arg20 c0_i32_88
  let c256_i32_142 : BitVec 32 := 256#32
  let v273 : BitVec 32 := Scalar.muli v169 c256_i32_142
  let v274 : BitVec 32 := v273
  let v275 : Index := Scalar.indexCast v274
  let c0_143 : Index := 0#32
  ![v275.toNat, 0]
def k0_mult53 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_88 : BitVec 32 := 0#32
  let v169 : BitVec 32 := Scalar.subi arg20 c0_i32_88
  let c256_i32_152 : BitVec 32 := 256#32
  let v304 : BitVec 32 := Scalar.muli v169 c256_i32_152
  v304
def k0_mult54 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_89 : BitVec 32 := 1#32
  let v170 : BitVec 32 := Scalar.subi arg20 c1_i32_89
  let c256_i32_155 : BitVec 32 := 256#32
  let v309 : BitVec 32 := Scalar.muli v170 c256_i32_155
  v309
def k0_mult55 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_89 : BitVec 32 := 1#32
  let v170 : BitVec 32 := Scalar.subi arg20 c1_i32_89
  let c256_i32_164 : BitVec 32 := 256#32
  let v335 : BitVec 32 := Scalar.muli v170 c256_i32_164
  v335
def k0_mult56 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_90 : BitVec 32 := 2#32
  let v171 : BitVec 32 := Scalar.subi arg20 c2_i32_90
  let c256_i32_167 : BitVec 32 := 256#32
  let v340 : BitVec 32 := Scalar.muli v171 c256_i32_167
  v340
def k0_mult57 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_90 : BitVec 32 := 2#32
  let v171 : BitVec 32 := Scalar.subi arg20 c2_i32_90
  let c256_i32_176 : BitVec 32 := 256#32
  let v366 : BitVec 32 := Scalar.muli v171 c256_i32_176
  v366
def k0_mult58 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_91 : BitVec 32 := 3#32
  let v172 : BitVec 32 := Scalar.subi arg20 c3_i32_91
  let c256_i32_179 : BitVec 32 := 256#32
  let v371 : BitVec 32 := Scalar.muli v172 c256_i32_179
  v371
def k0_mult59 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_91 : BitVec 32 := 3#32
  let v172 : BitVec 32 := Scalar.subi arg20 c3_i32_91
  let c256_i32_188 : BitVec 32 := 256#32
  let v397 : BitVec 32 := Scalar.muli v172 c256_i32_188
  v397
def k0_mult60 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_92 : BitVec 32 := 4#32
  let v173 : BitVec 32 := Scalar.subi arg20 c4_i32_92
  let c256_i32_191 : BitVec 32 := 256#32
  let v402 : BitVec 32 := Scalar.muli v173 c256_i32_191
  v402
def k0_mult61 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_92 : BitVec 32 := 4#32
  let v173 : BitVec 32 := Scalar.subi arg20 c4_i32_92
  let c256_i32_200 : BitVec 32 := 256#32
  let v428 : BitVec 32 := Scalar.muli v173 c256_i32_200
  v428
def k0_mult62 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32_93 : BitVec 32 := 5#32
  let v174 : BitVec 32 := Scalar.subi arg20 c5_i32_93
  let c256_i32_203 : BitVec 32 := 256#32
  let v433 : BitVec 32 := Scalar.muli v174 c256_i32_203
  v433
def k0_mult63 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32_93 : BitVec 32 := 5#32
  let v174 : BitVec 32 := Scalar.subi arg20 c5_i32_93
  let c256_i32_212 : BitVec 32 := 256#32
  let v459 : BitVec 32 := Scalar.muli v174 c256_i32_212
  v459
def k0_mult64 (k0_t1 : Fin k0_t1_loop.trips) : BitVec 32 :=
  let c0_i32 : BitVec 32 := 0#32
  let c1_i32 : BitVec 32 := 1#32
  let arg20 : BitVec 32 := Scf.iv c0_i32 c1_i32 k0_t1
  let c6_i32 : BitVec 32 := 6#32
  let v175 : BitVec 32 := Scalar.subi arg20 c6_i32
  let c256_i32_215 : BitVec 32 := 256#32
  let v464 : BitVec 32 := Scalar.muli v175 c256_i32_215
  v464
def k0_mult65 (k0_t1 : Fin k0_t1_loop.trips) : BitVec 32 :=
  let c0_i32 : BitVec 32 := 0#32
  let c1_i32 : BitVec 32 := 1#32
  let arg20 : BitVec 32 := Scf.iv c0_i32 c1_i32 k0_t1
  let c6_i32 : BitVec 32 := 6#32
  let v175 : BitVec 32 := Scalar.subi arg20 c6_i32
  let c256_i32_224 : BitVec 32 := 256#32
  let v490 : BitVec 32 := Scalar.muli v175 c256_i32_224
  v490
def k0_mult66 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_88 : BitVec 32 := 0#32
  let v169 : BitVec 32 := Scalar.subi arg20 c0_i32_88
  let c256_i32_231 : BitVec 32 := 256#32
  let v520 : BitVec 32 := Scalar.muli v169 c256_i32_231
  v520
def k0_mult67 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_233 : BitVec 32 := 256#32
  let v524 : BitVec 32 := Scalar.muli arg20 c256_i32_233
  v524
def k0_off5 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_233 : BitVec 32 := 256#32
  let v524 : BitVec 32 := Scalar.muli arg20 c256_i32_233
  let v525 : BitVec 32 := v524
  let v526 : Index := Scalar.indexCast v525
  let c0_234 : Index := 0#32
  ![v526.toNat, 0]
def k0_mult68 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_88 : BitVec 32 := 0#32
  let v169 : BitVec 32 := Scalar.subi arg20 c0_i32_88
  let c256_i32_237 : BitVec 32 := 256#32
  let v534 : BitVec 32 := Scalar.muli v169 c256_i32_237
  v534
def k0_mult69 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_88 : BitVec 32 := 0#32
  let v169 : BitVec 32 := Scalar.subi arg20 c0_i32_88
  let c256_i32_243 : BitVec 32 := 256#32
  let v550 : BitVec 32 := Scalar.muli v169 c256_i32_243
  v550
def k0_mult70 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_89 : BitVec 32 := 1#32
  let v170 : BitVec 32 := Scalar.subi arg20 c1_i32_89
  let c256_i32_248 : BitVec 32 := 256#32
  let v577 : BitVec 32 := Scalar.muli v170 c256_i32_248
  v577
def k0_mult71 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_250 : BitVec 32 := 256#32
  let v581 : BitVec 32 := Scalar.muli arg20 c256_i32_250
  v581
def k0_mult72 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_89 : BitVec 32 := 1#32
  let v170 : BitVec 32 := Scalar.subi arg20 c1_i32_89
  let c256_i32_254 : BitVec 32 := 256#32
  let v591 : BitVec 32 := Scalar.muli v170 c256_i32_254
  v591
def k0_mult73 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_89 : BitVec 32 := 1#32
  let v170 : BitVec 32 := Scalar.subi arg20 c1_i32_89
  let c256_i32_260 : BitVec 32 := 256#32
  let v607 : BitVec 32 := Scalar.muli v170 c256_i32_260
  v607
def k0_mult74 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_90 : BitVec 32 := 2#32
  let v171 : BitVec 32 := Scalar.subi arg20 c2_i32_90
  let c256_i32_265 : BitVec 32 := 256#32
  let v634 : BitVec 32 := Scalar.muli v171 c256_i32_265
  v634
def k0_mult75 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_267 : BitVec 32 := 256#32
  let v638 : BitVec 32 := Scalar.muli arg20 c256_i32_267
  v638
def k0_mult76 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_90 : BitVec 32 := 2#32
  let v171 : BitVec 32 := Scalar.subi arg20 c2_i32_90
  let c256_i32_271 : BitVec 32 := 256#32
  let v648 : BitVec 32 := Scalar.muli v171 c256_i32_271
  v648
def k0_mult77 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_90 : BitVec 32 := 2#32
  let v171 : BitVec 32 := Scalar.subi arg20 c2_i32_90
  let c256_i32_277 : BitVec 32 := 256#32
  let v664 : BitVec 32 := Scalar.muli v171 c256_i32_277
  v664
def k0_mult78 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_91 : BitVec 32 := 3#32
  let v172 : BitVec 32 := Scalar.subi arg20 c3_i32_91
  let c256_i32_282 : BitVec 32 := 256#32
  let v691 : BitVec 32 := Scalar.muli v172 c256_i32_282
  v691
def k0_mult79 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_284 : BitVec 32 := 256#32
  let v695 : BitVec 32 := Scalar.muli arg20 c256_i32_284
  v695
def k0_mult80 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_91 : BitVec 32 := 3#32
  let v172 : BitVec 32 := Scalar.subi arg20 c3_i32_91
  let c256_i32_288 : BitVec 32 := 256#32
  let v705 : BitVec 32 := Scalar.muli v172 c256_i32_288
  v705
def k0_mult81 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_91 : BitVec 32 := 3#32
  let v172 : BitVec 32 := Scalar.subi arg20 c3_i32_91
  let c256_i32_294 : BitVec 32 := 256#32
  let v721 : BitVec 32 := Scalar.muli v172 c256_i32_294
  v721
def k0_mult82 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_92 : BitVec 32 := 4#32
  let v173 : BitVec 32 := Scalar.subi arg20 c4_i32_92
  let c256_i32_299 : BitVec 32 := 256#32
  let v748 : BitVec 32 := Scalar.muli v173 c256_i32_299
  v748
def k0_mult83 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_301 : BitVec 32 := 256#32
  let v752 : BitVec 32 := Scalar.muli arg20 c256_i32_301
  v752
def k0_mult84 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_92 : BitVec 32 := 4#32
  let v173 : BitVec 32 := Scalar.subi arg20 c4_i32_92
  let c256_i32_305 : BitVec 32 := 256#32
  let v762 : BitVec 32 := Scalar.muli v173 c256_i32_305
  v762
def k0_mult85 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_92 : BitVec 32 := 4#32
  let v173 : BitVec 32 := Scalar.subi arg20 c4_i32_92
  let c256_i32_311 : BitVec 32 := 256#32
  let v778 : BitVec 32 := Scalar.muli v173 c256_i32_311
  v778
def k0_mult86 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32_93 : BitVec 32 := 5#32
  let v174 : BitVec 32 := Scalar.subi arg20 c5_i32_93
  let c256_i32_316 : BitVec 32 := 256#32
  let v805 : BitVec 32 := Scalar.muli v174 c256_i32_316
  v805
def k0_mult87 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_318 : BitVec 32 := 256#32
  let v809 : BitVec 32 := Scalar.muli arg20 c256_i32_318
  v809
def k0_mult88 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32_93 : BitVec 32 := 5#32
  let v174 : BitVec 32 := Scalar.subi arg20 c5_i32_93
  let c256_i32_322 : BitVec 32 := 256#32
  let v819 : BitVec 32 := Scalar.muli v174 c256_i32_322
  v819
def k0_mult89 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32_93 : BitVec 32 := 5#32
  let v174 : BitVec 32 := Scalar.subi arg20 c5_i32_93
  let c256_i32_328 : BitVec 32 := 256#32
  let v835 : BitVec 32 := Scalar.muli v174 c256_i32_328
  v835
def k0_mult90 (k0_t1 : Fin k0_t1_loop.trips) : BitVec 32 :=
  let c0_i32 : BitVec 32 := 0#32
  let c1_i32 : BitVec 32 := 1#32
  let arg20 : BitVec 32 := Scf.iv c0_i32 c1_i32 k0_t1
  let c6_i32 : BitVec 32 := 6#32
  let v175 : BitVec 32 := Scalar.subi arg20 c6_i32
  let c256_i32_333 : BitVec 32 := 256#32
  let v862 : BitVec 32 := Scalar.muli v175 c256_i32_333
  v862
def k0_mult91 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_335 : BitVec 32 := 256#32
  let v866 : BitVec 32 := Scalar.muli arg20 c256_i32_335
  v866
def k0_mult92 (k0_t1 : Fin k0_t1_loop.trips) : BitVec 32 :=
  let c0_i32 : BitVec 32 := 0#32
  let c1_i32 : BitVec 32 := 1#32
  let arg20 : BitVec 32 := Scf.iv c0_i32 c1_i32 k0_t1
  let c6_i32 : BitVec 32 := 6#32
  let v175 : BitVec 32 := Scalar.subi arg20 c6_i32
  let c256_i32_339 : BitVec 32 := 256#32
  let v876 : BitVec 32 := Scalar.muli v175 c256_i32_339
  v876
def k0_mult93 (k0_t1 : Fin k0_t1_loop.trips) : BitVec 32 :=
  let c0_i32 : BitVec 32 := 0#32
  let c1_i32 : BitVec 32 := 1#32
  let arg20 : BitVec 32 := Scf.iv c0_i32 c1_i32 k0_t1
  let c6_i32 : BitVec 32 := 6#32
  let v175 : BitVec 32 := Scalar.subi arg20 c6_i32
  let c256_i32_345 : BitVec 32 := 256#32
  let v892 : BitVec 32 := Scalar.muli v175 c256_i32_345
  v892
def k0_mult94 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_83 : BitVec 32 := 0#32
  let v163 : BitVec 32 := Scalar.subi arg20 c0_i32_83
  let c256_i32_140 : BitVec 32 := 256#32
  let v270 : BitVec 32 := Scalar.muli v163 c256_i32_140
  v270
def k0_off6 (k0_t1 : Fin k0_t1_loop.trips) (c0_i32_83 : BitVec 32) : Fin 2 → Nat :=
  let c0_i32 : BitVec 32 := 0#32
  let c1_i32 : BitVec 32 := 1#32
  let arg20 : BitVec 32 := Scf.iv c0_i32 c1_i32 k0_t1
  let v163 : BitVec 32 := Scalar.subi arg20 c0_i32_83
  let c256_i32_140 : BitVec 32 := 256#32
  let v270 : BitVec 32 := Scalar.muli v163 c256_i32_140
  let v271 : BitVec 32 := v270
  let v272 : Index := Scalar.indexCast v271
  let c0_141 : Index := 0#32
  ![v272.toNat, 0]
def k0_mult95 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_83 : BitVec 32 := 0#32
  let v163 : BitVec 32 := Scalar.subi arg20 c0_i32_83
  let c256_i32_150 : BitVec 32 := 256#32
  let v301 : BitVec 32 := Scalar.muli v163 c256_i32_150
  v301
def k0_mult96 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_84 : BitVec 32 := 1#32
  let v164 : BitVec 32 := Scalar.subi arg20 c1_i32_84
  let c256_i32_153 : BitVec 32 := 256#32
  let v306 : BitVec 32 := Scalar.muli v164 c256_i32_153
  v306
def k0_mult97 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_84 : BitVec 32 := 1#32
  let v164 : BitVec 32 := Scalar.subi arg20 c1_i32_84
  let c256_i32_162 : BitVec 32 := 256#32
  let v332 : BitVec 32 := Scalar.muli v164 c256_i32_162
  v332
def k0_mult98 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_85 : BitVec 32 := 2#32
  let v165 : BitVec 32 := Scalar.subi arg20 c2_i32_85
  let c256_i32_165 : BitVec 32 := 256#32
  let v337 : BitVec 32 := Scalar.muli v165 c256_i32_165
  v337
def k0_mult99 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_85 : BitVec 32 := 2#32
  let v165 : BitVec 32 := Scalar.subi arg20 c2_i32_85
  let c256_i32_174 : BitVec 32 := 256#32
  let v363 : BitVec 32 := Scalar.muli v165 c256_i32_174
  v363
def k0_mult100 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_86 : BitVec 32 := 3#32
  let v166 : BitVec 32 := Scalar.subi arg20 c3_i32_86
  let c256_i32_177 : BitVec 32 := 256#32
  let v368 : BitVec 32 := Scalar.muli v166 c256_i32_177
  v368
def k0_mult101 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_86 : BitVec 32 := 3#32
  let v166 : BitVec 32 := Scalar.subi arg20 c3_i32_86
  let c256_i32_186 : BitVec 32 := 256#32
  let v394 : BitVec 32 := Scalar.muli v166 c256_i32_186
  v394
def k0_mult102 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_87 : BitVec 32 := 4#32
  let v167 : BitVec 32 := Scalar.subi arg20 c4_i32_87
  let c256_i32_189 : BitVec 32 := 256#32
  let v399 : BitVec 32 := Scalar.muli v167 c256_i32_189
  v399
def k0_mult103 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_87 : BitVec 32 := 4#32
  let v167 : BitVec 32 := Scalar.subi arg20 c4_i32_87
  let c256_i32_198 : BitVec 32 := 256#32
  let v425 : BitVec 32 := Scalar.muli v167 c256_i32_198
  v425
def k0_mult104 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32 : BitVec 32 := 5#32
  let v168 : BitVec 32 := Scalar.subi arg20 c5_i32
  let c256_i32_201 : BitVec 32 := 256#32
  let v430 : BitVec 32 := Scalar.muli v168 c256_i32_201
  v430
def k0_mult105 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32 : BitVec 32 := 5#32
  let v168 : BitVec 32 := Scalar.subi arg20 c5_i32
  let c256_i32_210 : BitVec 32 := 256#32
  let v456 : BitVec 32 := Scalar.muli v168 c256_i32_210
  v456
def k0_mult106 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_83 : BitVec 32 := 0#32
  let v163 : BitVec 32 := Scalar.subi arg20 c0_i32_83
  let c256_i32_217 : BitVec 32 := 256#32
  let v486 : BitVec 32 := Scalar.muli v163 c256_i32_217
  v486
def k0_mult107 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_219 : BitVec 32 := 256#32
  let v490 : BitVec 32 := Scalar.muli arg20 c256_i32_219
  v490
def k0_off7 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_219 : BitVec 32 := 256#32
  let v490 : BitVec 32 := Scalar.muli arg20 c256_i32_219
  let v491 : BitVec 32 := v490
  let v492 : Index := Scalar.indexCast v491
  let c0_220 : Index := 0#32
  ![v492.toNat, 0]
def k0_mult108 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_83 : BitVec 32 := 0#32
  let v163 : BitVec 32 := Scalar.subi arg20 c0_i32_83
  let c256_i32_223 : BitVec 32 := 256#32
  let v500 : BitVec 32 := Scalar.muli v163 c256_i32_223
  v500
def k0_mult109 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_83 : BitVec 32 := 0#32
  let v163 : BitVec 32 := Scalar.subi arg20 c0_i32_83
  let c256_i32_229 : BitVec 32 := 256#32
  let v516 : BitVec 32 := Scalar.muli v163 c256_i32_229
  v516
def k0_mult110 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_84 : BitVec 32 := 1#32
  let v164 : BitVec 32 := Scalar.subi arg20 c1_i32_84
  let c256_i32_234 : BitVec 32 := 256#32
  let v543 : BitVec 32 := Scalar.muli v164 c256_i32_234
  v543
def k0_mult111 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_236 : BitVec 32 := 256#32
  let v547 : BitVec 32 := Scalar.muli arg20 c256_i32_236
  v547
def k0_mult112 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_84 : BitVec 32 := 1#32
  let v164 : BitVec 32 := Scalar.subi arg20 c1_i32_84
  let c256_i32_240 : BitVec 32 := 256#32
  let v557 : BitVec 32 := Scalar.muli v164 c256_i32_240
  v557
def k0_mult113 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_84 : BitVec 32 := 1#32
  let v164 : BitVec 32 := Scalar.subi arg20 c1_i32_84
  let c256_i32_246 : BitVec 32 := 256#32
  let v573 : BitVec 32 := Scalar.muli v164 c256_i32_246
  v573
def k0_mult114 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_85 : BitVec 32 := 2#32
  let v165 : BitVec 32 := Scalar.subi arg20 c2_i32_85
  let c256_i32_251 : BitVec 32 := 256#32
  let v600 : BitVec 32 := Scalar.muli v165 c256_i32_251
  v600
def k0_mult115 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_253 : BitVec 32 := 256#32
  let v604 : BitVec 32 := Scalar.muli arg20 c256_i32_253
  v604
def k0_mult116 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_85 : BitVec 32 := 2#32
  let v165 : BitVec 32 := Scalar.subi arg20 c2_i32_85
  let c256_i32_257 : BitVec 32 := 256#32
  let v614 : BitVec 32 := Scalar.muli v165 c256_i32_257
  v614
def k0_mult117 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_85 : BitVec 32 := 2#32
  let v165 : BitVec 32 := Scalar.subi arg20 c2_i32_85
  let c256_i32_263 : BitVec 32 := 256#32
  let v630 : BitVec 32 := Scalar.muli v165 c256_i32_263
  v630
def k0_mult118 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_86 : BitVec 32 := 3#32
  let v166 : BitVec 32 := Scalar.subi arg20 c3_i32_86
  let c256_i32_268 : BitVec 32 := 256#32
  let v657 : BitVec 32 := Scalar.muli v166 c256_i32_268
  v657
def k0_mult119 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_270 : BitVec 32 := 256#32
  let v661 : BitVec 32 := Scalar.muli arg20 c256_i32_270
  v661
def k0_mult120 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_86 : BitVec 32 := 3#32
  let v166 : BitVec 32 := Scalar.subi arg20 c3_i32_86
  let c256_i32_274 : BitVec 32 := 256#32
  let v671 : BitVec 32 := Scalar.muli v166 c256_i32_274
  v671
def k0_mult121 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_86 : BitVec 32 := 3#32
  let v166 : BitVec 32 := Scalar.subi arg20 c3_i32_86
  let c256_i32_280 : BitVec 32 := 256#32
  let v687 : BitVec 32 := Scalar.muli v166 c256_i32_280
  v687
def k0_mult122 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_87 : BitVec 32 := 4#32
  let v167 : BitVec 32 := Scalar.subi arg20 c4_i32_87
  let c256_i32_285 : BitVec 32 := 256#32
  let v714 : BitVec 32 := Scalar.muli v167 c256_i32_285
  v714
def k0_mult123 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_287 : BitVec 32 := 256#32
  let v718 : BitVec 32 := Scalar.muli arg20 c256_i32_287
  v718
def k0_mult124 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_87 : BitVec 32 := 4#32
  let v167 : BitVec 32 := Scalar.subi arg20 c4_i32_87
  let c256_i32_291 : BitVec 32 := 256#32
  let v728 : BitVec 32 := Scalar.muli v167 c256_i32_291
  v728
def k0_mult125 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32_87 : BitVec 32 := 4#32
  let v167 : BitVec 32 := Scalar.subi arg20 c4_i32_87
  let c256_i32_297 : BitVec 32 := 256#32
  let v744 : BitVec 32 := Scalar.muli v167 c256_i32_297
  v744
def k0_mult126 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32 : BitVec 32 := 5#32
  let v168 : BitVec 32 := Scalar.subi arg20 c5_i32
  let c256_i32_302 : BitVec 32 := 256#32
  let v771 : BitVec 32 := Scalar.muli v168 c256_i32_302
  v771
def k0_mult127 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_304 : BitVec 32 := 256#32
  let v775 : BitVec 32 := Scalar.muli arg20 c256_i32_304
  v775
def k0_mult128 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32 : BitVec 32 := 5#32
  let v168 : BitVec 32 := Scalar.subi arg20 c5_i32
  let c256_i32_308 : BitVec 32 := 256#32
  let v785 : BitVec 32 := Scalar.muli v168 c256_i32_308
  v785
def k0_mult129 (k0_t1 : Fin k0_t1_loop.trips) : BitVec 32 :=
  let c0_i32 : BitVec 32 := 0#32
  let c1_i32 : BitVec 32 := 1#32
  let arg20 : BitVec 32 := Scf.iv c0_i32 c1_i32 k0_t1
  let c5_i32 : BitVec 32 := 5#32
  let v168 : BitVec 32 := Scalar.subi arg20 c5_i32
  let c256_i32_314 : BitVec 32 := 256#32
  let v801 : BitVec 32 := Scalar.muli v168 c256_i32_314
  v801
def k0_mult130 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_79 : BitVec 32 := 0#32
  let v158 : BitVec 32 := Scalar.subi arg20 c0_i32_79
  let c256_i32_138 : BitVec 32 := 256#32
  let v267 : BitVec 32 := Scalar.muli v158 c256_i32_138
  v267
def k0_off8 (k0_t1 : Fin k0_t1_loop.trips) (c0_i32_79 : BitVec 32) : Fin 2 → Nat :=
  let c0_i32 : BitVec 32 := 0#32
  let c1_i32 : BitVec 32 := 1#32
  let arg20 : BitVec 32 := Scf.iv c0_i32 c1_i32 k0_t1
  let v158 : BitVec 32 := Scalar.subi arg20 c0_i32_79
  let c256_i32_138 : BitVec 32 := 256#32
  let v267 : BitVec 32 := Scalar.muli v158 c256_i32_138
  let v268 : BitVec 32 := v267
  let v269 : Index := Scalar.indexCast v268
  let c0_139 : Index := 0#32
  ![v269.toNat, 0]
def k0_mult131 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_79 : BitVec 32 := 0#32
  let v158 : BitVec 32 := Scalar.subi arg20 c0_i32_79
  let c256_i32_148 : BitVec 32 := 256#32
  let v298 : BitVec 32 := Scalar.muli v158 c256_i32_148
  v298
def k0_mult132 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_80 : BitVec 32 := 1#32
  let v159 : BitVec 32 := Scalar.subi arg20 c1_i32_80
  let c256_i32_151 : BitVec 32 := 256#32
  let v303 : BitVec 32 := Scalar.muli v159 c256_i32_151
  v303
def k0_mult133 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_80 : BitVec 32 := 1#32
  let v159 : BitVec 32 := Scalar.subi arg20 c1_i32_80
  let c256_i32_160 : BitVec 32 := 256#32
  let v329 : BitVec 32 := Scalar.muli v159 c256_i32_160
  v329
def k0_mult134 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_81 : BitVec 32 := 2#32
  let v160 : BitVec 32 := Scalar.subi arg20 c2_i32_81
  let c256_i32_163 : BitVec 32 := 256#32
  let v334 : BitVec 32 := Scalar.muli v160 c256_i32_163
  v334
def k0_mult135 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_81 : BitVec 32 := 2#32
  let v160 : BitVec 32 := Scalar.subi arg20 c2_i32_81
  let c256_i32_172 : BitVec 32 := 256#32
  let v360 : BitVec 32 := Scalar.muli v160 c256_i32_172
  v360
def k0_mult136 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_82 : BitVec 32 := 3#32
  let v161 : BitVec 32 := Scalar.subi arg20 c3_i32_82
  let c256_i32_175 : BitVec 32 := 256#32
  let v365 : BitVec 32 := Scalar.muli v161 c256_i32_175
  v365
def k0_mult137 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_82 : BitVec 32 := 3#32
  let v161 : BitVec 32 := Scalar.subi arg20 c3_i32_82
  let c256_i32_184 : BitVec 32 := 256#32
  let v391 : BitVec 32 := Scalar.muli v161 c256_i32_184
  v391
def k0_mult138 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32 : BitVec 32 := 4#32
  let v162 : BitVec 32 := Scalar.subi arg20 c4_i32
  let c256_i32_187 : BitVec 32 := 256#32
  let v396 : BitVec 32 := Scalar.muli v162 c256_i32_187
  v396
def k0_mult139 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32 : BitVec 32 := 4#32
  let v162 : BitVec 32 := Scalar.subi arg20 c4_i32
  let c256_i32_196 : BitVec 32 := 256#32
  let v422 : BitVec 32 := Scalar.muli v162 c256_i32_196
  v422
def k0_mult140 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_79 : BitVec 32 := 0#32
  let v158 : BitVec 32 := Scalar.subi arg20 c0_i32_79
  let c256_i32_203 : BitVec 32 := 256#32
  let v452 : BitVec 32 := Scalar.muli v158 c256_i32_203
  v452
def k0_mult141 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_205 : BitVec 32 := 256#32
  let v456 : BitVec 32 := Scalar.muli arg20 c256_i32_205
  v456
def k0_off9 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_205 : BitVec 32 := 256#32
  let v456 : BitVec 32 := Scalar.muli arg20 c256_i32_205
  let v457 : BitVec 32 := v456
  let v458 : Index := Scalar.indexCast v457
  let c0_206 : Index := 0#32
  ![v458.toNat, 0]
def k0_mult142 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_79 : BitVec 32 := 0#32
  let v158 : BitVec 32 := Scalar.subi arg20 c0_i32_79
  let c256_i32_209 : BitVec 32 := 256#32
  let v466 : BitVec 32 := Scalar.muli v158 c256_i32_209
  v466
def k0_mult143 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_79 : BitVec 32 := 0#32
  let v158 : BitVec 32 := Scalar.subi arg20 c0_i32_79
  let c256_i32_215 : BitVec 32 := 256#32
  let v482 : BitVec 32 := Scalar.muli v158 c256_i32_215
  v482
def k0_mult144 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_80 : BitVec 32 := 1#32
  let v159 : BitVec 32 := Scalar.subi arg20 c1_i32_80
  let c256_i32_220 : BitVec 32 := 256#32
  let v509 : BitVec 32 := Scalar.muli v159 c256_i32_220
  v509
def k0_mult145 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_222 : BitVec 32 := 256#32
  let v513 : BitVec 32 := Scalar.muli arg20 c256_i32_222
  v513
def k0_mult146 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_80 : BitVec 32 := 1#32
  let v159 : BitVec 32 := Scalar.subi arg20 c1_i32_80
  let c256_i32_226 : BitVec 32 := 256#32
  let v523 : BitVec 32 := Scalar.muli v159 c256_i32_226
  v523
def k0_mult147 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_80 : BitVec 32 := 1#32
  let v159 : BitVec 32 := Scalar.subi arg20 c1_i32_80
  let c256_i32_232 : BitVec 32 := 256#32
  let v539 : BitVec 32 := Scalar.muli v159 c256_i32_232
  v539
def k0_mult148 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_81 : BitVec 32 := 2#32
  let v160 : BitVec 32 := Scalar.subi arg20 c2_i32_81
  let c256_i32_237 : BitVec 32 := 256#32
  let v566 : BitVec 32 := Scalar.muli v160 c256_i32_237
  v566
def k0_mult149 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_239 : BitVec 32 := 256#32
  let v570 : BitVec 32 := Scalar.muli arg20 c256_i32_239
  v570
def k0_mult150 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_81 : BitVec 32 := 2#32
  let v160 : BitVec 32 := Scalar.subi arg20 c2_i32_81
  let c256_i32_243 : BitVec 32 := 256#32
  let v580 : BitVec 32 := Scalar.muli v160 c256_i32_243
  v580
def k0_mult151 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_81 : BitVec 32 := 2#32
  let v160 : BitVec 32 := Scalar.subi arg20 c2_i32_81
  let c256_i32_249 : BitVec 32 := 256#32
  let v596 : BitVec 32 := Scalar.muli v160 c256_i32_249
  v596
def k0_mult152 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_82 : BitVec 32 := 3#32
  let v161 : BitVec 32 := Scalar.subi arg20 c3_i32_82
  let c256_i32_254 : BitVec 32 := 256#32
  let v623 : BitVec 32 := Scalar.muli v161 c256_i32_254
  v623
def k0_mult153 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_256 : BitVec 32 := 256#32
  let v627 : BitVec 32 := Scalar.muli arg20 c256_i32_256
  v627
def k0_mult154 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_82 : BitVec 32 := 3#32
  let v161 : BitVec 32 := Scalar.subi arg20 c3_i32_82
  let c256_i32_260 : BitVec 32 := 256#32
  let v637 : BitVec 32 := Scalar.muli v161 c256_i32_260
  v637
def k0_mult155 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32_82 : BitVec 32 := 3#32
  let v161 : BitVec 32 := Scalar.subi arg20 c3_i32_82
  let c256_i32_266 : BitVec 32 := 256#32
  let v653 : BitVec 32 := Scalar.muli v161 c256_i32_266
  v653
def k0_mult156 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32 : BitVec 32 := 4#32
  let v162 : BitVec 32 := Scalar.subi arg20 c4_i32
  let c256_i32_271 : BitVec 32 := 256#32
  let v680 : BitVec 32 := Scalar.muli v162 c256_i32_271
  v680
def k0_mult157 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_273 : BitVec 32 := 256#32
  let v684 : BitVec 32 := Scalar.muli arg20 c256_i32_273
  v684
def k0_mult158 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32 : BitVec 32 := 4#32
  let v162 : BitVec 32 := Scalar.subi arg20 c4_i32
  let c256_i32_277 : BitVec 32 := 256#32
  let v694 : BitVec 32 := Scalar.muli v162 c256_i32_277
  v694
def k0_mult159 (k0_t1 : Fin k0_t1_loop.trips) : BitVec 32 :=
  let c0_i32 : BitVec 32 := 0#32
  let c1_i32 : BitVec 32 := 1#32
  let arg20 : BitVec 32 := Scf.iv c0_i32 c1_i32 k0_t1
  let c4_i32 : BitVec 32 := 4#32
  let v162 : BitVec 32 := Scalar.subi arg20 c4_i32
  let c256_i32_283 : BitVec 32 := 256#32
  let v710 : BitVec 32 := Scalar.muli v162 c256_i32_283
  v710
def k0_mult160 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_76 : BitVec 32 := 0#32
  let v154 : BitVec 32 := Scalar.subi arg20 c0_i32_76
  let c256_i32_136 : BitVec 32 := 256#32
  let v264 : BitVec 32 := Scalar.muli v154 c256_i32_136
  v264
def k0_off10 (k0_t1 : Fin k0_t1_loop.trips) (c0_i32_76 : BitVec 32) : Fin 2 → Nat :=
  let c0_i32 : BitVec 32 := 0#32
  let c1_i32 : BitVec 32 := 1#32
  let arg20 : BitVec 32 := Scf.iv c0_i32 c1_i32 k0_t1
  let v154 : BitVec 32 := Scalar.subi arg20 c0_i32_76
  let c256_i32_136 : BitVec 32 := 256#32
  let v264 : BitVec 32 := Scalar.muli v154 c256_i32_136
  let v265 : BitVec 32 := v264
  let v266 : Index := Scalar.indexCast v265
  let c0_137 : Index := 0#32
  ![v266.toNat, 0]
def k0_mult161 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_76 : BitVec 32 := 0#32
  let v154 : BitVec 32 := Scalar.subi arg20 c0_i32_76
  let c256_i32_146 : BitVec 32 := 256#32
  let v295 : BitVec 32 := Scalar.muli v154 c256_i32_146
  v295
def k0_mult162 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_77 : BitVec 32 := 1#32
  let v155 : BitVec 32 := Scalar.subi arg20 c1_i32_77
  let c256_i32_149 : BitVec 32 := 256#32
  let v300 : BitVec 32 := Scalar.muli v155 c256_i32_149
  v300
def k0_mult163 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_77 : BitVec 32 := 1#32
  let v155 : BitVec 32 := Scalar.subi arg20 c1_i32_77
  let c256_i32_158 : BitVec 32 := 256#32
  let v326 : BitVec 32 := Scalar.muli v155 c256_i32_158
  v326
def k0_mult164 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_78 : BitVec 32 := 2#32
  let v156 : BitVec 32 := Scalar.subi arg20 c2_i32_78
  let c256_i32_161 : BitVec 32 := 256#32
  let v331 : BitVec 32 := Scalar.muli v156 c256_i32_161
  v331
def k0_mult165 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_78 : BitVec 32 := 2#32
  let v156 : BitVec 32 := Scalar.subi arg20 c2_i32_78
  let c256_i32_170 : BitVec 32 := 256#32
  let v357 : BitVec 32 := Scalar.muli v156 c256_i32_170
  v357
def k0_mult166 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32 : BitVec 32 := 3#32
  let v157 : BitVec 32 := Scalar.subi arg20 c3_i32
  let c256_i32_173 : BitVec 32 := 256#32
  let v362 : BitVec 32 := Scalar.muli v157 c256_i32_173
  v362
def k0_mult167 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32 : BitVec 32 := 3#32
  let v157 : BitVec 32 := Scalar.subi arg20 c3_i32
  let c256_i32_182 : BitVec 32 := 256#32
  let v388 : BitVec 32 := Scalar.muli v157 c256_i32_182
  v388
def k0_mult168 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_76 : BitVec 32 := 0#32
  let v154 : BitVec 32 := Scalar.subi arg20 c0_i32_76
  let c256_i32_189 : BitVec 32 := 256#32
  let v418 : BitVec 32 := Scalar.muli v154 c256_i32_189
  v418
def k0_mult169 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_191 : BitVec 32 := 256#32
  let v422 : BitVec 32 := Scalar.muli arg20 c256_i32_191
  v422
def k0_off11 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_191 : BitVec 32 := 256#32
  let v422 : BitVec 32 := Scalar.muli arg20 c256_i32_191
  let v423 : BitVec 32 := v422
  let v424 : Index := Scalar.indexCast v423
  let c0_192 : Index := 0#32
  ![v424.toNat, 0]
def k0_mult170 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_76 : BitVec 32 := 0#32
  let v154 : BitVec 32 := Scalar.subi arg20 c0_i32_76
  let c256_i32_195 : BitVec 32 := 256#32
  let v432 : BitVec 32 := Scalar.muli v154 c256_i32_195
  v432
def k0_mult171 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_76 : BitVec 32 := 0#32
  let v154 : BitVec 32 := Scalar.subi arg20 c0_i32_76
  let c256_i32_201 : BitVec 32 := 256#32
  let v448 : BitVec 32 := Scalar.muli v154 c256_i32_201
  v448
def k0_mult172 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_77 : BitVec 32 := 1#32
  let v155 : BitVec 32 := Scalar.subi arg20 c1_i32_77
  let c256_i32_206 : BitVec 32 := 256#32
  let v475 : BitVec 32 := Scalar.muli v155 c256_i32_206
  v475
def k0_mult173 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_208 : BitVec 32 := 256#32
  let v479 : BitVec 32 := Scalar.muli arg20 c256_i32_208
  v479
def k0_mult174 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_77 : BitVec 32 := 1#32
  let v155 : BitVec 32 := Scalar.subi arg20 c1_i32_77
  let c256_i32_212 : BitVec 32 := 256#32
  let v489 : BitVec 32 := Scalar.muli v155 c256_i32_212
  v489
def k0_mult175 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_77 : BitVec 32 := 1#32
  let v155 : BitVec 32 := Scalar.subi arg20 c1_i32_77
  let c256_i32_218 : BitVec 32 := 256#32
  let v505 : BitVec 32 := Scalar.muli v155 c256_i32_218
  v505
def k0_mult176 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_78 : BitVec 32 := 2#32
  let v156 : BitVec 32 := Scalar.subi arg20 c2_i32_78
  let c256_i32_223 : BitVec 32 := 256#32
  let v532 : BitVec 32 := Scalar.muli v156 c256_i32_223
  v532
def k0_mult177 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_225 : BitVec 32 := 256#32
  let v536 : BitVec 32 := Scalar.muli arg20 c256_i32_225
  v536
def k0_mult178 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_78 : BitVec 32 := 2#32
  let v156 : BitVec 32 := Scalar.subi arg20 c2_i32_78
  let c256_i32_229 : BitVec 32 := 256#32
  let v546 : BitVec 32 := Scalar.muli v156 c256_i32_229
  v546
def k0_mult179 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32_78 : BitVec 32 := 2#32
  let v156 : BitVec 32 := Scalar.subi arg20 c2_i32_78
  let c256_i32_235 : BitVec 32 := 256#32
  let v562 : BitVec 32 := Scalar.muli v156 c256_i32_235
  v562
def k0_mult180 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32 : BitVec 32 := 3#32
  let v157 : BitVec 32 := Scalar.subi arg20 c3_i32
  let c256_i32_240 : BitVec 32 := 256#32
  let v589 : BitVec 32 := Scalar.muli v157 c256_i32_240
  v589
def k0_mult181 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_242 : BitVec 32 := 256#32
  let v593 : BitVec 32 := Scalar.muli arg20 c256_i32_242
  v593
def k0_mult182 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32 : BitVec 32 := 3#32
  let v157 : BitVec 32 := Scalar.subi arg20 c3_i32
  let c256_i32_246 : BitVec 32 := 256#32
  let v603 : BitVec 32 := Scalar.muli v157 c256_i32_246
  v603
def k0_mult183 (k0_t1 : Fin k0_t1_loop.trips) : BitVec 32 :=
  let c0_i32 : BitVec 32 := 0#32
  let c1_i32 : BitVec 32 := 1#32
  let arg20 : BitVec 32 := Scf.iv c0_i32 c1_i32 k0_t1
  let c3_i32 : BitVec 32 := 3#32
  let v157 : BitVec 32 := Scalar.subi arg20 c3_i32
  let c256_i32_252 : BitVec 32 := 256#32
  let v619 : BitVec 32 := Scalar.muli v157 c256_i32_252
  v619
def k0_mult184 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_74 : BitVec 32 := 0#32
  let v151 : BitVec 32 := Scalar.subi arg20 c0_i32_74
  let c256_i32_134 : BitVec 32 := 256#32
  let v261 : BitVec 32 := Scalar.muli v151 c256_i32_134
  v261
def k0_off12 (k0_t1 : Fin k0_t1_loop.trips) (c0_i32_74 : BitVec 32) : Fin 2 → Nat :=
  let c0_i32 : BitVec 32 := 0#32
  let c1_i32 : BitVec 32 := 1#32
  let arg20 : BitVec 32 := Scf.iv c0_i32 c1_i32 k0_t1
  let v151 : BitVec 32 := Scalar.subi arg20 c0_i32_74
  let c256_i32_134 : BitVec 32 := 256#32
  let v261 : BitVec 32 := Scalar.muli v151 c256_i32_134
  let v262 : BitVec 32 := v261
  let v263 : Index := Scalar.indexCast v262
  let c0_135 : Index := 0#32
  ![v263.toNat, 0]
def k0_mult185 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_74 : BitVec 32 := 0#32
  let v151 : BitVec 32 := Scalar.subi arg20 c0_i32_74
  let c256_i32_144 : BitVec 32 := 256#32
  let v292 : BitVec 32 := Scalar.muli v151 c256_i32_144
  v292
def k0_mult186 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_75 : BitVec 32 := 1#32
  let v152 : BitVec 32 := Scalar.subi arg20 c1_i32_75
  let c256_i32_147 : BitVec 32 := 256#32
  let v297 : BitVec 32 := Scalar.muli v152 c256_i32_147
  v297
def k0_mult187 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_75 : BitVec 32 := 1#32
  let v152 : BitVec 32 := Scalar.subi arg20 c1_i32_75
  let c256_i32_156 : BitVec 32 := 256#32
  let v323 : BitVec 32 := Scalar.muli v152 c256_i32_156
  v323
def k0_mult188 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32 : BitVec 32 := 2#32
  let v153 : BitVec 32 := Scalar.subi arg20 c2_i32
  let c256_i32_159 : BitVec 32 := 256#32
  let v328 : BitVec 32 := Scalar.muli v153 c256_i32_159
  v328
def k0_mult189 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32 : BitVec 32 := 2#32
  let v153 : BitVec 32 := Scalar.subi arg20 c2_i32
  let c256_i32_168 : BitVec 32 := 256#32
  let v354 : BitVec 32 := Scalar.muli v153 c256_i32_168
  v354
def k0_mult190 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_74 : BitVec 32 := 0#32
  let v151 : BitVec 32 := Scalar.subi arg20 c0_i32_74
  let c256_i32_175 : BitVec 32 := 256#32
  let v384 : BitVec 32 := Scalar.muli v151 c256_i32_175
  v384
def k0_mult191 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_177 : BitVec 32 := 256#32
  let v388 : BitVec 32 := Scalar.muli arg20 c256_i32_177
  v388
def k0_off13 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_177 : BitVec 32 := 256#32
  let v388 : BitVec 32 := Scalar.muli arg20 c256_i32_177
  let v389 : BitVec 32 := v388
  let v390 : Index := Scalar.indexCast v389
  let c0_178 : Index := 0#32
  ![v390.toNat, 0]
def k0_mult192 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_74 : BitVec 32 := 0#32
  let v151 : BitVec 32 := Scalar.subi arg20 c0_i32_74
  let c256_i32_181 : BitVec 32 := 256#32
  let v398 : BitVec 32 := Scalar.muli v151 c256_i32_181
  v398
def k0_mult193 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_74 : BitVec 32 := 0#32
  let v151 : BitVec 32 := Scalar.subi arg20 c0_i32_74
  let c256_i32_187 : BitVec 32 := 256#32
  let v414 : BitVec 32 := Scalar.muli v151 c256_i32_187
  v414
def k0_mult194 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_75 : BitVec 32 := 1#32
  let v152 : BitVec 32 := Scalar.subi arg20 c1_i32_75
  let c256_i32_192 : BitVec 32 := 256#32
  let v441 : BitVec 32 := Scalar.muli v152 c256_i32_192
  v441
def k0_mult195 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_194 : BitVec 32 := 256#32
  let v445 : BitVec 32 := Scalar.muli arg20 c256_i32_194
  v445
def k0_mult196 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_75 : BitVec 32 := 1#32
  let v152 : BitVec 32 := Scalar.subi arg20 c1_i32_75
  let c256_i32_198 : BitVec 32 := 256#32
  let v455 : BitVec 32 := Scalar.muli v152 c256_i32_198
  v455
def k0_mult197 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_75 : BitVec 32 := 1#32
  let v152 : BitVec 32 := Scalar.subi arg20 c1_i32_75
  let c256_i32_204 : BitVec 32 := 256#32
  let v471 : BitVec 32 := Scalar.muli v152 c256_i32_204
  v471
def k0_mult198 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32 : BitVec 32 := 2#32
  let v153 : BitVec 32 := Scalar.subi arg20 c2_i32
  let c256_i32_209 : BitVec 32 := 256#32
  let v498 : BitVec 32 := Scalar.muli v153 c256_i32_209
  v498
def k0_mult199 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_211 : BitVec 32 := 256#32
  let v502 : BitVec 32 := Scalar.muli arg20 c256_i32_211
  v502
def k0_mult200 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32 : BitVec 32 := 2#32
  let v153 : BitVec 32 := Scalar.subi arg20 c2_i32
  let c256_i32_215 : BitVec 32 := 256#32
  let v512 : BitVec 32 := Scalar.muli v153 c256_i32_215
  v512
def k0_mult201 (k0_t1 : Fin k0_t1_loop.trips) : BitVec 32 :=
  let c0_i32 : BitVec 32 := 0#32
  let c1_i32 : BitVec 32 := 1#32
  let arg20 : BitVec 32 := Scf.iv c0_i32 c1_i32 k0_t1
  let c2_i32 : BitVec 32 := 2#32
  let v153 : BitVec 32 := Scalar.subi arg20 c2_i32
  let c256_i32_221 : BitVec 32 := 256#32
  let v528 : BitVec 32 := Scalar.muli v153 c256_i32_221
  v528
def k0_mult202 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_72 : BitVec 32 := 0#32
  let v149 : BitVec 32 := Scalar.subi arg20 c0_i32_72
  let c256_i32_132 : BitVec 32 := 256#32
  let v258 : BitVec 32 := Scalar.muli v149 c256_i32_132
  v258
def k0_off14 (k0_t1 : Fin k0_t1_loop.trips) (c0_i32_72 : BitVec 32) : Fin 2 → Nat :=
  let c0_i32 : BitVec 32 := 0#32
  let c1_i32 : BitVec 32 := 1#32
  let arg20 : BitVec 32 := Scf.iv c0_i32 c1_i32 k0_t1
  let v149 : BitVec 32 := Scalar.subi arg20 c0_i32_72
  let c256_i32_132 : BitVec 32 := 256#32
  let v258 : BitVec 32 := Scalar.muli v149 c256_i32_132
  let v259 : BitVec 32 := v258
  let v260 : Index := Scalar.indexCast v259
  let c0_133 : Index := 0#32
  ![v260.toNat, 0]
def k0_mult203 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_72 : BitVec 32 := 0#32
  let v149 : BitVec 32 := Scalar.subi arg20 c0_i32_72
  let c256_i32_142 : BitVec 32 := 256#32
  let v289 : BitVec 32 := Scalar.muli v149 c256_i32_142
  v289
def k0_mult204 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_73 : BitVec 32 := 1#32
  let v150 : BitVec 32 := Scalar.subi arg20 c1_i32_73
  let c256_i32_145 : BitVec 32 := 256#32
  let v294 : BitVec 32 := Scalar.muli v150 c256_i32_145
  v294
def k0_mult205 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_73 : BitVec 32 := 1#32
  let v150 : BitVec 32 := Scalar.subi arg20 c1_i32_73
  let c256_i32_154 : BitVec 32 := 256#32
  let v320 : BitVec 32 := Scalar.muli v150 c256_i32_154
  v320
def k0_mult206 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_72 : BitVec 32 := 0#32
  let v149 : BitVec 32 := Scalar.subi arg20 c0_i32_72
  let c256_i32_161 : BitVec 32 := 256#32
  let v350 : BitVec 32 := Scalar.muli v149 c256_i32_161
  v350
def k0_mult207 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_163 : BitVec 32 := 256#32
  let v354 : BitVec 32 := Scalar.muli arg20 c256_i32_163
  v354
def k0_off15 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_163 : BitVec 32 := 256#32
  let v354 : BitVec 32 := Scalar.muli arg20 c256_i32_163
  let v355 : BitVec 32 := v354
  let v356 : Index := Scalar.indexCast v355
  let c0_164 : Index := 0#32
  ![v356.toNat, 0]
def k0_mult208 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_72 : BitVec 32 := 0#32
  let v149 : BitVec 32 := Scalar.subi arg20 c0_i32_72
  let c256_i32_167 : BitVec 32 := 256#32
  let v364 : BitVec 32 := Scalar.muli v149 c256_i32_167
  v364
def k0_mult209 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_72 : BitVec 32 := 0#32
  let v149 : BitVec 32 := Scalar.subi arg20 c0_i32_72
  let c256_i32_173 : BitVec 32 := 256#32
  let v380 : BitVec 32 := Scalar.muli v149 c256_i32_173
  v380
def k0_mult210 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_73 : BitVec 32 := 1#32
  let v150 : BitVec 32 := Scalar.subi arg20 c1_i32_73
  let c256_i32_178 : BitVec 32 := 256#32
  let v407 : BitVec 32 := Scalar.muli v150 c256_i32_178
  v407
def k0_mult211 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_180 : BitVec 32 := 256#32
  let v411 : BitVec 32 := Scalar.muli arg20 c256_i32_180
  v411
def k0_mult212 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_73 : BitVec 32 := 1#32
  let v150 : BitVec 32 := Scalar.subi arg20 c1_i32_73
  let c256_i32_184 : BitVec 32 := 256#32
  let v421 : BitVec 32 := Scalar.muli v150 c256_i32_184
  v421
def k0_mult213 (k0_t1 : Fin k0_t1_loop.trips) : BitVec 32 :=
  let c0_i32 : BitVec 32 := 0#32
  let c1_i32 : BitVec 32 := 1#32
  let arg20 : BitVec 32 := Scf.iv c0_i32 c1_i32 k0_t1
  let c1_i32_73 : BitVec 32 := 1#32
  let v150 : BitVec 32 := Scalar.subi arg20 c1_i32_73
  let c256_i32_190 : BitVec 32 := 256#32
  let v437 : BitVec 32 := Scalar.muli v150 c256_i32_190
  v437
def k0_mult214 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_71 : BitVec 32 := 0#32
  let v148 : BitVec 32 := Scalar.subi arg20 c0_i32_71
  let c256_i32_130 : BitVec 32 := 256#32
  let v255 : BitVec 32 := Scalar.muli v148 c256_i32_130
  v255
def k0_off16 (k0_t1 : Fin k0_t1_loop.trips) : Fin 2 → Nat :=
  let c0_i32 : BitVec 32 := 0#32
  let c1_i32 : BitVec 32 := 1#32
  let arg20 : BitVec 32 := Scf.iv c0_i32 c1_i32 k0_t1
  let c0_i32_71 : BitVec 32 := 0#32
  let v148 : BitVec 32 := Scalar.subi arg20 c0_i32_71
  let c256_i32_130 : BitVec 32 := 256#32
  let v255 : BitVec 32 := Scalar.muli v148 c256_i32_130
  let v256 : BitVec 32 := v255
  let v257 : Index := Scalar.indexCast v256
  let c0_131 : Index := 0#32
  ![v257.toNat, 0]
def k0_mult215 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_71 : BitVec 32 := 0#32
  let v148 : BitVec 32 := Scalar.subi arg20 c0_i32_71
  let c256_i32_140 : BitVec 32 := 256#32
  let v286 : BitVec 32 := Scalar.muli v148 c256_i32_140
  v286
def k0_mult216 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_71 : BitVec 32 := 0#32
  let v148 : BitVec 32 := Scalar.subi arg20 c0_i32_71
  let c256_i32_147 : BitVec 32 := 256#32
  let v316 : BitVec 32 := Scalar.muli v148 c256_i32_147
  v316
def k0_mult217 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_149 : BitVec 32 := 256#32
  let v320 : BitVec 32 := Scalar.muli arg20 c256_i32_149
  v320
def k0_off17 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_149 : BitVec 32 := 256#32
  let v320 : BitVec 32 := Scalar.muli arg20 c256_i32_149
  let v321 : BitVec 32 := v320
  let v322 : Index := Scalar.indexCast v321
  let c0_150 : Index := 0#32
  ![v322.toNat, 0]
def k0_mult218 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_71 : BitVec 32 := 0#32
  let v148 : BitVec 32 := Scalar.subi arg20 c0_i32_71
  let c256_i32_153 : BitVec 32 := 256#32
  let v330 : BitVec 32 := Scalar.muli v148 c256_i32_153
  v330
def k0_mult219 (k0_t1 : Fin k0_t1_loop.trips) : BitVec 32 :=
  let c0_i32 : BitVec 32 := 0#32
  let c1_i32 : BitVec 32 := 1#32
  let arg20 : BitVec 32 := Scf.iv c0_i32 c1_i32 k0_t1
  let c0_i32_71 : BitVec 32 := 0#32
  let v148 : BitVec 32 := Scalar.subi arg20 c0_i32_71
  let c256_i32_159 : BitVec 32 := 256#32
  let v346 : BitVec 32 := Scalar.muli v148 c256_i32_159
  v346
@[reducible] def k0_t2_loop (k0_t1 : Fin k0_t1_loop.trips) : Scf.Loop 32 :=
  let c0_i32_112 : BitVec 32 := 0#32
  let c0_i32 : BitVec 32 := 0#32
  let c1_i32 : BitVec 32 := 1#32
  let arg20 : BitVec 32 := Scf.iv c0_i32 c1_i32 k0_t1
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_114 : BitVec 32 := 1#32
  ⟨c0_i32_112, v212, c1_i32_114⟩
def k0_mult220 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c0_i32_131 : BitVec 32 := 0#32
  let v257 : BitVec 32 := Scalar.subi v256 c0_i32_131
  let c256_i32_139 : BitVec 32 := 256#32
  let v265 : BitVec 32 := Scalar.muli v257 c256_i32_139
  v265
def k0_off18 (k0_t1 : Fin k0_t1_loop.trips) (k0_t2 : Fin (k0_t2_loop k0_t1).trips) (c0_i32_131 : BitVec 32) : Fin 2 → Nat :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let v257 : BitVec 32 := Scalar.subi v256 c0_i32_131
  let c256_i32_139 : BitVec 32 := 256#32
  let v265 : BitVec 32 := Scalar.muli v257 c256_i32_139
  let v266 : BitVec 32 := v265
  let v267 : Index := Scalar.indexCast v266
  let c0_140 : Index := 0#32
  ![v267.toNat, 0]
def k0_mult221 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c0_i32_131 : BitVec 32 := 0#32
  let v257 : BitVec 32 := Scalar.subi v256 c0_i32_131
  let c256_i32_148 : BitVec 32 := 256#32
  let v291 : BitVec 32 := Scalar.muli v257 c256_i32_148
  v291
def k0_mult222 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c1_i32_132 : BitVec 32 := 1#32
  let v258 : BitVec 32 := Scalar.subi v256 c1_i32_132
  let c256_i32_151 : BitVec 32 := 256#32
  let v296 : BitVec 32 := Scalar.muli v258 c256_i32_151
  v296
def k0_mult223 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c1_i32_132 : BitVec 32 := 1#32
  let v258 : BitVec 32 := Scalar.subi v256 c1_i32_132
  let c256_i32_160 : BitVec 32 := 256#32
  let v322 : BitVec 32 := Scalar.muli v258 c256_i32_160
  v322
def k0_mult224 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c2_i32_133 : BitVec 32 := 2#32
  let v259 : BitVec 32 := Scalar.subi v256 c2_i32_133
  let c256_i32_163 : BitVec 32 := 256#32
  let v327 : BitVec 32 := Scalar.muli v259 c256_i32_163
  v327
def k0_mult225 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c2_i32_133 : BitVec 32 := 2#32
  let v259 : BitVec 32 := Scalar.subi v256 c2_i32_133
  let c256_i32_172 : BitVec 32 := 256#32
  let v353 : BitVec 32 := Scalar.muli v259 c256_i32_172
  v353
def k0_mult226 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c3_i32_134 : BitVec 32 := 3#32
  let v260 : BitVec 32 := Scalar.subi v256 c3_i32_134
  let c256_i32_175 : BitVec 32 := 256#32
  let v358 : BitVec 32 := Scalar.muli v260 c256_i32_175
  v358
def k0_mult227 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c3_i32_134 : BitVec 32 := 3#32
  let v260 : BitVec 32 := Scalar.subi v256 c3_i32_134
  let c256_i32_184 : BitVec 32 := 256#32
  let v384 : BitVec 32 := Scalar.muli v260 c256_i32_184
  v384
def k0_mult228 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c4_i32_135 : BitVec 32 := 4#32
  let v261 : BitVec 32 := Scalar.subi v256 c4_i32_135
  let c256_i32_187 : BitVec 32 := 256#32
  let v389 : BitVec 32 := Scalar.muli v261 c256_i32_187
  v389
def k0_mult229 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c4_i32_135 : BitVec 32 := 4#32
  let v261 : BitVec 32 := Scalar.subi v256 c4_i32_135
  let c256_i32_196 : BitVec 32 := 256#32
  let v415 : BitVec 32 := Scalar.muli v261 c256_i32_196
  v415
def k0_mult230 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c5_i32_136 : BitVec 32 := 5#32
  let v262 : BitVec 32 := Scalar.subi v256 c5_i32_136
  let c256_i32_199 : BitVec 32 := 256#32
  let v420 : BitVec 32 := Scalar.muli v262 c256_i32_199
  v420
def k0_mult231 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c5_i32_136 : BitVec 32 := 5#32
  let v262 : BitVec 32 := Scalar.subi v256 c5_i32_136
  let c256_i32_208 : BitVec 32 := 256#32
  let v446 : BitVec 32 := Scalar.muli v262 c256_i32_208
  v446
def k0_mult232 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c6_i32_137 : BitVec 32 := 6#32
  let v263 : BitVec 32 := Scalar.subi v256 c6_i32_137
  let c256_i32_211 : BitVec 32 := 256#32
  let v451 : BitVec 32 := Scalar.muli v263 c256_i32_211
  v451
def k0_mult233 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c6_i32_137 : BitVec 32 := 6#32
  let v263 : BitVec 32 := Scalar.subi v256 c6_i32_137
  let c256_i32_220 : BitVec 32 := 256#32
  let v477 : BitVec 32 := Scalar.muli v263 c256_i32_220
  v477
def k0_mult234 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c7_i32_138 : BitVec 32 := 7#32
  let v264 : BitVec 32 := Scalar.subi v256 c7_i32_138
  let c256_i32_223 : BitVec 32 := 256#32
  let v482 : BitVec 32 := Scalar.muli v264 c256_i32_223
  v482
def k0_mult235 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c7_i32_138 : BitVec 32 := 7#32
  let v264 : BitVec 32 := Scalar.subi v256 c7_i32_138
  let c256_i32_232 : BitVec 32 := 256#32
  let v508 : BitVec 32 := Scalar.muli v264 c256_i32_232
  v508
def k0_mult236 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c0_i32_131 : BitVec 32 := 0#32
  let v257 : BitVec 32 := Scalar.subi v256 c0_i32_131
  let c256_i32_237 : BitVec 32 := 256#32
  let v534 : BitVec 32 := Scalar.muli v257 c256_i32_237
  v534
def k0_mult237 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_239 : BitVec 32 := 256#32
  let v538 : BitVec 32 := Scalar.muli arg20 c256_i32_239
  v538
def k0_off19 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_239 : BitVec 32 := 256#32
  let v538 : BitVec 32 := Scalar.muli arg20 c256_i32_239
  let v539 : BitVec 32 := v538
  let v540 : Index := Scalar.indexCast v539
  let c0_240 : Index := 0#32
  ![v540.toNat, 0]
def k0_mult238 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c0_i32_131 : BitVec 32 := 0#32
  let v257 : BitVec 32 := Scalar.subi v256 c0_i32_131
  let c256_i32_243 : BitVec 32 := 256#32
  let v548 : BitVec 32 := Scalar.muli v257 c256_i32_243
  v548
def k0_mult239 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c0_i32_131 : BitVec 32 := 0#32
  let v257 : BitVec 32 := Scalar.subi v256 c0_i32_131
  let c256_i32_249 : BitVec 32 := 256#32
  let v564 : BitVec 32 := Scalar.muli v257 c256_i32_249
  v564
def k0_mult240 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c1_i32_132 : BitVec 32 := 1#32
  let v258 : BitVec 32 := Scalar.subi v256 c1_i32_132
  let c256_i32_254 : BitVec 32 := 256#32
  let v591 : BitVec 32 := Scalar.muli v258 c256_i32_254
  v591
def k0_mult241 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_256 : BitVec 32 := 256#32
  let v595 : BitVec 32 := Scalar.muli arg20 c256_i32_256
  v595
def k0_mult242 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c1_i32_132 : BitVec 32 := 1#32
  let v258 : BitVec 32 := Scalar.subi v256 c1_i32_132
  let c256_i32_260 : BitVec 32 := 256#32
  let v605 : BitVec 32 := Scalar.muli v258 c256_i32_260
  v605
def k0_mult243 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c1_i32_132 : BitVec 32 := 1#32
  let v258 : BitVec 32 := Scalar.subi v256 c1_i32_132
  let c256_i32_266 : BitVec 32 := 256#32
  let v621 : BitVec 32 := Scalar.muli v258 c256_i32_266
  v621
def k0_mult244 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c2_i32_133 : BitVec 32 := 2#32
  let v259 : BitVec 32 := Scalar.subi v256 c2_i32_133
  let c256_i32_271 : BitVec 32 := 256#32
  let v648 : BitVec 32 := Scalar.muli v259 c256_i32_271
  v648
def k0_mult245 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_273 : BitVec 32 := 256#32
  let v652 : BitVec 32 := Scalar.muli arg20 c256_i32_273
  v652
def k0_mult246 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c2_i32_133 : BitVec 32 := 2#32
  let v259 : BitVec 32 := Scalar.subi v256 c2_i32_133
  let c256_i32_277 : BitVec 32 := 256#32
  let v662 : BitVec 32 := Scalar.muli v259 c256_i32_277
  v662
def k0_mult247 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c2_i32_133 : BitVec 32 := 2#32
  let v259 : BitVec 32 := Scalar.subi v256 c2_i32_133
  let c256_i32_283 : BitVec 32 := 256#32
  let v678 : BitVec 32 := Scalar.muli v259 c256_i32_283
  v678
def k0_mult248 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c3_i32_134 : BitVec 32 := 3#32
  let v260 : BitVec 32 := Scalar.subi v256 c3_i32_134
  let c256_i32_288 : BitVec 32 := 256#32
  let v705 : BitVec 32 := Scalar.muli v260 c256_i32_288
  v705
def k0_mult249 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_290 : BitVec 32 := 256#32
  let v709 : BitVec 32 := Scalar.muli arg20 c256_i32_290
  v709
def k0_mult250 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c3_i32_134 : BitVec 32 := 3#32
  let v260 : BitVec 32 := Scalar.subi v256 c3_i32_134
  let c256_i32_294 : BitVec 32 := 256#32
  let v719 : BitVec 32 := Scalar.muli v260 c256_i32_294
  v719
def k0_mult251 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c3_i32_134 : BitVec 32 := 3#32
  let v260 : BitVec 32 := Scalar.subi v256 c3_i32_134
  let c256_i32_300 : BitVec 32 := 256#32
  let v735 : BitVec 32 := Scalar.muli v260 c256_i32_300
  v735
def k0_mult252 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c4_i32_135 : BitVec 32 := 4#32
  let v261 : BitVec 32 := Scalar.subi v256 c4_i32_135
  let c256_i32_305 : BitVec 32 := 256#32
  let v762 : BitVec 32 := Scalar.muli v261 c256_i32_305
  v762
def k0_mult253 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_307 : BitVec 32 := 256#32
  let v766 : BitVec 32 := Scalar.muli arg20 c256_i32_307
  v766
def k0_mult254 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c4_i32_135 : BitVec 32 := 4#32
  let v261 : BitVec 32 := Scalar.subi v256 c4_i32_135
  let c256_i32_311 : BitVec 32 := 256#32
  let v776 : BitVec 32 := Scalar.muli v261 c256_i32_311
  v776
def k0_mult255 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c4_i32_135 : BitVec 32 := 4#32
  let v261 : BitVec 32 := Scalar.subi v256 c4_i32_135
  let c256_i32_317 : BitVec 32 := 256#32
  let v792 : BitVec 32 := Scalar.muli v261 c256_i32_317
  v792
def k0_mult256 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c5_i32_136 : BitVec 32 := 5#32
  let v262 : BitVec 32 := Scalar.subi v256 c5_i32_136
  let c256_i32_322 : BitVec 32 := 256#32
  let v819 : BitVec 32 := Scalar.muli v262 c256_i32_322
  v819
def k0_mult257 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_324 : BitVec 32 := 256#32
  let v823 : BitVec 32 := Scalar.muli arg20 c256_i32_324
  v823
def k0_mult258 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c5_i32_136 : BitVec 32 := 5#32
  let v262 : BitVec 32 := Scalar.subi v256 c5_i32_136
  let c256_i32_328 : BitVec 32 := 256#32
  let v833 : BitVec 32 := Scalar.muli v262 c256_i32_328
  v833
def k0_mult259 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c5_i32_136 : BitVec 32 := 5#32
  let v262 : BitVec 32 := Scalar.subi v256 c5_i32_136
  let c256_i32_334 : BitVec 32 := 256#32
  let v849 : BitVec 32 := Scalar.muli v262 c256_i32_334
  v849
def k0_mult260 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c6_i32_137 : BitVec 32 := 6#32
  let v263 : BitVec 32 := Scalar.subi v256 c6_i32_137
  let c256_i32_339 : BitVec 32 := 256#32
  let v876 : BitVec 32 := Scalar.muli v263 c256_i32_339
  v876
def k0_mult261 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_341 : BitVec 32 := 256#32
  let v880 : BitVec 32 := Scalar.muli arg20 c256_i32_341
  v880
def k0_mult262 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c6_i32_137 : BitVec 32 := 6#32
  let v263 : BitVec 32 := Scalar.subi v256 c6_i32_137
  let c256_i32_345 : BitVec 32 := 256#32
  let v890 : BitVec 32 := Scalar.muli v263 c256_i32_345
  v890
def k0_mult263 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c6_i32_137 : BitVec 32 := 6#32
  let v263 : BitVec 32 := Scalar.subi v256 c6_i32_137
  let c256_i32_351 : BitVec 32 := 256#32
  let v906 : BitVec 32 := Scalar.muli v263 c256_i32_351
  v906
def k0_mult264 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c7_i32_138 : BitVec 32 := 7#32
  let v264 : BitVec 32 := Scalar.subi v256 c7_i32_138
  let c256_i32_356 : BitVec 32 := 256#32
  let v933 : BitVec 32 := Scalar.muli v264 c256_i32_356
  v933
def k0_mult265 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_358 : BitVec 32 := 256#32
  let v937 : BitVec 32 := Scalar.muli arg20 c256_i32_358
  v937
def k0_mult266 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c7_i32_138 : BitVec 32 := 7#32
  let v264 : BitVec 32 := Scalar.subi v256 c7_i32_138
  let c256_i32_362 : BitVec 32 := 256#32
  let v947 : BitVec 32 := Scalar.muli v264 c256_i32_362
  v947
def k0_mult267 (k0_t1 : Fin k0_t1_loop.trips) (k0_t2 : Fin (k0_t2_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let c1_i32_114 : BitVec 32 := 1#32
  let arg21 : BitVec 32 := Scf.iv c0_i32_112 c1_i32_114 k0_t2
  let v255 : BitVec 32 := Scalar.muli c8_i32_130 arg21
  let v256 : BitVec 32 := Scalar.subi v189 v255
  let c7_i32_138 : BitVec 32 := 7#32
  let v264 : BitVec 32 := Scalar.subi v256 c7_i32_138
  let c256_i32_368 : BitVec 32 := 256#32
  let v963 : BitVec 32 := Scalar.muli v264 c256_i32_368
  v963
@[reducible] def k0_t3_loop (k0_t1 : Fin k0_t1_loop.trips) : Scf.Loop 32 :=
  let c0_i32_112 : BitVec 32 := 0#32
  let c0_i32 : BitVec 32 := 0#32
  let c1_i32 : BitVec 32 := 1#32
  let arg20 : BitVec 32 := Scf.iv c0_i32 c1_i32 k0_t1
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let v209 : BitVec 32 := Scalar.addi c0_i32_112 v208
  let c1_i32_115 : BitVec 32 := 1#32
  ⟨v212, v209, c1_i32_115⟩
def k0_mult268 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c0_i32_131 : BitVec 32 := 0#32
  let v257 : BitVec 32 := Scalar.subi v256 c0_i32_131
  let c256_i32_139 : BitVec 32 := 256#32
  let v265 : BitVec 32 := Scalar.muli v257 c256_i32_139
  v265
def k0_off20 (k0_t1 : Fin k0_t1_loop.trips) (k0_t3 : Fin (k0_t3_loop k0_t1).trips) (c0_i32_131 : BitVec 32) : Fin 2 → Nat :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let v257 : BitVec 32 := Scalar.subi v256 c0_i32_131
  let c256_i32_139 : BitVec 32 := 256#32
  let v265 : BitVec 32 := Scalar.muli v257 c256_i32_139
  let v266 : BitVec 32 := v265
  let v267 : Index := Scalar.indexCast v266
  let c0_140 : Index := 0#32
  ![v267.toNat, 0]
def k0_mult269 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c0_i32_131 : BitVec 32 := 0#32
  let v257 : BitVec 32 := Scalar.subi v256 c0_i32_131
  let c256_i32_148 : BitVec 32 := 256#32
  let v291 : BitVec 32 := Scalar.muli v257 c256_i32_148
  v291
def k0_mult270 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c1_i32_132 : BitVec 32 := 1#32
  let v258 : BitVec 32 := Scalar.subi v256 c1_i32_132
  let c256_i32_151 : BitVec 32 := 256#32
  let v296 : BitVec 32 := Scalar.muli v258 c256_i32_151
  v296
def k0_mult271 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c1_i32_132 : BitVec 32 := 1#32
  let v258 : BitVec 32 := Scalar.subi v256 c1_i32_132
  let c256_i32_160 : BitVec 32 := 256#32
  let v322 : BitVec 32 := Scalar.muli v258 c256_i32_160
  v322
def k0_mult272 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c2_i32_133 : BitVec 32 := 2#32
  let v259 : BitVec 32 := Scalar.subi v256 c2_i32_133
  let c256_i32_163 : BitVec 32 := 256#32
  let v327 : BitVec 32 := Scalar.muli v259 c256_i32_163
  v327
def k0_mult273 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c2_i32_133 : BitVec 32 := 2#32
  let v259 : BitVec 32 := Scalar.subi v256 c2_i32_133
  let c256_i32_172 : BitVec 32 := 256#32
  let v353 : BitVec 32 := Scalar.muli v259 c256_i32_172
  v353
def k0_mult274 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c3_i32_134 : BitVec 32 := 3#32
  let v260 : BitVec 32 := Scalar.subi v256 c3_i32_134
  let c256_i32_175 : BitVec 32 := 256#32
  let v358 : BitVec 32 := Scalar.muli v260 c256_i32_175
  v358
def k0_mult275 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c3_i32_134 : BitVec 32 := 3#32
  let v260 : BitVec 32 := Scalar.subi v256 c3_i32_134
  let c256_i32_184 : BitVec 32 := 256#32
  let v384 : BitVec 32 := Scalar.muli v260 c256_i32_184
  v384
def k0_mult276 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c4_i32_135 : BitVec 32 := 4#32
  let v261 : BitVec 32 := Scalar.subi v256 c4_i32_135
  let c256_i32_187 : BitVec 32 := 256#32
  let v389 : BitVec 32 := Scalar.muli v261 c256_i32_187
  v389
def k0_mult277 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c4_i32_135 : BitVec 32 := 4#32
  let v261 : BitVec 32 := Scalar.subi v256 c4_i32_135
  let c256_i32_196 : BitVec 32 := 256#32
  let v415 : BitVec 32 := Scalar.muli v261 c256_i32_196
  v415
def k0_mult278 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c5_i32_136 : BitVec 32 := 5#32
  let v262 : BitVec 32 := Scalar.subi v256 c5_i32_136
  let c256_i32_199 : BitVec 32 := 256#32
  let v420 : BitVec 32 := Scalar.muli v262 c256_i32_199
  v420
def k0_mult279 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c5_i32_136 : BitVec 32 := 5#32
  let v262 : BitVec 32 := Scalar.subi v256 c5_i32_136
  let c256_i32_208 : BitVec 32 := 256#32
  let v446 : BitVec 32 := Scalar.muli v262 c256_i32_208
  v446
def k0_mult280 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c6_i32_137 : BitVec 32 := 6#32
  let v263 : BitVec 32 := Scalar.subi v256 c6_i32_137
  let c256_i32_211 : BitVec 32 := 256#32
  let v451 : BitVec 32 := Scalar.muli v263 c256_i32_211
  v451
def k0_mult281 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c6_i32_137 : BitVec 32 := 6#32
  let v263 : BitVec 32 := Scalar.subi v256 c6_i32_137
  let c256_i32_220 : BitVec 32 := 256#32
  let v477 : BitVec 32 := Scalar.muli v263 c256_i32_220
  v477
def k0_mult282 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c7_i32_138 : BitVec 32 := 7#32
  let v264 : BitVec 32 := Scalar.subi v256 c7_i32_138
  let c256_i32_223 : BitVec 32 := 256#32
  let v482 : BitVec 32 := Scalar.muli v264 c256_i32_223
  v482
def k0_mult283 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c7_i32_138 : BitVec 32 := 7#32
  let v264 : BitVec 32 := Scalar.subi v256 c7_i32_138
  let c256_i32_232 : BitVec 32 := 256#32
  let v508 : BitVec 32 := Scalar.muli v264 c256_i32_232
  v508
def k0_mult284 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c0_i32_131 : BitVec 32 := 0#32
  let v257 : BitVec 32 := Scalar.subi v256 c0_i32_131
  let c256_i32_237 : BitVec 32 := 256#32
  let v534 : BitVec 32 := Scalar.muli v257 c256_i32_237
  v534
def k0_mult285 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_239 : BitVec 32 := 256#32
  let v538 : BitVec 32 := Scalar.muli arg20 c256_i32_239
  v538
def k0_off21 (k0_t1 : Fin k0_t1_loop.trips) : Fin 2 → Nat :=
  let c0_i32 : BitVec 32 := 0#32
  let c1_i32 : BitVec 32 := 1#32
  let arg20 : BitVec 32 := Scf.iv c0_i32 c1_i32 k0_t1
  let c256_i32_239 : BitVec 32 := 256#32
  let v538 : BitVec 32 := Scalar.muli arg20 c256_i32_239
  let v539 : BitVec 32 := v538
  let v540 : Index := Scalar.indexCast v539
  let c0_240 : Index := 0#32
  ![v540.toNat, 0]
def k0_mult286 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c0_i32_131 : BitVec 32 := 0#32
  let v257 : BitVec 32 := Scalar.subi v256 c0_i32_131
  let c256_i32_243 : BitVec 32 := 256#32
  let v548 : BitVec 32 := Scalar.muli v257 c256_i32_243
  v548
def k0_mult287 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c0_i32_131 : BitVec 32 := 0#32
  let v257 : BitVec 32 := Scalar.subi v256 c0_i32_131
  let c256_i32_249 : BitVec 32 := 256#32
  let v564 : BitVec 32 := Scalar.muli v257 c256_i32_249
  v564
def k0_mult288 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c1_i32_132 : BitVec 32 := 1#32
  let v258 : BitVec 32 := Scalar.subi v256 c1_i32_132
  let c256_i32_254 : BitVec 32 := 256#32
  let v591 : BitVec 32 := Scalar.muli v258 c256_i32_254
  v591
def k0_mult289 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_256 : BitVec 32 := 256#32
  let v595 : BitVec 32 := Scalar.muli arg20 c256_i32_256
  v595
def k0_mult290 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c1_i32_132 : BitVec 32 := 1#32
  let v258 : BitVec 32 := Scalar.subi v256 c1_i32_132
  let c256_i32_260 : BitVec 32 := 256#32
  let v605 : BitVec 32 := Scalar.muli v258 c256_i32_260
  v605
def k0_mult291 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c1_i32_132 : BitVec 32 := 1#32
  let v258 : BitVec 32 := Scalar.subi v256 c1_i32_132
  let c256_i32_266 : BitVec 32 := 256#32
  let v621 : BitVec 32 := Scalar.muli v258 c256_i32_266
  v621
def k0_mult292 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c2_i32_133 : BitVec 32 := 2#32
  let v259 : BitVec 32 := Scalar.subi v256 c2_i32_133
  let c256_i32_271 : BitVec 32 := 256#32
  let v648 : BitVec 32 := Scalar.muli v259 c256_i32_271
  v648
def k0_mult293 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_273 : BitVec 32 := 256#32
  let v652 : BitVec 32 := Scalar.muli arg20 c256_i32_273
  v652
def k0_mult294 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c2_i32_133 : BitVec 32 := 2#32
  let v259 : BitVec 32 := Scalar.subi v256 c2_i32_133
  let c256_i32_277 : BitVec 32 := 256#32
  let v662 : BitVec 32 := Scalar.muli v259 c256_i32_277
  v662
def k0_mult295 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c2_i32_133 : BitVec 32 := 2#32
  let v259 : BitVec 32 := Scalar.subi v256 c2_i32_133
  let c256_i32_283 : BitVec 32 := 256#32
  let v678 : BitVec 32 := Scalar.muli v259 c256_i32_283
  v678
def k0_mult296 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c3_i32_134 : BitVec 32 := 3#32
  let v260 : BitVec 32 := Scalar.subi v256 c3_i32_134
  let c256_i32_288 : BitVec 32 := 256#32
  let v705 : BitVec 32 := Scalar.muli v260 c256_i32_288
  v705
def k0_mult297 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_290 : BitVec 32 := 256#32
  let v709 : BitVec 32 := Scalar.muli arg20 c256_i32_290
  v709
def k0_mult298 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c3_i32_134 : BitVec 32 := 3#32
  let v260 : BitVec 32 := Scalar.subi v256 c3_i32_134
  let c256_i32_294 : BitVec 32 := 256#32
  let v719 : BitVec 32 := Scalar.muli v260 c256_i32_294
  v719
def k0_mult299 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c3_i32_134 : BitVec 32 := 3#32
  let v260 : BitVec 32 := Scalar.subi v256 c3_i32_134
  let c256_i32_300 : BitVec 32 := 256#32
  let v735 : BitVec 32 := Scalar.muli v260 c256_i32_300
  v735
def k0_mult300 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c4_i32_135 : BitVec 32 := 4#32
  let v261 : BitVec 32 := Scalar.subi v256 c4_i32_135
  let c256_i32_305 : BitVec 32 := 256#32
  let v762 : BitVec 32 := Scalar.muli v261 c256_i32_305
  v762
def k0_mult301 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_307 : BitVec 32 := 256#32
  let v766 : BitVec 32 := Scalar.muli arg20 c256_i32_307
  v766
def k0_mult302 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c4_i32_135 : BitVec 32 := 4#32
  let v261 : BitVec 32 := Scalar.subi v256 c4_i32_135
  let c256_i32_311 : BitVec 32 := 256#32
  let v776 : BitVec 32 := Scalar.muli v261 c256_i32_311
  v776
def k0_mult303 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c4_i32_135 : BitVec 32 := 4#32
  let v261 : BitVec 32 := Scalar.subi v256 c4_i32_135
  let c256_i32_317 : BitVec 32 := 256#32
  let v792 : BitVec 32 := Scalar.muli v261 c256_i32_317
  v792
def k0_mult304 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c5_i32_136 : BitVec 32 := 5#32
  let v262 : BitVec 32 := Scalar.subi v256 c5_i32_136
  let c256_i32_322 : BitVec 32 := 256#32
  let v819 : BitVec 32 := Scalar.muli v262 c256_i32_322
  v819
def k0_mult305 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_324 : BitVec 32 := 256#32
  let v823 : BitVec 32 := Scalar.muli arg20 c256_i32_324
  v823
def k0_mult306 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c5_i32_136 : BitVec 32 := 5#32
  let v262 : BitVec 32 := Scalar.subi v256 c5_i32_136
  let c256_i32_328 : BitVec 32 := 256#32
  let v833 : BitVec 32 := Scalar.muli v262 c256_i32_328
  v833
def k0_mult307 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c5_i32_136 : BitVec 32 := 5#32
  let v262 : BitVec 32 := Scalar.subi v256 c5_i32_136
  let c256_i32_334 : BitVec 32 := 256#32
  let v849 : BitVec 32 := Scalar.muli v262 c256_i32_334
  v849
def k0_mult308 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c6_i32_137 : BitVec 32 := 6#32
  let v263 : BitVec 32 := Scalar.subi v256 c6_i32_137
  let c256_i32_339 : BitVec 32 := 256#32
  let v876 : BitVec 32 := Scalar.muli v263 c256_i32_339
  v876
def k0_mult309 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_341 : BitVec 32 := 256#32
  let v880 : BitVec 32 := Scalar.muli arg20 c256_i32_341
  v880
def k0_mult310 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c6_i32_137 : BitVec 32 := 6#32
  let v263 : BitVec 32 := Scalar.subi v256 c6_i32_137
  let c256_i32_345 : BitVec 32 := 256#32
  let v890 : BitVec 32 := Scalar.muli v263 c256_i32_345
  v890
def k0_mult311 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c6_i32_137 : BitVec 32 := 6#32
  let v263 : BitVec 32 := Scalar.subi v256 c6_i32_137
  let c256_i32_351 : BitVec 32 := 256#32
  let v906 : BitVec 32 := Scalar.muli v263 c256_i32_351
  v906
def k0_mult312 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c7_i32_138 : BitVec 32 := 7#32
  let v264 : BitVec 32 := Scalar.subi v256 c7_i32_138
  let c256_i32_356 : BitVec 32 := 256#32
  let v933 : BitVec 32 := Scalar.muli v264 c256_i32_356
  v933
def k0_mult313 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_358 : BitVec 32 := 256#32
  let v937 : BitVec 32 := Scalar.muli arg20 c256_i32_358
  v937
def k0_mult314 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c7_i32_138 : BitVec 32 := 7#32
  let v264 : BitVec 32 := Scalar.subi v256 c7_i32_138
  let c256_i32_362 : BitVec 32 := 256#32
  let v947 : BitVec 32 := Scalar.muli v264 c256_i32_362
  v947
def k0_mult315 (k0_t1 : Fin k0_t1_loop.trips) (k0_t3 : Fin (k0_t3_loop k0_t1).trips) : BitVec 32 :=
  let c0_i32 : BitVec 32 := 0#32
  let c1_i32 : BitVec 32 := 1#32
  let arg20 : BitVec 32 := Scf.iv c0_i32 c1_i32 k0_t1
  let c1_i32_104 : BitVec 32 := 1#32
  let v188 : BitVec 32 := Scalar.subi arg20 c1_i32_104
  let c8_i32_65 : BitVec 32 := 8#32
  let c0_i32_66 : BitVec 32 := 0#32
  let v138 : BitVec 1 := Scalar.cmpi .eq c8_i32_65 c0_i32_66
  let c1_i32_67 : BitVec 32 := 1#32
  let v139 : BitVec 32 := Scalar.select v138 c1_i32_67 c8_i32_65
  let v140 : BitVec 32 := Scalar.remsi arg20 v139
  let c0_i32_69 : BitVec 32 := 0#32
  let v142 : BitVec 1 := Scalar.cmpi .slt v140 c0_i32_69
  let c0_i32_70 : BitVec 32 := 0#32
  let v143 : BitVec 1 := Scalar.cmpi .slt v139 c0_i32_70
  let v144 : BitVec 1 := Scalar.xori v142 v143
  let c0_i32_68 : BitVec 32 := 0#32
  let v141 : BitVec 1 := Scalar.cmpi .ne v140 c0_i32_68
  let v145 : BitVec 1 := Scalar.andi v144 v141
  let v146 : BitVec 32 := Scalar.addi v140 v139
  let v147 : BitVec 32 := Scalar.select v145 v146 v140
  let v189 : BitVec 32 := Scalar.subi v188 v147
  let c8_i32_130 : BitVec 32 := 8#32
  let c0_i32_112 : BitVec 32 := 0#32
  let v190 : BitVec 32 := Scalar.subi arg20 v147
  let c0_i32_106 : BitVec 32 := 0#32
  let v192 : BitVec 1 := Scalar.cmpi .sgt v190 c0_i32_106
  let v193 : BitVec 32 := Scalar.extui v192
  let c0_i32_107 : BitVec 32 := 0#32
  let v194 : BitVec 1 := Scalar.cmpi .slt v190 c0_i32_107
  let v195 : BitVec 32 := Scalar.extui v194
  let v196 : BitVec 32 := Scalar.subi v193 v195
  let c8_i32_105 : BitVec 32 := 8#32
  let c0_i32_108 : BitVec 32 := 0#32
  let v197 : BitVec 1 := Scalar.cmpi .sgt c8_i32_105 c0_i32_108
  let v198 : BitVec 32 := Scalar.extui v197
  let c0_i32_109 : BitVec 32 := 0#32
  let v199 : BitVec 1 := Scalar.cmpi .slt c8_i32_105 c0_i32_109
  let v200 : BitVec 32 := Scalar.extui v199
  let v201 : BitVec 32 := Scalar.subi v198 v200
  let v202 : BitVec 1 := Scalar.cmpi .ne v196 v201
  let v203 : BitVec 32 := Scalar.remsi v190 c8_i32_105
  let c0_i32_110 : BitVec 32 := 0#32
  let v204 : BitVec 1 := Scalar.cmpi .ne v203 c0_i32_110
  let v205 : BitVec 1 := Scalar.andi v202 v204
  let v191 : BitVec 32 := Scalar.divsi v190 c8_i32_105
  let c1_i32_111 : BitVec 32 := 1#32
  let v206 : BitVec 32 := Scalar.subi v191 c1_i32_111
  let v207 : BitVec 32 := Scalar.select v205 v206 v191
  let v208 : BitVec 32 := Scalar.subi v207 c0_i32_112
  let c1_i32_113 : BitVec 32 := 1#32
  let v210 : BitVec 32 := Scalar.divsi v208 c1_i32_113
  let v211 : BitVec 32 := Scalar.muli v210 c1_i32_113
  let v212 : BitVec 32 := Scalar.addi c0_i32_112 v211
  let c1_i32_115 : BitVec 32 := 1#32
  let arg21 : BitVec 32 := Scf.iv v212 c1_i32_115 k0_t3
  let v255 : BitVec 32 := Scalar.muli c8_i32_130 arg21
  let v256 : BitVec 32 := Scalar.subi v189 v255
  let c7_i32_138 : BitVec 32 := 7#32
  let v264 : BitVec 32 := Scalar.subi v256 c7_i32_138
  let c256_i32_368 : BitVec 32 := 256#32
  let v963 : BitVec 32 := Scalar.muli v264 c256_i32_368
  v963
def k0_mult316 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_116 : BitVec 32 := 256#32
  let v215 : BitVec 32 := Scalar.muli arg20 c256_i32_116
  v215
def k0_mult317 (k0_t1 : Fin k0_t1_loop.trips) : BitVec 32 :=
  let c0_i32 : BitVec 32 := 0#32
  let c1_i32 : BitVec 32 := 1#32
  let arg20 : BitVec 32 := Scf.iv c0_i32 c1_i32 k0_t1
  let c256_i32_128 : BitVec 32 := 256#32
  let v251 : BitVec 32 := Scalar.muli arg20 c256_i32_128
  v251
def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "log2e" => some (((Real.log 2)⁻¹ : ℝ) : EReal)
  | "qk_scale_log2e" => some (((11863283 / 134217728) * (Real.log 2)⁻¹ : ℝ) : EReal)
  | _ => none
-- ==== ReferenceIdeal.lean ====
abbrev S2048x8192 : Shape := ⟨2, ![2048, 8192]⟩
abbrev S2048x1024 : Shape := ⟨2, ![2048, 1024]⟩
abbrev S1x128 : Shape := ⟨2, ![1, 128]⟩
abbrev S2048x8x128 : Shape := ⟨3, ![2048, 8, 128]⟩
abbrev S8x1x128 : Shape := ⟨3, ![8, 1, 128]⟩
abbrev S8x2048x128 : Shape := ⟨3, ![8, 2048, 128]⟩
abbrev S_ : Shape := ⟨0, ![]⟩
abbrev S8x2048 : Shape := ⟨2, ![8, 2048]⟩
abbrev S8x2048x1 : Shape := ⟨3, ![8, 2048, 1]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x128x2048 : Shape := ⟨3, ![8, 128, 2048]⟩
abbrev S8x128 : Shape := ⟨2, ![8, 128]⟩

abbrev nBuf : Space → Nat
  | .hbm => 222
  | .vmem => 0
  | .smem => 0
  | _ => 0

abbrev hbmTy0_0 (i : Nat) : BufTy := match i % 128 with
  | 0 => ⟨S2048x8192, .bf16⟩
  | 1 => ⟨S2048x1024, .bf16⟩
  | 2 => ⟨S1x128, .f32⟩
  | 3 => ⟨S1x128, .f32⟩
  | 4 => ⟨S2048x8192, .f32⟩
  | 5 => ⟨S2048x1024, .f32⟩
  | 6 => ⟨S2048x8x128, .f32⟩
  | 7 => ⟨S2048x1024, .f32⟩
  | 8 => ⟨S2048x8x128, .f32⟩
  | 9 => ⟨S2048x1024, .f32⟩
  | 10 => ⟨S2048x8x128, .f32⟩
  | 11 => ⟨S8x1x128, .f32⟩
  | 12 => ⟨S8x1x128, .f32⟩
  | 13 => ⟨S8x2048x128, .f32⟩
  | 14 => ⟨S8x2048x128, .f32⟩
  | 15 => ⟨S_, .f32⟩
  | 16 => ⟨S8x2048x128, .f32⟩
  | 17 => ⟨S8x2048x128, .f32⟩
  | 18 => ⟨S_, .f32⟩
  | 19 => ⟨S8x2048, .f32⟩
  | 20 => ⟨S8x2048x1, .f32⟩
  | 21 => ⟨S_, .f32⟩
  | 22 => ⟨S8x2048x1, .f32⟩
  | 23 => ⟨S8x2048x1, .f32⟩
  | 24 => ⟨S_, .f32⟩
  | 25 => ⟨S8x2048x1, .f32⟩
  | 26 => ⟨S8x2048x1, .f32⟩
  | 27 => ⟨S8x2048x1, .f32⟩
  | 28 => ⟨S8x2048x1, .f32⟩
  | 29 => ⟨S_, .f32⟩
  | 30 => ⟨S8x2048x1, .f32⟩
  | 31 => ⟨S8x2048x1, .f32⟩
  | 32 => ⟨S8x2048x128, .f32⟩
  | 33 => ⟨S8x2048x128, .f32⟩
  | 34 => ⟨S8x2048x128, .f32⟩
  | 35 => ⟨S8x2048x128, .f32⟩
  | 36 => ⟨S8x2048x128, .f32⟩
  | 37 => ⟨S8x2048x128, .f32⟩
  | 38 => ⟨S_, .f32⟩
  | 39 => ⟨S8x2048x128, .f32⟩
  | 40 => ⟨S8x2048x128, .f32⟩
  | 41 => ⟨S_, .f32⟩
  | 42 => ⟨S8x2048, .f32⟩
  | 43 => ⟨S8x2048x1, .f32⟩
  | 44 => ⟨S_, .f32⟩
  | 45 => ⟨S8x2048x1, .f32⟩
  | 46 => ⟨S8x2048x1, .f32⟩
  | 47 => ⟨S_, .f32⟩
  | 48 => ⟨S8x2048x1, .f32⟩
  | 49 => ⟨S8x2048x1, .f32⟩
  | 50 => ⟨S8x2048x1, .f32⟩
  | 51 => ⟨S8x2048x1, .f32⟩
  | 52 => ⟨S_, .f32⟩
  | 53 => ⟨S8x2048x1, .f32⟩
  | 54 => ⟨S8x2048x1, .f32⟩
  | 55 => ⟨S8x2048x128, .f32⟩
  | 56 => ⟨S8x2048x128, .f32⟩
  | 57 => ⟨S8x2048x128, .f32⟩
  | 58 => ⟨S8x2048x128, .f32⟩
  | 59 => ⟨S8x2048x128, .f32⟩
  | 60 => ⟨S8x2048x2048, .f32⟩
  | 61 => ⟨S_, .f32⟩
  | 62 => ⟨S8x2048x2048, .f32⟩
  | 63 => ⟨S8x2048x2048, .f32⟩
  | 64 => ⟨S2048, .i32⟩
  | 65 => ⟨S1x2048, .i32⟩
  | 66 => ⟨S2048x1, .i32⟩
  | 67 => ⟨S2048x2048, .i32⟩
  | 68 => ⟨S2048x2048, .i32⟩
  | 69 => ⟨S2048x2048, .i1⟩
  | 70 => ⟨S8x2048x2048, .f32⟩
  | 71 => ⟨S_, .f32⟩
  | 72 => ⟨S8x2048x2048, .f32⟩
  | 73 => ⟨S8x2048x2048, .f32⟩
  | 74 => ⟨S8x2048x2048, .f32⟩
  | 75 => ⟨S8x2048x2048, .f32⟩
  | 76 => ⟨S8x2048x2048, .i1⟩
  | 77 => ⟨S8x2048x2048, .f32⟩
  | 78 => ⟨S8x2048x2048, .f32⟩
  | 79 => ⟨S8x2048x2048, .f32⟩
  | 80 => ⟨S8x2048x2048, .f32⟩
  | 81 => ⟨S8x2048x2048, .f32⟩
  | 82 => ⟨S8x2048x2048, .f32⟩
  | 83 => ⟨S8x2048x2048, .f32⟩
  | 84 => ⟨S8x2048x2048, .f32⟩
  | 85 => ⟨S_, .f32⟩
  | 86 => ⟨S8x2048x2048, .f32⟩
  | 87 => ⟨S8x2048x2048, .i1⟩
  | 88 => ⟨S_, .f32⟩
  | 89 => ⟨S8x2048x2048, .f32⟩
  | 90 => ⟨S8x2048x2048, .f32⟩
  | 91 => ⟨S_, .f32⟩
  | 92 => ⟨S8x2048x2048, .f32⟩
  | 93 => ⟨S8x2048x2048, .i1⟩
  | 94 => ⟨S_, .f32⟩
  | 95 => ⟨S8x2048x2048, .f32⟩
  | 96 => ⟨S8x2048x2048, .f32⟩
  | 97 => ⟨S8x2048x2048, .f32⟩
  | 98 => ⟨S8x2048x2048, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S8x2048x2048, .f32⟩
  | 107 => ⟨S8x2048x2048, .i1⟩
  | 108 => ⟨S_, .f32⟩
  | 109 => ⟨S8x2048x2048, .f32⟩
  | 110 => ⟨S8x2048x2048, .f32⟩
  | 111 => ⟨S8x2048x2048, .f32⟩
  | 112 => ⟨S8x2048x2048, .f32⟩
  | 113 => ⟨S8x2048x2048, .f32⟩
  | 114 => ⟨S_, .f32⟩
  | 115 => ⟨S8x2048x2048, .f32⟩
  | 116 => ⟨S8x2048x2048, .f32⟩
  | 117 => ⟨S8x2048x2048, .f32⟩
  | 118 => ⟨S8x2048x2048, .f32⟩
  | 119 => ⟨S_, .f32⟩
  | 120 => ⟨S_, .f32⟩
  | 121 => ⟨S8x2048x2048, .i1⟩
  | 122 => ⟨S8x2048x2048, .f32⟩
  | 123 => ⟨S8x2048x2048, .f32⟩
  | 124 => ⟨S_, .f32⟩
  | 125 => ⟨S8x2048x2048, .f32⟩
  | 126 => ⟨S_, .f32⟩
  | 127 => ⟨S_, .f32⟩
  | _ => ⟨S2048x8192, .bf16⟩

abbrev hbmTy0_1 (i : Nat) : BufTy := match i % 128 with
  | 0 => ⟨S8x2048x2048, .f32⟩
  | 1 => ⟨S8x2048x2048, .f32⟩
  | 2 => ⟨S8x2048x2048, .f32⟩
  | 3 => ⟨S8x2048x2048, .f32⟩
  | 4 => ⟨S_, .f32⟩
  | 5 => ⟨S_, .f32⟩
  | 6 => ⟨S8x2048x2048, .i1⟩
  | 7 => ⟨S8x2048x2048, .f32⟩
  | 8 => ⟨S8x2048x2048, .f32⟩
  | 9 => ⟨S_, .f32⟩
  | 10 => ⟨S8x2048x2048, .f32⟩
  | 11 => ⟨S8x2048x128, .f32⟩
  | 12 => ⟨S2048x8x128, .f32⟩
  | 13 => ⟨S2048x1024, .f32⟩
  | 14 => ⟨S2048x1024, .f32⟩
  | 15 => ⟨S2048x8x128, .f32⟩
  | 16 => ⟨S8x2048x128, .f32⟩
  | 17 => ⟨S8x128x2048, .f32⟩
  | 18 => ⟨S8x2048x128, .f32⟩
  | 19 => ⟨S8x2048x2048, .f32⟩
  | 20 => ⟨S_, .f32⟩
  | 21 => ⟨S8x2048x2048, .f32⟩
  | 22 => ⟨S8x2048x2048, .f32⟩
  | 23 => ⟨S8x2048x2048, .f32⟩
  | 24 => ⟨S8x2048x2048, .f32⟩
  | 25 => ⟨S_, .f32⟩
  | 26 => ⟨S_, .f32⟩
  | 27 => ⟨S8x2048x2048, .f32⟩
  | 28 => ⟨S8x2048x2048, .f32⟩
  | 29 => ⟨S_, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S8x2048x2048, .f32⟩
  | 38 => ⟨S_, .f32⟩
  | 39 => ⟨S8x2048x2048, .f32⟩
  | 40 => ⟨S8x2048x2048, .f32⟩
  | 41 => ⟨S8x2048x128, .f32⟩
  | 42 => ⟨S8x2048x128, .f32⟩
  | 43 => ⟨S2048x8x128, .f32⟩
  | 44 => ⟨S8x2048x128, .f32⟩
  | 45 => ⟨S_, .f32⟩
  | 46 => ⟨S8x128, .f32⟩
  | 47 => ⟨S8x1x128, .f32⟩
  | 48 => ⟨S8x2048x128, .f32⟩
  | 49 => ⟨S8x2048x128, .f32⟩
  | 50 => ⟨S8x2048x128, .f32⟩
  | 51 => ⟨S_, .f32⟩
  | 52 => ⟨S8x2048, .f32⟩
  | 53 => ⟨S8x2048x1, .f32⟩
  | 54 => ⟨S8x2048x128, .f32⟩
  | 55 => ⟨S8x2048x128, .f32⟩
  | 56 => ⟨S8x2048x1, .f32⟩
  | 57 => ⟨S_, .f32⟩
  | 58 => ⟨S8x2048x1, .f32⟩
  | 59 => ⟨S8x2048x1, .f32⟩
  | 60 => ⟨S_, .f32⟩
  | 61 => ⟨S8x2048, .f32⟩
  | 62 => ⟨S8x2048x128, .f32⟩
  | 63 => ⟨S8x2048x128, .f32⟩
  | 64 => ⟨S8x2048x128, .f32⟩
  | 65 => ⟨S2048x8x128, .f32⟩
  | 66 => ⟨S8x2048x128, .f32⟩
  | 67 => ⟨S_, .f32⟩
  | 68 => ⟨S8x128, .f32⟩
  | 69 => ⟨S8x1x128, .f32⟩
  | 70 => ⟨S8x2048x128, .f32⟩
  | 71 => ⟨S8x2048x128, .f32⟩
  | 72 => ⟨S8x2048x128, .f32⟩
  | 73 => ⟨S_, .f32⟩
  | 74 => ⟨S8x2048, .f32⟩
  | 75 => ⟨S8x2048x1, .f32⟩
  | 76 => ⟨S8x2048x128, .f32⟩
  | 77 => ⟨S8x2048x128, .f32⟩
  | 78 => ⟨S8x2048x1, .f32⟩
  | 79 => ⟨S_, .f32⟩
  | 80 => ⟨S8x2048x1, .f32⟩
  | 81 => ⟨S8x2048x1, .f32⟩
  | 82 => ⟨S_, .f32⟩
  | 83 => ⟨S8x2048, .f32⟩
  | 84 => ⟨S8x2048x128, .f32⟩
  | 85 => ⟨S8x2048x128, .f32⟩
  | 86 => ⟨S8x2048x128, .f32⟩
  | 87 => ⟨S2048x8x128, .f32⟩
  | 88 => ⟨S2048x1024, .f32⟩
  | 89 => ⟨S2048x1024, .bf16⟩
  | 90 => ⟨S2048x1024, .f32⟩
  | 91 => ⟨S2048x1024, .bf16⟩
  | 92 => ⟨S2048x1024, .f32⟩
  | 93 => ⟨S2048x1024, .bf16⟩
  | _ => ⟨S2048x8192, .bf16⟩

abbrev hbmTy (i : Nat) : BufTy := match i / 128 with
  | 0 => hbmTy0_0 i
  | 1 => hbmTy0_1 i
  | _ => ⟨S2048x8192, .bf16⟩

abbrev bufTy : (tb : Table) → Fin (tcTables nBuf tb) → BufTy
  | .hbm, ⟨i, _⟩ => hbmTy i
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_8 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_9 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_call0_v0 : Ref sig .tc := ⟨.hbm, 70, rfl⟩
abbrev main_call0_call0_cst : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_call0_v2 : Ref sig .tc := ⟨.hbm, 74, rfl⟩
abbrev main_call0_call0_v3 : Ref sig .tc := ⟨.hbm, 75, rfl⟩
abbrev main_call0_call0_v4 : Ref sig .tc := ⟨.hbm, 76, rfl⟩
abbrev main_call0_call0_v5 : Ref sig .tc := ⟨.hbm, 77, rfl⟩
abbrev main_call0_call0_v6 : Ref sig .tc := ⟨.hbm, 78, rfl⟩
abbrev main_call0_call0_v7 : Ref sig .tc := ⟨.hbm, 79, rfl⟩
abbrev main_call0_call0_v8 : Ref sig .tc := ⟨.hbm, 80, rfl⟩
abbrev main_call0_call0_v9 : Ref sig .tc := ⟨.hbm, 81, rfl⟩
abbrev main_call0_call0_v10 : Ref sig .tc := ⟨.hbm, 82, rfl⟩
abbrev main_call0_call0_v11 : Ref sig .tc := ⟨.hbm, 83, rfl⟩
abbrev main_call0_v1_0 : Ref sig .tc := ⟨.hbm, 84, rfl⟩
abbrev main_call0_call0_cst_0 : Ref sig .tc := ⟨.hbm, 85, rfl⟩
abbrev main_call0_call0_v13 : Ref sig .tc := ⟨.hbm, 86, rfl⟩
abbrev main_call0_call0_v14 : Ref sig .tc := ⟨.hbm, 87, rfl⟩
abbrev main_call0_call0_cst_1 : Ref sig .tc := ⟨.hbm, 88, rfl⟩
abbrev main_call0_call0_v15 : Ref sig .tc := ⟨.hbm, 89, rfl⟩
abbrev main_call0_call0_v16 : Ref sig .tc := ⟨.hbm, 90, rfl⟩
abbrev main_call0_call0_cst_2 : Ref sig .tc := ⟨.hbm, 91, rfl⟩
abbrev main_call0_call0_v17 : Ref sig .tc := ⟨.hbm, 92, rfl⟩
abbrev main_call0_call0_v18 : Ref sig .tc := ⟨.hbm, 93, rfl⟩
abbrev main_call0_call0_cst_3 : Ref sig .tc := ⟨.hbm, 94, rfl⟩
abbrev main_call0_call0_v19 : Ref sig .tc := ⟨.hbm, 95, rfl⟩
abbrev main_call0_call0_v20 : Ref sig .tc := ⟨.hbm, 96, rfl⟩
abbrev main_call0_call0_v21 : Ref sig .tc := ⟨.hbm, 97, rfl⟩
abbrev main_v55_1 : Ref sig .tc := ⟨.hbm, 98, rfl⟩
abbrev main_call0_call0_cst_4 : Ref sig .tc := ⟨.hbm, 99, rfl⟩
abbrev main_call0_call0_cst_5 : Ref sig .tc := ⟨.hbm, 100, rfl⟩
abbrev main_call0_call0_v23 : Ref sig .tc := ⟨.hbm, 101, rfl⟩
abbrev main_call0_call0_cst_6 : Ref sig .tc := ⟨.hbm, 102, rfl⟩
abbrev main_call0_call0_cst_7 : Ref sig .tc := ⟨.hbm, 103, rfl⟩
abbrev main_call0_call0_v24 : Ref sig .tc := ⟨.hbm, 104, rfl⟩
abbrev main_call0_call0_cst_8 : Ref sig .tc := ⟨.hbm, 105, rfl⟩
abbrev main_call0_call0_v25 : Ref sig .tc := ⟨.hbm, 106, rfl⟩
abbrev main_call0_call0_v26 : Ref sig .tc := ⟨.hbm, 107, rfl⟩
abbrev main_call0_call0_cst_9 : Ref sig .tc := ⟨.hbm, 108, rfl⟩
abbrev main_call0_call0_v27 : Ref sig .tc := ⟨.hbm, 109, rfl⟩
abbrev main_call0_call0_v28 : Ref sig .tc := ⟨.hbm, 110, rfl⟩
abbrev main_call0_call0_v29 : Ref sig .tc := ⟨.hbm, 111, rfl⟩
abbrev main_call0_call0_v30 : Ref sig .tc := ⟨.hbm, 112, rfl⟩
abbrev main_call0_call0_v31 : Ref sig .tc := ⟨.hbm, 113, rfl⟩
abbrev main_call0_call0_cst_10 : Ref sig .tc := ⟨.hbm, 114, rfl⟩
abbrev main_call0_call0_v32 : Ref sig .tc := ⟨.hbm, 115, rfl⟩
abbrev main_v55_2 : Ref sig .tc := ⟨.hbm, 116, rfl⟩
abbrev main_v55_0 : Ref sig .tc := ⟨.hbm, 117, rfl⟩
abbrev main_v56 : Ref sig .tc := ⟨.hbm, 118, rfl⟩
abbrev main_cst_10 : Ref sig .tc := ⟨.hbm, 119, rfl⟩
abbrev main_call1_v0 : Ref sig .tc := ⟨.hbm, 120, rfl⟩
abbrev main_v57_1 : Ref sig .tc := ⟨.hbm, 121, rfl⟩
abbrev main_call1_v2 : Ref sig .tc := ⟨.hbm, 122, rfl⟩
abbrev main_v57_0 : Ref sig .tc := ⟨.hbm, 123, rfl⟩
abbrev main_call1_cst : Ref sig .tc := ⟨.hbm, 124, rfl⟩
abbrev main_v57_2 : Ref sig .tc := ⟨.hbm, 125, rfl⟩
abbrev main_call2_cst : Ref sig .tc := ⟨.hbm, 126, rfl⟩
abbrev main_call2_v0 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_cst_11 : Ref sig .tc := ⟨.hbm, 132, rfl⟩
abbrev main_call3_v0 : Ref sig .tc := ⟨.hbm, 133, rfl⟩
abbrev main_v62_1 : Ref sig .tc := ⟨.hbm, 134, rfl⟩
abbrev main_call3_v2 : Ref sig .tc := ⟨.hbm, 135, rfl⟩
abbrev main_v62_0 : Ref sig .tc := ⟨.hbm, 136, rfl⟩
abbrev main_call3_cst : Ref sig .tc := ⟨.hbm, 137, rfl⟩
abbrev main_v62_2 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_call4_cst : Ref sig .tc := ⟨.hbm, 148, rfl⟩
abbrev main_call4_v0 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_call5_cst : Ref sig .tc := ⟨.hbm, 153, rfl⟩
abbrev main_call5_v0 : Ref sig .tc := ⟨.hbm, 154, rfl⟩
abbrev main_v75 : Ref sig .tc := ⟨.hbm, 155, rfl⟩
abbrev main_v76 : Ref sig .tc := ⟨.hbm, 156, rfl⟩
abbrev main_call6_cst : Ref sig .tc := ⟨.hbm, 157, rfl⟩
abbrev main_call6_v0 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_call7_v0 : Ref sig .tc := ⟨.hbm, 162, rfl⟩
abbrev main_call7_v1 : Ref sig .tc := ⟨.hbm, 163, rfl⟩
abbrev main_v80 : Ref sig .tc := ⟨.hbm, 164, rfl⟩
abbrev main_v81 : Ref sig .tc := ⟨.hbm, 165, rfl⟩
abbrev main_cst_12 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_cst_13 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_v92 : Ref sig .tc := ⟨.hbm, 178, rfl⟩
abbrev main_cst_14 : Ref sig .tc := ⟨.hbm, 179, rfl⟩
abbrev main_v93 : Ref sig .tc := ⟨.hbm, 180, rfl⟩
abbrev main_v94 : Ref sig .tc := ⟨.hbm, 181, rfl⟩
abbrev main_v95 : Ref sig .tc := ⟨.hbm, 182, rfl⟩
abbrev main_v96 : Ref sig .tc := ⟨.hbm, 183, rfl⟩
abbrev main_v97 : Ref sig .tc := ⟨.hbm, 184, rfl⟩
abbrev main_cst_15 : Ref sig .tc := ⟨.hbm, 185, rfl⟩
abbrev main_v98 : Ref sig .tc := ⟨.hbm, 186, rfl⟩
abbrev main_v99 : Ref sig .tc := ⟨.hbm, 187, rfl⟩
abbrev main_cst_16 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_cst_17 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_cst_18 : Ref sig .tc := ⟨.hbm, 201, rfl⟩
abbrev main_v111 : Ref sig .tc := ⟨.hbm, 202, rfl⟩
abbrev main_v112 : Ref sig .tc := ⟨.hbm, 203, rfl⟩
abbrev main_v113 : Ref sig .tc := ⟨.hbm, 204, rfl⟩
abbrev main_v114 : Ref sig .tc := ⟨.hbm, 205, rfl⟩
abbrev main_v115 : Ref sig .tc := ⟨.hbm, 206, rfl⟩
abbrev main_cst_19 : Ref sig .tc := ⟨.hbm, 207, rfl⟩
abbrev main_v116 : Ref sig .tc := ⟨.hbm, 208, rfl⟩
abbrev main_v117 : Ref sig .tc := ⟨.hbm, 209, rfl⟩
abbrev main_cst_20 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩

abbrev nD : Nat := 1
abbrev τ : Topo := Topo.v7x

variable {F : FTy → Type} [FloatOps F]
-- ==== Hidden.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S2048x8192, .bf16⟩
  | .local _ .vmem, ⟨0, _⟩ => ⟨S2048x2048, .bf16⟩
  | .local _ .vmem, ⟨1, _⟩ => ⟨S1024x2048, .bf16⟩
  | .local _ .vmem, ⟨2, _⟩ => ⟨S1024x2048, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HiddenRefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .i1⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S_, .f32⟩
  | .hbm, ⟨14, _⟩ => ⟨S2048x8192, .f32⟩
  | .hbm, ⟨15, _⟩ => ⟨S2048x8192, .f32⟩
  | .hbm, ⟨16, _⟩ => ⟨S2048x2048, .f32⟩
  | .hbm, ⟨17, _⟩ => ⟨S2048x2048, .f32⟩
  | .hbm, ⟨18, _⟩ => ⟨S2048x8192, .f32⟩
  | .hbm, ⟨19, _⟩ => ⟨S8192x2048, .f32⟩
  | .hbm, ⟨20, _⟩ => ⟨S2048x8192, .f32⟩
  | .hbm, ⟨21, _⟩ => ⟨S2048x8192, .f32⟩
  | .hbm, ⟨22, _⟩ => ⟨S_, .f32⟩
  | .hbm, ⟨23, _⟩ => ⟨S2048x8192, .f32⟩
  | .hbm, ⟨24, _⟩ => ⟨S2048x8192, .f32⟩
  | .hbm, ⟨25, _⟩ => ⟨S2048x8192, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== GradFf2.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩
abbrev S2048x512 : Shape := ⟨2, ![2048, 512]⟩
abbrev S512x2048 : Shape := ⟨2, ![512, 2048]⟩

abbrev nBuf : Space → Nat
  | .hbm => 8
  | .vmem => 5
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .bf16⟩
  | .hbm, ⟨7, _⟩ => ⟨S8192x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFf2RefIdeal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S_, .f32⟩
  | .hbm, ⟨5, _⟩ => ⟨S2048x8192, .f32⟩
  | .hbm, ⟨6, _⟩ => ⟨S2048x8192, .f32⟩
  | .hbm, ⟨7, _⟩ => ⟨S_, .f32⟩
  | .hbm, ⟨8, _⟩ => ⟨S2048x8192, .f32⟩
  | .hbm, ⟨9, _⟩ => ⟨S2048x8192, .i1⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S_, .f32⟩
  | .hbm, ⟨14, _⟩ => ⟨S2048x8192, .f32⟩
  | .hbm, ⟨15, _⟩ => ⟨S2048x8192, .f32⟩
  | .hbm, ⟨16, _⟩ => ⟨S2048x2048, .f32⟩
  | .hbm, ⟨17, _⟩ => ⟨S2048x2048, .f32⟩
  | .hbm, ⟨18, _⟩ => ⟨S2048x8192, .f32⟩
  | .hbm, ⟨19, _⟩ => ⟨S8192x2048, .f32⟩
  | .hbm, ⟨20, _⟩ => ⟨S2048x8192, .f32⟩
  | .hbm, ⟨21, _⟩ => ⟨S2048x8192, .f32⟩
  | .hbm, ⟨22, _⟩ => ⟨S_, .f32⟩
  | .hbm, ⟨23, _⟩ => ⟨S2048x8192, .f32⟩
  | .hbm, ⟨24, _⟩ => ⟨S2048x8192, .f32⟩
  | .hbm, ⟨25, _⟩ => ⟨S8192x2048, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== GradFf1.lean ====
abbrev S2048x2048 : Shape := ⟨2, ![2048, 2048]⟩
abbrev S2048x8192 : Shape := ⟨2, ![2048, 8192]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S2048x8192, .bf16⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradFf1RefIdeal.lean ====
abbrev S2048x2048 : Shape := ⟨2, ![2048, 2048]⟩
abbrev S2048x8192 : Shape := ⟨2, ![2048, 8192]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x2048, .f32⟩
  | .hbm, ⟨10, _⟩ => ⟨S2048x8192, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GradH2.lean ====
abbrev S2048x2048 : Shape := ⟨2, ![2048, 2048]⟩
abbrev S2048x8192 : Shape := ⟨2, ![2048, 8192]⟩
abbrev S1024x4096 : Shape := ⟨2, ![1024, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradH2RefIdeal.lean ====
abbrev S2048x2048 : Shape := ⟨2, ![2048, 2048]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8192, .bf16⟩
  | .hbm, ⟨2, _⟩ => ⟨S2048x8192, .bf16⟩
  | .hbm, ⟨3, _⟩ => ⟨S2048x2048, .f32⟩
  | .hbm, ⟨4, _⟩ => ⟨S2048x8192, .f32⟩
  | .hbm, ⟨5, _⟩ => ⟨S2048x8192, .f32⟩
  | .hbm, ⟨6, _⟩ => ⟨S2048x8192, .f32⟩
  | .hbm, ⟨7, _⟩ => ⟨S8192x2048, .f32⟩
  | .hbm, ⟨8, _⟩ => ⟨S2048x8192, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradO.lean ====
abbrev S2048x2048 : Shape := ⟨2, ![2048, 2048]⟩
abbrev S2048x1024 : Shape := ⟨2, ![2048, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .local _ .vmem, ⟨0, _⟩ => ⟨S2048x2048, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradORefIdeal.lean ====
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Gates.lean ====
abbrev S2048x8192 : Shape := ⟨2, ![2048, 8192]⟩
abbrev S2048x2048 : Shape := ⟨2, ![2048, 2048]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== GatesRefIdeal.lean ====
abbrev S2048x8192 : Shape := ⟨2, ![2048, 8192]⟩
abbrev S2048x2048 : Shape := ⟨2, ![2048, 2048]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S2048x2048, .bf16⟩
  | .hbm, ⟨2, _⟩ => ⟨S2048x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S_, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .bf16⟩
  | .hbm, ⟨51, _⟩ => ⟨S2048x2048, .bf16⟩
  | .hbm, ⟨52, _⟩ => ⟨S2048x2048, .bf16⟩
  | .hbm, ⟨53, _⟩ => ⟨S2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩

abbrev nD : Nat := 1
abbrev τ : Topo := Topo.v7x

variable {F : FTy → Type} [FloatOps F]
-- ==== GradUp.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩

abbrev nBuf : Space → Nat
  | .hbm => 8
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .bf16⟩
  | .hbm, ⟨3, _⟩ => ⟨S1024x2048, .bf16⟩
  | .hbm, ⟨4, _⟩ => ⟨S2048x2048, .bf16⟩
  | .hbm, ⟨5, _⟩ => ⟨S2048x2048, .bf16⟩
  | .hbm, ⟨6, _⟩ => ⟨S1024x2048, .bf16⟩
  | .hbm, ⟨7, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GradUpRefIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .bf16⟩
  | .hbm, ⟨3, _⟩ => ⟨S1024x2048, .bf16⟩
  | .hbm, ⟨4, _⟩ => ⟨S2048x2048, .bf16⟩
  | .hbm, ⟨5, _⟩ => ⟨S2048x2048, .bf16⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S1024x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x1024, .f32⟩
  | .hbm, ⟨15, _⟩ => ⟨S1024x2048, .f32⟩
  | .hbm, ⟨16, _⟩ => ⟨S2048x1024, .f32⟩
  | .hbm, ⟨17, _⟩ => ⟨S2048x1024, .f32⟩
  | .hbm, ⟨18, _⟩ => ⟨S1024x2048, .f32⟩
  | .hbm, ⟨19, _⟩ => ⟨S2048x1024, .f32⟩
  | .hbm, ⟨20, _⟩ => ⟨S1024x2048, .bf16⟩
  | .hbm, ⟨21, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Branches.lean ====
abbrev S2048x1024 : Shape := ⟨2, ![2048, 1024]⟩
abbrev S1024x2048 : Shape := ⟨2, ![1024, 2048]⟩
abbrev S2048x2048 : Shape := ⟨2, ![2048, 2048]⟩
abbrev S512x2048 : Shape := ⟨2, ![512, 2048]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .bf16⟩
  | .hbm, ⟨3, _⟩ => ⟨S1024x2048, .bf16⟩
  | .hbm, ⟨4, _⟩ => ⟨S2048x2048, .bf16⟩
  | .hbm, ⟨5, _⟩ => ⟨S2048x2048, .bf16⟩
  | .hbm, ⟨6, _⟩ => ⟨S2048x1024, .f32⟩
  | .hbm, ⟨7, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== BranchesRefIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .bf16⟩
  | .hbm, ⟨3, _⟩ => ⟨S1024x2048, .bf16⟩
  | .hbm, ⟨4, _⟩ => ⟨S2048x2048, .bf16⟩
  | .hbm, ⟨5, _⟩ => ⟨S2048x2048, .bf16⟩
  | .hbm, ⟨6, _⟩ => ⟨S2048x1024, .f32⟩
  | .hbm, ⟨7, _⟩ => ⟨S1024x2048, .f32⟩
  | .hbm, ⟨8, _⟩ => ⟨S2048x1024, .f32⟩
  | .hbm, ⟨9, _⟩ => ⟨S1024x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x1024, .f32⟩
  | .hbm, ⟨15, _⟩ => ⟨S1024x2048, .f32⟩
  | .hbm, ⟨16, _⟩ => ⟨S2048x1024, .f32⟩
  | .hbm, ⟨17, _⟩ => ⟨S2048x1024, .f32⟩
  | .hbm, ⟨18, _⟩ => ⟨S1024x2048, .f32⟩
  | .hbm, ⟨19, _⟩ => ⟨S2048x1024, .f32⟩
  | .hbm, ⟨20, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Loss.lean ====
abbrev S2048x8192 : Shape := ⟨2, ![2048, 8192]⟩
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S2x1x2048 : Shape := ⟨3, ![2, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩
abbrev S1x1x1024 : Shape := ⟨3, ![1, 1, 1024]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S_, .f32⟩
  | .hbm, ⟨6, _⟩ => ⟨S2048x8192, .f32⟩
  | .hbm, ⟨7, _⟩ => ⟨S2048x8192, .f32⟩
  | .hbm, ⟨8, _⟩ => ⟨S2048x8192, .bf16⟩
  | .hbm, ⟨9, _⟩ => ⟨S2048x2048, .f32⟩
  | .hbm, ⟨10, _⟩ => ⟨S2048x2048, .bf16⟩
  | .hbm, ⟨11, _⟩ => ⟨S2x1x2048, .f32⟩
  | .hbm, ⟨12, _⟩ => ⟨S2x1x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== LossRefIdeal.lean ====
abbrev S2048x8192 : Shape := ⟨2, ![2048, 8192]⟩
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S2x1x2048 : Shape := ⟨3, ![2, 1, 2048]⟩
abbrev S2x1024x2048 : Shape := ⟨3, ![2, 1024, 2048]⟩
abbrev S2x1024 : Shape := ⟨2, ![2, 1024]⟩
abbrev S2x2048 : Shape := ⟨2, ![2, 2048]⟩

abbrev nBuf : Space → Nat
  | .hbm => 61
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .bf16⟩
  | .hbm, ⟨2, _⟩ => ⟨S2048x2048, .f32⟩
  | .hbm, ⟨3, _⟩ => ⟨S2048x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S2048x8192, .f32⟩
  | .hbm, ⟨8, _⟩ => ⟨S2048x8192, .f32⟩
  | .hbm, ⟨9, _⟩ => ⟨S2048x8192, .f32⟩
  | .hbm, ⟨10, _⟩ => ⟨S2048x2048, .f32⟩
  | .hbm, ⟨11, _⟩ => ⟨S2x1x2048, .f32⟩
  | .hbm, ⟨12, _⟩ => ⟨S2x1024x2048, .f32⟩
  | .hbm, ⟨13, _⟩ => ⟨S2x1024x2048, .f32⟩
  | .hbm, ⟨14, _⟩ => ⟨S2x1024x2048, .f32⟩
  | .hbm, ⟨15, _⟩ => ⟨S2x1024x2048, .f32⟩
  | .hbm, ⟨16, _⟩ => ⟨S2x1024x2048, .f32⟩
  | .hbm, ⟨17, _⟩ => ⟨S2x1024x2048, .f32⟩
  | .hbm, ⟨18, _⟩ => ⟨S2x1024x2048, .f32⟩
  | .hbm, ⟨19, _⟩ => ⟨S2x1024x2048, .f32⟩
  | .hbm, ⟨20, _⟩ => ⟨S_, .f32⟩
  | .hbm, ⟨21, _⟩ => ⟨S2x1024x2048, .f32⟩
  | .hbm, ⟨22, _⟩ => ⟨S2x1024x2048, .f32⟩
  | .hbm, ⟨23, _⟩ => ⟨S_, .f32⟩
  | .hbm, ⟨24, _⟩ => ⟨S2x1024, .f32⟩
  | .hbm, ⟨25, _⟩ => ⟨S_, .f32⟩
  | .hbm, ⟨26, _⟩ => ⟨S2x1024, .f32⟩
  | .hbm, ⟨27, _⟩ => ⟨S2x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S2x1024, .f32⟩
  | .hbm, ⟨36, _⟩ => ⟨S_, .f32⟩
  | .hbm, ⟨37, _⟩ => ⟨S2x1024, .f32⟩
  | .hbm, ⟨38, _⟩ => ⟨S2x1024, .f32⟩
  | .hbm, ⟨39, _⟩ => ⟨S2x1024x2048, .f32⟩
  | .hbm, ⟨40, _⟩ => ⟨S2x1024x2048, .f32⟩
  | .hbm, ⟨41, _⟩ => ⟨S2x1024x2048, .f32⟩
  | .hbm, ⟨42, _⟩ => ⟨S2x1024x2048, .f32⟩
  | .hbm, ⟨43, _⟩ => ⟨S2x1024x2048, .f32⟩
  | .hbm, ⟨44, _⟩ => ⟨S_, .f32⟩
  | .hbm, ⟨45, _⟩ => ⟨S2x2048, .f32⟩
  | .hbm, ⟨46, _⟩ => ⟨S2x1x2048, .f32⟩
  | .hbm, ⟨47, _⟩ => ⟨S2048x2048, .f32⟩
  | .hbm, ⟨48, _⟩ => ⟨S2048x2048, .f32⟩
  | .hbm, ⟨49, _⟩ => ⟨S2048x2048, .bf16⟩
  | .hbm, ⟨50, _⟩ => ⟨S2x1024x2048, .f32⟩
  | .hbm, ⟨51, _⟩ => ⟨S2x1024x2048, .f32⟩
  | .hbm, ⟨52, _⟩ => ⟨S2x1024x2048, .f32⟩
  | .hbm, ⟨53, _⟩ => ⟨S2x1024x2048, .f32⟩
  | .hbm, ⟨54, _⟩ => ⟨S2x1024x2048, .f32⟩
  | .hbm, ⟨55, _⟩ => ⟨S2x1024x2048, .f32⟩
  | .hbm, ⟨56, _⟩ => ⟨S2x1024x2048, .f32⟩
  | .hbm, ⟨57, _⟩ => ⟨S2x1024x2048, .f32⟩
  | .hbm, ⟨58, _⟩ => ⟨S_, .f32⟩
  | .hbm, ⟨59, _⟩ => ⟨S2x2048, .f32⟩
  | .hbm, ⟨60, _⟩ => ⟨S2x1x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== Norm.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S2048x2048, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== GradNorm1.lean ====
abbrev S2048x2048 : Shape := ⟨2, ![2048, 2048]⟩
abbrev S1x2048 : Shape := ⟨2, ![1, 2048]⟩
abbrev S8x1x2048 : Shape := ⟨3, ![8, 1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GradNorm1RefIdeal.lean ====
abbrev S2048x2048 : Shape := ⟨2, ![2048, 2048]⟩
abbrev S1x2048 : Shape := ⟨2, ![1, 2048]⟩
abbrev S8x256x2048 : Shape := ⟨3, ![8, 256, 2048]⟩
abbrev S8x1x2048 : Shape := ⟨3, ![8, 1, 2048]⟩
abbrev S_ : Shape := ⟨0, ![]⟩
abbrev S8x256 : Shape := ⟨2, ![8, 256]⟩
abbrev S8x256x1 : Shape := ⟨3, ![8, 256, 1]⟩
abbrev S8x2048 : Shape := ⟨2, ![8, 2048]⟩

abbrev nBuf : Space → Nat
  | .hbm => 73
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S8x256x2048, .f32⟩
  | .hbm, ⟨6, _⟩ => ⟨S8x256x2048, .f32⟩
  | .hbm, ⟨7, _⟩ => ⟨S8x256x2048, .f32⟩
  | .hbm, ⟨8, _⟩ => ⟨S8x1x2048, .f32⟩
  | .hbm, ⟨9, _⟩ => ⟨S8x1x2048, .f32⟩
  | .hbm, ⟨10, _⟩ => ⟨S_, .f32⟩
  | .hbm, ⟨11, _⟩ => ⟨S8x1x2048, .f32⟩
  | .hbm, ⟨12, _⟩ => ⟨S8x256x2048, .f32⟩
  | .hbm, ⟨13, _⟩ => ⟨S_, .f32⟩
  | .hbm, ⟨14, _⟩ => ⟨S8x256x2048, .f32⟩
  | .hbm, ⟨15, _⟩ => ⟨S8x256x2048, .f32⟩
  | .hbm, ⟨16, _⟩ => ⟨S_, .f32⟩
  | .hbm, ⟨17, _⟩ => ⟨S8x256, .f32⟩
  | .hbm, ⟨18, _⟩ => ⟨S8x256x1, .f32⟩
  | .hbm, ⟨19, _⟩ => ⟨S_, .f32⟩
  | .hbm, ⟨20, _⟩ => ⟨S8x256x1, .f32⟩
  | .hbm, ⟨21, _⟩ => ⟨S8x256x1, .f32⟩
  | .hbm, ⟨22, _⟩ => ⟨S_, .f32⟩
  | .hbm, ⟨23, _⟩ => ⟨S8x256x1, .f32⟩
  | .hbm, ⟨24, _⟩ => ⟨S8x256x1, .f32⟩
  | .hbm, ⟨25, _⟩ => ⟨S8x256x1, .f32⟩
  | .hbm, ⟨26, _⟩ => ⟨S8x256x1, .f32⟩
  | .hbm, ⟨27, _⟩ => ⟨S_, .f32⟩
  | .hbm, ⟨28, _⟩ => ⟨S8x256x1, .f32⟩
  | .hbm, ⟨29, _⟩ => ⟨S8x256x1, .f32⟩
  | .hbm, ⟨30, _⟩ => ⟨S8x256x2048, .f32⟩
  | .hbm, ⟨31, _⟩ => ⟨S8x256x2048, .f32⟩
  | .hbm, ⟨32, _⟩ => ⟨S8x256x2048, .f32⟩
  | .hbm, ⟨33, _⟩ => ⟨S8x256x2048, .f32⟩
  | .hbm, ⟨34, _⟩ => ⟨S_, .f32⟩
  | .hbm, ⟨35, _⟩ => ⟨S8x1x2048, .f32⟩
  | .hbm, ⟨36, _⟩ => ⟨S8x1x2048, .f32⟩
  | .hbm, ⟨37, _⟩ => ⟨S8x256x2048, .f32⟩
  | .hbm, ⟨38, _⟩ => ⟨S8x256x2048, .f32⟩
  | .hbm, ⟨39, _⟩ => ⟨S8x256x2048, .f32⟩
  | .hbm, ⟨40, _⟩ => ⟨S8x256x2048, .f32⟩
  | .hbm, ⟨41, _⟩ => ⟨S_, .f32⟩
  | .hbm, ⟨42, _⟩ => ⟨S8x2048, .f32⟩
  | .hbm, ⟨43, _⟩ => ⟨S8x1x2048, .f32⟩
  | .hbm, ⟨44, _⟩ => ⟨S8x256x2048, .f32⟩
  | .hbm, ⟨45, _⟩ => ⟨S_, .f32⟩
  | .hbm, ⟨46, _⟩ => ⟨S8x2048, .f32⟩
  | .hbm, ⟨47, _⟩ => ⟨S8x1x2048, .f32⟩
  | .hbm, ⟨48, _⟩ => ⟨S8x256x2048, .f32⟩
  | .hbm, ⟨49, _⟩ => ⟨S8x256x2048, .f32⟩
  | .hbm, ⟨50, _⟩ => ⟨S8x256x2048, .f32⟩
  | .hbm, ⟨51, _⟩ => ⟨S_, .f32⟩
  | .hbm, ⟨52, _⟩ => ⟨S8x2048, .f32⟩
  | .hbm, ⟨53, _⟩ => ⟨S8x1x2048, .f32⟩
  | .hbm, ⟨54, _⟩ => ⟨S8x256x2048, .f32⟩
  | .hbm, ⟨55, _⟩ => ⟨S8x256x2048, .f32⟩
  | .hbm, ⟨56, _⟩ => ⟨S8x256x2048, .f32⟩
  | .hbm, ⟨57, _⟩ => ⟨S_, .f32⟩
  | .hbm, ⟨58, _⟩ => ⟨S8x256, .f32⟩
  | .hbm, ⟨59, _⟩ => ⟨S8x256x1, .f32⟩
  | .hbm, ⟨60, _⟩ => ⟨S8x256x2048, .f32⟩
  | .hbm, ⟨61, _⟩ => ⟨S8x256x2048, .f32⟩
  | .hbm, ⟨62, _⟩ => ⟨S8x256x2048, .f32⟩
  | .hbm, ⟨63, _⟩ => ⟨S8x256x1, .f32⟩
  | .hbm, ⟨64, _⟩ => ⟨S_, .f32⟩
  | .hbm, ⟨65, _⟩ => ⟨S8x256x1, .f32⟩
  | .hbm, ⟨66, _⟩ => ⟨S8x256x1, .f32⟩
  | .hbm, ⟨67, _⟩ => ⟨S_, .f32⟩
  | .hbm, ⟨68, _⟩ => ⟨S8x256, .f32⟩
  | .hbm, ⟨69, _⟩ => ⟨S8x256x2048, .f32⟩
  | .hbm, ⟨70, _⟩ => ⟨S8x256x2048, .f32⟩
  | .hbm, ⟨71, _⟩ => ⟨S8x256x2048, .f32⟩
  | .hbm, ⟨72, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== GradNorm2.lean ====
abbrev S2048x2048 : Shape := ⟨2, ![2048, 2048]⟩
abbrev S1x2048 : Shape := ⟨2, ![1, 2048]⟩
abbrev S8x1x2048 : Shape := ⟨3, ![8, 1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩
abbrev S2048 : Shape := ⟨1, ![2048]⟩

abbrev nBuf : Space → Nat
  | .hbm => 13
  | .vmem => 23
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S1x2048, .f32⟩
  | .hbm, ⟨7, _⟩ => ⟨S2048x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S2048x2048, .bf16⟩
  | .hbm, ⟨12, _⟩ => ⟨S8x1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | .local _ .vmem, ⟨11, _⟩ => ⟨S256x2048, .f32⟩
  | .local _ .vmem, ⟨12, _⟩ => ⟨S256x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S256x2048, .bf16⟩
  | .local _ .vmem, ⟨20, _⟩ => ⟨S256x2048, .bf16⟩
  | .local _ .vmem, ⟨21, _⟩ => ⟨S1x1x2048, .f32⟩
  | .local _ .vmem, ⟨22, _⟩ => ⟨S1x1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== GradNorm2RefIdeal.lean ====
abbrev S2048x2048 : Shape := ⟨2, ![2048, 2048]⟩
abbrev S1x2048 : Shape := ⟨2, ![1, 2048]⟩
abbrev S8x256x2048 : Shape := ⟨3, ![8, 256, 2048]⟩
abbrev S8x1x2048 : Shape := ⟨3, ![8, 1, 2048]⟩
abbrev S_ : Shape := ⟨0, ![]⟩
abbrev S8x256 : Shape := ⟨2, ![8, 256]⟩
abbrev S8x256x1 : Shape := ⟨3, ![8, 256, 1]⟩
abbrev S8x2048 : Shape := ⟨2, ![8, 2048]⟩

abbrev nBuf : Space → Nat
  | .hbm => 88
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .bf16⟩
  | .hbm, ⟨6, _⟩ => ⟨S1x2048, .f32⟩
  | .hbm, ⟨7, _⟩ => ⟨S8x256x2048, .f32⟩
  | .hbm, ⟨8, _⟩ => ⟨S8x256x2048, .f32⟩
  | .hbm, ⟨9, _⟩ => ⟨S8x256x2048, .f32⟩
  | .hbm, ⟨10, _⟩ => ⟨S8x1x2048, .f32⟩
  | .hbm, ⟨11, _⟩ => ⟨S8x1x2048, .f32⟩
  | .hbm, ⟨12, _⟩ => ⟨S_, .f32⟩
  | .hbm, ⟨13, _⟩ => ⟨S8x1x2048, .f32⟩
  | .hbm, ⟨14, _⟩ => ⟨S8x256x2048, .f32⟩
  | .hbm, ⟨15, _⟩ => ⟨S_, .f32⟩
  | .hbm, ⟨16, _⟩ => ⟨S8x256x2048, .f32⟩
  | .hbm, ⟨17, _⟩ => ⟨S8x256x2048, .f32⟩
  | .hbm, ⟨18, _⟩ => ⟨S_, .f32⟩
  | .hbm, ⟨19, _⟩ => ⟨S8x256, .f32⟩
  | .hbm, ⟨20, _⟩ => ⟨S8x256x1, .f32⟩
  | .hbm, ⟨21, _⟩ => ⟨S_, .f32⟩
  | .hbm, ⟨22, _⟩ => ⟨S8x256x1, .f32⟩
  | .hbm, ⟨23, _⟩ => ⟨S8x256x1, .f32⟩
  | .hbm, ⟨24, _⟩ => ⟨S_, .f32⟩
  | .hbm, ⟨25, _⟩ => ⟨S8x256x1, .f32⟩
  | .hbm, ⟨26, _⟩ => ⟨S8x256x1, .f32⟩
  | .hbm, ⟨27, _⟩ => ⟨S8x256x1, .f32⟩
  | .hbm, ⟨28, _⟩ => ⟨S8x256x1, .f32⟩
  | .hbm, ⟨29, _⟩ => ⟨S_, .f32⟩
  | .hbm, ⟨30, _⟩ => ⟨S8x256x1, .f32⟩
  | .hbm, ⟨31, _⟩ => ⟨S8x256x1, .f32⟩
  | .hbm, ⟨32, _⟩ => ⟨S8x256x2048, .f32⟩
  | .hbm, ⟨33, _⟩ => ⟨S8x256x2048, .f32⟩
  | .hbm, ⟨34, _⟩ => ⟨S8x256x2048, .f32⟩
  | .hbm, ⟨35, _⟩ => ⟨S8x256x2048, .f32⟩
  | .hbm, ⟨36, _⟩ => ⟨S_, .f32⟩
  | .hbm, ⟨37, _⟩ => ⟨S8x1x2048, .f32⟩
  | .hbm, ⟨38, _⟩ => ⟨S8x1x2048, .f32⟩
  | .hbm, ⟨39, _⟩ => ⟨S8x256x2048, .f32⟩
  | .hbm, ⟨40, _⟩ => ⟨S8x256x2048, .f32⟩
  | .hbm, ⟨41, _⟩ => ⟨S8x256x2048, .f32⟩
  | .hbm, ⟨42, _⟩ => ⟨S8x256x2048, .f32⟩
  | .hbm, ⟨43, _⟩ => ⟨S_, .f32⟩
  | .hbm, ⟨44, _⟩ => ⟨S8x2048, .f32⟩
  | .hbm, ⟨45, _⟩ => ⟨S8x1x2048, .f32⟩
  | .hbm, ⟨46, _⟩ => ⟨S8x256x2048, .f32⟩
  | .hbm, ⟨47, _⟩ => ⟨S_, .f32⟩
  | .hbm, ⟨48, _⟩ => ⟨S8x2048, .f32⟩
  | .hbm, ⟨49, _⟩ => ⟨S8x1x2048, .f32⟩
  | .hbm, ⟨50, _⟩ => ⟨S8x256x2048, .f32⟩
  | .hbm, ⟨51, _⟩ => ⟨S8x256x2048, .f32⟩
  | .hbm, ⟨52, _⟩ => ⟨S8x256x2048, .f32⟩
  | .hbm, ⟨53, _⟩ => ⟨S_, .f32⟩
  | .hbm, ⟨54, _⟩ => ⟨S8x2048, .f32⟩
  | .hbm, ⟨55, _⟩ => ⟨S8x1x2048, .f32⟩
  | .hbm, ⟨56, _⟩ => ⟨S8x256x2048, .f32⟩
  | .hbm, ⟨57, _⟩ => ⟨S8x256x2048, .f32⟩
  | .hbm, ⟨58, _⟩ => ⟨S8x256x2048, .f32⟩
  | .hbm, ⟨59, _⟩ => ⟨S_, .f32⟩
  | .hbm, ⟨60, _⟩ => ⟨S8x256, .f32⟩
  | .hbm, ⟨61, _⟩ => ⟨S8x256x1, .f32⟩
  | .hbm, ⟨62, _⟩ => ⟨S8x256x2048, .f32⟩
  | .hbm, ⟨63, _⟩ => ⟨S8x256x2048, .f32⟩
  | .hbm, ⟨64, _⟩ => ⟨S8x256x2048, .f32⟩
  | .hbm, ⟨65, _⟩ => ⟨S8x256x1, .f32⟩
  | .hbm, ⟨66, _⟩ => ⟨S_, .f32⟩
  | .hbm, ⟨67, _⟩ => ⟨S8x256x1, .f32⟩
  | .hbm, ⟨68, _⟩ => ⟨S8x256x1, .f32⟩
  | .hbm, ⟨69, _⟩ => ⟨S_, .f32⟩
  | .hbm, ⟨70, _⟩ => ⟨S8x256, .f32⟩
  | .hbm, ⟨71, _⟩ => ⟨S8x256x2048, .f32⟩
  | .hbm, ⟨72, _⟩ => ⟨S8x256x2048, .f32⟩
  | .hbm, ⟨73, _⟩ => ⟨S8x256x2048, .f32⟩
  | .hbm, ⟨74, _⟩ => ⟨S2048x2048, .f32⟩
  | .hbm, ⟨75, _⟩ => ⟨S8x256x2048, .f32⟩
  | .hbm, ⟨76, _⟩ => ⟨S8x1x2048, .f32⟩
  | .hbm, ⟨77, _⟩ => ⟨S8x256x2048, .f32⟩
  | .hbm, ⟨78, _⟩ => ⟨S8x256x2048, .f32⟩
  | .hbm, ⟨79, _⟩ => ⟨S8x256x2048, .f32⟩
  | .hbm, ⟨80, _⟩ => ⟨S8x256x2048, .f32⟩
  | .hbm, ⟨81, _⟩ => ⟨S8x256x2048, .f32⟩
  | .hbm, ⟨82, _⟩ => ⟨S_, .f32⟩
  | .hbm, ⟨83, _⟩ => ⟨S8x2048, .f32⟩
  | .hbm, ⟨84, _⟩ => ⟨S8x1x2048, .f32⟩
  | .hbm, ⟨85, _⟩ => ⟨S2048x2048, .f32⟩
  | .hbm, ⟨86, _⟩ => ⟨S2048x2048, .f32⟩
  | .hbm, ⟨87, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]
-- ==== Proof.Mlp.Hidden.lean ====
/- The gradient of the squared-ReLU MLP's hidden units: the kernel's product times the derivative, column block by column block, is the
   reference's. -/
module

public import proofs.«01_k».proof.Defs
public import proofs.«01_k».proof.Proof.Gen.HiddenIdeal.Value
public import proofs.«01_k».proof.Proof.Gen.HiddenRefIdeal.Run
public import proofs.«01_k».proof.Proof.Gen.HiddenRefIdeal.Read
public import Idealize.ShloMosaic.Lib.Pipeline.ValueKit.Point

@[expose] public section

set_option maxRecDepth 16384

noncomputable section

namespace Cert.Proof.Mlp.Hidden

open Idealize.ShloMosaic Idealize.ShloMosaic.TcCoe Idealize.SL.Sem
open Cert.HiddenIdeal Cert.HiddenIdeal.Gen

variable (m : (ℓ : Loc nD τ sig) → Buf (Elt Ideal) ℓ)

theorem idx0 : ∀ t : Fin cfg0.N, win0_0.index t = ![0, 0] := by decide +kernel
theorem idx1 : ∀ t : Fin cfg0.N, win0_1.index t = ![t.val, 0] := by decide +kernel
theorem idx2 : ∀ t : Fin cfg0.N, win0_2.index t = ![0, t.val] := by decide +kernel
theorem idx3 : ∀ t : Fin cfg0.N, win0_3.index t = ![0, t.val] := by decide +kernel

/-- A factor that is zero at a rectified number needs no case distinction. -/
theorem mul_relu (s a x : EReal) : (if 0 < x then s * (a * max x 0) else 0) = s * (a * max x 0) := by
  split_ifs with h
  · rfl
  · rw [max_eq_right (not_lt.mp h), mul_zero, mul_zero]

/-- The rectified hidden units the host hands the kernel. -/
theorem V_rl (c : Dev nD) (i : S2048x8192.Idx) : V m c main_v2 i = max (α := EReal) (m ((c : Thread nD τ).loc main_arg0) i) 0 := by
  entry_read
  pointwise

/-- The kernel's result array is the reference's last stage over the kernel's own arguments. -/
theorem arr (c : Dev nD) : (dats m 0 c).arrAt 3 cfg0.N
    = Cert.HiddenRefIdeal.Read.val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  rw [← Cert.HiddenRefIdeal.Read.val_main_v16_eq]
  pointwise [k0_pay1, dot_S2048x2048_S1024x2048_S2048x1024_1_1_0_0_n_n, Cert.HiddenRefIdeal.dot_S2048x2048_S8192x2048_S2048x8192_1_1_0_0_n_n]
  have e : iblk m c 2 t y = max (α := EReal) (m ((c : Thread nD τ).loc main_arg0) (((View.whole main_v3).slice (win0_3.rect t)).emb y)) 0 := by
    refine (V_rl m c _).trans ?_
    blk_point [idx2 t, idx3 t]
  rw [mul_relu, e]
  blk_point [iblk, V, idx0 t, idx1 t, idx2 t, idx3 t]

/-- The kernel and the reference end with the same gradient. -/
theorem algebraic : Cert.algebraic_HiddenIdeal_HiddenRefIdeal (hHiddenIdeal := Cert.HiddenIdeal.Gen.facts) (hHiddenRefIdeal := Cert.HiddenRefIdeal.Gen.facts) :=
  fun m g m' g' _ hm => ⟨_, (θ_run Cert.HiddenIdeal.defs _ _).mono (fun _ hr c => ⟨(hr c).1.trans (arr m c), (hr c).2⟩) (Cert.HiddenIdeal.Value.run_blocks m g),
    (θ_run Cert.HiddenRefIdeal.defs _ _).mono (fun r hr c => by
      obtain ⟨e0, e1, e2⟩ := hm c
      refine ⟨(hr c).1.trans ((Cert.HiddenRefIdeal.Read.val_main_v16_eq _ _ _).trans ?_), (hr c).2⟩
      rw [e0, e1, e2]) (Cert.HiddenRefIdeal.Value.run (F := Ideal) m' g')⟩

end Cert.Proof.Mlp.Hidden

end
-- ==== Proof.Mlp.GradFf2.lean ====
/- The gradient of the squared-ReLU MLP's second weight: the kernel's product, row block by row block, is the
   reference's. -/
module

public import proofs.«01_k».proof.Defs
public import proofs.«01_k».proof.Proof.Gen.GradFf2Ideal.Value
public import proofs.«01_k».proof.Proof.Gen.GradFf2RefIdeal.Run
public import proofs.«01_k».proof.Proof.Gen.GradFf2RefIdeal.Read
public import Idealize.ShloMosaic.Lib.Pipeline.ValueKit.Point

@[expose] public section

set_option maxRecDepth 16384

noncomputable section

namespace Cert.Proof.Mlp.GradFf2

open Idealize.ShloMosaic Idealize.ShloMosaic.TcCoe Idealize.SL.Sem
open Cert.GradFf2Ideal Cert.GradFf2Ideal.Gen

variable (m : (ℓ : Loc nD τ sig) → Buf (Elt Ideal) ℓ)

theorem idx0 : ∀ t : Fin cfg0.N, win0_0.index t = ![0, t.val] := by decide +kernel
theorem idx1 : ∀ t : Fin cfg0.N, win0_1.index t = ![0, 0] := by decide +kernel
theorem idx2 : ∀ t : Fin cfg0.N, win0_2.index t = ![t.val, 0] := by decide +kernel

/-- The rectified hidden units the host hands the kernel. -/
theorem V_rl (c : Dev nD) (i : S2048x8192.Idx) : V m c main_v2 i = max (α := EReal) (m ((c : Thread nD τ).loc main_arg0) i) 0 := by
  entry_read
  pointwise

/-- The kernel's result array is the reference's last stage over the kernel's own arguments. -/
theorem arr (c : Dev nD) : (dats m 0 c).arrAt 2 cfg0.N
    = Cert.GradFf2RefIdeal.Read.val_main_v16 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  frame_out
  rw [← Cert.GradFf2RefIdeal.Read.val_main_v16_eq]
  pointwise [k0_pay1, dot_S2048x512_S2048x2048_S512x2048_0_0_1_1_n_n, Cert.GradFf2RefIdeal.dot_S2048x2048_S2048x8192_S2048x8192_0_0_1_1_n_n]
  refine Fin.sum_fin_congr fun k => (ValueKit.ereal_mul_comm _ _).trans (congrArg₂ (fun a b : EReal => a * b) ?_
    (congrArg (fun a : EReal => a * a) ((V_rl m c _).trans (congrArg (fun a : EReal => max a 0) ?_))))
  all_goals blk_point [iblk, V, idx0 t, idx1 t, idx2 t]

/-- The kernel and the reference end with the same gradient. -/
theorem algebraic : Cert.algebraic_GradFf2Ideal_GradFf2RefIdeal (hGradFf2Ideal := Cert.GradFf2Ideal.Gen.facts) (hGradFf2RefIdeal := Cert.GradFf2RefIdeal.Gen.facts) :=
  fun m g m' g' _ hm => ⟨_, (θ_run Cert.GradFf2Ideal.defs _ _).mono (fun _ hr c => ⟨(hr c).1.trans (arr m c), (hr c).2⟩) (Cert.GradFf2Ideal.Value.run_blocks m g),
    (θ_run Cert.GradFf2RefIdeal.defs _ _).mono (fun r hr c => by
      obtain ⟨e0, e1, e2⟩ := hm c
      refine ⟨(hr c).1.trans ((Cert.GradFf2RefIdeal.Read.val_main_v16_eq _ _).trans ?_), (hr c).2⟩
      rw [e0, e2]) (Cert.GradFf2RefIdeal.Value.run (F := Ideal) m' g')⟩

end Cert.Proof.Mlp.GradFf2

end
-- ==== Proof.Mlp.GradFf1.lean ====
/- The gradient of the squared-ReLU MLP's first weight: the kernel's product, column block by column block, is the
   reference's. -/
module

public import proofs.«01_k».proof.Defs
public import proofs.«01_k».proof.Proof.Gen.GradFf1Ideal.Value
public import proofs.«01_k».proof.Proof.Gen.GradFf1RefIdeal.Run
public import proofs.«01_k».proof.Proof.Gen.GradFf1RefIdeal.Read
public import Idealize.ShloMosaic.Lib.Pipeline.ValueKit.Point

@[expose] public section

set_option maxRecDepth 16384

noncomputable section

namespace Cert.Proof.Mlp.GradFf1

open Idealize.ShloMosaic Idealize.ShloMosaic.TcCoe Idealize.SL.Sem
open Cert.GradFf1Ideal Cert.GradFf1Ideal.Gen

variable (m : (ℓ : Loc nD τ sig) → Buf (Elt Ideal) ℓ)

theorem idx0 : ∀ t : Fin cfg0.N, win0_0.index t = ![0, 0] := by decide +kernel
theorem idx1 : ∀ t : Fin cfg0.N, win0_1.index t = ![0, t.val] := by decide +kernel
theorem idx2 : ∀ t : Fin cfg0.N, win0_2.index t = ![0, t.val] := by decide +kernel

/-- The kernel's result array is the reference's last stage over the kernel's own arguments. -/
theorem arr (c : Dev nD) : (dats m 0 c).arrAt 2 cfg0.N
    = Cert.GradFf1RefIdeal.Read.val_main_v7 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  frame_out
  rw [← Cert.GradFf1RefIdeal.Read.val_main_v7_eq]
  pointwise [k0_pay1, dot_S2048x2048_S2048x1024_S2048x1024_0_0_1_1_n_n, Cert.GradFf1RefIdeal.dot_S2048x8192_S2048x2048_S8192x2048_0_0_1_1_n_n]
  refine Fin.sum_fin_congr fun k => (ValueKit.ereal_mul_comm _ _).trans ?_
  blk_point [iblk, V, idx0 t, idx1 t, idx2 t]

/-- The kernel and the reference end with the same gradient. -/
theorem algebraic : Cert.algebraic_GradFf1Ideal_GradFf1RefIdeal (hGradFf1Ideal := Cert.GradFf1Ideal.Gen.facts) (hGradFf1RefIdeal := Cert.GradFf1RefIdeal.Gen.facts) :=
  fun m g m' g' _ hm => ⟨_, (θ_run Cert.GradFf1Ideal.defs _ _).mono (fun _ hr c => ⟨(hr c).1.trans (arr m c), (hr c).2⟩) (Cert.GradFf1Ideal.Value.run_blocks m g),
    (θ_run Cert.GradFf1RefIdeal.defs _ _).mono (fun r hr c => by
      obtain ⟨e0, e1, e2⟩ := hm c
      refine ⟨(hr c).1.trans ((Cert.GradFf1RefIdeal.Read.val_main_v7_eq _ _).trans ?_), (hr c).2⟩
      rw [e0, e2]) (Cert.GradFf1RefIdeal.Value.run (F := Ideal) m' g')⟩

end Cert.Proof.Mlp.GradFf1

end
-- ==== Proof.Mlp.GradH2.lean ====
/- The gradient of the squared-ReLU MLP's input: the kernel's product, accumulated over two halves of the hidden units, is
   the reference's. -/
module

public import proofs.«01_k».proof.Defs
public import proofs.«01_k».proof.Proof.Gen.GradH2Ideal.Value
public import proofs.«01_k».proof.Proof.Gen.GradH2RefIdeal.Run
public import proofs.«01_k».proof.Proof.Gen.GradH2RefIdeal.Read
public import Idealize.ShloMosaic.Lib.Pipeline.ValueKit.Point
public import Idealize.ShloMosaic.Lib.Pipeline.ReadBack

@[expose] public section

set_option maxRecDepth 16384

noncomputable section

namespace Cert.Proof.Mlp.GradH2

open Idealize.ShloMosaic Idealize.ShloMosaic.TcCoe Idealize.SL.Sem
open Cert.GradH2Ideal Cert.GradH2Ideal.Gen

variable (m : (ℓ : Loc nD τ sig) → Buf (Elt Ideal) ℓ)

theorem idx0 : ∀ t : Fin cfg0.N, win0_0.index t = ![t.val / 4, t.val % 2] := by decide +kernel
theorem idx1 : ∀ t : Fin cfg0.N, win0_1.index t = ![t.val / 2 % 2, t.val % 2] := by decide +kernel
theorem idx2 : ∀ t : Fin cfg0.N, win0_2.index t = ![t.val / 4, t.val / 2 % 2] := by decide +kernel

/-- The grid point before. -/
abbrev prev (t : Fin cfg0.N) : Fin cfg0.N := ⟨t.val - 1, Nat.lt_of_le_of_lt (Nat.sub_le _ _) t.isLt⟩

/-- What a point of the second half writes back: both halves' products, added to zero. -/
theorem after_pay (c : Dev nD) (t : Fin cfg0.N) (h : t.val % 2 = 1) : (dats m 0 c).after 2 t
    = k0_pay2 (k0_pay2 (k0_pay1 (F := Ideal)) (iblk m c 0 (prev t)) (iblk m c 1 (prev t))) (iblk m c 0 t) (iblk m c 1 t) := by
  have hp : (prev t).val % 2 = 0 := by show (t.val - 1) % 2 = 0; omega
  rw [after0_2, outsAt0_B m c t (by omega) h]
  frame_out
  have e := outsAt0_A m c (prev t) hp (by omega)
  rw [show outsAt0 m c (t.val - 1) (Nat.lt_of_le_of_lt (Nat.sub_le _ _) t.isLt) = _ from e]
  frame_out
  rw [read_unread_whole]

/-- The kernel's result array is the reference's last stage over the kernel's own arguments. -/
theorem arr (c : Dev nD) : (dats m 0 c).arrAt 2 cfg0.N
    = Cert.GradH2RefIdeal.Read.val_main_v6 (F := Ideal) (m ((c : Thread nD τ).loc main_arg1)) (m ((c : Thread nD τ).loc main_arg2)) := by
  refine (dats m 0 c).arrAt_eq_of_covers 2 _ (by decide +kernel) fun t hf y => ?_
  have h := (flush0_2 t).mp hf
  blk_simp
  rw [after_pay m c t h]
  rw [← Cert.GradH2RefIdeal.Read.val_main_v6_eq]
  pointwise [k0_pay1, k0_pay2, dot_S1024x4096_S1024x4096_S1024x1024_1_1_0_0_n_n, Cert.GradH2RefIdeal.dot_S2048x8192_S2048x8192_S2048x2048_1_1_0_0_n_n]
  refine Eq.trans ?_ (Fin.sum_univ_add (M := EReal) (a := 4096) (b := 4096) _).symm
  refine congrArg₂ (fun a b : EReal => a + b) (Fin.sum_fin_congr fun k => ?_) (Fin.sum_fin_congr fun k => ?_)
  · have hp : (prev t).val % 2 = 0 := by show (t.val - 1) % 2 = 0; omega
    have hk : (Fin.castAdd 4096 k).val = k.val := rfl
    blk_point [iblk, V, idx0 (prev t), idx1 (prev t), idx2 t]
  · have hk : (Fin.natAdd 4096 k).val = 4096 + k.val := rfl
    blk_point [iblk, V, idx0 t, idx1 t, idx2 t]

/-- The kernel and the reference end with the same gradient. -/
theorem algebraic : Cert.algebraic_GradH2Ideal_GradH2RefIdeal (hGradH2Ideal := Cert.GradH2Ideal.Gen.facts) (hGradH2RefIdeal := Cert.GradH2RefIdeal.Gen.facts) :=
  fun m g m' g' _ hm => ⟨_, (θ_run Cert.GradH2Ideal.defs _ _).mono (fun _ hr c => ⟨(hr c).1.trans (arr m c), (hr c).2⟩) (Cert.GradH2Ideal.Value.run_blocks m g),
    (θ_run Cert.GradH2RefIdeal.defs _ _).mono (fun r hr c => by
      obtain ⟨e0, e1, e2⟩ := hm c
      refine ⟨(hr c).1.trans ((Cert.GradH2RefIdeal.Read.val_main_v6_eq _ _).trans ?_), (hr c).2⟩
      rw [e1, e2]) (Cert.GradH2RefIdeal.Value.run (F := Ideal) m' g')⟩

end Cert.Proof.Mlp.GradH2

end
-- ==== Proof.Mixer.GradO.lean ====
/- The gradient of the output projection's weight: the kernel's product, column block by column block, is the
   reference's. -/
module

public import proofs.«01_k».proof.Defs
public import proofs.«01_k».proof.Proof.Gen.GradOIdeal.Value
public import proofs.«01_k».proof.Proof.Gen.GradORefIdeal.Run
public import proofs.«01_k».proof.Proof.Gen.GradORefIdeal.Read
public import Idealize.ShloMosaic.Lib.Pipeline.ValueKit.Point

@[expose] public section

set_option maxRecDepth 16384

noncomputable section

namespace Cert.Proof.Mixer.GradO

open Idealize.ShloMosaic Idealize.ShloMosaic.TcCoe Idealize.SL.Sem
open Cert.GradOIdeal Cert.GradOIdeal.Gen

variable (m : (ℓ : Loc nD τ sig) → Buf (Elt Ideal) ℓ)

theorem idx0 : ∀ t : Fin cfg0.N, win0_0.index t = ![0, 0] := by decide +kernel
theorem idx1 : ∀ t : Fin cfg0.N, win0_1.index t = ![0, t.val] := by decide +kernel
theorem idx2 : ∀ t : Fin cfg0.N, win0_2.index t = ![0, t.val] := by decide +kernel

/-- The kernel's result array is the reference's last stage over the kernel's own arguments. -/
theorem arr (c : Dev nD) : (dats m 0 c).arrAt 2 cfg0.N
    = Cert.GradORefIdeal.Read.val_main_v7 (F := Ideal) (m ((c : Thread nD τ).loc main_arg0)) (m ((c : Thread nD τ).loc main_arg2)) := by
  refine (dats m 0 c).arrAt_eq_of_covers 2 _ (by decide +kernel) fun t hf y => ?_
  blk_simp
  rw [after0_2]
  frame_out
  rw [← Cert.GradORefIdeal.Read.val_main_v7_eq]
  pointwise [k0_pay1, dot_S2048x2048_S2048x1024_S2048x1024_0_0_1_1_n_n, Cert.GradORefIdeal.dot_S2048x2048_S2048x2048_S2048x2048_0_0_1_1_n_n]
  refine Fin.sum_fin_congr fun k => (ValueKit.ereal_mul_comm _ _).trans ?_
  blk_point [iblk, V, idx0 t, idx1 t, idx2 t]

/-- The kernel and the reference end with the same gradient. -/
theorem algebraic : Cert.algebraic_GradOIdeal_GradORefIdeal (hGradOIdeal := Cert.GradOIdeal.Gen.facts) (hGradORefIdeal := Cert.GradORefIdeal.Gen.facts) :=
  fun m g m' g' _ hm => ⟨_, (θ_run Cert.GradOIdeal.defs _ _).mono (fun _ hr c => ⟨(hr c).1.trans (arr m c), (hr c).2⟩) (Cert.GradOIdeal.Value.run_blocks m g),
    (θ_run Cert.GradORefIdeal.defs _ _).mono (fun r hr c => by
      obtain ⟨e0, e1, e2⟩ := hm c
      refine ⟨(hr c).1.trans ((Cert.GradORefIdeal.Read.val_main_v7_eq _ _).trans ?_), (hr c).2⟩
      rw [e0, e2]) (Cert.GradORefIdeal.Value.run (F := Ideal) m' g')⟩

end Cert.Proof.Mixer.GradO

end
-- ==== Proof.Mixer.Gates.lean ====
/- The gradients of the branches and of their gates: the kernel's product times the gates' derivatives, block by block, is
   the reference's. -/
module

public import proofs.«01_k».proof.Defs
public import proofs.«01_k».proof.Proof.Gen.GatesIdeal.Value
public import proofs.«01_k».proof.Proof.Gen.GatesRefIdeal.Run
public import proofs.«01_k».proof.Proof.Gen.GatesRefIdeal.Read
public import Idealize.ShloMosaic.Lib.Pipeline.ValueKit.Point

@[expose] public section

set_option maxRecDepth 16384

noncomputable section

namespace Cert.Proof.Mixer.Gates

open Idealize.ShloMosaic Idealize.ShloMosaic.TcCoe Idealize.SL.Sem
open Cert.GatesIdeal Cert.GatesIdeal.Gen

variable (m : (ℓ : Loc nD τ sig) → Buf (Elt Ideal) ℓ)

/-- The kernel's logistic function is the reference's quotient. -/
theorem logistic_eq (x : EReal) : Ideal.logistic x = Ideal.div 1 (1 + Ideal.exp (-x)) := rfl

theorem idx0 : ∀ t : Fin cfg0.N, win0_0.index t = ![t.val / 4, 0] := by decide +kernel
theorem idx1 : ∀ t : Fin cfg0.N, win0_1.index t = ![t.val % 4, 0] := by decide +kernel
theorem idx2 : ∀ t : Fin cfg0.N, win0_2.index t = ![t.val / 4, t.val % 4 + 8] := by decide +kernel
theorem idx3 : ∀ t : Fin cfg0.N, win0_3.index t = ![t.val / 4, t.val % 4 + 12] := by decide +kernel
theorem idx4 : ∀ t : Fin cfg0.N, win0_4.index t = ![t.val / 4, t.val % 4] := by decide +kernel
theorem idx5 : ∀ t : Fin cfg0.N, win0_5.index t = ![t.val / 4, t.val % 4] := by decide +kernel
theorem idx6 : ∀ t : Fin cfg0.N, win0_6.index t = ![t.val / 4, t.val % 4] := by decide +kernel
theorem idx7 : ∀ t : Fin cfg0.N, win0_7.index t = ![t.val / 4, t.val % 4] := by decide +kernel
theorem idx8 : ∀ t : Fin cfg0.N, win0_8.index t = ![t.val / 4, t.val % 4] := by decide +kernel
theorem idx9 : ∀ t : Fin cfg0.N, win0_9.index t = ![t.val / 4, t.val % 4] := by decide +kernel

/-- The gradient of the pooling branch. -/
theorem arr_ya (c : Dev nD) : (dats m 0 c).arrAt 6 cfg0.N
    = Cert.GatesRefIdeal.Read.val_main_v39 (F := Ideal) (m ((c : Thread nD τ).loc main_arg0)) (m ((c : Thread nD τ).loc main_arg3)) (m ((c : Thread nD τ).loc main_arg4)) := by
  refine (dats m 0 c).arrAt_eq_of_covers 6 _ (by decide +kernel) fun t hf y => ?_
  blk_simp
  rw [after0_6]
  frame_out
  rw [← Cert.GatesRefIdeal.Read.val_main_v39_eq]
  pointwise [k0_pay4, k0_pay1, k0_pay2, dot_S1024x2048_S512x2048_S1024x512_1_1_0_0_n_n, Cert.GatesRefIdeal.dot_S2048x2048_S2048x2048_S2048x2048_1_1_0_0_n_n]
  refine (ValueKit.ereal_mul_comm _ _).trans ?_
  simp only [logistic_eq]
  blk_point [iblk, V, idx0 t, idx1 t, idx2 t, idx6 t]

/-- The gradient of the attention branch. -/
theorem arr_yb (c : Dev nD) : (dats m 0 c).arrAt 7 cfg0.N
    = Cert.GatesRefIdeal.Read.val_main_v40 (F := Ideal) (m ((c : Thread nD τ).loc main_arg0)) (m ((c : Thread nD τ).loc main_arg3)) (m ((c : Thread nD τ).loc main_arg4)) := by
  refine (dats m 0 c).arrAt_eq_of_covers 7 _ (by decide +kernel) fun t hf y => ?_
  blk_simp
  rw [after0_7]
  frame_out
  rw [← Cert.GatesRefIdeal.Read.val_main_v40_eq]
  pointwise [k0_pay5, k0_pay1, k0_pay3, dot_S1024x2048_S512x2048_S1024x512_1_1_0_0_n_n, Cert.GatesRefIdeal.dot_S2048x2048_S2048x2048_S2048x2048_1_1_0_0_n_n]
  refine (ValueKit.ereal_mul_comm _ _).trans ?_
  simp only [logistic_eq]
  blk_point [iblk, V, idx0 t, idx1 t, idx3 t, idx7 t]

/-- The gradient of the pooling branch's gate. -/
theorem arr_ga (c : Dev nD) : (dats m 0 c).arrAt 8 cfg0.N
    = Cert.GatesRefIdeal.Read.val_main_v41 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 8 _ (by decide +kernel) fun t hf y => ?_
  blk_simp
  rw [after0_8]
  frame_out
  rw [← Cert.GatesRefIdeal.Read.val_main_v41_eq]
  pointwise [k0_pay6, k0_pay1, k0_pay2, dot_S1024x2048_S512x2048_S1024x512_1_1_0_0_n_n, Cert.GatesRefIdeal.dot_S2048x2048_S2048x2048_S2048x2048_1_1_0_0_n_n]
  simp only [logistic_eq]
  blk_point [iblk, V, idx0 t, idx1 t, idx2 t, idx4 t, idx8 t]

/-- The gradient of the attention branch's gate. -/
theorem arr_gb (c : Dev nD) : (dats m 0 c).arrAt 9 cfg0.N
    = Cert.GatesRefIdeal.Read.val_main_v42 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9]
  frame_out
  rw [← Cert.GatesRefIdeal.Read.val_main_v42_eq]
  pointwise [k0_pay7, k0_pay1, k0_pay3, dot_S1024x2048_S512x2048_S1024x512_1_1_0_0_n_n, Cert.GatesRefIdeal.dot_S2048x2048_S2048x2048_S2048x2048_1_1_0_0_n_n]
  simp only [logistic_eq]
  blk_point [iblk, V, idx0 t, idx1 t, idx3 t, idx5 t, idx9 t]

/-- The kernel and the reference end with the same four gradients. -/
theorem algebraic : Cert.algebraic_GatesIdeal_GatesRefIdeal (hGatesIdeal := Cert.GatesIdeal.Gen.facts) (hGatesRefIdeal := Cert.GatesRefIdeal.Gen.facts) :=
  fun m g m' g' _ hm => ⟨_, _, _, _, (θ_run Cert.GatesIdeal.defs _ _).mono (fun _ hr c => ⟨(hr c).1.trans (arr_ya m c), (hr c).2.1.trans (arr_yb m c), (hr c).2.2.1.trans (arr_ga m c), (hr c).2.2.2.1.trans (arr_gb m c), (hr c).2.2.2.2⟩) (Cert.GatesIdeal.Value.run_blocks m g),
    (θ_run Cert.GatesRefIdeal.defs _ _).mono (fun r hr c => by
      obtain ⟨e0, e1, e2, e3, e4⟩ := hm c
      refine ⟨(hr c).1.trans ((Cert.GatesRefIdeal.Read.val_main_v39_eq _ _ _).trans ?_), (hr c).2.1.trans ((Cert.GatesRefIdeal.Read.val_main_v40_eq _ _ _).trans ?_), (hr c).2.2.1.trans ((Cert.GatesRefIdeal.Read.val_main_v41_eq _ _ _ _).trans ?_), (hr c).2.2.2.1.trans ((Cert.GatesRefIdeal.Read.val_main_v42_eq _ _ _ _).trans ?_), (hr c).2.2.2.2⟩
      · rw [e0, e3, e4]
      · rw [e0, e3, e4]
      · rw [e0, e1, e3, e4]
      · rw [e0, e2, e3, e4]) (Cert.GatesRefIdeal.Value.run (F := Ideal) m' g')⟩

end Cert.Proof.Mixer.Gates

end
-- ==== Proof.Mixer.GradUp.lean ====
/- The gradients of the two branches' widening weights: the kernel's two products, column block by column block, are the
   reference's. -/
module

public import proofs.«01_k».proof.Defs
public import proofs.«01_k».proof.Proof.Gen.GradUpIdeal.Value
public import proofs.«01_k».proof.Proof.Gen.GradUpRefIdeal.Run
public import proofs.«01_k».proof.Proof.Gen.GradUpRefIdeal.Read
public import Idealize.ShloMosaic.Lib.Pipeline.ValueKit.Point

@[expose] public section

set_option maxRecDepth 16384

noncomputable section

namespace Cert.Proof.Mixer.GradUp

open Idealize.ShloMosaic Idealize.ShloMosaic.TcCoe Idealize.SL.Sem
open Cert.GradUpIdeal Cert.GradUpIdeal.Gen

variable (m : (ℓ : Loc nD τ sig) → Buf (Elt Ideal) ℓ)

theorem idx0 : ∀ t : Fin cfg0.N, win0_0.index t = ![0, 0] := by decide +kernel
theorem idx1 : ∀ t : Fin cfg0.N, win0_1.index t = ![0, 0] := by decide +kernel
theorem idx2 : ∀ t : Fin cfg0.N, win0_2.index t = ![0, t.val] := by decide +kernel
theorem idx3 : ∀ t : Fin cfg0.N, win0_3.index t = ![0, t.val] := by decide +kernel
theorem idx4 : ∀ t : Fin cfg0.N, win0_4.index t = ![0, t.val] := by decide +kernel
theorem idx5 : ∀ t : Fin cfg0.N, win0_5.index t = ![0, t.val] := by decide +kernel

/-- The pooling branch's weight gradient. -/
theorem arr_a (c : Dev nD) : (dats m 0 c).arrAt 4 cfg0.N
    = Cert.GradUpRefIdeal.Read.val_main_v14 (F := Ideal) (m ((c : Thread nD τ).loc main_arg0)) (m ((c : Thread nD τ).loc main_arg4)) := by
  refine (dats m 0 c).arrAt_eq_of_covers 4 _ (by decide +kernel) fun t hf y => ?_
  blk_simp
  rw [after0_4]
  frame_out
  rw [← Cert.GradUpRefIdeal.Read.val_main_v14_eq]
  pointwise [k0_pay1, dot_S2048x1024_S2048x1024_S1024x1024_0_0_1_1_n_n, Cert.GradUpRefIdeal.dot_S2048x2048_S2048x1024_S2048x1024_0_0_1_1_n_n]
  refine Fin.sum_fin_congr fun k => (ValueKit.ereal_mul_comm _ _).trans ?_
  blk_point [iblk, V, idx0 t, idx2 t, idx4 t]

/-- The attention branch's weight gradient. -/
theorem arr_b (c : Dev nD) : (dats m 0 c).arrAt 5 cfg0.N
    = Cert.GradUpRefIdeal.Read.val_main_v15 (F := Ideal) (m ((c : Thread nD τ).loc main_arg2)) (m ((c : Thread nD τ).loc main_arg5)) := by
  refine (dats m 0 c).arrAt_eq_of_covers 5 _ (by decide +kernel) fun t hf y => ?_
  blk_simp
  rw [after0_5]
  frame_out
  rw [← Cert.GradUpRefIdeal.Read.val_main_v15_eq]
  pointwise [k0_pay2, dot_S2048x1024_S2048x1024_S1024x1024_0_0_1_1_n_n, Cert.GradUpRefIdeal.dot_S2048x2048_S2048x1024_S2048x1024_0_0_1_1_n_n]
  refine Fin.sum_fin_congr fun k => (ValueKit.ereal_mul_comm _ _).trans ?_
  blk_point [iblk, V, idx1 t, idx3 t, idx5 t]

/-- The kernel and the reference end with the same two gradients. -/
theorem algebraic : Cert.algebraic_GradUpIdeal_GradUpRefIdeal (hGradUpIdeal := Cert.GradUpIdeal.Gen.facts) (hGradUpRefIdeal := Cert.GradUpRefIdeal.Gen.facts) :=
  fun m g m' g' _ hm => ⟨_, _, (θ_run Cert.GradUpIdeal.defs _ _).mono (fun _ hr c => ⟨(hr c).1.trans (arr_a m c), (hr c).2.1.trans (arr_b m c), (hr c).2.2⟩) (Cert.GradUpIdeal.Value.run_blocks m g),
    (θ_run Cert.GradUpRefIdeal.defs _ _).mono (fun r hr c => by
      obtain ⟨e0, e1, e2, e3, e4, e5⟩ := hm c
      refine ⟨(hr c).1.trans ((Cert.GradUpRefIdeal.Read.val_main_v14_eq _ _).trans ?_), (hr c).2.1.trans ((Cert.GradUpRefIdeal.Read.val_main_v15_eq _ _).trans ?_), (hr c).2.2⟩
      · rw [e0, e4]
      · rw [e2, e5]) (Cert.GradUpRefIdeal.Value.run (F := Ideal) m' g')⟩

end Cert.Proof.Mixer.GradUp

end
-- ==== Proof.Mixer.Branches.lean ====
/- The gradients of the two branches' outputs: the kernel's two products, block by block, are the reference's. -/
module

public import proofs.«01_k».proof.Defs
public import proofs.«01_k».proof.Proof.Gen.BranchesIdeal.Value
public import proofs.«01_k».proof.Proof.Gen.BranchesRefIdeal.Run
public import proofs.«01_k».proof.Proof.Gen.BranchesRefIdeal.Read
public import Idealize.ShloMosaic.Lib.Pipeline.ValueKit.Point

@[expose] public section

set_option maxRecDepth 16384

noncomputable section

namespace Cert.Proof.Mixer.Branches

open Idealize.ShloMosaic Idealize.ShloMosaic.TcCoe Idealize.SL.Sem
open Cert.BranchesIdeal Cert.BranchesIdeal.Gen

variable (m : (ℓ : Loc nD τ sig) → Buf (Elt Ideal) ℓ)

theorem idx0 : ∀ t : Fin cfg0.N, win0_0.index t = ![t.val / 2, 0] := by decide +kernel
theorem idx1 : ∀ t : Fin cfg0.N, win0_1.index t = ![t.val / 2, 0] := by decide +kernel
theorem idx2 : ∀ t : Fin cfg0.N, win0_2.index t = ![t.val % 2, 0] := by decide +kernel
theorem idx3 : ∀ t : Fin cfg0.N, win0_3.index t = ![t.val % 2, 0] := by decide +kernel
theorem idx4 : ∀ t : Fin cfg0.N, win0_4.index t = ![t.val / 2, t.val % 2] := by decide +kernel
theorem idx5 : ∀ t : Fin cfg0.N, win0_5.index t = ![t.val / 2, t.val % 2] := by decide +kernel

/-- The gradient of the pooling branch's output. -/
theorem arr_a (c : Dev nD) : (dats m 0 c).arrAt 4 cfg0.N
    = Cert.BranchesRefIdeal.Read.val_main_v13 (F := Ideal) (m ((c : Thread nD τ).loc main_arg1)) (m ((c : Thread nD τ).loc main_arg4)) := by
  refine (dats m 0 c).arrAt_eq_of_covers 4 _ (by decide +kernel) fun t hf y => ?_
  blk_simp
  rw [after0_4]
  frame_out
  rw [← Cert.BranchesRefIdeal.Read.val_main_v13_eq]
  pointwise [k0_pay1, dot_S1024x2048_S512x2048_S1024x512_1_1_0_0_n_n, Cert.BranchesRefIdeal.dot_S2048x2048_S1024x2048_S2048x1024_1_1_0_0_n_n]
  blk_point [iblk, V, idx0 t, idx2 t, idx4 t]

/-- The gradient of the attention's output. -/
theorem arr_b (c : Dev nD) : (dats m 0 c).arrAt 5 cfg0.N
    = Cert.BranchesRefIdeal.Read.val_main_v14 (F := Ideal) (m ((c : Thread nD τ).loc main_arg3)) (m ((c : Thread nD τ).loc main_arg5)) := by
  refine (dats m 0 c).arrAt_eq_of_covers 5 _ (by decide +kernel) fun t hf y => ?_
  blk_simp
  rw [after0_5]
  frame_out
  rw [← Cert.BranchesRefIdeal.Read.val_main_v14_eq]
  pointwise [k0_pay2, dot_S1024x2048_S512x2048_S1024x512_1_1_0_0_n_n, Cert.BranchesRefIdeal.dot_S2048x2048_S1024x2048_S2048x1024_1_1_0_0_n_n]
  blk_point [iblk, V, idx1 t, idx3 t, idx5 t]

/-- The kernel and the reference end with the same two gradients. -/
theorem algebraic : Cert.algebraic_BranchesIdeal_BranchesRefIdeal (hBranchesIdeal := Cert.BranchesIdeal.Gen.facts) (hBranchesRefIdeal := Cert.BranchesRefIdeal.Gen.facts) :=
  fun m g m' g' _ hm => ⟨_, _, (θ_run Cert.BranchesIdeal.defs _ _).mono (fun _ hr c => ⟨(hr c).1.trans (arr_a m c), (hr c).2.1.trans (arr_b m c), (hr c).2.2⟩) (Cert.BranchesIdeal.Value.run_blocks m g),
    (θ_run Cert.BranchesRefIdeal.defs _ _).mono (fun r hr c => by
      obtain ⟨e0, e1, e2, e3, e4, e5⟩ := hm c
      refine ⟨(hr c).1.trans ((Cert.BranchesRefIdeal.Read.val_main_v13_eq _ _).trans ?_), (hr c).2.1.trans ((Cert.BranchesRefIdeal.Read.val_main_v14_eq _ _).trans ?_), (hr c).2.2⟩
      · rw [e1, e4]
      · rw [e3, e5]) (Cert.BranchesRefIdeal.Value.run (F := Ideal) m' g')⟩

end Cert.Proof.Mixer.Branches

end
-- ==== Proof.Mixer.Loss.lean ====
/- The MLP's second product with the loss: the kernel's product, accumulated over four quarters of the hidden units, the
   output's gradient, the gradient through the gate, and the sums over each half of the rows are the reference's. -/
module

public import proofs.«01_k».proof.Defs
public import proofs.«01_k».proof.Proof.Gen.LossIdeal.Value
public import proofs.«01_k».proof.Proof.Gen.LossRefIdeal.Run
public import proofs.«01_k».proof.Proof.Gen.LossRefIdeal.Read
public import Idealize.ShloMosaic.Lib.Pipeline.ValueKit.Point
public import Idealize.ShloMosaic.Lib.Pipeline.ReadBack

@[expose] public section

set_option maxRecDepth 16384

noncomputable section

namespace Cert.Proof.Mixer.Loss

open Idealize.ShloMosaic Idealize.ShloMosaic.TcCoe Idealize.SL.Sem
open Cert.LossIdeal Cert.LossIdeal.Gen

variable (m : (ℓ : Loc nD τ sig) → Buf (Elt Ideal) ℓ)

theorem idx0 : ∀ t : Fin cfg0.N, win0_0.index t = ![t.val / 8, t.val % 4] := by decide +kernel
theorem idx1 : ∀ t : Fin cfg0.N, win0_1.index t = ![t.val % 4, t.val / 4 % 2] := by decide +kernel
theorem idx2 : ∀ t : Fin cfg0.N, win0_2.index t = ![t.val / 8, t.val / 4 % 2] := by decide +kernel
theorem idx3 : ∀ t : Fin cfg0.N, win0_3.index t = ![t.val / 8, t.val / 4 % 2] := by decide +kernel
theorem idx4 : ∀ t : Fin cfg0.N, win0_4.index t = ![0, t.val / 4 % 2] := by decide +kernel
theorem idx5 : ∀ t : Fin cfg0.N, win0_5.index t = ![t.val / 8, t.val / 4 % 2] := by decide +kernel
theorem idx6 : ∀ t : Fin cfg0.N, win0_6.index t = ![t.val / 8, t.val / 4 % 2] := by decide +kernel
theorem idx7 : ∀ t : Fin cfg0.N, win0_7.index t = ![t.val / 8, 0, t.val / 4 % 2] := by decide +kernel
theorem idx8 : ∀ t : Fin cfg0.N, win0_8.index t = ![t.val / 8, 0, t.val / 4 % 2] := by decide +kernel

/-- The grid point `n` before. -/
abbrev back (t : Fin cfg0.N) (n : ℕ) : Fin cfg0.N := ⟨t.val - n, Nat.lt_of_le_of_lt (Nat.sub_le _ _) t.isLt⟩

/-- One quarter's product added to what the accumulator holds. -/
abbrev step (c : Dev nD) (t : Fin cfg0.N) (a : FVec Ideal S1024x1024 .f32) : FVec Ideal S1024x1024 .f32 :=
  k0_pay2 a (iblk m c 0 t) (iblk m c 1 t)

/-- What the accumulator holds after a point. -/
abbrev acc (c : Dev nD) (t : Fin cfg0.N) : FVec Ideal S1024x1024 .f32 := (outsAt0 m c t.val t.isLt).2.2.2.2

theorem acc_A (c : Dev nD) (t : Fin cfg0.N) (h : t.val % 4 = 0) : acc m c t = step m c t (k0_pay1 (F := Ideal)) := by
  unfold acc step
  rw [outsAt0_A m c t h (by omega)]
  frame_out

theorem acc_B (c : Dev nD) (t : Fin cfg0.N) (h : ¬t.val % 4 = 0) (h' : ¬t.val % 4 = 3) : acc m c t = step m c t (acc m c (back t 1)) := by
  unfold acc step
  rw [outsAt0_B m c t h h']
  frame_out
  rw [read_unread_whole]

theorem acc_C (c : Dev nD) (t : Fin cfg0.N) (h : t.val % 4 = 3) : acc m c t = step m c t (acc m c (back t 1)) := by
  unfold acc step
  rw [outsAt0_C m c t (by omega) h]
  frame_out
  rw [read_unread_whole]

/-- The accumulator after a run's last point: the four quarters' products, added to zero. -/
theorem acc_last (c : Dev nD) (t : Fin cfg0.N) (h : t.val % 4 = 3) :
    acc m c t = step m c t (step m c (back t 1) (step m c (back t 2) (step m c (back t 3) (k0_pay1 (F := Ideal))))) := by
  rw [acc_C m c t h]
  refine congrArg _ ?_
  rw [acc_B m c (back t 1) (by show ¬(t.val - 1) % 4 = 0; omega) (by show ¬(t.val - 1) % 4 = 3; omega)]
  refine congrArg _ ?_
  have e1 : back (back t 1) 1 = back t 2 := Fin.ext (by show t.val - 1 - 1 = t.val - 2; omega)
  rw [e1, acc_B m c (back t 2) (by show ¬(t.val - 2) % 4 = 0; omega) (by show ¬(t.val - 2) % 4 = 3; omega)]
  refine congrArg _ ?_
  have e2 : back (back t 2) 1 = back t 3 := Fin.ext (by show t.val - 2 - 1 = t.val - 3; omega)
  rw [e2, acc_A m c (back t 3) (by show (t.val - 3) % 4 = 0; omega)]

/-- The rectified hidden units the host hands the kernel. -/
theorem V_rl (c : Dev nD) (i : S2048x8192.Idx) : V m c main_v2 i = max (α := EReal) (m ((c : Thread nD τ).loc main_arg0) i) 0 := by
  entry_read
  pointwise

theorem V_w (c : Dev nD) (i : S8192x2048.Idx) : V m c main_arg1 i = m ((c : Thread nD τ).loc main_arg1) i := by
  entry_read
  rfl
theorem V_x (c : Dev nD) (i : S2048x2048.Idx) : V m c main_arg2 i = m ((c : Thread nD τ).loc main_arg2) i := by
  entry_read
  rfl
theorem V_t (c : Dev nD) (i : S2048x2048.Idx) : V m c main_arg3 i = m ((c : Thread nD τ).loc main_arg3) i := by
  entry_read
  rfl
theorem V_g (c : Dev nD) (i : S1x2048.Idx) : V m c main_arg4 i = m ((c : Thread nD τ).loc main_arg4) i := by
  entry_read
  rfl

/-- A column of the hidden units by its quarter and its place there. -/
abbrev col (n : Fin 4) (k : Fin 2048) : Fin 8192 := ⟨n.val * 2048 + k.val, by omega⟩

/-- A sum over the hidden units is its four quarters' sums, in the kernel's order. -/
theorem sum_quarters (f : Fin 8192 → EReal) :
    ∑ x, f x = ∑ k, f (col 0 k) + ∑ k, f (col 1 k) + ∑ k, f (col 2 k) + ∑ k, f (col 3 k) := by
  refine (Fin.sum_univ_add (M := EReal) (a := 6144) (b := 2048) f).trans ?_
  refine congrArg₂ (fun a b : EReal => a + b) ?_ (Finset.sum_congr rfl fun k _ => congrArg f (Fin.ext ?_))
  · refine (Fin.sum_univ_add (M := EReal) (a := 4096) (b := 2048) fun k => f (Fin.castAdd 2048 k)).trans ?_
    refine congrArg₂ (fun a b : EReal => a + b) ?_ (Finset.sum_congr rfl fun k _ => congrArg f (Fin.ext ?_))
    · refine (Fin.sum_univ_add (M := EReal) (a := 2048) (b := 2048) fun k => f (Fin.castAdd 2048 (Fin.castAdd 2048 k))).trans ?_
      refine congrArg₂ (fun a b : EReal => a + b) (Finset.sum_congr rfl fun k _ => congrArg f (Fin.ext ?_)) (Finset.sum_congr rfl fun k _ => congrArg f (Fin.ext ?_))
      · show k.val = 0 * 2048 + k.val
        omega
      · show 2048 + k.val = 1 * 2048 + k.val
        omega
    · show 4096 + k.val = 2 * 2048 + k.val
      omega
  · show 6144 + k.val = 3 * 2048 + k.val
    omega

/-- What a quarter's product sums, over the host's arguments. -/
theorem term (c : Dev nD) (t s : Fin cfg0.N) (n : Fin 4) (h8 : s.val / 8 = t.val / 8) (h2 : s.val / 4 % 2 = t.val / 4 % 2) (hn : s.val % 4 = n.val)
    (a b : Fin 1024) (r q : Fin 2048) (hr : r.val = t.val / 8 * 1024 + a.val) (hq : q.val = t.val / 4 % 2 * 1024 + b.val) (k : Fin 2048) :
    (fun a b : EReal => a * a * b) (iblk m c 0 s (ix2 a k)) (iblk m c 1 s (ix2 k b))
      = (fun a b : EReal => max a 0 * max a 0 * b) (m ((c : Thread nD τ).loc main_arg0) (ix2 r (col n k))) (m ((c : Thread nD τ).loc main_arg1) (ix2 (col n k) q)) := by
  have e : iblk m c 0 s (ix2 a k) = max (α := EReal) (m ((c : Thread nD τ).loc main_arg0) (ix2 r (col n k))) 0 := by
    refine (V_rl m c _).trans ?_
    blk_point [idx0 s]
  have e' : iblk m c 1 s (ix2 k b) = m ((c : Thread nD τ).loc main_arg1) (ix2 (col n k) q) := by
    refine (V_w m c _).trans ?_
    blk_point [idx1 s]
  rw [e, e']

/-- A run's accumulator is the block of the MLP's output. -/
theorem acc_sum (c : Dev nD) (t : Fin cfg0.N) (h : t.val % 4 = 3) (y : S1024x1024.Idx) (r q : Fin 2048)
    (hr : r.val = t.val / 8 * 1024 + (y 0).val) (hq : q.val = t.val / 4 % 2 * 1024 + (y 1).val) :
    acc m c t y = ∑ x : Fin 8192, (fun a b : EReal => max a 0 * max a 0 * b) (m ((c : Thread nD τ).loc main_arg0) (ix2 r x)) (m ((c : Thread nD τ).loc main_arg1) (ix2 x q)) := by
  rw [acc_last m c t h, sum_quarters]
  unfold step
  pointwise [k0_pay1, k0_pay2, dot_S1024x2048_S2048x1024_S1024x1024_1_0_0_1_n_n]
  refine congrArg₂ (fun a b : EReal => a + b) (congrArg₂ (fun a b : EReal => a + b) (congrArg₂ (fun a b : EReal => a + b) ?_ ?_) ?_) ?_
  · exact Fin.sum_fin_congr fun k => term m c t (back t 3) 0 (by show (t.val - 3) / 8 = _; omega) (by show (t.val - 3) / 4 % 2 = _; omega) (by show (t.val - 3) % 4 = 0; omega) (y 0) (y 1) r q hr hq k
  · exact Fin.sum_fin_congr fun k => term m c t (back t 2) 1 (by show (t.val - 2) / 8 = _; omega) (by show (t.val - 2) / 4 % 2 = _; omega) (by show (t.val - 2) % 4 = 1; omega) (y 0) (y 1) r q hr hq k
  · exact Fin.sum_fin_congr fun k => term m c t (back t 1) 2 (by show (t.val - 1) / 8 = _; omega) (by show (t.val - 1) / 4 % 2 = _; omega) (by show (t.val - 1) % 4 = 2; omega) (y 0) (y 1) r q hr hq k
  · exact Fin.sum_fin_congr fun k => term m c t t 3 rfl rfl h (y 0) (y 1) r q hr hq k

theorem lit_half : Ideal.ofBits .f32 0x3F000000#32 = ((1 / 2 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_2048 : Ideal.ofBits .f32 0x45000000#32 = ((2048 : ℝ) : EReal) := by
  simp [Ideal.ofBits, Ideal.ieee, -EReal.coe_mul]; norm_num
theorem lit_inv : Ideal.ofBits .f32 0x3A000000#32 = ((1 / 2048 : ℝ) : EReal) := by
  simp [Ideal.ofBits, Ideal.ieee, -EReal.coe_mul]; norm_num

/-- Half the mean of a square differentiates to the number over the count. -/
theorem scale (x : EReal) : Ideal.div (Ideal.ofBits .f32 0x3F000000#32) (Ideal.ofBits .f32 0x45000000#32) * (Ideal.ofBits .f32 0x40000000#32 * x)
    = x * Ideal.ofBits .f32 0x3A000000#32 := by
  rw [lit_half, lit_two, lit_2048, lit_inv, ← mul_assoc, mul_comm x]
  refine congrArg (· * x) ?_
  unfold Ideal.div
  rw [if_neg (by norm_num), ← EReal.coe_inv, ← EReal.coe_mul, ← EReal.coe_mul]
  norm_num

theorem after5 (c : Dev nD) (t : Fin cfg0.N) (h : t.val % 4 = 3) :
    (dats m 0 c).after 5 t = k0_pay4 (acc m c t) (iblk m c 2 t) (iblk m c 3 t) (iblk m c 4 t) := by
  rw [after0_5, acc_C m c t h, outsAt0_C m c t (by omega) h]
  frame_out
  rw [read_unread_whole]

theorem after6 (c : Dev nD) (t : Fin cfg0.N) (h : t.val % 4 = 3) :
    (dats m 0 c).after 6 t = k0_pay5 (acc m c t) (iblk m c 2 t) (iblk m c 3 t) (iblk m c 4 t) := by
  rw [after0_6, acc_C m c t h, outsAt0_C m c t (by omega) h]
  frame_out
  rw [read_unread_whole]

theorem after7 (c : Dev nD) (t : Fin cfg0.N) (h : t.val % 4 = 3) :
    (dats m 0 c).after 7 t = k0_pay6 (acc m c t) (iblk m c 2 t) (iblk m c 3 t) (iblk m c 4 t) := by
  rw [after0_7, acc_C m c t h, outsAt0_C m c t (by omega) h]
  frame_out
  rw [read_unread_whole]

theorem after8 (c : Dev nD) (t : Fin cfg0.N) (h : t.val % 4 = 3) :
    (dats m 0 c).after 8 t = k0_pay7 (acc m c t) (iblk m c 2 t) (iblk m c 3 t) (iblk m c 4 t) := by
  rw [after0_8, acc_C m c t h, outsAt0_C m c t (by omega) h]
  frame_out
  rw [read_unread_whole]

/-- The difference between the step's output and its target, over the host's arguments. -/
abbrev diff (c : Dev nD) (r q : Fin 2048) : EReal :=
  (fun x g f t : EReal => x + g * f - t) (m ((c : Thread nD τ).loc main_arg2) (ix2 r q)) (m ((c : Thread nD τ).loc main_arg4) (ix2 0 q))
    (∑ x : Fin 8192, (fun a b : EReal => max a 0 * max a 0 * b) (m ((c : Thread nD τ).loc main_arg0) (ix2 r x)) (m ((c : Thread nD τ).loc main_arg1) (ix2 x q)))
    (m ((c : Thread nD τ).loc main_arg3) (ix2 r q))

theorem gate (c : Dev nD) (t : Fin cfg0.N) (b : Fin 1024) (q : Fin 2048) (hq : q.val = t.val / 4 % 2 * 1024 + b.val) :
    iblk m c 4 t (ix2 0 b) = m ((c : Thread nD τ).loc main_arg4) (ix2 0 q) := by
  refine (V_g m c _).trans ?_
  blk_point [idx4 t]

theorem pay_diff (c : Dev nD) (t : Fin cfg0.N) (h : t.val % 4 = 3) (y : S1024x1024.Idx) (r q : Fin 2048)
    (hr : r.val = t.val / 8 * 1024 + (y 0).val) (hq : q.val = t.val / 4 % 2 * 1024 + (y 1).val) :
    k0_pay3 (acc m c t) (iblk m c 2 t) (iblk m c 3 t) (iblk m c 4 t) y = diff m c r q := by
  pointwise [k0_pay3]
  have e2 : iblk m c 2 t y = m ((c : Thread nD τ).loc main_arg2) (ix2 r q) := by
    refine (V_x m c _).trans ?_
    blk_point [idx2 t]
  have e3 : iblk m c 3 t y = m ((c : Thread nD τ).loc main_arg3) (ix2 r q) := by
    refine (V_t m c _).trans ?_
    blk_point [idx3 t]
  rw [acc_sum m c t h y r q hr hq, e2, e3, gate m c t (y 1) q hq]

/-- The gradient of the step's output. -/
theorem arr5 (c : Dev nD) : (dats m 0 c).arrAt 5 cfg0.N = Cert.LossRefIdeal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h := (flush0_5 t).mp hf
  have ht : t.val < 16 := lt_of_lt_of_eq t.isLt N_0
  have h0 : (y 0).val < 1024 := (y 0).isLt
  have h1 : (y 1).val < 1024 := (y 1).isLt
  blk_simp
  rw [after5 m c t h, ← Cert.LossRefIdeal.Read.val_main_v32_eq]
  pointwise [k0_pay4]
  rw [scale]
  refine congrArg (fun a : EReal => a * _) ((pay_diff m c t h y ⟨t.val / 8 * 1024 + (y 0).val, by omega⟩ ⟨t.val / 4 % 2 * 1024 + (y 1).val, by omega⟩ rfl rfl).trans ?_)
  unfold diff
  beta_reduce
  blk_point [idx5 t]

/-- The gradient of the MLP's output, through the gate. -/
theorem arr6 (c : Dev nD) : (dats m 0 c).arrAt 6 cfg0.N = Cert.LossRefIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  have h := (flush0_6 t).mp hf
  have ht : t.val < 16 := lt_of_lt_of_eq t.isLt N_0
  have h0 : (y 0).val < 1024 := (y 0).isLt
  have h1 : (y 1).val < 1024 := (y 1).isLt
  blk_simp
  rw [after6 m c t h, ← Cert.LossRefIdeal.Read.val_main_v33_eq]
  pointwise [k0_pay5, k0_pay4]
  rw [scale]
  refine (ValueKit.ereal_mul_comm _ _).trans ?_
  refine congrArg₂ (fun a b : EReal => a * b) ((gate m c t (y 1) ⟨t.val / 4 % 2 * 1024 + (y 1).val, by omega⟩ rfl).trans ?_)
    (congrArg (fun a : EReal => a * _) ((pay_diff m c t h y ⟨t.val / 8 * 1024 + (y 0).val, by omega⟩ ⟨t.val / 4 % 2 * 1024 + (y 1).val, by omega⟩ rfl rfl).trans ?_))
  · blk_point [idx6 t]
  · unfold diff
    beta_reduce
    blk_point [idx6 t]

/-- The gate's gradient, by half of the rows. -/
theorem arr7 (c : Dev nD) : (dats m 0 c).arrAt 7 cfg0.N = Cert.LossRefIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have h := (flush0_7 t).mp hf
  have ht : t.val < 16 := lt_of_lt_of_eq t.isLt N_0
  have h2 : (y 2).val < 1024 := (y 2).isLt
  blk_simp
  rw [after7 m c t h, ← Cert.LossRefIdeal.Read.val_main_v30_eq]
  pointwise [k0_pay6, k0_pay4]
  refine Fin.sum_fin_congr fun k => ?_
  rw [scale]
  refine congrArg₂ (fun a b : EReal => a * b)
    (congrArg (fun a : EReal => a * _) ((pay_diff m c t h (ix2 k (y 2)) ⟨t.val / 8 * 1024 + k.val, by omega⟩ ⟨t.val / 4 % 2 * 1024 + (y 2).val, by omega⟩ rfl rfl).trans ?_))
    ((acc_sum m c t h (ix2 k (y 2)) ⟨t.val / 8 * 1024 + k.val, by omega⟩ ⟨t.val / 4 % 2 * 1024 + (y 2).val, by omega⟩ rfl rfl).trans ?_)
  · unfold diff
    beta_reduce
    blk_point [idx7 t]
  · beta_reduce
    blk_point [idx7 t]

/-- The squared differences' sums, by half of the rows. -/
theorem arr8 (c : Dev nD) : (dats m 0 c).arrAt 8 cfg0.N = Cert.LossRefIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  have h := (flush0_8 t).mp hf
  have ht : t.val < 16 := lt_of_lt_of_eq t.isLt N_0
  have h2 : (y 2).val < 1024 := (y 2).isLt
  blk_simp
  rw [after8 m c t h, ← Cert.LossRefIdeal.Read.val_main_v43_eq]
  pointwise [k0_pay7]
  refine Fin.sum_fin_congr fun k => ?_
  have e := pay_diff m c t h (ix2 k (y 2)) ⟨t.val / 8 * 1024 + k.val, by omega⟩ ⟨t.val / 4 % 2 * 1024 + (y 2).val, by omega⟩ rfl rfl
  refine congrArg₂ (fun a b : EReal => a * b) (e.trans ?_) (e.trans ?_) <;> unfold diff <;> beta_reduce <;> blk_point [idx8 t]

/-- The kernel and the reference end with the same four arrays. -/
theorem algebraic : Cert.algebraic_LossIdeal_LossRefIdeal (hLossIdeal := Cert.LossIdeal.Gen.facts) (hLossRefIdeal := Cert.LossRefIdeal.Gen.facts) :=
  fun m g m' g' _ hm => ⟨_, _, _, _, (θ_run Cert.LossIdeal.defs _ _).mono (fun _ hr c => ⟨(hr c).1.trans (arr5 m c), (hr c).2.1.trans (arr6 m c), (hr c).2.2.1.trans (arr7 m c), (hr c).2.2.2.1.trans (arr8 m c), (hr c).2.2.2.2⟩) (Cert.LossIdeal.Value.run_blocks m g),
    (θ_run Cert.LossRefIdeal.defs _ _).mono (fun r hr c => by
      obtain ⟨e0, e1, e2, e3, e4⟩ := hm c
      refine ⟨(hr c).1.trans ((Cert.LossRefIdeal.Read.val_main_v32_eq _ _ _ _ _).trans ?_), (hr c).2.1.trans ((Cert.LossRefIdeal.Read.val_main_v33_eq _ _ _ _ _).trans ?_), (hr c).2.2.1.trans ((Cert.LossRefIdeal.Read.val_main_v30_eq _ _ _ _ _).trans ?_), (hr c).2.2.2.1.trans ((Cert.LossRefIdeal.Read.val_main_v43_eq _ _ _ _ _).trans ?_), (hr c).2.2.2.2⟩
      · rw [e0, e1, e2, e3, e4]
      · rw [e0, e1, e2, e3, e4]
      · rw [e0, e1, e2, e3, e4]
      · rw [e0, e1, e2, e3, e4]) (Cert.LossRefIdeal.Value.run (F := Ideal) m' g')⟩

end Cert.Proof.Mixer.Loss

end
-- ==== Proof.Mixer.Norm.lean ====
/- The norm with its modulation: block by block of rows the reference's. -/
module

public import proofs.«01_k».proof.Defs
public import proofs.«01_k».proof.Proof.Gen.NormIdeal.Value
public import proofs.«01_k».proof.Proof.Gen.NormRefIdeal.Run
public import proofs.«01_k».proof.Proof.Gen.NormRefIdeal.Read
public import Idealize.ShloMosaic.Lib.Pipeline.ValueKit.Point

@[expose] public section

set_option maxRecDepth 16384

noncomputable section

namespace Cert.Proof.Mixer.Norm

open Idealize.ShloMosaic Idealize.ShloMosaic.TcCoe Idealize.SL.Sem
open Cert.NormIdeal Cert.NormIdeal.Gen

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![t.val, 0] := by decide +kernel

/-- The kernel's result array is the reference's last stage over the kernel's own arguments. -/
theorem arr (c : Dev nD) : (dats m 0 c).arrAt 4 cfg0.N
    = Cert.NormRefIdeal.Read.val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [← Cert.NormRefIdeal.Read.val_main_v18_eq]
  pointwise [k0_pay1]
  blk_point [iblk, V, idx0 t, idx1 t, idx2 t, idx3 t, idx4 t]

/-- The kernel and the reference end with the same array. -/
theorem algebraic : Cert.algebraic_NormIdeal_NormRefIdeal (hNormIdeal := Cert.NormIdeal.Gen.facts) (hNormRefIdeal := Cert.NormRefIdeal.Gen.facts) :=
  fun m g m' g' _ hm => ⟨_, (θ_run Cert.NormIdeal.defs _ _).mono (fun _ hr c => ⟨(hr c).1.trans (arr m c), (hr c).2⟩) (Cert.NormIdeal.Value.run_blocks m g),
    (θ_run Cert.NormRefIdeal.defs _ _).mono (fun r hr c => by
      obtain ⟨e0, e1, e2, e3⟩ := hm c
      refine ⟨(hr c).1.trans ((Cert.NormRefIdeal.Read.val_main_v18_eq _ _ _ _).trans ?_), (hr c).2⟩
      rw [e0, e1, e2, e3]) (Cert.NormRefIdeal.Value.run (F := Ideal) m' g')⟩

end Cert.Proof.Mixer.Norm

end
-- ==== Proof.Mixer.RowNorm.lean ====
/- The norm of a row over the extended reals: the kernel's form of its gradient is the one that differentiating the
   reciprocal root gives, whatever the row holds. -/
module

public import Idealize.ShloMosaic.PureOps.Ideal

@[expose] public section

noncomputable section

namespace Cert.Proof.Mixer.RowNorm

open Idealize.ShloMosaic

variable {n : ℕ}

theorem square_nonneg (x : EReal) : 0 ≤ x * x :=
  EReal.mul_nonneg_iff.2 ((le_total 0 x).imp (fun h => ⟨h, h⟩) fun h => ⟨h, h⟩)

theorem div_coe (x : EReal) (l : ℝ) (h : l ≠ 0) : Ideal.div x l = x * ((l⁻¹ : ℝ) : EReal) := by
  unfold Ideal.div
  rw [if_neg (by exact_mod_cast h), EReal.coe_inv]

/-- A mean of squares and a positive number is positive. -/
theorem mean_pos (f : Fin n → EReal) (l e : ℝ) (hl : 0 < l) (he : 0 < e) : 0 < Ideal.div (∑ k, f k * f k) l + (e : EReal) := by
  rw [div_coe _ _ hl.ne']
  refine lt_of_lt_of_le (by exact_mod_cast he) (le_add_of_nonneg_left (mul_nonneg (Finset.sum_nonneg fun k _ => square_nonneg _) ?_))
  exact_mod_cast (inv_pos.2 hl).le

/-- A real factor that isn't negative leaves a sum. -/
theorem mul_sum_coe (r : ℝ) (hr : 0 ≤ r) (f : Fin n → EReal) : (r : EReal) * ∑ k, f k = ∑ k, (r : EReal) * f k := by
  refine Finset.induction_on (Finset.univ : Finset (Fin n)) (by simp) fun a s ha ih => ?_
  rw [Finset.sum_insert ha, Finset.sum_insert ha,
    EReal.left_distrib_of_nonneg_of_ne_top (by exact_mod_cast hr) (EReal.coe_ne_top r), ih]

/-- The gradient of a row's norm, the residual's added. -/
theorem grad (v : EReal) (hv : 0 < v) (d a x : EReal) (f g : Fin n → EReal) (l : ℝ) (hl : l ≠ 0) :
    d + Ideal.rsqrt v * (a - x * Ideal.rsqrt v * Ideal.div (∑ k, f k * (g k * Ideal.rsqrt v)) l)
      = d + a * Ideal.rsqrt v
        + Ideal.div ((∑ k, g k * f k) * (((-(1 / 2) : ℝ) : EReal) * Ideal.div (Ideal.rsqrt v) v)) l * (((2 : ℝ) : EReal) * x) := by
  rw [div_coe _ _ hl, div_coe _ _ hl]
  induction v using EReal.rec with
  | bot => exact absurd hv (by simp)
  | top =>
    have h0 : Ideal.rsqrt ⊤ = 0 := rfl
    have h1 : Ideal.div 0 ⊤ = 0 := by
      unfold Ideal.div
      rw [if_neg (by simp), zero_mul]
    rw [h0, h1]
    simp
  | coe v =>
    have hv : 0 < v := by exact_mod_cast hv
    have hr : Ideal.rsqrt (v : EReal) = (((Real.sqrt v)⁻¹ : ℝ) : EReal) := by
      rw [Ideal.rsqrt_coe, if_neg (not_lt.2 hv.le), if_neg hv.ne']
    have hn : 0 ≤ (Real.sqrt v)⁻¹ := inv_nonneg.2 (Real.sqrt_nonneg v)
    have hs : (Real.sqrt v)⁻¹ * (Real.sqrt v)⁻¹ = v⁻¹ := by rw [← mul_inv, Real.mul_self_sqrt hv.le]
    rw [hr, div_coe _ _ hv.ne']
    generalize (Real.sqrt v)⁻¹ = r at hn hs
    have hq : ((-(1 / 2) : ℝ) : EReal) * ((r : EReal) * ((v⁻¹ : ℝ) : EReal)) * ((2 : ℝ) : EReal) = -((r : EReal) * r * r) := by
      rw [← hs]
      norm_cast
      ring
    have hsum : ∑ k, f k * (g k * (r : EReal)) = r * ∑ k, g k * f k := by
      rw [mul_sum_coe r hn]
      exact Finset.sum_congr rfl fun k _ => by rw [← mul_assoc, mul_comm (f k) (g k), mul_comm]
    rw [hsum]
    generalize (∑ k, g k * f k) = s
    rw [sub_eq_add_neg, EReal.left_distrib_of_nonneg_of_ne_top (by exact_mod_cast hn) (EReal.coe_ne_top r), ← add_assoc, mul_comm a]
    refine congrArg (fun z : EReal => d + (r : EReal) * a + z) ?_
    calc (r : EReal) * -(x * r * (r * s * ((l⁻¹ : ℝ) : EReal)))
        = s * ((l⁻¹ : ℝ) : EReal) * x * -((r : EReal) * r * r) := by
          rw [mul_neg, mul_neg]
          exact congrArg Neg.neg (by ac_rfl)
      _ = _ := by
          rw [← hq]
          ac_rfl

theorem lit_count : Ideal.ofBits .f32 0x45000000#32 = ((2048 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- The mean of a row's squares and the norm's small number. -/
abbrev meanSq (g : Fin n → EReal) : EReal :=
  Ideal.div (∑ k, g k * g k) (Ideal.ofBits .f32 0x45000000#32) + Ideal.ofBits .f32 0x358637BD#32

/-- The same with the literals of the two programs, and the reference's sum over an axis of one. -/
theorem lit_grad (d a x : EReal) (f g : Fin n → EReal) :
    d + Ideal.rsqrt (meanSq g) * (a - x * Ideal.rsqrt (meanSq g)
        * Ideal.div (∑ k, f k * (g k * Ideal.rsqrt (meanSq g))) (Ideal.ofBits .f32 0x45000000#32))
      = d + a * Ideal.rsqrt (meanSq g)
        + (∑ _ : Fin 1, Ideal.div ((∑ k, g k * f k) * (Ideal.ofBits .f32 0xBF000000#32 * Ideal.div (Ideal.rsqrt (meanSq g)) (meanSq g)))
            (Ideal.ofBits .f32 0x45000000#32)) * (Ideal.ofBits .f32 0x40000000#32 * x) := by
  have hv : 0 < meanSq g := by
    obtain ⟨e, he, h⟩ := lit_eps
    unfold meanSq
    rw [lit_count, h]
    exact mean_pos g 2048 e (by norm_num) he
  generalize meanSq g = v at hv
  rw [lit_count, lit_two, lit_neg_half, Fin.sum_univ_one]
  exact grad v hv d a x f g 2048 (by norm_num)

end Cert.Proof.Mixer.RowNorm

end
-- ==== Proof.Mixer.GradNorm1.lean ====
/- The gradient of the first norm and its modulation: block by block of rows the kernel's arrays are the reference's. -/
module

public import proofs.«01_k».proof.Defs
public import proofs.«01_k».proof.Proof.Gen.GradNorm1Ideal.Value
public import proofs.«01_k».proof.Proof.Gen.GradNorm1RefIdeal.Run
public import proofs.«01_k».proof.Proof.Gen.GradNorm1RefIdeal.Read
public import proofs.«01_k».proof.Proof.Mixer.RowNorm
public import Idealize.ShloMosaic.Lib.Pipeline.ValueKit.Point

@[expose] public section

set_option maxRecDepth 16384

noncomputable section

namespace Cert.Proof.Mixer.GradNorm1

open Idealize.ShloMosaic Idealize.ShloMosaic.TcCoe Idealize.SL.Sem
open Cert.GradNorm1Ideal Cert.GradNorm1Ideal.Gen

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![t.val, 0, 0] := by decide +kernel
theorem idx7 : ∀ t : Fin cfg0.N, win0_7.index t = ![t.val, 0, 0] := by decide +kernel
theorem idx8 : ∀ t : Fin cfg0.N, win0_8.index t = ![t.val, 0, 0] := by decide +kernel

/-- The gradient of the step's input. -/
theorem arr5 (c : Dev nD) : (dats m 0 c).arrAt 5 cfg0.N
    = Cert.GradNorm1RefIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  rw [← Cert.GradNorm1RefIdeal.Read.val_main_v54_eq]
  pointwise [k0_pay1, k0_pay2, k0_pay3, k0_pay4, k0_pay5, k0_pay6, k0_pay7, k0_pay8]
  refine (RowNorm.lit_grad _ _ _ _ _).trans ?_
  unfold RowNorm.meanSq
  beta_reduce
  blk_point [iblk, V, idx0 t, idx1 t, idx2 t, idx3 t, idx4 t, idx5 t]

/-- The shift's gradient, by block of rows. -/
theorem arr6 (c : Dev nD) : (dats m 0 c).arrAt 6 cfg0.N
    = Cert.GradNorm1RefIdeal.Read.val_main_v30 (F := Ideal) (m ((c : Thread nD τ).loc main_arg0)) := by
  refine (dats m 0 c).arrAt_eq_of_covers 6 _ (by decide +kernel) fun t hf y => ?_
  blk_simp
  rw [after0_6]
  frame_out
  rw [← Cert.GradNorm1RefIdeal.Read.val_main_v30_eq]
  pointwise [k0_pay1, k0_pay2, k0_pay3, k0_pay4, k0_pay5, k0_pay6, k0_pay7, k0_pay8]
  blk_point [iblk, V, idx0 t, idx1 t, idx2 t, idx3 t, idx4 t, idx6 t]

/-- The scale's gradient, by block of rows. -/
theorem arr7 (c : Dev nD) : (dats m 0 c).arrAt 7 cfg0.N
    = Cert.GradNorm1RefIdeal.Read.val_main_v33 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [← Cert.GradNorm1RefIdeal.Read.val_main_v33_eq]
  pointwise [k0_pay1, k0_pay2, k0_pay3, k0_pay4, k0_pay5, k0_pay6, k0_pay7, k0_pay8]
  refine Fin.sum_fin_congr fun k => (ValueKit.ereal_mul_comm _ _).trans ?_
  blk_point [iblk, V, idx0 t, idx1 t, idx2 t, idx3 t, idx4 t, idx7 t]

/-- The norm's weight's gradient, by block of rows. -/
theorem arr8 (c : Dev nD) : (dats m 0 c).arrAt 8 cfg0.N
    = Cert.GradNorm1RefIdeal.Read.val_main_v38 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8]
  frame_out
  rw [← Cert.GradNorm1RefIdeal.Read.val_main_v38_eq]
  pointwise [k0_pay1, k0_pay2, k0_pay3, k0_pay4, k0_pay5, k0_pay6, k0_pay7, k0_pay8]
  refine Fin.sum_fin_congr fun k => (ValueKit.ereal_mul_comm _ _).trans ?_
  blk_point [iblk, V, idx0 t, idx1 t, idx2 t, idx3 t, idx4 t, idx8 t]

/-- The kernel and the reference end with the same arrays. -/
theorem algebraic : Cert.algebraic_GradNorm1Ideal_GradNorm1RefIdeal (hGradNorm1Ideal := Cert.GradNorm1Ideal.Gen.facts) (hGradNorm1RefIdeal := Cert.GradNorm1RefIdeal.Gen.facts) :=
  fun m g m' g' _ hm => ⟨_, _, _, _, (θ_run Cert.GradNorm1Ideal.defs _ _).mono (fun _ hr c => ⟨(hr c).1.trans (arr5 m c), (hr c).2.1.trans (arr6 m c), (hr c).2.2.1.trans (arr7 m c), (hr c).2.2.2.1.trans (arr8 m c), (hr c).2.2.2.2⟩) (Cert.GradNorm1Ideal.Value.run_blocks m g),
    (θ_run Cert.GradNorm1RefIdeal.defs _ _).mono (fun r hr c => by
      obtain ⟨e0, e1, e2, e3, e4⟩ := hm c
      refine ⟨(hr c).1.trans ((Cert.GradNorm1RefIdeal.Read.val_main_v54_eq _ _ _ _ _).trans ?_), (hr c).2.1.trans ((Cert.GradNorm1RefIdeal.Read.val_main_v30_eq _).trans ?_), (hr c).2.2.1.trans ((Cert.GradNorm1RefIdeal.Read.val_main_v33_eq _ _ _).trans ?_), (hr c).2.2.2.1.trans ((Cert.GradNorm1RefIdeal.Read.val_main_v38_eq _ _ _).trans ?_), (hr c).2.2.2.2⟩
      · rw [e0, e1, e2, e3, e4]
      · rw [e0]
      · rw [e0, e1, e3]
      · rw [e0, e1, e4]) (Cert.GradNorm1RefIdeal.Value.run (F := Ideal) m' g')⟩

end Cert.Proof.Mixer.GradNorm1

end
-- ==== Proof.Mixer.GradNorm2.lean ====
/- The gradient of the second norm and its modulation, and of the first gate: block by block of rows the kernel's arrays are
   the reference's. -/
module

public import proofs.«01_k».proof.Defs
public import proofs.«01_k».proof.Proof.Gen.GradNorm2Ideal.Value
public import proofs.«01_k».proof.Proof.Gen.GradNorm2RefIdeal.Run
public import proofs.«01_k».proof.Proof.Gen.GradNorm2RefIdeal.Read
public import proofs.«01_k».proof.Proof.Mixer.RowNorm
public import Idealize.ShloMosaic.Lib.Pipeline.ValueKit.Point

@[expose] public section

set_option maxRecDepth 16384

noncomputable section

namespace Cert.Proof.Mixer.GradNorm2

open Idealize.ShloMosaic Idealize.ShloMosaic.TcCoe Idealize.SL.Sem
open Cert.GradNorm2Ideal Cert.GradNorm2Ideal.Gen

variable (m : (ℓ : Loc nD τ sig) → Buf (Elt Ideal) ℓ)

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0] := by decide +kernel
theorem idx6 : ∀ t : Fin cfg0.N, win0_6.index t = ![0, 0] := by decide +kernel
theorem idx7 : ∀ t : Fin cfg0.N, win0_7.index t = ![t.val, 0] := by decide +kernel
theorem idx8 : ∀ t : Fin cfg0.N, win0_8.index t = ![t.val, 0, 0] := by decide +kernel
theorem idx9 : ∀ t : Fin cfg0.N, win0_9.index t = ![t.val, 0, 0] := by decide +kernel
theorem idx10 : ∀ t : Fin cfg0.N, win0_10.index t = ![t.val, 0, 0] := by decide +kernel
theorem idx11 : ∀ t : Fin cfg0.N, win0_11.index t = ![t.val, 0] := by decide +kernel
theorem idx12 : ∀ t : Fin cfg0.N, win0_12.index t = ![t.val, 0, 0] := by decide +kernel

/-- The gradient of the step between the sublayers. -/
theorem arr7 (c : Dev nD) : (dats m 0 c).arrAt 7 cfg0.N
    = Cert.GradNorm2RefIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7]
  frame_out
  rw [← Cert.GradNorm2RefIdeal.Read.val_main_v64_eq]
  pointwise [k0_pay1, k0_pay2, k0_pay3, k0_pay4, k0_pay5, k0_pay6, k0_pay7, k0_pay8, k0_pay9, k0_pay10, k0_pay11, k0_pay12, k0_pay13]
  refine (RowNorm.lit_grad _ _ _ _ _).trans ?_
  unfold RowNorm.meanSq
  beta_reduce
  blk_point [iblk, V, idx0 t, idx1 t, idx2 t, idx3 t, idx4 t, idx5 t, idx6 t, idx7 t]

/-- The shift's gradient, by block of rows. -/
theorem arr8 (c : Dev nD) : (dats m 0 c).arrAt 8 cfg0.N
    = Cert.GradNorm2RefIdeal.Read.val_main_v30 (F := Ideal) (m ((c : Thread nD τ).loc main_arg0)) := by
  refine (dats m 0 c).arrAt_eq_of_covers 8 _ (by decide +kernel) fun t hf y => ?_
  blk_simp
  rw [after0_8]
  frame_out
  rw [← Cert.GradNorm2RefIdeal.Read.val_main_v30_eq]
  pointwise [k0_pay1, k0_pay2, k0_pay3, k0_pay4, k0_pay5, k0_pay6, k0_pay7, k0_pay8, k0_pay9, k0_pay10, k0_pay11, k0_pay12, k0_pay13]
  blk_point [iblk, V, idx0 t, idx1 t, idx2 t, idx3 t, idx4 t, idx5 t, idx6 t, idx8 t]

/-- The scale's gradient, by block of rows. -/
theorem arr9 (c : Dev nD) : (dats m 0 c).arrAt 9 cfg0.N
    = Cert.GradNorm2RefIdeal.Read.val_main_v33 (F := Ideal) (m ((c : Thread nD τ).loc main_arg0)) (m ((c : Thread nD τ).loc main_arg1)) (m ((c : Thread nD τ).loc main_arg3)) := by
  refine (dats m 0 c).arrAt_eq_of_covers 9 _ (by decide +kernel) fun t hf y => ?_
  blk_simp
  rw [after0_9]
  frame_out
  rw [← Cert.GradNorm2RefIdeal.Read.val_main_v33_eq]
  pointwise [k0_pay1, k0_pay2, k0_pay3, k0_pay4, k0_pay5, k0_pay6, k0_pay7, k0_pay8, k0_pay9, k0_pay10, k0_pay11, k0_pay12, k0_pay13]
  refine Fin.sum_fin_congr fun k => (ValueKit.ereal_mul_comm _ _).trans ?_
  blk_point [iblk, V, idx0 t, idx1 t, idx2 t, idx3 t, idx4 t, idx5 t, idx6 t, idx9 t]

/-- The norm's weight's gradient, by block of rows. -/
theorem arr10 (c : Dev nD) : (dats m 0 c).arrAt 10 cfg0.N
    = Cert.GradNorm2RefIdeal.Read.val_main_v38 (F := Ideal) (m ((c : Thread nD τ).loc main_arg0)) (m ((c : Thread nD τ).loc main_arg1)) (m ((c : Thread nD τ).loc main_arg4)) := by
  refine (dats m 0 c).arrAt_eq_of_covers 10 _ (by decide +kernel) fun t hf y => ?_
  blk_simp
  rw [after0_10]
  frame_out
  rw [← Cert.GradNorm2RefIdeal.Read.val_main_v38_eq]
  pointwise [k0_pay1, k0_pay2, k0_pay3, k0_pay4, k0_pay5, k0_pay6, k0_pay7, k0_pay8, k0_pay9, k0_pay10, k0_pay11, k0_pay12, k0_pay13]
  refine Fin.sum_fin_congr fun k => (ValueKit.ereal_mul_comm _ _).trans ?_
  blk_point [iblk, V, idx0 t, idx1 t, idx2 t, idx3 t, idx4 t, idx5 t, idx6 t, idx10 t]

/-- The gradient of the output projection's result, through the gate. -/
theorem arr11 (c : Dev nD) : (dats m 0 c).arrAt 11 cfg0.N
    = Cert.GradNorm2RefIdeal.Read.val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m 0 c).arrAt_eq_of_covers 11 _ (by decide +kernel) fun t hf y => ?_
  blk_simp
  rw [after0_11]
  frame_out
  rw [← Cert.GradNorm2RefIdeal.Read.val_main_v66_eq]
  pointwise [k0_pay1, k0_pay2, k0_pay3, k0_pay4, k0_pay5, k0_pay6, k0_pay7, k0_pay8, k0_pay9, k0_pay10, k0_pay11, k0_pay12, k0_pay13]
  refine (ValueKit.ereal_mul_comm _ _).trans (congrArg₂ (fun a b : EReal => a * b) ?_ ((RowNorm.lit_grad _ _ _ _ _).trans ?_))
  · blk_point [iblk, V, idx0 t, idx1 t, idx2 t, idx3 t, idx4 t, idx5 t, idx6 t, idx11 t]
  · unfold RowNorm.meanSq
    beta_reduce
    blk_point [iblk, V, idx0 t, idx1 t, idx2 t, idx3 t, idx4 t, idx5 t, idx6 t, idx11 t]

/-- The gate's gradient, by block of rows. -/
theorem arr12 (c : Dev nD) : (dats m 0 c).arrAt 12 cfg0.N
    = Cert.GradNorm2RefIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 12 _ (by decide +kernel) fun t hf y => ?_
  blk_simp
  rw [after0_12]
  frame_out
  rw [← Cert.GradNorm2RefIdeal.Read.val_main_v63_eq]
  pointwise [k0_pay1, k0_pay2, k0_pay3, k0_pay4, k0_pay5, k0_pay6, k0_pay7, k0_pay8, k0_pay9, k0_pay10, k0_pay11, k0_pay12, k0_pay13]
  refine Fin.sum_fin_congr fun k => ?_
  refine congrArg₂ (fun a b : EReal => a * b) ((RowNorm.lit_grad _ _ _ _ _).trans ?_) ?_
  · unfold RowNorm.meanSq
    beta_reduce
    blk_point [iblk, V, idx0 t, idx1 t, idx2 t, idx3 t, idx4 t, idx5 t, idx6 t, idx12 t]
  · blk_point [iblk, V, idx0 t, idx1 t, idx2 t, idx3 t, idx4 t, idx5 t, idx6 t, idx12 t]

/-- The kernel and the reference end with the same arrays. -/
theorem algebraic : Cert.algebraic_GradNorm2Ideal_GradNorm2RefIdeal (hGradNorm2Ideal := Cert.GradNorm2Ideal.Gen.facts) (hGradNorm2RefIdeal := Cert.GradNorm2RefIdeal.Gen.facts) :=
  fun m g m' g' _ hm => ⟨_, _, _, _, _, _, (θ_run Cert.GradNorm2Ideal.defs _ _).mono (fun _ hr c => ⟨(hr c).1.trans (arr7 m c), (hr c).2.1.trans (arr8 m c), (hr c).2.2.1.trans (arr9 m c), (hr c).2.2.2.1.trans (arr10 m c), (hr c).2.2.2.2.1.trans (arr11 m c), (hr c).2.2.2.2.2.1.trans (arr12 m c), (hr c).2.2.2.2.2.2⟩) (Cert.GradNorm2Ideal.Value.run_blocks m g),
    (θ_run Cert.GradNorm2RefIdeal.defs _ _).mono (fun r hr c => by
      obtain ⟨e0, e1, e2, e3, e4, e5, e6⟩ := hm c
      refine ⟨(hr c).1.trans ((Cert.GradNorm2RefIdeal.Read.val_main_v64_eq _ _ _ _ _).trans ?_), (hr c).2.1.trans ((Cert.GradNorm2RefIdeal.Read.val_main_v30_eq _).trans ?_), (hr c).2.2.1.trans ((Cert.GradNorm2RefIdeal.Read.val_main_v33_eq _ _ _).trans ?_), (hr c).2.2.2.1.trans ((Cert.GradNorm2RefIdeal.Read.val_main_v38_eq _ _ _).trans ?_), (hr c).2.2.2.2.1.trans ((Cert.GradNorm2RefIdeal.Read.val_main_v66_eq _ _ _ _ _ _).trans ?_), (hr c).2.2.2.2.2.1.trans ((Cert.GradNorm2RefIdeal.Read.val_main_v63_eq _ _ _ _ _ _).trans ?_), (hr c).2.2.2.2.2.2⟩
      · rw [e0, e1, e2, e3, e4]
      · rw [e0]
      · rw [e0, e1, e3]
      · rw [e0, e1, e4]
      · rw [e0, e1, e2, e3, e4, e6]
      · rw [e0, e1, e2, e3, e4, e5]) (Cert.GradNorm2RefIdeal.Value.run (F := Ideal) m' g')⟩

end Cert.Proof.Mixer.GradNorm2

end
-- ==== Proof.Tile.lean ====
/- What the attention backward kernel computes on one 256 × 256 tile of scores, and along one block of 256 query rows:
   plain functions of the blocks it reads, in the kernel's own order of operations. -/
module

public import proofs.«01_k».proof.Proof.Gen.KernelIdeal.Skeleton

@[expose] public section

noncomputable section

namespace Cert.Proof

open Cert.KernelIdeal Cert.KernelIdeal.Gen
open Idealize.ShloMosaic

variable {F : FTy → Type} [FloatOps F] [Named F]

/-! ## One tile -/

/-- The scores of 256 queries against 256 keys, in base 2. -/
def score (q k : Vec F S256x128 .bf16) : FVec F S256x256 .f32 :=
  matmul dot_S256x128_S256x128_S256x256_1_1_0_0_n_n none q k (constant S256x256 .f32 0x00000000#32)

/-- log₂ of the logistic function of the scores. -/
def logBeta (s : FVec F S256x256 .f32) : FVec F S256x256 .f32 :=
  subf (minimumf s (broadcast S256x256 (Scalar.ofBits .f32 0x00000000#32)))
    (mulf (log (addf (broadcast S256x256 (Scalar.ofBits .f32 0x3F800000#32))
        (exp2 (subf (broadcast S256x256 (Scalar.ofBits .f32 0x00000000#32)) (absf s)))))
      (broadcast S256x256 (Named.named κ "log2e" 0x3FB8AA3B#32)))

/-- Which entries of a tile on the diagonal lie strictly below it. -/
def below : IVec S256x256 1 :=
  cmpi .sgt (iota .tc S256x256 32 [0] iota_S256x256_d0_w32) (iota .tc S256x256 32 [1] iota_S256x256_d1_w32)

/-- On a diagonal tile, zero except below the diagonal. -/
def keep (diag : Bool) (x : FVec F S256x256 .f32) : FVec F S256x256 .f32 :=
  Bool.rec x (select below x (broadcast S256x256 (Scalar.ofBits .f32 0x00000000#32))) diag

/-- log₂ of what is left after the logistic share. -/
def logRest (diag : Bool) (s : FVec F S256x256 .f32) : FVec F S256x256 .f32 := keep diag (subf (logBeta s) s)

/-- `x · tri`, with `x` in two bf16 parts. -/
def splitDot (x : FVec F S256x256 .f32) (tri : FVec F S256x256 .bf16) : FVec F S256x256 .f32 :=
  addf
    (matmul dot_S256x256_S256x256_S256x256_1_0_0_1_n_n none (truncf .bf16 x bitsLt_bf16_f32) tri (constant S256x256 .f32 0x00000000#32))
    (matmul dot_S256x256_S256x256_S256x256_1_0_0_1_n_n none
      (truncf .bf16 (subf x (extf .f32 (truncf .bf16 x bitsLt_bf16_f32) bitsLt_bf16_f32)) bitsLt_bf16_f32) tri
      (constant S256x256 .f32 0x00000000#32))

/-- The attention weights, given what the tiles to the right have used up. -/
def weight (diag : Bool) (s : FVec F S256x256 .f32) (triL : FVec F S256x256 .bf16) (cl : FVec F S256x1 .f32) : FVec F S256x256 .bf16 :=
  truncf .bf16 (keep diag (exp2 (addf (addf (logBeta s) (splitDot (logRest diag s) triL))
    (broadcastTo S256x256 cl broadcasts_S256x1_S256x256)))) bitsLt_bf16_f32

/-- The weights times the gradients that reach them. -/
def weightGrad (a : FVec F S256x256 .bf16) (dO v : Vec F S256x128 .bf16) : FVec F S256x256 .f32 :=
  mulf (matmul dot_S256x128_S256x128_S256x256_1_1_0_0_n_n none dO v (constant S256x256 .f32 0x00000000#32)) (extf .f32 a bitsLt_bf16_f32)

/-- The gradient of the scores: `d` is the row's whole sum of `e`, `ce` the part of it in the tiles to the right. -/
def scoreGrad (diag : Bool) (s e : FVec F S256x256 .f32) (triE : FVec F S256x256 .bf16) (d ce : FVec F S256x1 .f32) : FVec F S256x256 .bf16 :=
  truncf .bf16 (keep diag (subf e (mulf (exp2 (logBeta s)) (addf e
    (subf (broadcastTo S256x256 (subf d ce) broadcasts_S256x1_S256x256) (splitDot e triE)))))) bitsLt_bf16_f32

/-- The sums of a tile's rows, added to `c`. -/
def addRows (c : FVec F S256x1 .f32) (x : FVec F S256x256 .f32) : FVec F S256x1 .f32 :=
  addf c (shapeCast S256x1 (multiReduction .add [1] S256 x 0x00000000#32 reduces_S256x256_S256 (.inl rfl) rfl) shapeCasts_S256_S256x1)

/-- `f + pᵀ · x`: a block of `dk` or of `dv`, one tile's part added. -/
def addTN (f : Vec F S256x128 .f32) (p : FVec F S256x256 .bf16) (x : Vec F S256x128 .bf16) : FVec F S256x128 .f32 :=
  shapeCast S256x128 (addf f (matmul dot_S256x256_S256x128_S256x128_0_0_1_1_n_n none p x (constant S256x128 .f32 0x00000000#32)))
    shapeCasts_S256x128_S256x128

/-! ## One block of query rows -/

variable (F) in
/-- The blocks of 256 rows the kernel reads, by number, and its two triangles of ones. -/
structure Blocks where
  /-- the normalized queries and keys as the scores take them -/
  qn : ℕ → Vec F S256x128 .bf16
  kn : ℕ → Vec F S256x128 .bf16
  /-- the same, times the scale, as the gradients take them -/
  qz : ℕ → Vec F S256x128 .bf16
  kz : ℕ → Vec F S256x128 .bf16
  v : ℕ → Vec F S256x128 .bf16
  dO : ℕ → Vec F S256x128 .bf16
  o : ℕ → Vec F S256x128 .f32
  /-- the queries as they came -/
  q : ℕ → Vec F S256x128 .bf16
  triL : FVec F S256x256 .bf16
  triE : FVec F S256x256 .bf16

variable (F) in
/-- What a query block carries from tile to tile, from the diagonal to the left. -/
structure Carry where
  l : FVec F S256x1 .f32
  e : FVec F S256x1 .f32
  dq : FVec F S256x128 .f32

namespace Blocks

variable (B : Blocks F) (i : ℕ)

/-- `Σ_d do · o`, by row. -/
def rowDot : FVec F S256x1 .f32 :=
  shapeCast S256x1 (multiReduction .add [1] S256 (mulf (extf .f32 (B.dO i) bitsLt_bf16_f32)
    (shapeCast S256x128 (B.o i) shapeCasts_S256x128_S256x128)) 0x00000000#32 reduces_S256x128_S256 (.inl rfl) rfl) shapeCasts_S256_S256x1

/-- Query block `i`'s `m`-th tile, counted from the diagonal: its scores, -/
def s (m : ℕ) : FVec F S256x256 .f32 := score (B.qn i) (B.kn (i - m))
/-- its weights, -/
def a (m : ℕ) (c : Carry F) : FVec F S256x256 .bf16 := weight (m.beq 0) (B.s i m) B.triL c.l
/-- the weights times their gradients, -/
def e (m : ℕ) (c : Carry F) : FVec F S256x256 .f32 := weightGrad (B.a i m c) (B.dO i) (B.v (i - m))
/-- and the gradient of the scores. -/
def dz (m : ℕ) (c : Carry F) : FVec F S256x256 .bf16 := scoreGrad (m.beq 0) (B.s i m) (B.e i m c) B.triE (B.rowDot i) c.e

/-- What is carried from tile `m` to the next, -/
def next (m : ℕ) (c : Carry F) : Carry F :=
  ⟨addRows c.l (logRest (m.beq 0) (B.s i m)), addRows c.e (B.e i m c),
    addf c.dq (matmul dot_S256x256_S256x128_S256x128_1_0_0_1_n_n none (B.dz i m c) (B.kz (i - m)) (constant S256x128 .f32 0x00000000#32))⟩

/-- and what is carried to tile `m` from the first. -/
def carry (m : ℕ) : Carry F :=
  Nat.rec ⟨broadcast S256x1 (Scalar.ofBits .f32 0x00000000#32), broadcast S256x1 (Scalar.ofBits .f32 0x00000000#32),
    broadcast S256x128 (Scalar.ofBits .f32 0x00000000#32)⟩ (B.next i) m

/-- Block `j` of `dk` and of `dv` after query block `i`, from the blocks before. -/
def dkStep (j : ℕ) (f : Vec F S256x128 .f32) : FVec F S256x128 .f32 := addTN f (B.dz i (i - j) (B.carry i (i - j))) (B.qz i)
def dvStep (j : ℕ) (f : Vec F S256x128 .f32) : FVec F S256x128 .f32 := addTN f (B.a i (i - j) (B.carry i (i - j))) (B.dO i)

/-- The gradient of the normalized queries of block `i`. -/
def dqn : FVec F S256x128 .f32 := (B.carry i (i + 1)).dq

/-- The norm weight's gradient after query block `i`, from the one before. -/
def gqStep (g : Vec F S1x128 .f32) : FVec F S1x128 .f32 := k0_pay804 (B.dqn i) (k0_pay787 (B.q i)) (k0_pay788 (B.q i)) g

/-- Block `i` of `dq`. -/
def dq (w : Vec F S1x128 .f32) : FVec F S256x128 .bf16 := k0_pay805 w (B.dqn i) (k0_pay787 (B.q i)) (k0_pay788 (B.q i))

end Blocks

end Cert.Proof

end
-- ==== Proof.Trips.lean ====
/- What one trip of the attention backward's loop over query blocks touches and leaves: the shapes of the statements that the modules
   on the eight trips prove. -/
module

public import proofs.«01_k».proof.Proof.Gen.KernelIdeal.Frame
public import proofs.«01_k».proof.Proof.Gen.KernelIdeal.Loops
public import proofs.«01_k».proof.Proof.Tile

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of a memref on device `c`. -/
abbrev Bf (c : Dev nD) {sp : Space} {S : Shape} {e : EltTy} (M : Memref sig .tc sp S e) : Type := Buf (Elt F) (M.view.loc (c : Thread nD τ))
/-- Device `c` holds `f` there. -/
abbrev pt (c : Dev nD) {sp : Space} {S : Shape} {e : EltTy} (M : Memref sig .tc sp S e) (f : Bf (F := F) c M) : sProp 𝕄 :=
  M.view.loc (c : Thread nD τ) ↦{fullShare} f

/-- Rows `256 j …` of a 2048-row array. -/
abbrev blkRect (j : ℕ) : Rect S2048x128 :=
  Rect.unit ![256 * (j % 8), 0] S256x128.size (by
    intro a; fin_cases a
    · show 256 * (j % 8) + 256 ≤ 2048; omega
    · show 0 + 128 ≤ 128; omega)

/-- Block `j` of what a memref holds. -/
abbrev rd (c : Dev nD) {sp : Space} {e : EltTy} (M : Memref sig .tc sp S2048x128 e) (f : Bf (F := F) c M) (j : ℕ) : Vec F S256x128 e :=
  View.readAt (Elt F) M.view (blkRect j).toLoadRect f

/-- The whole of a 1 × 128 memref. -/
abbrev rdRow (c : Dev nD) {sp : Space} {e : EltTy} (M : Memref sig .tc sp S1x128 e) (f : Bf (F := F) c M) : Vec F S1x128 e :=
  View.readAt (Elt F) M.view (Rect.unit ![0, 0] S1x128.size inb_S1x128_S1x128_0_0).toLoadRect f

/-- Blocks `0 … n`, each stored whole. -/
abbrev pieces {e : EltTy} (n : ℕ) (P : ℕ → Vec F S256x128 e) : List (View.Piece (Elt F) S2048x128 e) :=
  (List.range (n + 1)).map fun j => ⟨blkRect j, P j⟩

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32) (v1 : Vec F S1x128 .f32) (v73 : FVec F S256x256 .bf16) (v77 : FVec F S256x256 .bf16)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

/-- What one trip touches. -/
abbrev Trip (f8 : Bf (F := F) c arg8) (f17 : Bf (F := F) c arg17) (f18 : Bf (F := F) c arg18) (f19 : Bf (F := F) c arg19) : sProp 𝕄 :=
  iprop(pt c arg1 X1 ∗ pt c arg3 X3 ∗ pt c arg4 X4 ∗ pt c arg5 X5 ∗ pt c arg13 X13 ∗ pt c arg14 X14 ∗ pt c arg15 X15 ∗ pt c arg16 X16
    ∗ pt c arg8 f8 ∗ pt c arg17 f17 ∗ pt c arg18 f18 ∗ pt c arg19 f19)

/-- The blocks, from what the memrefs hold. -/
def blocks : Blocks F :=
  ⟨rd c arg13 X13, rd c arg14 X14, rd c arg15 X15, rd c arg16 X16, rd c arg3 X3, rd c arg4 X4, rd c arg5 X5, rd c arg1 X1, v73, v77⟩

end Cert.Proof.Trips

end
-- ==== Proof.Trips.T0.lean ====
/- Trip 0 of the loop over query blocks: its run, and what it writes. -/
module

public import proofs.«01_k».proof.Proof.Trips

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32) (v1 : Vec F S1x128 .f32) (v73 : FVec F S256x256 .bf16) (v77 : FVec F S256x256 .bf16)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

attribute [local irreducible] View.readAt

/-- The run, with the pieces it writes to `dq`, `dk`, `dv` and to the norm weight's gradient. -/
def trip0 (f17 : Bf (F := F) c arg17) (f18 : Bf (F := F) c arg18) (f19 : Bf (F := F) c arg19) (h1 : ¬ k0_cond1 ⟨0, by decide⟩ = 1#1) :
    Σ' (L8 : List (View.Piece (Elt F) S2048x128 .bf16)) (L17 L18 : List (View.Piece (Elt F) S2048x128 .f32)),
      { L19 : List (View.Piece (Elt F) S1x128 .f32) // ∀ f8 : Bf (F := F) c arg8,
        Trip c arg1 arg3 arg4 arg5 arg8 arg13 arg14 arg15 arg16 arg17 arg18 arg19 X1 X3 X4 X5 X13 X14 X15 X16 f8 f17 f18 f19
        ⊢ wp Idealize.ShloMosaic.frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 ⟨0, by decide⟩ ())
          (fun _ => Trip c arg1 arg3 arg4 arg5 arg8 arg13 arg14 arg15 arg16 arg17 arg18 arg19 X1 X3 X4 X5 X13 X14 X15 X16
            (arg8.view.writes (Elt F) f8 L8) (arg17.view.writes (Elt F) f17 L17) (arg18.view.writes (Elt F) f18 L18)
            (arg19.view.writes (Elt F) f19 L19)) } := by
  refine ⟨?_, ?_, ?_, ?_, fun f8 => ?run⟩
  case run =>
    have t2 : (k0_t2_loop ⟨0, by decide⟩).trips = 0 := by decide +kernel
    have t3 : (k0_t3_loop ⟨0, by decide⟩).trips = 0 := by decide +kernel
    unfold Gen.k0_t1_body
    iintro ⟨H1, H3, H4, H5, H13, H14, H15, H16, H8, H17, H18, H19⟩
    sl_exec
    sl_step
    sl_close

set_option profiler true in
theorem trip0_dk (f17 : Bf (F := F) c arg17) (f18 : Bf (F := F) c arg18) (f19 : Bf (F := F) c arg19) (h1 : ¬ k0_cond1 ⟨0, by decide⟩ = 1#1) :
    (trip0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1).2.1 = pieces 0 fun j => (blocks c arg1 arg3 arg4 arg5 arg13 arg14 arg15 arg16 v73 v77 X1 X3 X4 X5 X13 X14 X15 X16).dkStep 0 j (rd c arg17 f17 j) := (rfl)

set_option profiler true in
theorem trip0_dv (f17 : Bf (F := F) c arg17) (f18 : Bf (F := F) c arg18) (f19 : Bf (F := F) c arg19) (h1 : ¬ k0_cond1 ⟨0, by decide⟩ = 1#1) :
    (trip0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1).2.2.1 = pieces 0 fun j => (blocks c arg1 arg3 arg4 arg5 arg13 arg14 arg15 arg16 v73 v77 X1 X3 X4 X5 X13 X14 X15 X16).dvStep 0 j (rd c arg18 f18 j) := (rfl)

set_option profiler true in
theorem trip0_dq (f17 : Bf (F := F) c arg17) (f18 : Bf (F := F) c arg18) (f19 : Bf (F := F) c arg19) (h1 : ¬ k0_cond1 ⟨0, by decide⟩ = 1#1) :
    (trip0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1).1 = [⟨blkRect 0, (blocks c arg1 arg3 arg4 arg5 arg13 arg14 arg15 arg16 v73 v77 X1 X3 X4 X5 X13 X14 X15 X16).dq 0 v0⟩] := (rfl)

set_option profiler true in
theorem trip0_gq (f17 : Bf (F := F) c arg17) (f18 : Bf (F := F) c arg18) (f19 : Bf (F := F) c arg19) (h1 : ¬ k0_cond1 ⟨0, by decide⟩ = 1#1) :
    (trip0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1).2.2.2.1 = [⟨Rect.unit ![0, 0] S1x128.size inb_S1x128_S1x128_0_0, (blocks c arg1 arg3 arg4 arg5 arg13 arg14 arg15 arg16 v73 v77 X1 X3 X4 X5 X13 X14 X15 X16).gqStep 0 (rdRow c arg19 f19)⟩] := (rfl)

end Cert.Proof.Trips

end
-- ==== Proof.Trips.T1.lean ====
/- Trip 1 of the loop over query blocks: its run, and what it writes. -/
module

public import proofs.«01_k».proof.Proof.Trips

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32) (v1 : Vec F S1x128 .f32) (v73 : FVec F S256x256 .bf16) (v77 : FVec F S256x256 .bf16)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

attribute [local irreducible] View.readAt

/-- The run, with the pieces it writes to `dq`, `dk`, `dv` and to the norm weight's gradient. -/
def trip1 (f17 : Bf (F := F) c arg17) (f18 : Bf (F := F) c arg18) (f19 : Bf (F := F) c arg19) (h1 : k0_cond1 ⟨1, by decide⟩ = 1#1) (h2 : ¬ k0_cond2 ⟨1, by decide⟩ = 1#1) :
    Σ' (L8 : List (View.Piece (Elt F) S2048x128 .bf16)) (L17 L18 : List (View.Piece (Elt F) S2048x128 .f32)),
      { L19 : List (View.Piece (Elt F) S1x128 .f32) // ∀ f8 : Bf (F := F) c arg8,
        Trip c arg1 arg3 arg4 arg5 arg8 arg13 arg14 arg15 arg16 arg17 arg18 arg19 X1 X3 X4 X5 X13 X14 X15 X16 f8 f17 f18 f19
        ⊢ wp Idealize.ShloMosaic.frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 ⟨1, by decide⟩ ())
          (fun _ => Trip c arg1 arg3 arg4 arg5 arg8 arg13 arg14 arg15 arg16 arg17 arg18 arg19 X1 X3 X4 X5 X13 X14 X15 X16
            (arg8.view.writes (Elt F) f8 L8) (arg17.view.writes (Elt F) f17 L17) (arg18.view.writes (Elt F) f18 L18)
            (arg19.view.writes (Elt F) f19 L19)) } := by
  refine ⟨?_, ?_, ?_, ?_, fun f8 => ?run⟩
  case run =>
    have t2 : (k0_t2_loop ⟨1, by decide⟩).trips = 0 := by decide +kernel
    have t3 : (k0_t3_loop ⟨1, by decide⟩).trips = 0 := by decide +kernel
    unfold Gen.k0_t1_body
    iintro ⟨H1, H3, H4, H5, H13, H14, H15, H16, H8, H17, H18, H19⟩
    sl_exec
    sl_step
    sl_close

set_option profiler true in
theorem trip1_dk (f17 : Bf (F := F) c arg17) (f18 : Bf (F := F) c arg18) (f19 : Bf (F := F) c arg19) (h1 : k0_cond1 ⟨1, by decide⟩ = 1#1) (h2 : ¬ k0_cond2 ⟨1, by decide⟩ = 1#1) :
    (trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2).2.1 = pieces 1 fun j => (blocks c arg1 arg3 arg4 arg5 arg13 arg14 arg15 arg16 v73 v77 X1 X3 X4 X5 X13 X14 X15 X16).dkStep 1 j (rd c arg17 f17 j) := (rfl)

set_option profiler true in
theorem trip1_dv (f17 : Bf (F := F) c arg17) (f18 : Bf (F := F) c arg18) (f19 : Bf (F := F) c arg19) (h1 : k0_cond1 ⟨1, by decide⟩ = 1#1) (h2 : ¬ k0_cond2 ⟨1, by decide⟩ = 1#1) :
    (trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2).2.2.1 = pieces 1 fun j => (blocks c arg1 arg3 arg4 arg5 arg13 arg14 arg15 arg16 v73 v77 X1 X3 X4 X5 X13 X14 X15 X16).dvStep 1 j (rd c arg18 f18 j) := (rfl)

set_option profiler true in
theorem trip1_dq (f17 : Bf (F := F) c arg17) (f18 : Bf (F := F) c arg18) (f19 : Bf (F := F) c arg19) (h1 : k0_cond1 ⟨1, by decide⟩ = 1#1) (h2 : ¬ k0_cond2 ⟨1, by decide⟩ = 1#1) :
    (trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2).1 = [⟨blkRect 1, (blocks c arg1 arg3 arg4 arg5 arg13 arg14 arg15 arg16 v73 v77 X1 X3 X4 X5 X13 X14 X15 X16).dq 1 v0⟩] := (rfl)

set_option profiler true in
theorem trip1_gq (f17 : Bf (F := F) c arg17) (f18 : Bf (F := F) c arg18) (f19 : Bf (F := F) c arg19) (h1 : k0_cond1 ⟨1, by decide⟩ = 1#1) (h2 : ¬ k0_cond2 ⟨1, by decide⟩ = 1#1) :
    (trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2).2.2.2.1 = [⟨Rect.unit ![0, 0] S1x128.size inb_S1x128_S1x128_0_0, (blocks c arg1 arg3 arg4 arg5 arg13 arg14 arg15 arg16 v73 v77 X1 X3 X4 X5 X13 X14 X15 X16).gqStep 1 (rdRow c arg19 f19)⟩] := (rfl)

end Cert.Proof.Trips

end
-- ==== Proof.Trips.T2.lean ====
/- Trip 2 of the loop over query blocks: its run, and what it writes. -/
module

public import proofs.«01_k».proof.Proof.Trips

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32) (v1 : Vec F S1x128 .f32) (v73 : FVec F S256x256 .bf16) (v77 : FVec F S256x256 .bf16)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

attribute [local irreducible] View.readAt

/-- The run, with the pieces it writes to `dq`, `dk`, `dv` and to the norm weight's gradient. -/
def trip2 (f17 : Bf (F := F) c arg17) (f18 : Bf (F := F) c arg18) (f19 : Bf (F := F) c arg19) (h1 : k0_cond1 ⟨2, by decide⟩ = 1#1) (h2 : k0_cond2 ⟨2, by decide⟩ = 1#1) (h3 : ¬ k0_cond3 ⟨2, by decide⟩ = 1#1) :
    Σ' (L8 : List (View.Piece (Elt F) S2048x128 .bf16)) (L17 L18 : List (View.Piece (Elt F) S2048x128 .f32)),
      { L19 : List (View.Piece (Elt F) S1x128 .f32) // ∀ f8 : Bf (F := F) c arg8,
        Trip c arg1 arg3 arg4 arg5 arg8 arg13 arg14 arg15 arg16 arg17 arg18 arg19 X1 X3 X4 X5 X13 X14 X15 X16 f8 f17 f18 f19
        ⊢ wp Idealize.ShloMosaic.frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 ⟨2, by decide⟩ ())
          (fun _ => Trip c arg1 arg3 arg4 arg5 arg8 arg13 arg14 arg15 arg16 arg17 arg18 arg19 X1 X3 X4 X5 X13 X14 X15 X16
            (arg8.view.writes (Elt F) f8 L8) (arg17.view.writes (Elt F) f17 L17) (arg18.view.writes (Elt F) f18 L18)
            (arg19.view.writes (Elt F) f19 L19)) } := by
  refine ⟨?_, ?_, ?_, ?_, fun f8 => ?run⟩
  case run =>
    have t2 : (k0_t2_loop ⟨2, by decide⟩).trips = 0 := by decide +kernel
    have t3 : (k0_t3_loop ⟨2, by decide⟩).trips = 0 := by decide +kernel
    unfold Gen.k0_t1_body
    iintro ⟨H1, H3, H4, H5, H13, H14, H15, H16, H8, H17, H18, H19⟩
    sl_exec
    sl_step
    sl_close

set_option profiler true in
theorem trip2_dk (f17 : Bf (F := F) c arg17) (f18 : Bf (F := F) c arg18) (f19 : Bf (F := F) c arg19) (h1 : k0_cond1 ⟨2, by decide⟩ = 1#1) (h2 : k0_cond2 ⟨2, by decide⟩ = 1#1) (h3 : ¬ k0_cond3 ⟨2, by decide⟩ = 1#1) :
    (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3).2.1 = pieces 2 fun j => (blocks c arg1 arg3 arg4 arg5 arg13 arg14 arg15 arg16 v73 v77 X1 X3 X4 X5 X13 X14 X15 X16).dkStep 2 j (rd c arg17 f17 j) := (rfl)

set_option profiler true in
theorem trip2_dv (f17 : Bf (F := F) c arg17) (f18 : Bf (F := F) c arg18) (f19 : Bf (F := F) c arg19) (h1 : k0_cond1 ⟨2, by decide⟩ = 1#1) (h2 : k0_cond2 ⟨2, by decide⟩ = 1#1) (h3 : ¬ k0_cond3 ⟨2, by decide⟩ = 1#1) :
    (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3).2.2.1 = pieces 2 fun j => (blocks c arg1 arg3 arg4 arg5 arg13 arg14 arg15 arg16 v73 v77 X1 X3 X4 X5 X13 X14 X15 X16).dvStep 2 j (rd c arg18 f18 j) := (rfl)

set_option profiler true in
theorem trip2_dq (f17 : Bf (F := F) c arg17) (f18 : Bf (F := F) c arg18) (f19 : Bf (F := F) c arg19) (h1 : k0_cond1 ⟨2, by decide⟩ = 1#1) (h2 : k0_cond2 ⟨2, by decide⟩ = 1#1) (h3 : ¬ k0_cond3 ⟨2, by decide⟩ = 1#1) :
    (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3).1 = [⟨blkRect 2, (blocks c arg1 arg3 arg4 arg5 arg13 arg14 arg15 arg16 v73 v77 X1 X3 X4 X5 X13 X14 X15 X16).dq 2 v0⟩] := (rfl)

set_option profiler true in
theorem trip2_gq (f17 : Bf (F := F) c arg17) (f18 : Bf (F := F) c arg18) (f19 : Bf (F := F) c arg19) (h1 : k0_cond1 ⟨2, by decide⟩ = 1#1) (h2 : k0_cond2 ⟨2, by decide⟩ = 1#1) (h3 : ¬ k0_cond3 ⟨2, by decide⟩ = 1#1) :
    (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3).2.2.2.1 = [⟨Rect.unit ![0, 0] S1x128.size inb_S1x128_S1x128_0_0, (blocks c arg1 arg3 arg4 arg5 arg13 arg14 arg15 arg16 v73 v77 X1 X3 X4 X5 X13 X14 X15 X16).gqStep 2 (rdRow c arg19 f19)⟩] := (rfl)

end Cert.Proof.Trips

end
-- ==== Proof.Trips.T3.lean ====
/- Trip 3 of the loop over query blocks: its run, and what it writes. -/
module

public import proofs.«01_k».proof.Proof.Trips

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32) (v1 : Vec F S1x128 .f32) (v73 : FVec F S256x256 .bf16) (v77 : FVec F S256x256 .bf16)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

attribute [local irreducible] View.readAt

/-- The run, with the pieces it writes to `dq`, `dk`, `dv` and to the norm weight's gradient. -/
def trip3 (f17 : Bf (F := F) c arg17) (f18 : Bf (F := F) c arg18) (f19 : Bf (F := F) c arg19) (h1 : k0_cond1 ⟨3, by decide⟩ = 1#1) (h2 : k0_cond2 ⟨3, by decide⟩ = 1#1) (h3 : k0_cond3 ⟨3, by decide⟩ = 1#1) (h4 : ¬ k0_cond4 ⟨3, by decide⟩ = 1#1) :
    Σ' (L8 : List (View.Piece (Elt F) S2048x128 .bf16)) (L17 L18 : List (View.Piece (Elt F) S2048x128 .f32)),
      { L19 : List (View.Piece (Elt F) S1x128 .f32) // ∀ f8 : Bf (F := F) c arg8,
        Trip c arg1 arg3 arg4 arg5 arg8 arg13 arg14 arg15 arg16 arg17 arg18 arg19 X1 X3 X4 X5 X13 X14 X15 X16 f8 f17 f18 f19
        ⊢ wp Idealize.ShloMosaic.frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 ⟨3, by decide⟩ ())
          (fun _ => Trip c arg1 arg3 arg4 arg5 arg8 arg13 arg14 arg15 arg16 arg17 arg18 arg19 X1 X3 X4 X5 X13 X14 X15 X16
            (arg8.view.writes (Elt F) f8 L8) (arg17.view.writes (Elt F) f17 L17) (arg18.view.writes (Elt F) f18 L18)
            (arg19.view.writes (Elt F) f19 L19)) } := by
  refine ⟨?_, ?_, ?_, ?_, fun f8 => ?run⟩
  case run =>
    have t2 : (k0_t2_loop ⟨3, by decide⟩).trips = 0 := by decide +kernel
    have t3 : (k0_t3_loop ⟨3, by decide⟩).trips = 0 := by decide +kernel
    unfold Gen.k0_t1_body
    iintro ⟨H1, H3, H4, H5, H13, H14, H15, H16, H8, H17, H18, H19⟩
    sl_exec
    sl_step
    sl_close

set_option profiler true in
theorem trip3_dk (f17 : Bf (F := F) c arg17) (f18 : Bf (F := F) c arg18) (f19 : Bf (F := F) c arg19) (h1 : k0_cond1 ⟨3, by decide⟩ = 1#1) (h2 : k0_cond2 ⟨3, by decide⟩ = 1#1) (h3 : k0_cond3 ⟨3, by decide⟩ = 1#1) (h4 : ¬ k0_cond4 ⟨3, by decide⟩ = 1#1) :
    (trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4).2.1 = pieces 3 fun j => (blocks c arg1 arg3 arg4 arg5 arg13 arg14 arg15 arg16 v73 v77 X1 X3 X4 X5 X13 X14 X15 X16).dkStep 3 j (rd c arg17 f17 j) := (rfl)

set_option profiler true in
theorem trip3_dv (f17 : Bf (F := F) c arg17) (f18 : Bf (F := F) c arg18) (f19 : Bf (F := F) c arg19) (h1 : k0_cond1 ⟨3, by decide⟩ = 1#1) (h2 : k0_cond2 ⟨3, by decide⟩ = 1#1) (h3 : k0_cond3 ⟨3, by decide⟩ = 1#1) (h4 : ¬ k0_cond4 ⟨3, by decide⟩ = 1#1) :
    (trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4).2.2.1 = pieces 3 fun j => (blocks c arg1 arg3 arg4 arg5 arg13 arg14 arg15 arg16 v73 v77 X1 X3 X4 X5 X13 X14 X15 X16).dvStep 3 j (rd c arg18 f18 j) := (rfl)

set_option profiler true in
theorem trip3_dq (f17 : Bf (F := F) c arg17) (f18 : Bf (F := F) c arg18) (f19 : Bf (F := F) c arg19) (h1 : k0_cond1 ⟨3, by decide⟩ = 1#1) (h2 : k0_cond2 ⟨3, by decide⟩ = 1#1) (h3 : k0_cond3 ⟨3, by decide⟩ = 1#1) (h4 : ¬ k0_cond4 ⟨3, by decide⟩ = 1#1) :
    (trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4).1 = [⟨blkRect 3, (blocks c arg1 arg3 arg4 arg5 arg13 arg14 arg15 arg16 v73 v77 X1 X3 X4 X5 X13 X14 X15 X16).dq 3 v0⟩] := (rfl)

set_option profiler true in
theorem trip3_gq (f17 : Bf (F := F) c arg17) (f18 : Bf (F := F) c arg18) (f19 : Bf (F := F) c arg19) (h1 : k0_cond1 ⟨3, by decide⟩ = 1#1) (h2 : k0_cond2 ⟨3, by decide⟩ = 1#1) (h3 : k0_cond3 ⟨3, by decide⟩ = 1#1) (h4 : ¬ k0_cond4 ⟨3, by decide⟩ = 1#1) :
    (trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4).2.2.2.1 = [⟨Rect.unit ![0, 0] S1x128.size inb_S1x128_S1x128_0_0, (blocks c arg1 arg3 arg4 arg5 arg13 arg14 arg15 arg16 v73 v77 X1 X3 X4 X5 X13 X14 X15 X16).gqStep 3 (rdRow c arg19 f19)⟩] := (rfl)

end Cert.Proof.Trips

end
-- ==== Proof.Trips.T4.lean ====
/- Trip 4 of the loop over query blocks: its run, and what it writes. -/
module

public import proofs.«01_k».proof.Proof.Trips

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32) (v1 : Vec F S1x128 .f32) (v73 : FVec F S256x256 .bf16) (v77 : FVec F S256x256 .bf16)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

attribute [local irreducible] View.readAt

/-- The run, with the pieces it writes to `dq`, `dk`, `dv` and to the norm weight's gradient. -/
def trip4 (f17 : Bf (F := F) c arg17) (f18 : Bf (F := F) c arg18) (f19 : Bf (F := F) c arg19) (h1 : k0_cond1 ⟨4, by decide⟩ = 1#1) (h2 : k0_cond2 ⟨4, by decide⟩ = 1#1) (h3 : k0_cond3 ⟨4, by decide⟩ = 1#1) (h4 : k0_cond4 ⟨4, by decide⟩ = 1#1) (h5 : ¬ k0_cond5 ⟨4, by decide⟩ = 1#1) :
    Σ' (L8 : List (View.Piece (Elt F) S2048x128 .bf16)) (L17 L18 : List (View.Piece (Elt F) S2048x128 .f32)),
      { L19 : List (View.Piece (Elt F) S1x128 .f32) // ∀ f8 : Bf (F := F) c arg8,
        Trip c arg1 arg3 arg4 arg5 arg8 arg13 arg14 arg15 arg16 arg17 arg18 arg19 X1 X3 X4 X5 X13 X14 X15 X16 f8 f17 f18 f19
        ⊢ wp Idealize.ShloMosaic.frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 ⟨4, by decide⟩ ())
          (fun _ => Trip c arg1 arg3 arg4 arg5 arg8 arg13 arg14 arg15 arg16 arg17 arg18 arg19 X1 X3 X4 X5 X13 X14 X15 X16
            (arg8.view.writes (Elt F) f8 L8) (arg17.view.writes (Elt F) f17 L17) (arg18.view.writes (Elt F) f18 L18)
            (arg19.view.writes (Elt F) f19 L19)) } := by
  refine ⟨?_, ?_, ?_, ?_, fun f8 => ?run⟩
  case run =>
    have t2 : (k0_t2_loop ⟨4, by decide⟩).trips = 0 := by decide +kernel
    have t3 : (k0_t3_loop ⟨4, by decide⟩).trips = 0 := by decide +kernel
    unfold Gen.k0_t1_body
    iintro ⟨H1, H3, H4, H5, H13, H14, H15, H16, H8, H17, H18, H19⟩
    sl_exec
    sl_step
    sl_close

set_option profiler true in
theorem trip4_dk (f17 : Bf (F := F) c arg17) (f18 : Bf (F := F) c arg18) (f19 : Bf (F := F) c arg19) (h1 : k0_cond1 ⟨4, by decide⟩ = 1#1) (h2 : k0_cond2 ⟨4, by decide⟩ = 1#1) (h3 : k0_cond3 ⟨4, by decide⟩ = 1#1) (h4 : k0_cond4 ⟨4, by decide⟩ = 1#1) (h5 : ¬ k0_cond5 ⟨4, by decide⟩ = 1#1) :
    (trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5).2.1 = pieces 4 fun j => (blocks c arg1 arg3 arg4 arg5 arg13 arg14 arg15 arg16 v73 v77 X1 X3 X4 X5 X13 X14 X15 X16).dkStep 4 j (rd c arg17 f17 j) := (rfl)

set_option profiler true in
theorem trip4_dv (f17 : Bf (F := F) c arg17) (f18 : Bf (F := F) c arg18) (f19 : Bf (F := F) c arg19) (h1 : k0_cond1 ⟨4, by decide⟩ = 1#1) (h2 : k0_cond2 ⟨4, by decide⟩ = 1#1) (h3 : k0_cond3 ⟨4, by decide⟩ = 1#1) (h4 : k0_cond4 ⟨4, by decide⟩ = 1#1) (h5 : ¬ k0_cond5 ⟨4, by decide⟩ = 1#1) :
    (trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5).2.2.1 = pieces 4 fun j => (blocks c arg1 arg3 arg4 arg5 arg13 arg14 arg15 arg16 v73 v77 X1 X3 X4 X5 X13 X14 X15 X16).dvStep 4 j (rd c arg18 f18 j) := (rfl)

set_option profiler true in
theorem trip4_dq (f17 : Bf (F := F) c arg17) (f18 : Bf (F := F) c arg18) (f19 : Bf (F := F) c arg19) (h1 : k0_cond1 ⟨4, by decide⟩ = 1#1) (h2 : k0_cond2 ⟨4, by decide⟩ = 1#1) (h3 : k0_cond3 ⟨4, by decide⟩ = 1#1) (h4 : k0_cond4 ⟨4, by decide⟩ = 1#1) (h5 : ¬ k0_cond5 ⟨4, by decide⟩ = 1#1) :
    (trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5).1 = [⟨blkRect 4, (blocks c arg1 arg3 arg4 arg5 arg13 arg14 arg15 arg16 v73 v77 X1 X3 X4 X5 X13 X14 X15 X16).dq 4 v0⟩] := (rfl)

set_option profiler true in
theorem trip4_gq (f17 : Bf (F := F) c arg17) (f18 : Bf (F := F) c arg18) (f19 : Bf (F := F) c arg19) (h1 : k0_cond1 ⟨4, by decide⟩ = 1#1) (h2 : k0_cond2 ⟨4, by decide⟩ = 1#1) (h3 : k0_cond3 ⟨4, by decide⟩ = 1#1) (h4 : k0_cond4 ⟨4, by decide⟩ = 1#1) (h5 : ¬ k0_cond5 ⟨4, by decide⟩ = 1#1) :
    (trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5).2.2.2.1 = [⟨Rect.unit ![0, 0] S1x128.size inb_S1x128_S1x128_0_0, (blocks c arg1 arg3 arg4 arg5 arg13 arg14 arg15 arg16 v73 v77 X1 X3 X4 X5 X13 X14 X15 X16).gqStep 4 (rdRow c arg19 f19)⟩] := (rfl)

end Cert.Proof.Trips

end
-- ==== Proof.Trips.T5.lean ====
/- Trip 5 of the loop over query blocks: its run, and what it writes. -/
module

public import proofs.«01_k».proof.Proof.Trips

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32) (v1 : Vec F S1x128 .f32) (v73 : FVec F S256x256 .bf16) (v77 : FVec F S256x256 .bf16)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

attribute [local irreducible] View.readAt

/-- The run, with the pieces it writes to `dq`, `dk`, `dv` and to the norm weight's gradient. -/
def trip5 (f17 : Bf (F := F) c arg17) (f18 : Bf (F := F) c arg18) (f19 : Bf (F := F) c arg19) (h1 : k0_cond1 ⟨5, by decide⟩ = 1#1) (h2 : k0_cond2 ⟨5, by decide⟩ = 1#1) (h3 : k0_cond3 ⟨5, by decide⟩ = 1#1) (h4 : k0_cond4 ⟨5, by decide⟩ = 1#1) (h5 : k0_cond5 ⟨5, by decide⟩ = 1#1) (h6 : ¬ k0_cond6 ⟨5, by decide⟩ = 1#1) :
    Σ' (L8 : List (View.Piece (Elt F) S2048x128 .bf16)) (L17 L18 : List (View.Piece (Elt F) S2048x128 .f32)),
      { L19 : List (View.Piece (Elt F) S1x128 .f32) // ∀ f8 : Bf (F := F) c arg8,
        Trip c arg1 arg3 arg4 arg5 arg8 arg13 arg14 arg15 arg16 arg17 arg18 arg19 X1 X3 X4 X5 X13 X14 X15 X16 f8 f17 f18 f19
        ⊢ wp Idealize.ShloMosaic.frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 ⟨5, by decide⟩ ())
          (fun _ => Trip c arg1 arg3 arg4 arg5 arg8 arg13 arg14 arg15 arg16 arg17 arg18 arg19 X1 X3 X4 X5 X13 X14 X15 X16
            (arg8.view.writes (Elt F) f8 L8) (arg17.view.writes (Elt F) f17 L17) (arg18.view.writes (Elt F) f18 L18)
            (arg19.view.writes (Elt F) f19 L19)) } := by
  refine ⟨?_, ?_, ?_, ?_, fun f8 => ?run⟩
  case run =>
    have t2 : (k0_t2_loop ⟨5, by decide⟩).trips = 0 := by decide +kernel
    have t3 : (k0_t3_loop ⟨5, by decide⟩).trips = 0 := by decide +kernel
    unfold Gen.k0_t1_body
    iintro ⟨H1, H3, H4, H5, H13, H14, H15, H16, H8, H17, H18, H19⟩
    sl_exec
    sl_step
    sl_close

set_option profiler true in
theorem trip5_dk (f17 : Bf (F := F) c arg17) (f18 : Bf (F := F) c arg18) (f19 : Bf (F := F) c arg19) (h1 : k0_cond1 ⟨5, by decide⟩ = 1#1) (h2 : k0_cond2 ⟨5, by decide⟩ = 1#1) (h3 : k0_cond3 ⟨5, by decide⟩ = 1#1) (h4 : k0_cond4 ⟨5, by decide⟩ = 1#1) (h5 : k0_cond5 ⟨5, by decide⟩ = 1#1) (h6 : ¬ k0_cond6 ⟨5, by decide⟩ = 1#1) :
    (trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6).2.1 = pieces 5 fun j => (blocks c arg1 arg3 arg4 arg5 arg13 arg14 arg15 arg16 v73 v77 X1 X3 X4 X5 X13 X14 X15 X16).dkStep 5 j (rd c arg17 f17 j) := (rfl)

set_option profiler true in
theorem trip5_dv (f17 : Bf (F := F) c arg17) (f18 : Bf (F := F) c arg18) (f19 : Bf (F := F) c arg19) (h1 : k0_cond1 ⟨5, by decide⟩ = 1#1) (h2 : k0_cond2 ⟨5, by decide⟩ = 1#1) (h3 : k0_cond3 ⟨5, by decide⟩ = 1#1) (h4 : k0_cond4 ⟨5, by decide⟩ = 1#1) (h5 : k0_cond5 ⟨5, by decide⟩ = 1#1) (h6 : ¬ k0_cond6 ⟨5, by decide⟩ = 1#1) :
    (trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6).2.2.1 = pieces 5 fun j => (blocks c arg1 arg3 arg4 arg5 arg13 arg14 arg15 arg16 v73 v77 X1 X3 X4 X5 X13 X14 X15 X16).dvStep 5 j (rd c arg18 f18 j) := (rfl)

set_option profiler true in
theorem trip5_dq (f17 : Bf (F := F) c arg17) (f18 : Bf (F := F) c arg18) (f19 : Bf (F := F) c arg19) (h1 : k0_cond1 ⟨5, by decide⟩ = 1#1) (h2 : k0_cond2 ⟨5, by decide⟩ = 1#1) (h3 : k0_cond3 ⟨5, by decide⟩ = 1#1) (h4 : k0_cond4 ⟨5, by decide⟩ = 1#1) (h5 : k0_cond5 ⟨5, by decide⟩ = 1#1) (h6 : ¬ k0_cond6 ⟨5, by decide⟩ = 1#1) :
    (trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6).1 = [⟨blkRect 5, (blocks c arg1 arg3 arg4 arg5 arg13 arg14 arg15 arg16 v73 v77 X1 X3 X4 X5 X13 X14 X15 X16).dq 5 v0⟩] := (rfl)

set_option profiler true in
theorem trip5_gq (f17 : Bf (F := F) c arg17) (f18 : Bf (F := F) c arg18) (f19 : Bf (F := F) c arg19) (h1 : k0_cond1 ⟨5, by decide⟩ = 1#1) (h2 : k0_cond2 ⟨5, by decide⟩ = 1#1) (h3 : k0_cond3 ⟨5, by decide⟩ = 1#1) (h4 : k0_cond4 ⟨5, by decide⟩ = 1#1) (h5 : k0_cond5 ⟨5, by decide⟩ = 1#1) (h6 : ¬ k0_cond6 ⟨5, by decide⟩ = 1#1) :
    (trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6).2.2.2.1 = [⟨Rect.unit ![0, 0] S1x128.size inb_S1x128_S1x128_0_0, (blocks c arg1 arg3 arg4 arg5 arg13 arg14 arg15 arg16 v73 v77 X1 X3 X4 X5 X13 X14 X15 X16).gqStep 5 (rdRow c arg19 f19)⟩] := (rfl)

end Cert.Proof.Trips

end
-- ==== Proof.Trips.T6.lean ====
/- Trip 6 of the loop over query blocks: its run, and what it writes. -/
module

public import proofs.«01_k».proof.Proof.Trips

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32) (v1 : Vec F S1x128 .f32) (v73 : FVec F S256x256 .bf16) (v77 : FVec F S256x256 .bf16)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

attribute [local irreducible] View.readAt

/-- The run, with the pieces it writes to `dq`, `dk`, `dv` and to the norm weight's gradient. -/
def trip6 (f17 : Bf (F := F) c arg17) (f18 : Bf (F := F) c arg18) (f19 : Bf (F := F) c arg19) (h1 : k0_cond1 ⟨6, by decide⟩ = 1#1) (h2 : k0_cond2 ⟨6, by decide⟩ = 1#1) (h3 : k0_cond3 ⟨6, by decide⟩ = 1#1) (h4 : k0_cond4 ⟨6, by decide⟩ = 1#1) (h5 : k0_cond5 ⟨6, by decide⟩ = 1#1) (h6 : k0_cond6 ⟨6, by decide⟩ = 1#1) (h7 : ¬ k0_cond7 ⟨6, by decide⟩ = 1#1) :
    Σ' (L8 : List (View.Piece (Elt F) S2048x128 .bf16)) (L17 L18 : List (View.Piece (Elt F) S2048x128 .f32)),
      { L19 : List (View.Piece (Elt F) S1x128 .f32) // ∀ f8 : Bf (F := F) c arg8,
        Trip c arg1 arg3 arg4 arg5 arg8 arg13 arg14 arg15 arg16 arg17 arg18 arg19 X1 X3 X4 X5 X13 X14 X15 X16 f8 f17 f18 f19
        ⊢ wp Idealize.ShloMosaic.frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 ⟨6, by decide⟩ ())
          (fun _ => Trip c arg1 arg3 arg4 arg5 arg8 arg13 arg14 arg15 arg16 arg17 arg18 arg19 X1 X3 X4 X5 X13 X14 X15 X16
            (arg8.view.writes (Elt F) f8 L8) (arg17.view.writes (Elt F) f17 L17) (arg18.view.writes (Elt F) f18 L18)
            (arg19.view.writes (Elt F) f19 L19)) } := by
  refine ⟨?_, ?_, ?_, ?_, fun f8 => ?run⟩
  case run =>
    have t2 : (k0_t2_loop ⟨6, by decide⟩).trips = 0 := by decide +kernel
    have t3 : (k0_t3_loop ⟨6, by decide⟩).trips = 0 := by decide +kernel
    unfold Gen.k0_t1_body
    iintro ⟨H1, H3, H4, H5, H13, H14, H15, H16, H8, H17, H18, H19⟩
    sl_exec
    sl_step
    sl_close

set_option profiler true in
theorem trip6_dk (f17 : Bf (F := F) c arg17) (f18 : Bf (F := F) c arg18) (f19 : Bf (F := F) c arg19) (h1 : k0_cond1 ⟨6, by decide⟩ = 1#1) (h2 : k0_cond2 ⟨6, by decide⟩ = 1#1) (h3 : k0_cond3 ⟨6, by decide⟩ = 1#1) (h4 : k0_cond4 ⟨6, by decide⟩ = 1#1) (h5 : k0_cond5 ⟨6, by decide⟩ = 1#1) (h6 : k0_cond6 ⟨6, by decide⟩ = 1#1) (h7 : ¬ k0_cond7 ⟨6, by decide⟩ = 1#1) :
    (trip6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6 h7).2.1 = pieces 6 fun j => (blocks c arg1 arg3 arg4 arg5 arg13 arg14 arg15 arg16 v73 v77 X1 X3 X4 X5 X13 X14 X15 X16).dkStep 6 j (rd c arg17 f17 j) := (rfl)

set_option profiler true in
theorem trip6_dv (f17 : Bf (F := F) c arg17) (f18 : Bf (F := F) c arg18) (f19 : Bf (F := F) c arg19) (h1 : k0_cond1 ⟨6, by decide⟩ = 1#1) (h2 : k0_cond2 ⟨6, by decide⟩ = 1#1) (h3 : k0_cond3 ⟨6, by decide⟩ = 1#1) (h4 : k0_cond4 ⟨6, by decide⟩ = 1#1) (h5 : k0_cond5 ⟨6, by decide⟩ = 1#1) (h6 : k0_cond6 ⟨6, by decide⟩ = 1#1) (h7 : ¬ k0_cond7 ⟨6, by decide⟩ = 1#1) :
    (trip6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6 h7).2.2.1 = pieces 6 fun j => (blocks c arg1 arg3 arg4 arg5 arg13 arg14 arg15 arg16 v73 v77 X1 X3 X4 X5 X13 X14 X15 X16).dvStep 6 j (rd c arg18 f18 j) := (rfl)

set_option profiler true in
theorem trip6_dq (f17 : Bf (F := F) c arg17) (f18 : Bf (F := F) c arg18) (f19 : Bf (F := F) c arg19) (h1 : k0_cond1 ⟨6, by decide⟩ = 1#1) (h2 : k0_cond2 ⟨6, by decide⟩ = 1#1) (h3 : k0_cond3 ⟨6, by decide⟩ = 1#1) (h4 : k0_cond4 ⟨6, by decide⟩ = 1#1) (h5 : k0_cond5 ⟨6, by decide⟩ = 1#1) (h6 : k0_cond6 ⟨6, by decide⟩ = 1#1) (h7 : ¬ k0_cond7 ⟨6, by decide⟩ = 1#1) :
    (trip6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6 h7).1 = [⟨blkRect 6, (blocks c arg1 arg3 arg4 arg5 arg13 arg14 arg15 arg16 v73 v77 X1 X3 X4 X5 X13 X14 X15 X16).dq 6 v0⟩] := (rfl)

set_option profiler true in
theorem trip6_gq (f17 : Bf (F := F) c arg17) (f18 : Bf (F := F) c arg18) (f19 : Bf (F := F) c arg19) (h1 : k0_cond1 ⟨6, by decide⟩ = 1#1) (h2 : k0_cond2 ⟨6, by decide⟩ = 1#1) (h3 : k0_cond3 ⟨6, by decide⟩ = 1#1) (h4 : k0_cond4 ⟨6, by decide⟩ = 1#1) (h5 : k0_cond5 ⟨6, by decide⟩ = 1#1) (h6 : k0_cond6 ⟨6, by decide⟩ = 1#1) (h7 : ¬ k0_cond7 ⟨6, by decide⟩ = 1#1) :
    (trip6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6 h7).2.2.2.1 = [⟨Rect.unit ![0, 0] S1x128.size inb_S1x128_S1x128_0_0, (blocks c arg1 arg3 arg4 arg5 arg13 arg14 arg15 arg16 v73 v77 X1 X3 X4 X5 X13 X14 X15 X16).gqStep 6 (rdRow c arg19 f19)⟩] := (rfl)

end Cert.Proof.Trips

end
-- ==== Proof.Trips.T7.lean ====
/- Trip 7 of the loop over query blocks: its run, and what it writes. -/
module

public import proofs.«01_k».proof.Proof.Trips

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32) (v1 : Vec F S1x128 .f32) (v73 : FVec F S256x256 .bf16) (v77 : FVec F S256x256 .bf16)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

attribute [local irreducible] View.readAt

/-- The run, with the pieces it writes to `dq`, `dk`, `dv` and to the norm weight's gradient. -/
def trip7 (f17 : Bf (F := F) c arg17) (f18 : Bf (F := F) c arg18) (f19 : Bf (F := F) c arg19) (h1 : k0_cond1 ⟨7, by decide⟩ = 1#1) (h2 : k0_cond2 ⟨7, by decide⟩ = 1#1) (h3 : k0_cond3 ⟨7, by decide⟩ = 1#1) (h4 : k0_cond4 ⟨7, by decide⟩ = 1#1) (h5 : k0_cond5 ⟨7, by decide⟩ = 1#1) (h6 : k0_cond6 ⟨7, by decide⟩ = 1#1) (h7 : k0_cond7 ⟨7, by decide⟩ = 1#1) :
    Σ' (L8 : List (View.Piece (Elt F) S2048x128 .bf16)) (L17 L18 : List (View.Piece (Elt F) S2048x128 .f32)),
      { L19 : List (View.Piece (Elt F) S1x128 .f32) // ∀ f8 : Bf (F := F) c arg8,
        Trip c arg1 arg3 arg4 arg5 arg8 arg13 arg14 arg15 arg16 arg17 arg18 arg19 X1 X3 X4 X5 X13 X14 X15 X16 f8 f17 f18 f19
        ⊢ wp Idealize.ShloMosaic.frame (wpE (defs₀ (F := F)) Variants.none (c : Thread nD τ) none) Set.univ
          (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 ⟨7, by decide⟩ ())
          (fun _ => Trip c arg1 arg3 arg4 arg5 arg8 arg13 arg14 arg15 arg16 arg17 arg18 arg19 X1 X3 X4 X5 X13 X14 X15 X16
            (arg8.view.writes (Elt F) f8 L8) (arg17.view.writes (Elt F) arg17.view.junk L17) (arg18.view.writes (Elt F) arg18.view.junk L18)
            (arg19.view.writes (Elt F) f19 L19)) } := by
  refine ⟨?_, ?_, ?_, ?_, fun f8 => ?run⟩
  case run =>
    have t2 : (k0_t2_loop ⟨7, by decide⟩).trips = 0 := by decide +kernel
    have t3 : (k0_t3_loop ⟨7, by decide⟩).trips = 0 := by decide +kernel
    unfold Gen.k0_t1_body
    iintro ⟨H1, H3, H4, H5, H13, H14, H15, H16, H8, H17, H18, H19⟩
    sl_exec
    sl_step
    sl_close

set_option profiler true in
theorem trip7_dk (f17 : Bf (F := F) c arg17) (f18 : Bf (F := F) c arg18) (f19 : Bf (F := F) c arg19) (h1 : k0_cond1 ⟨7, by decide⟩ = 1#1) (h2 : k0_cond2 ⟨7, by decide⟩ = 1#1) (h3 : k0_cond3 ⟨7, by decide⟩ = 1#1) (h4 : k0_cond4 ⟨7, by decide⟩ = 1#1) (h5 : k0_cond5 ⟨7, by decide⟩ = 1#1) (h6 : k0_cond6 ⟨7, by decide⟩ = 1#1) (h7 : k0_cond7 ⟨7, by decide⟩ = 1#1) :
    (trip7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6 h7).2.1 = pieces 7 fun j => (blocks c arg1 arg3 arg4 arg5 arg13 arg14 arg15 arg16 v73 v77 X1 X3 X4 X5 X13 X14 X15 X16).dkStep 7 j (rd c arg17 f17 j) := (rfl)

set_option profiler true in
theorem trip7_dv (f17 : Bf (F := F) c arg17) (f18 : Bf (F := F) c arg18) (f19 : Bf (F := F) c arg19) (h1 : k0_cond1 ⟨7, by decide⟩ = 1#1) (h2 : k0_cond2 ⟨7, by decide⟩ = 1#1) (h3 : k0_cond3 ⟨7, by decide⟩ = 1#1) (h4 : k0_cond4 ⟨7, by decide⟩ = 1#1) (h5 : k0_cond5 ⟨7, by decide⟩ = 1#1) (h6 : k0_cond6 ⟨7, by decide⟩ = 1#1) (h7 : k0_cond7 ⟨7, by decide⟩ = 1#1) :
    (trip7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6 h7).2.2.1 = pieces 7 fun j => (blocks c arg1 arg3 arg4 arg5 arg13 arg14 arg15 arg16 v73 v77 X1 X3 X4 X5 X13 X14 X15 X16).dvStep 7 j (rd c arg18 f18 j) := (rfl)

set_option profiler true in
theorem trip7_dq (f17 : Bf (F := F) c arg17) (f18 : Bf (F := F) c arg18) (f19 : Bf (F := F) c arg19) (h1 : k0_cond1 ⟨7, by decide⟩ = 1#1) (h2 : k0_cond2 ⟨7, by decide⟩ = 1#1) (h3 : k0_cond3 ⟨7, by decide⟩ = 1#1) (h4 : k0_cond4 ⟨7, by decide⟩ = 1#1) (h5 : k0_cond5 ⟨7, by decide⟩ = 1#1) (h6 : k0_cond6 ⟨7, by decide⟩ = 1#1) (h7 : k0_cond7 ⟨7, by decide⟩ = 1#1) :
    (trip7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6 h7).1 = [⟨blkRect 7, (blocks c arg1 arg3 arg4 arg5 arg13 arg14 arg15 arg16 v73 v77 X1 X3 X4 X5 X13 X14 X15 X16).dq 7 v0⟩] := (rfl)

set_option profiler true in
theorem trip7_gq (f17 : Bf (F := F) c arg17) (f18 : Bf (F := F) c arg18) (f19 : Bf (F := F) c arg19) (h1 : k0_cond1 ⟨7, by decide⟩ = 1#1) (h2 : k0_cond2 ⟨7, by decide⟩ = 1#1) (h3 : k0_cond3 ⟨7, by decide⟩ = 1#1) (h4 : k0_cond4 ⟨7, by decide⟩ = 1#1) (h5 : k0_cond5 ⟨7, by decide⟩ = 1#1) (h6 : k0_cond6 ⟨7, by decide⟩ = 1#1) (h7 : k0_cond7 ⟨7, by decide⟩ = 1#1) :
    (trip7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 f17 f18 f19 h1 h2 h3 h4 h5 h6 h7).2.2.2.1 = [⟨Rect.unit ![0, 0] S1x128.size inb_S1x128_S1x128_0_0, (blocks c arg1 arg3 arg4 arg5 arg13 arg14 arg15 arg16 v73 v77 X1 X3 X4 X5 X13 X14 X15 X16).gqStep 7 (rdRow c arg19 f19)⟩] := (rfl)

end Cert.Proof.Trips

end
-- ==== Proof.Loop.lean ====
/- The loop over the eight query blocks: any trip in one statement, and the loop's invariant. -/
module

public import proofs.«01_k».proof.Proof.Trips.T0
public import proofs.«01_k».proof.Proof.Trips.T1
public import proofs.«01_k».proof.Proof.Trips.T2
public import proofs.«01_k».proof.Proof.Trips.T3
public import proofs.«01_k».proof.Proof.Trips.T4
public import proofs.«01_k».proof.Proof.Trips.T5
public import proofs.«01_k».proof.Proof.Trips.T6
public import proofs.«01_k».proof.Proof.Trips.T7

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## Reading a list of blocks -/

omit [Named F] in
/-- Block `j`, where its rows are stored among the blocks of `l`, each once. -/
theorem rd_mem (c : Dev nD) {sp : Space} {e : EltTy} (M : Memref sig .tc sp S2048x128 e) (f : Bf (F := F) c M) (P : ℕ → Vec F S256x128 e)
    (j : ℕ) (hj : j < 8) : ∀ l : List ℕ, (∀ a ∈ l, a < 8) → j ∈ l →
      rd c M (M.view.writes (Elt F) f (l.map fun a => ⟨blkRect a, P a⟩)) j = P j
  | [], _, h => absurd h List.not_mem_nil
  | a :: l, hl, h => by
    by_cases ha : a = j
    · subst ha
      funext x
      exact View.read_writes_cons_emb M.view f (blkRect a) (P a) (l.map fun a => ⟨blkRect a, P a⟩) x
    · have hjl : j ∈ l := by
        rcases List.mem_cons.mp h with h | h
        · exact absurd h.symm ha
        · exact h
      rw [← rd_mem c M f P j hj l (fun b hb => hl b (List.mem_cons_of_mem _ hb)) hjl]
      funext x
      exact View.read_writes_cons_miss_of_axis M.view f ⟨blkRect a, P a⟩ (l.map fun a => ⟨blkRect a, P a⟩) ((blkRect j).emb x) 0
        (256 * (a % 8)) 256 rfl rfl rfl (by
          have h0 : (((blkRect j).emb x) 0).val = 256 * (j % 8) + 1 * (x 0).val := rfl
          have hx : (x 0).val < 256 := (x 0).isLt
          have h8 := hl a List.mem_cons_self
          omega)

omit [Named F] in
/-- Block `j`, where none of the blocks stored is it. -/
theorem rd_not_mem (c : Dev nD) {sp : Space} {e : EltTy} (M : Memref sig .tc sp S2048x128 e) (f : Bf (F := F) c M) (P : ℕ → Vec F S256x128 e)
    (j : ℕ) (hj : j < 8) : ∀ l : List ℕ, (∀ a ∈ l, a < 8) → j ∉ l →
      rd c M (M.view.writes (Elt F) f (l.map fun a => ⟨blkRect a, P a⟩)) j = rd c M f j
  | [], _, _ => rfl
  | a :: l, hl, h => by
    rw [← rd_not_mem c M f P j hj l (fun b hb => hl b (List.mem_cons_of_mem _ hb)) fun hm => h (List.mem_cons_of_mem _ hm)]
    funext x
    exact View.read_writes_cons_miss_of_axis M.view f ⟨blkRect a, P a⟩ (l.map fun a => ⟨blkRect a, P a⟩) ((blkRect j).emb x) 0
      (256 * (a % 8)) 256 rfl rfl rfl (by
        have h0 : (((blkRect j).emb x) 0).val = 256 * (j % 8) + 1 * (x 0).val := rfl
        have hx : (x 0).val < 256 := (x 0).isLt
        have h8 := hl a List.mem_cons_self
        have hn : j ≠ a := fun e => h (e ▸ List.mem_cons_self)
        omega)

omit [Named F] in
/-- The whole row, where it was stored. -/
theorem rdRow_write (c : Dev nD) {sp : Space} {e : EltTy} (M : Memref sig .tc sp S1x128 e) (f : Bf (F := F) c M) (w : Vec F S1x128 e) :
    rdRow c M (M.view.writes (Elt F) f [⟨Rect.unit ![0, 0] S1x128.size inb_S1x128_S1x128_0_0, w⟩]) = w := by
  funext x
  exact View.read_writes_cons_emb M.view f (Rect.unit ![0, 0] S1x128.size inb_S1x128_S1x128_0_0) w [] x

/-! ## What the blocks hold after some trips -/

variable (B : Blocks F) (z : ℕ → Vec F S256x128 .f32) (g : Vec F S1x128 .f32)

/-- Block `j` of `dk` after `k` trips, from `z`, -/
def dkAt : ℕ → ℕ → Vec F S256x128 .f32
  | 0, j => z j
  | k + 1, j => if j ≤ k then B.dkStep k j (dkAt k j) else dkAt k j

/-- of `dv`, -/
def dvAt : ℕ → ℕ → Vec F S256x128 .f32
  | 0, j => z j
  | k + 1, j => if j ≤ k then B.dvStep k j (dvAt k j) else dvAt k j

/-- and the gradient of the query's norm weight, from `g`. -/
def gqAt : ℕ → Vec F S1x128 .f32
  | 0 => g
  | k + 1 => B.gqStep k (gqAt k)

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32) (v1 : Vec F S1x128 .f32) (v73 : FVec F S256x256 .bf16) (v77 : FVec F S256x256 .bf16)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

/-- The four arrays that the trips write. -/
structure State where
  f8 : Bf (F := F) c arg8
  f17 : Bf (F := F) c arg17
  f18 : Bf (F := F) c arg18
  f19 : Bf (F := F) c arg19

/-- What trip `k` makes of them: the last one writes all of `dk` and `dv`, whatever they held. -/
def after (k : ℕ) (s : State (F := F) c arg8 arg17 arg18 arg19) : State (F := F) c arg8 arg17 arg18 arg19 :=
  ⟨arg8.view.writes (Elt F) s.f8 [⟨blkRect k, (blocks c arg1 arg3 arg4 arg5 arg13 arg14 arg15 arg16 v73 v77 X1 X3 X4 X5 X13 X14 X15 X16).dq k v0⟩],
    arg17.view.writes (Elt F) (bif k.beq 7 then arg17.view.junk else s.f17) (pieces k fun j => (blocks c arg1 arg3 arg4 arg5 arg13 arg14 arg15 arg16 v73 v77 X1 X3 X4 X5 X13 X14 X15 X16).dkStep k j (rd c arg17 s.f17 j)),
    arg18.view.writes (Elt F) (bif k.beq 7 then arg18.view.junk else s.f18) (pieces k fun j => (blocks c arg1 arg3 arg4 arg5 arg13 arg14 arg15 arg16 v73 v77 X1 X3 X4 X5 X13 X14 X15 X16).dvStep k j (rd c arg18 s.f18 j)),
    arg19.view.writes (Elt F) s.f19 [⟨Rect.unit ![0, 0] S1x128.size inb_S1x128_S1x128_0_0, (blocks c arg1 arg3 arg4 arg5 arg13 arg14 arg15 arg16 v73 v77 X1 X3 X4 X5 X13 X14 X15 X16).gqStep k (rdRow c arg19 s.f19)⟩]⟩

/-- The arrays before trip `k`. -/
def stAt (s : State (F := F) c arg8 arg17 arg18 arg19) (k : ℕ) : State (F := F) c arg8 arg17 arg18 arg19 :=
  Nat.rec s (fun k t => after c arg1 arg3 arg4 arg5 arg8 arg13 arg14 arg15 arg16 arg17 arg18 arg19 v0 v73 v77 X1 X3 X4 X5 X13 X14 X15 X16 k t) k

/-- Any trip: what it needs, it gives back, the four arrays as `after` says. -/
def TripTriple (k : Fin k0_t1_loop.trips) (s t : State (F := F) c arg8 arg17 arg18 arg19) : Prop :=
  Trip c arg1 arg3 arg4 arg5 arg8 arg13 arg14 arg15 arg16 arg17 arg18 arg19 X1 X3 X4 X5 X13 X14 X15 X16 s.f8 s.f17 s.f18 s.f19
    ⊢ wp Idealize.ShloMosaic.frame (wpE (defs₀ (F := F)) Variants.none (c : Thread nD τ) none) Set.univ
      (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 k ())
      (fun _ => Trip c arg1 arg3 arg4 arg5 arg8 arg13 arg14 arg15 arg16 arg17 arg18 arg19 X1 X3 X4 X5 X13 X14 X15 X16 t.f8 t.f17 t.f18 t.f19)

/-- It is so if the trip is known to write these pieces. -/
theorem tripTriple_of (k : Fin k0_t1_loop.trips) (s t : State (F := F) c arg8 arg17 arg18 arg19) (f8 : Bf (F := F) c arg8) (f17 : Bf (F := F) c arg17)
    (f18 : Bf (F := F) c arg18) (f19 : Bf (F := F) c arg19)
    (h : Trip c arg1 arg3 arg4 arg5 arg8 arg13 arg14 arg15 arg16 arg17 arg18 arg19 X1 X3 X4 X5 X13 X14 X15 X16 s.f8 s.f17 s.f18 s.f19
      ⊢ wp Idealize.ShloMosaic.frame (wpE (defs₀ (F := F)) Variants.none (c : Thread nD τ) none) Set.univ
        (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 k ()) (fun _ => Trip c arg1 arg3 arg4 arg5 arg8 arg13 arg14 arg15 arg16 arg17 arg18 arg19 X1 X3 X4 X5 X13 X14 X15 X16 f8 f17 f18 f19))
    (e : t = ⟨f8, f17, f18, f19⟩) :
    TripTriple c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 k s t := by
  subst e
  unfold TripTriple
  dsimp only
  with_reducible exact h

/-- The arrays after trip `k`, from the pieces it writes. -/
theorem after_eq (k : ℕ) (s : State (F := F) c arg8 arg17 arg18 arg19) {g17 : Bf (F := F) c arg17} {g18 : Bf (F := F) c arg18} {L8 L17 L18 L19}
    (e8 : L8 = [⟨blkRect k, (blocks c arg1 arg3 arg4 arg5 arg13 arg14 arg15 arg16 v73 v77 X1 X3 X4 X5 X13 X14 X15 X16).dq k v0⟩]) (e17 : L17 = pieces k fun j => (blocks c arg1 arg3 arg4 arg5 arg13 arg14 arg15 arg16 v73 v77 X1 X3 X4 X5 X13 X14 X15 X16).dkStep k j (rd c arg17 s.f17 j))
    (e18 : L18 = pieces k fun j => (blocks c arg1 arg3 arg4 arg5 arg13 arg14 arg15 arg16 v73 v77 X1 X3 X4 X5 X13 X14 X15 X16).dvStep k j (rd c arg18 s.f18 j))
    (e19 : L19 = [⟨Rect.unit ![0, 0] S1x128.size inb_S1x128_S1x128_0_0, (blocks c arg1 arg3 arg4 arg5 arg13 arg14 arg15 arg16 v73 v77 X1 X3 X4 X5 X13 X14 X15 X16).gqStep k (rdRow c arg19 s.f19)⟩])
    (h17 : g17 = bif k.beq 7 then arg17.view.junk else s.f17) (h18 : g18 = bif k.beq 7 then arg18.view.junk else s.f18) :
    after c arg1 arg3 arg4 arg5 arg8 arg13 arg14 arg15 arg16 arg17 arg18 arg19 v0 v73 v77 X1 X3 X4 X5 X13 X14 X15 X16 k s = ⟨arg8.view.writes (Elt F) s.f8 L8, arg17.view.writes (Elt F) g17 L17,
      arg18.view.writes (Elt F) g18 L18, arg19.view.writes (Elt F) s.f19 L19⟩ := by
  subst e8 e17 e18 e19 h17 h18
  rfl

theorem tripTriple (s : State (F := F) c arg8 arg17 arg18 arg19) :
    ∀ k : Fin k0_t1_loop.trips, TripTriple c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 k s (after c arg1 arg3 arg4 arg5 arg8 arg13 arg14 arg15 arg16 arg17 arg18 arg19 v0 v73 v77 X1 X3 X4 X5 X13 X14 X15 X16 k.val s)
  | ⟨0, _⟩ => tripTriple_of c _ _ _ _ _ _ _ _ _ _ _ _ _ _ _ _ _ _ _ _ _ _ _ _ _ _ _ _ _ _ _ _ _ _ _ _ _ _ _ _ _ _ _ _ _ _ _ _ _ _ _ ⟨0, _⟩ s _ _ _ _ _ ((trip0 c _ _ _ _ _ _ _ _ _ _ _ _ _ _ _ _ _ _ _ _ _ _ _ _ _ _ _ _ _ _ _ _ _ _ _ _ _ _ _ _ _ _ _ X1 X3 X4 X5 X13 X14 X15 X16 s.f17 s.f18 s.f19 (by decide +kernel)).2.2.2.2 s.f8)
    (after_eq c _ _ _ _ _ _ _ _ _ _ _ _ _ _ _ _ _ _ _ _ _ _ _ 0 s (trip0_dq ..) (trip0_dk ..) (trip0_dv ..) (trip0_gq ..) rfl rfl)
  | ⟨1, _⟩ => tripTriple_of c _ _ _ _ _ _ _ _ _ _ _ _ _ _ _ _ _ _ _ _ _ _ _ _ _ _ _ _ _ _ _ _ _ _ _ _ _ _ _ _ _ _ _ _ _ _ _ _ _ _ _ ⟨1, _⟩ s _ _ _ _ _ ((trip1 c _ _ _ _ _ _ _ _ _ _ _ _ _ _ _ _ _ _ _ _ _ _ _ _ _ _ _ _ _ _ _ _ _ _ _ _ _ _ _ _ _ _ _ X1 X3 X4 X5 X13 X14 X15 X16 s.f17 s.f18 s.f19 (by decide +kernel) (by decide +kernel)).2.2.2.2 s.f8)
    (after_eq c _ _ _ _ _ _ _ _ _ _ _ _ _ _ _ _ _ _ _ _ _ _ _ 1 s (trip1_dq ..) (trip1_dk ..) (trip1_dv ..) (trip1_gq ..) rfl rfl)
  | ⟨2, _⟩ => tripTriple_of c _ _ _ _ _ _ _ _ _ _ _ _ _ _ _ _ _ _ _ _ _ _ _ _ _ _ _ _ _ _ _ _ _ _ _ _ _ _ _ _ _ _ _ _ _ _ _ _ _ _ _ ⟨2, _⟩ s _ _ _ _ _ ((trip2 c _ _ _ _ _ _ _ _ _ _ _ _ _ _ _ _ _ _ _ _ _ _ _ _ _ _ _ _ _ _ _ _ _ _ _ _ _ _ _ _ _ _ _ X1 X3 X4 X5 X13 X14 X15 X16 s.f17 s.f18 s.f19 (by decide +kernel) (by decide +kernel) (by decide +kernel)).2.2.2.2 s.f8)
    (after_eq c _ _ _ _ _ _ _ _ _ _ _ _ _ _ _ _ _ _ _ _ _ _ _ 2 s (trip2_dq ..) (trip2_dk ..) (trip2_dv ..) (trip2_gq ..) rfl rfl)
  | ⟨3, _⟩ => tripTriple_of c _ _ _ _ _ _ _ _ _ _ _ _ _ _ _ _ _ _ _ _ _ _ _ _ _ _ _ _ _ _ _ _ _ _ _ _ _ _ _ _ _ _ _ _ _ _ _ _ _ _ _ ⟨3, _⟩ s _ _ _ _ _ ((trip3 c _ _ _ _ _ _ _ _ _ _ _ _ _ _ _ _ _ _ _ _ _ _ _ _ _ _ _ _ _ _ _ _ _ _ _ _ _ _ _ _ _ _ _ X1 X3 X4 X5 X13 X14 X15 X16 s.f17 s.f18 s.f19 (by decide +kernel) (by decide +kernel) (by decide +kernel) (by decide +kernel)).2.2.2.2 s.f8)
    (after_eq c _ _ _ _ _ _ _ _ _ _ _ _ _ _ _ _ _ _ _ _ _ _ _ 3 s (trip3_dq ..) (trip3_dk ..) (trip3_dv ..) (trip3_gq ..) rfl rfl)
  | ⟨4, _⟩ => tripTriple_of c _ _ _ _ _ _ _ _ _ _ _ _ _ _ _ _ _ _ _ _ _ _ _ _ _ _ _ _ _ _ _ _ _ _ _ _ _ _ _ _ _ _ _ _ _ _ _ _ _ _ _ ⟨4, _⟩ s _ _ _ _ _ ((trip4 c _ _ _ _ _ _ _ _ _ _ _ _ _ _ _ _ _ _ _ _ _ _ _ _ _ _ _ _ _ _ _ _ _ _ _ _ _ _ _ _ _ _ _ X1 X3 X4 X5 X13 X14 X15 X16 s.f17 s.f18 s.f19 (by decide +kernel) (by decide +kernel) (by decide +kernel) (by decide +kernel) (by decide +kernel)).2.2.2.2 s.f8)
    (after_eq c _ _ _ _ _ _ _ _ _ _ _ _ _ _ _ _ _ _ _ _ _ _ _ 4 s (trip4_dq ..) (trip4_dk ..) (trip4_dv ..) (trip4_gq ..) rfl rfl)
  | ⟨5, _⟩ => tripTriple_of c _ _ _ _ _ _ _ _ _ _ _ _ _ _ _ _ _ _ _ _ _ _ _ _ _ _ _ _ _ _ _ _ _ _ _ _ _ _ _ _ _ _ _ _ _ _ _ _ _ _ _ ⟨5, _⟩ s _ _ _ _ _ ((trip5 c _ _ _ _ _ _ _ _ _ _ _ _ _ _ _ _ _ _ _ _ _ _ _ _ _ _ _ _ _ _ _ _ _ _ _ _ _ _ _ _ _ _ _ X1 X3 X4 X5 X13 X14 X15 X16 s.f17 s.f18 s.f19 (by decide +kernel) (by decide +kernel) (by decide +kernel) (by decide +kernel) (by decide +kernel) (by decide +kernel)).2.2.2.2 s.f8)
    (after_eq c _ _ _ _ _ _ _ _ _ _ _ _ _ _ _ _ _ _ _ _ _ _ _ 5 s (trip5_dq ..) (trip5_dk ..) (trip5_dv ..) (trip5_gq ..) rfl rfl)
  | ⟨6, _⟩ => tripTriple_of c _ _ _ _ _ _ _ _ _ _ _ _ _ _ _ _ _ _ _ _ _ _ _ _ _ _ _ _ _ _ _ _ _ _ _ _ _ _ _ _ _ _ _ _ _ _ _ _ _ _ _ ⟨6, _⟩ s _ _ _ _ _ ((trip6 c _ _ _ _ _ _ _ _ _ _ _ _ _ _ _ _ _ _ _ _ _ _ _ _ _ _ _ _ _ _ _ _ _ _ _ _ _ _ _ _ _ _ _ X1 X3 X4 X5 X13 X14 X15 X16 s.f17 s.f18 s.f19 (by decide +kernel) (by decide +kernel) (by decide +kernel) (by decide +kernel) (by decide +kernel) (by decide +kernel) (by decide +kernel)).2.2.2.2 s.f8)
    (after_eq c _ _ _ _ _ _ _ _ _ _ _ _ _ _ _ _ _ _ _ _ _ _ _ 6 s (trip6_dq ..) (trip6_dk ..) (trip6_dv ..) (trip6_gq ..) rfl rfl)
  | ⟨7, _⟩ => tripTriple_of c _ _ _ _ _ _ _ _ _ _ _ _ _ _ _ _ _ _ _ _ _ _ _ _ _ _ _ _ _ _ _ _ _ _ _ _ _ _ _ _ _ _ _ _ _ _ _ _ _ _ _ ⟨7, _⟩ s _ _ _ _ _ ((trip7 c _ _ _ _ _ _ _ _ _ _ _ _ _ _ _ _ _ _ _ _ _ _ _ _ _ _ _ _ _ _ _ _ _ _ _ _ _ _ _ _ _ _ _ X1 X3 X4 X5 X13 X14 X15 X16 s.f17 s.f18 s.f19 (by decide +kernel) (by decide +kernel) (by decide +kernel) (by decide +kernel) (by decide +kernel) (by decide +kernel) (by decide +kernel)).2.2.2.2 s.f8)
    (after_eq c _ _ _ _ _ _ _ _ _ _ _ _ _ _ _ _ _ _ _ _ _ _ _ 7 s (trip7_dq ..) (trip7_dk ..) (trip7_dv ..) (trip7_gq ..) rfl rfl)

/-- A trip's triple, as the loop's rule takes it. -/
theorem step_of {k : Fin k0_t1_loop.trips} {s t t' : State (F := F) c arg8 arg17 arg18 arg19} (e : t' = t)
    (h : TripTriple c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 k s t) :
    Trip c arg1 arg3 arg4 arg5 arg8 arg13 arg14 arg15 arg16 arg17 arg18 arg19 X1 X3 X4 X5 X13 X14 X15 X16 s.f8 s.f17 s.f18 s.f19
      ⊢ wp Idealize.ShloMosaic.frame (wpE (defs₀ (F := F)) Variants.none (c : Thread nD τ) none) Set.univ
        (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 k ()) (fun _ => Trip c arg1 arg3 arg4 arg5 arg8 arg13 arg14 arg15 arg16 arg17 arg18 arg19 X1 X3 X4 X5 X13 X14 X15 X16 t'.f8 t'.f17 t'.f18 t'.f19) := by
  subst e
  exact h

set_option warn.classDefReducibility false in
/-- The loop's invariant: the arrays as the trips so far have left them. -/
@[sl_loop] def loopInv_k0_t1 (F8 : Bf (F := F) c arg8) (F17 : Bf (F := F) c arg17) (F18 : Bf (F := F) c arg18) (F19 : Bf (F := F) c arg19) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 where
  inv k _ := Trip c arg1 arg3 arg4 arg5 arg8 arg13 arg14 arg15 arg16 arg17 arg18 arg19 X1 X3 X4 X5 X13 X14 X15 X16
    (stAt c arg1 arg3 arg4 arg5 arg8 arg13 arg14 arg15 arg16 arg17 arg18 arg19 v0 v73 v77 X1 X3 X4 X5 X13 X14 X15 X16 ⟨F8, F17, F18, F19⟩ k).f8 (stAt c arg1 arg3 arg4 arg5 arg8 arg13 arg14 arg15 arg16 arg17 arg18 arg19 v0 v73 v77 X1 X3 X4 X5 X13 X14 X15 X16 ⟨F8, F17, F18, F19⟩ k).f17
    (stAt c arg1 arg3 arg4 arg5 arg8 arg13 arg14 arg15 arg16 arg17 arg18 arg19 v0 v73 v77 X1 X3 X4 X5 X13 X14 X15 X16 ⟨F8, F17, F18, F19⟩ k).f18 (stAt c arg1 arg3 arg4 arg5 arg8 arg13 arg14 arg15 arg16 arg17 arg18 arg19 v0 v73 v77 X1 X3 X4 X5 X13 X14 X15 X16 ⟨F8, F17, F18, F19⟩ k).f19
  step k _ := step_of c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 rfl (tripTriple c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 (stAt c arg1 arg3 arg4 arg5 arg8 arg13 arg14 arg15 arg16 arg17 arg18 arg19 v0 v73 v77 X1 X3 X4 X5 X13 X14 X15 X16 ⟨F8, F17, F18, F19⟩ k.val) k)

end Cert.Proof.Trips

end
-- ==== Proof.LoopRule.lean ====
/- The loop over the query blocks as one rule, and its arrays afterwards, block by block. -/
module

public import proofs.«01_k».proof.Proof.Loop

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32) (v1 : Vec F S1x128 .f32) (v73 : FVec F S256x256 .bf16) (v77 : FVec F S256x256 .bf16)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

variable (B : Blocks F) (z z' : ℕ → Vec F S256x128 .f32) (g : Vec F S1x128 .f32)

/-- Block `j` of `dq` is stored once trip `j` is over. -/
theorem rd_f8' (s : State (F := F) c arg8 arg17 arg18 arg19) (j : ℕ) (hj : j < 8) :
    ∀ k, j < k → k ≤ 8 → rd c arg8 (stAt c arg1 arg3 arg4 arg5 arg8 arg13 arg14 arg15 arg16 arg17 arg18 arg19 v0 v73 v77 X1 X3 X4 X5 X13 X14 X15 X16 s k).f8 j = Blocks.dq (blocks c arg1 arg3 arg4 arg5 arg13 arg14 arg15 arg16 v73 v77 X1 X3 X4 X5 X13 X14 X15 X16) j v0
  | 0, h, _ => absurd h (Nat.not_lt_zero j)
  | k + 1, h, h8 => by
    change rd c arg8 (arg8.view.writes (Elt F) (stAt c arg1 arg3 arg4 arg5 arg8 arg13 arg14 arg15 arg16 arg17 arg18 arg19 v0 v73 v77 X1 X3 X4 X5 X13 X14 X15 X16 s k).f8 ([k].map fun a => ⟨blkRect a, Blocks.dq _ a v0⟩)) j = _
    rcases Nat.lt_succ_iff_lt_or_eq.mp h with h' | h'
    · rw [rd_not_mem c arg8 _ _ j hj [k] (by intro a ha; rw [List.mem_singleton] at ha; omega) (by rw [List.mem_singleton]; omega)]
      exact rd_f8' s j hj k h' (by omega)
    · subst h'
      exact rd_mem c arg8 _ _ j hj [j] (by intro a ha; rw [List.mem_singleton] at ha; omega) (List.mem_singleton.mpr rfl)

/-- Block `j` of `dk` before trip `k`. -/
theorem rd_f17 (hB : (blocks c arg1 arg3 arg4 arg5 arg13 arg14 arg15 arg16 v73 v77 X1 X3 X4 X5 X13 X14 X15 X16) = B) (s : State (F := F) c arg8 arg17 arg18 arg19) (hz : ∀ j, rd c arg17 s.f17 j = z j) (j : ℕ) (hj : j < 8) :
    ∀ k, k ≤ 8 → rd c arg17 (stAt c arg1 arg3 arg4 arg5 arg8 arg13 arg14 arg15 arg16 arg17 arg18 arg19 v0 v73 v77 X1 X3 X4 X5 X13 X14 X15 X16 s k).f17 j = dkAt B z k j
  | 0, _ => hz j
  | k + 1, h8 => by
    have ih := rd_f17 hB s hz j hj k (by omega)
    subst hB
    change rd c arg17 (arg17.view.writes (Elt F) (bif k.beq 7 then arg17.view.junk else (stAt c arg1 arg3 arg4 arg5 arg8 arg13 arg14 arg15 arg16 arg17 arg18 arg19 v0 v73 v77 X1 X3 X4 X5 X13 X14 X15 X16 s k).f17)
      ((List.range (k + 1)).map fun a => ⟨blkRect a, Blocks.dkStep _ k a (rd c arg17 (stAt c arg1 arg3 arg4 arg5 arg8 arg13 arg14 arg15 arg16 arg17 arg18 arg19 v0 v73 v77 X1 X3 X4 X5 X13 X14 X15 X16 s k).f17 a)⟩)) j = _
    by_cases hjk : j ≤ k
    · rw [rd_mem c arg17 _ _ j hj _ (by intro a ha; rw [List.mem_range] at ha; omega) (by rw [List.mem_range]; omega), ih]
      exact (if_pos hjk).symm
    · rw [rd_not_mem c arg17 _ _ j hj _ (by intro a ha; rw [List.mem_range] at ha; omega) (by rw [List.mem_range]; omega)]
      have hk : k.beq 7 = false := by
        cases h : k.beq 7
        · rfl
        · have := Nat.eq_of_beq_eq_true h; omega
      rw [hk]
      exact ih.trans (if_neg hjk).symm

/-- Block `j` of `dv` before trip `k`. -/
theorem rd_f18 (hB : (blocks c arg1 arg3 arg4 arg5 arg13 arg14 arg15 arg16 v73 v77 X1 X3 X4 X5 X13 X14 X15 X16) = B) (s : State (F := F) c arg8 arg17 arg18 arg19) (hz : ∀ j, rd c arg18 s.f18 j = z j) (j : ℕ) (hj : j < 8) :
    ∀ k, k ≤ 8 → rd c arg18 (stAt c arg1 arg3 arg4 arg5 arg8 arg13 arg14 arg15 arg16 arg17 arg18 arg19 v0 v73 v77 X1 X3 X4 X5 X13 X14 X15 X16 s k).f18 j = dvAt B z k j
  | 0, _ => hz j
  | k + 1, h8 => by
    have ih := rd_f18 hB s hz j hj k (by omega)
    subst hB
    change rd c arg18 (arg18.view.writes (Elt F) (bif k.beq 7 then arg18.view.junk else (stAt c arg1 arg3 arg4 arg5 arg8 arg13 arg14 arg15 arg16 arg17 arg18 arg19 v0 v73 v77 X1 X3 X4 X5 X13 X14 X15 X16 s k).f18)
      ((List.range (k + 1)).map fun a => ⟨blkRect a, Blocks.dvStep _ k a (rd c arg18 (stAt c arg1 arg3 arg4 arg5 arg8 arg13 arg14 arg15 arg16 arg17 arg18 arg19 v0 v73 v77 X1 X3 X4 X5 X13 X14 X15 X16 s k).f18 a)⟩)) j = _
    by_cases hjk : j ≤ k
    · rw [rd_mem c arg18 _ _ j hj _ (by intro a ha; rw [List.mem_range] at ha; omega) (by rw [List.mem_range]; omega), ih]
      exact (if_pos hjk).symm
    · rw [rd_not_mem c arg18 _ _ j hj _ (by intro a ha; rw [List.mem_range] at ha; omega) (by rw [List.mem_range]; omega)]
      have hk : k.beq 7 = false := by
        cases h : k.beq 7
        · rfl
        · have := Nat.eq_of_beq_eq_true h; omega
      rw [hk]
      exact ih.trans (if_neg hjk).symm

/-- The norm weight's gradient before trip `k`. -/
theorem rd_f19 (hB : (blocks c arg1 arg3 arg4 arg5 arg13 arg14 arg15 arg16 v73 v77 X1 X3 X4 X5 X13 X14 X15 X16) = B) (s : State (F := F) c arg8 arg17 arg18 arg19) (hg : rdRow c arg19 s.f19 = g) :
    ∀ k, rdRow c arg19 (stAt c arg1 arg3 arg4 arg5 arg8 arg13 arg14 arg15 arg16 arg17 arg18 arg19 v0 v73 v77 X1 X3 X4 X5 X13 X14 X15 X16 s k).f19 = gqAt B g k
  | 0 => hg
  | k + 1 => by
    have ih := rd_f19 hB s hg k
    subst hB
    change rdRow c arg19 (arg19.view.writes (Elt F) (stAt c arg1 arg3 arg4 arg5 arg8 arg13 arg14 arg15 arg16 arg17 arg18 arg19 v0 v73 v77 X1 X3 X4 X5 X13 X14 X15 X16 s k).f19 [⟨Rect.unit ![0, 0] S1x128.size inb_S1x128_S1x128_0_0,
      Blocks.gqStep _ k (rdRow c arg19 (stAt c arg1 arg3 arg4 arg5 arg8 arg13 arg14 arg15 arg16 arg17 arg18 arg19 v0 v73 v77 X1 X3 X4 X5 X13 X14 X15 X16 s k).f19)⟩]) = _
    rw [rdRow_write, ih]
    rfl

/-- The loop at the head of a program. -/
theorem loop_rule (F8 : Bf (F := F) c arg8) (F17 : Bf (F := F) c arg17) (F18 : Bf (F := F) c arg18) (F19 : Bf (F := F) c arg19)
    {β : Type} {kk : PUnit → Prog _ β} {Q : β → sProp 𝕄} :
    Trip c arg1 arg3 arg4 arg5 arg8 arg13 arg14 arg15 arg16 arg17 arg18 arg19 X1 X3 X4 X5 X13 X14 X15 X16 F8 F17 F18 F19
      ⊢ iprop((∀ g8 g17 g18 g19, ⌜(⟨g8, g17, g18, g19⟩ : State (F := F) c arg8 arg17 arg18 arg19) = stAt c arg1 arg3 arg4 arg5 arg8 arg13 arg14 arg15 arg16 arg17 arg18 arg19 v0 v73 v77 X1 X3 X4 X5 X13 X14 X15 X16 ⟨F8, F17, F18, F19⟩ 8⌝ -∗ Trip c arg1 arg3 arg4 arg5 arg8 arg13 arg14 arg15 arg16 arg17 arg18 arg19 X1 X3 X4 X5 X13 X14 X15 X16 g8 g17 g18 g19
          -∗ wp Idealize.ShloMosaic.frame (wpE (defs₀ (F := F)) Variants.none (c : Thread nD τ) none) Set.univ (kk ()) Q)
        -∗ wp Idealize.ShloMosaic.frame (wpE (defs₀ (F := F)) Variants.none (c : Thread nD τ) none) Set.univ
          (k0_t1_loop.for k0_t1_ok () (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77) >>= kk) Q) := by
  have h : Trip c arg1 arg3 arg4 arg5 arg8 arg13 arg14 arg15 arg16 arg17 arg18 arg19 X1 X3 X4 X5 X13 X14 X15 X16 F8 F17 F18 F19
      ⊢ iprop((∀ acc, Trip c arg1 arg3 arg4 arg5 arg8 arg13 arg14 arg15 arg16 arg17 arg18 arg19 X1 X3 X4 X5 X13 X14 X15 X16 (stAt c arg1 arg3 arg4 arg5 arg8 arg13 arg14 arg15 arg16 arg17 arg18 arg19 v0 v73 v77 X1 X3 X4 X5 X13 X14 X15 X16 ⟨F8, F17, F18, F19⟩ 8).f8 (stAt c arg1 arg3 arg4 arg5 arg8 arg13 arg14 arg15 arg16 arg17 arg18 arg19 v0 v73 v77 X1 X3 X4 X5 X13 X14 X15 X16 ⟨F8, F17, F18, F19⟩ 8).f17 (stAt c arg1 arg3 arg4 arg5 arg8 arg13 arg14 arg15 arg16 arg17 arg18 arg19 v0 v73 v77 X1 X3 X4 X5 X13 X14 X15 X16 ⟨F8, F17, F18, F19⟩ 8).f18 (stAt c arg1 arg3 arg4 arg5 arg8 arg13 arg14 arg15 arg16 arg17 arg18 arg19 v0 v73 v77 X1 X3 X4 X5 X13 X14 X15 X16 ⟨F8, F17, F18, F19⟩ 8).f19
          -∗ wp Idealize.ShloMosaic.frame (wpE (defs₀ (F := F)) Variants.none (c : Thread nD τ) none) Set.univ (kk acc) Q)
        -∗ wp Idealize.ShloMosaic.frame (wpE (defs₀ (F := F)) Variants.none (c : Thread nD τ) none) Set.univ
          (k0_t1_loop.for k0_t1_ok () (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77) >>= kk) Q) :=
    exec_loop _ _ _ _ _ _ _ _ _ (loopInv_k0_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v0 v1 v73 v77 X1 X3 X4 X5 X13 X14 X15 X16 F8 F17 F18 F19)
  generalize hs : stAt c arg1 arg3 arg4 arg5 arg8 arg13 arg14 arg15 arg16 arg17 arg18 arg19 v0 v73 v77 X1 X3 X4 X5 X13 X14 X15 X16 ⟨F8, F17, F18, F19⟩ 8 = t at h ⊢
  iintro HI HK
  iapply h $$ HI
  iintro %acc HI
  iapply HK $$ [] HI
  ipureintro; rfl

end Cert.Proof.Trips

end
-- ==== Proof.Model.lean ====
/- The five outputs of the attention backward kernel as functions of its inputs, and that the loop leaves them. -/
module

public import proofs.«01_k».proof.Proof.LoopRule
public import Idealize.ShloMosaic.Lib.ValueIdxCore
public import Idealize.ShloMosaic.Lib.VecWindow

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

open Idealize.ShloMosaic.ValueIdx

local notation "𝕄" => MT nD τ sig Unit (Elt F) ℕ (UR sig nD τ) ℕ

/-- Block `j` of a 2048-row array, -/
def blk {e : EltTy} (x : Vec F S2048x128 e) (j : ℕ) : Vec F S256x128 e := fun y => x ((blkRect j).toLoadRect.idx y)

/-- and the array from its blocks. -/
def unblk {e : EltTy} (P : ℕ → Vec F S256x128 e) : Vec F S2048x128 e :=
  fun y => P ((y 0).val / 256) (ix2 ⟨(y 0).val % 256, Nat.mod_lt _ (by omega)⟩ ⟨(y 1).val, (y 1).isLt⟩)

omit [FloatOps F] [Named F] in
theorem eq_unblk {e : EltTy} (x : Vec F S2048x128 e) (P : ℕ → Vec F S256x128 e) (h : ∀ j, j < 8 → blk x j = P j) : x = unblk P := by
  funext y
  have hy : (y 0).val < 2048 := (y 0).isLt
  have := congrFun (h ((y 0).val / 256) (by omega)) (ix2 ⟨(y 0).val % 256, Nat.mod_lt _ (by omega)⟩ ⟨(y 1).val, (y 1).isLt⟩)
  refine Eq.trans (congrArg x ?_) this
  funext d
  refine Fin.ext ?_
  rcases d with ⟨d, hd⟩
  match d, hd with
  | 0, _ =>
    show (y 0).val = 256 * ((y 0).val / 256 % 8) + 1 * ((y 0).val % 256)
    omega
  | 1, _ =>
    show (y 1).val = 0 + 1 * (y 1).val
    omega

section Out

variable (q k v dO : Vec F S2048x128 .bf16) (o : Vec F S2048x128 .f32) (qw kw : Vec F S1x128 .f32)

/-- The blocks the loop reads, from the kernel's inputs. -/
def theBlocks : Blocks F :=
  ⟨blk (k0_pay790 qw q), blk (k0_pay795 kw (k0_pay792 k) (k0_pay793 k) (Scalar.ofBits .f32 0x358637BD#32)), blk (k0_pay791 qw q),
    blk (k0_pay796 kw (k0_pay792 k) (k0_pay793 k) (Scalar.ofBits .f32 0x358637BD#32)), blk v, blk dO, blk o, blk q, k0_pay800, k0_pay801⟩

/-- The gradient of the queries, -/
def dqOut : Vec F S2048x128 .bf16 := unblk fun j => (theBlocks q k v dO o qw kw).dq j qw
/-- of the normalized keys and of the values, added up, -/
def dkAcc : Vec F S2048x128 .f32 := unblk fun j => dkAt (theBlocks q k v dO o qw kw) (blk k0_pay797) 8 j
def dvAcc : Vec F S2048x128 .f32 := unblk fun j => dvAt (theBlocks q k v dO o qw kw) (blk k0_pay798) 8 j
/-- of the keys, -/
def dkOut : Vec F S2048x128 .bf16 := k0_pay1 (k0_pay811 kw k (dkAcc q k v dO o qw kw)) (k0_pay812 k)
/-- of the values, -/
def dvOut : Vec F S2048x128 .bf16 := k0_pay2 (dvAcc q k v dO o qw kw)
/-- of the query's norm weight, -/
def gqOut : Vec F S1x1x128 .f32 := k0_pay806 (gqAt (theBlocks q k v dO o qw kw) k0_pay799 8)
/-- and of the key's. -/
def gkOut : Vec F S1x1x128 .f32 := k0_pay810 k (dkAcc q k v dO o qw kw)

end Out

variable (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
  (v0 : Vec F S1x128 .f32)
  (X1 : Bf (F := F) c arg1) (X3 : Bf (F := F) c arg3) (X4 : Bf (F := F) c arg4) (X5 : Bf (F := F) c arg5)
  (X13 : Bf (F := F) c arg13) (X14 : Bf (F := F) c arg14) (X15 : Bf (F := F) c arg15) (X16 : Bf (F := F) c arg16)

/-- What the loop leaves, when it starts from what the kernel stores before it. -/
theorem outs_of (kw : Vec F S1x128 .f32) (k : Vec F S2048x128 .bf16) (F8 : Bf (F := F) c arg8) (F17 : Bf (F := F) c arg17) (F18 : Bf (F := F) c arg18) (F19 : Bf (F := F) c arg19)
    (g8 : Bf (F := F) c arg8) (g17 : Bf (F := F) c arg17) (g18 : Bf (F := F) c arg18) (g19 : Bf (F := F) c arg19)
    (h13 : arg13.view.read (Elt F) X13 = k0_pay790 v0 (arg1.view.read (Elt F) X1))
    (h14 : arg14.view.read (Elt F) X14 = k0_pay795 kw (k0_pay792 k) (k0_pay793 k) (Scalar.ofBits .f32 0x358637BD#32))
    (h15 : arg15.view.read (Elt F) X15 = k0_pay791 v0 (arg1.view.read (Elt F) X1))
    (h16 : arg16.view.read (Elt F) X16 = k0_pay796 kw (k0_pay792 k) (k0_pay793 k) (Scalar.ofBits .f32 0x358637BD#32))
    (h17 : arg17.view.read (Elt F) F17 = k0_pay797) (h18 : arg18.view.read (Elt F) F18 = k0_pay798) (h19 : arg19.view.read (Elt F) F19 = k0_pay799)
    (hst : (⟨g8, g17, g18, g19⟩ : State (F := F) c arg8 arg17 arg18 arg19) = stAt c arg1 arg3 arg4 arg5 arg8 arg13 arg14 arg15 arg16 arg17 arg18 arg19 v0 k0_pay800 k0_pay801 X1 X3 X4 X5 X13 X14 X15 X16 ⟨F8, F17, F18, F19⟩ 8) :
    arg8.view.read (Elt F) g8 = dqOut (arg1.view.read (Elt F) X1) k (arg3.view.read (Elt F) X3) (arg4.view.read (Elt F) X4) (arg5.view.read (Elt F) X5) v0 kw
    ∧ arg17.view.read (Elt F) g17 = dkAcc (arg1.view.read (Elt F) X1) k (arg3.view.read (Elt F) X3) (arg4.view.read (Elt F) X4) (arg5.view.read (Elt F) X5) v0 kw
    ∧ arg18.view.read (Elt F) g18 = dvAcc (arg1.view.read (Elt F) X1) k (arg3.view.read (Elt F) X3) (arg4.view.read (Elt F) X4) (arg5.view.read (Elt F) X5) v0 kw
    ∧ arg19.view.read (Elt F) g19 = gqAt (theBlocks (arg1.view.read (Elt F) X1) k (arg3.view.read (Elt F) X3) (arg4.view.read (Elt F) X4) (arg5.view.read (Elt F) X5) v0 kw) k0_pay799 8 := by
  have hB : (blocks c arg1 arg3 arg4 arg5 arg13 arg14 arg15 arg16 k0_pay800 k0_pay801 X1 X3 X4 X5 X13 X14 X15 X16) = theBlocks (arg1.view.read (Elt F) X1) k (arg3.view.read (Elt F) X3) (arg4.view.read (Elt F) X4) (arg5.view.read (Elt F) X5) v0 kw := by
    unfold theBlocks
    rw [← h13, ← h14, ← h15, ← h16]
    rfl
  have e8 := congrArg State.f8 hst
  have e17 := congrArg State.f17 hst
  have e18 := congrArg State.f18 hst
  have e19 := congrArg State.f19 hst
  have r17 : ∀ j, rd c arg17 F17 j = blk k0_pay797 j := fun j => by rw [← h17]; rfl
  have r18 : ∀ j, rd c arg18 F18 j = blk k0_pay798 j := fun j => by rw [← h18]; rfl
  have r19 : rdRow c arg19 F19 = k0_pay799 := (View.readAt_full arg19.view F19 inb_S1x128_S1x128_0_0).trans h19
  refine ⟨?_, ?_, ?_, ?_⟩
  · refine eq_unblk _ _ fun j hj => ?_
    have h := rd_f8' c arg1 arg3 arg4 arg5 arg8 arg13 arg14 arg15 arg16 arg17 arg18 arg19 v0 k0_pay800 k0_pay801 X1 X3 X4 X5 X13 X14 X15 X16 ⟨F8, F17, F18, F19⟩ j hj 8 hj le_rfl
    rw [hB, ← e8] at h
    exact h
  · refine eq_unblk _ _ fun j hj => ?_
    have h := rd_f17 c arg1 arg3 arg4 arg5 arg8 arg13 arg14 arg15 arg16 arg17 arg18 arg19 v0 k0_pay800 k0_pay801 X1 X3 X4 X5 X13 X14 X15 X16 _ (blk k0_pay797) hB ⟨F8, F17, F18, F19⟩ r17 j hj 8 le_rfl
    rw [← e17] at h
    exact h
  · refine eq_unblk _ _ fun j hj => ?_
    have h := rd_f18 c arg1 arg3 arg4 arg5 arg8 arg13 arg14 arg15 arg16 arg17 arg18 arg19 v0 k0_pay800 k0_pay801 X1 X3 X4 X5 X13 X14 X15 X16 _ (blk k0_pay798) hB ⟨F8, F17, F18, F19⟩ r18 j hj 8 le_rfl
    rw [← e18] at h
    exact h
  · have h := rd_f19 c arg1 arg3 arg4 arg5 arg8 arg13 arg14 arg15 arg16 arg17 arg18 arg19 v0 k0_pay800 k0_pay801 X1 X3 X4 X5 X13 X14 X15 X16 _ k0_pay799 hB ⟨F8, F17, F18, F19⟩ r19 8
    rw [← e19] at h
    exact (View.readAt_full arg19.view g19 inb_S1x128_S1x128_0_0).symm.trans h

end Cert.Proof.Trips

end
-- ==== Proof.Body.lean ====
/- The attention backward kernel's body: what it leaves in its five output blocks, from its seven input blocks. -/
module

public import proofs.«01_k».proof.Proof.Model

@[expose] public section

set_option maxRecDepth 16384

noncomputable section

namespace Cert.Proof.Trips

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

private theorem congrArg₃ {α β γ δ : Sort _} (f : α → β → γ → δ) {a a' b b' c c'} (h : a = a') (h' : b = b') (h'' : c = c') : f a b c = f a' b' c' := by
  subst h h' h''; rfl

set_option maxHeartbeats 2000000 in
/-- The kernel's body on whole memrefs, the inputs' at known contents and the others at anything, runs to the continuation
    holding the inputs as they were and each output at its function of the inputs. -/
theorem sound_kernel (c : Dev nD) (i : grid0.Coords)
  (arg1 : Memref sig .tc .vmem S2048x128 .bf16) (harg1 : arg1.IsWhole)
  (arg2 : Memref sig .tc .vmem S2048x128 .bf16) (harg2 : arg2.IsWhole)
  (arg3 : Memref sig .tc .vmem S2048x128 .bf16) (harg3 : arg3.IsWhole)
  (arg4 : Memref sig .tc .vmem S2048x128 .bf16) (harg4 : arg4.IsWhole)
  (arg5 : Memref sig .tc .vmem S2048x128 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S2048x128 .bf16) (harg8 : arg8.IsWhole)
  (arg9 : Memref sig .tc .vmem S2048x128 .bf16) (harg9 : arg9.IsWhole)
  (arg10 : Memref sig .tc .vmem S2048x128 .bf16) (harg10 : arg10.IsWhole)
  (arg11 : Memref sig .tc .vmem S1x1x128 .f32) (harg11 : arg11.IsWhole)
  (arg12 : Memref sig .tc .vmem S1x1x128 .f32) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S2048x128 .bf16) (harg15 : arg15.IsWhole)
  (arg16 : Memref sig .tc .vmem S2048x128 .bf16) (harg16 : arg16.IsWhole)
  (arg17 : Memref sig .tc .vmem S2048x128 .f32) (harg17 : arg17.IsWhole)
  (arg18 : Memref sig .tc .vmem S2048x128 .f32) (harg18 : arg18.IsWhole)
  (arg19 : Memref sig .tc .vmem S1x128 .f32) (harg19 : arg19.IsWhole)
    (q k v dO : Vec F S2048x128 .bf16) (o : Vec F S2048x128 .f32) (qw kw : Vec F S1x128 .f32) (K : PUnit → sProp 𝕄) :
    iprop(owns (c : Thread nD τ) arg1 fullShare q ∗ owns (c : Thread nD τ) arg2 fullShare k ∗ owns (c : Thread nD τ) arg3 fullShare v ∗ owns (c : Thread nD τ) arg4 fullShare dO ∗ owns (c : Thread nD τ) arg5 fullShare o ∗ owns (c : Thread nD τ) arg6 fullShare qw ∗ owns (c : Thread nD τ) arg7 fullShare kw ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, arg13.view.loc (c : Thread nD τ) ↦{fullShare} f) ∗ (∃ f, arg14.view.loc (c : Thread nD τ) ↦{fullShare} f) ∗ (∃ f, arg15.view.loc (c : Thread nD τ) ↦{fullShare} f) ∗ (∃ f, arg16.view.loc (c : Thread nD τ) ↦{fullShare} f) ∗ (∃ f, arg17.view.loc (c : Thread nD τ) ↦{fullShare} f) ∗ (∃ f, arg18.view.loc (c : Thread nD τ) ↦{fullShare} f) ∗ (∃ f, arg19.view.loc (c : Thread nD τ) ↦{fullShare} f)
        ∗ (iprop(owns (c : Thread nD τ) arg1 fullShare q ∗ owns (c : Thread nD τ) arg2 fullShare k ∗ owns (c : Thread nD τ) arg3 fullShare v ∗ owns (c : Thread nD τ) arg4 fullShare dO ∗ owns (c : Thread nD τ) arg5 fullShare o ∗ owns (c : Thread nD τ) arg6 fullShare qw ∗ owns (c : Thread nD τ) arg7 fullShare kw ∗ owns (c : Thread nD τ) arg8 fullShare (dqOut q k v dO o qw kw) ∗ owns (c : Thread nD τ) arg9 fullShare (dkOut q k v dO o qw kw) ∗ owns (c : Thread nD τ) arg10 fullShare (dvOut q k v dO o qw kw) ∗ owns (c : Thread nD τ) arg11 fullShare (gqOut q k v dO o qw kw) ∗ owns (c : Thread nD τ) arg12 fullShare (gkOut q k v dO o qw kw) ∗ (∃ f, arg13.view.loc (c : Thread nD τ) ↦{fullShare} f) ∗ (∃ f, arg14.view.loc (c : Thread nD τ) ↦{fullShare} f) ∗ (∃ f, arg15.view.loc (c : Thread nD τ) ↦{fullShare} f) ∗ (∃ f, arg16.view.loc (c : Thread nD τ) ↦{fullShare} f) ∗ (∃ f, arg17.view.loc (c : Thread nD τ) ↦{fullShare} f) ∗ (∃ f, arg18.view.loc (c : Thread nD τ) ↦{fullShare} f) ∗ (∃ f, arg19.view.loc (c : Thread nD τ) ↦{fullShare} f)) -∗ K ⟨⟩))
      ⊢ wp frame (wpE (defs₀ (F := F)) Variants.none (c : Thread nD τ) none) Set.univ (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_attn_bwd_eq_skeleton]; unfold cc0_attn_bwd_skel
  unfold owns
  simp only [harg1.set_eq_univ, harg2.set_eq_univ, harg3.set_eq_univ, harg4.set_eq_univ, harg5.set_eq_univ, harg6.set_eq_univ, harg7.set_eq_univ, harg8.set_eq_univ, harg9.set_eq_univ, harg10.set_eq_univ, harg11.set_eq_univ, harg12.set_eq_univ]
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%f13, H13⟩, ⟨%f14, H14⟩, ⟨%f15, H15⟩, ⟨%f16, H16⟩, ⟨%f17, H17⟩, ⟨%f18, H18⟩, ⟨%f19, H19⟩, Hk⟩
  subst hf1 hf2 hf3 hf4 hf5 hf6 hf7
  sl_exec
  iapply (loop_rule c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ _ _ f1 f3 f4 f5 _ _ _ _ f8 _ _ _) $$ [H1 H3 H4 H5 H13 H14 H15 H16 H8 H17 H18 H19]
  · isplitl [H1]; iexact H1
    isplitl [H3]; iexact H3
    isplitl [H4]; iexact H4
    isplitl [H5]; iexact H5
    isplitl [H13]; iexact H13
    isplitl [H14]; iexact H14
    isplitl [H15]; iexact H15
    isplitl [H16]; iexact H16
    isplitl [H8]; iexact H8
    isplitl [H17]; iexact H17
    isplitl [H18]; iexact H18
    iexact H19
  iintro %g8 %g17 %g18 %g19 %hst ⟨H1, H3, H4, H5, H13, H14, H15, H16, H8, H17, H18, H19⟩
  have r6 := View.readAt_full (Val := Elt F) arg6.view f6 inb_S1x128_S1x128_0_0
  have r7 := View.readAt_full (Val := Elt F) arg7.view f7 inb_S1x128_S1x128_0_0
  have r1 := View.readAt_full (Val := Elt F) arg1.view f1 inb_S2048x128_S2048x128_0_0
  have r2 := View.readAt_full (Val := Elt F) arg2.view f2 inb_S2048x128_S2048x128_0_0
  obtain ⟨o8, o17, o18, o19⟩ := outs_of c arg1 arg3 arg4 arg5 arg8 arg13 arg14 arg15 arg16 arg17 arg18 arg19 _ f1 f3 f4 f5 _ _ _ _ (arg7.view.read (Elt F) f7) (arg2.view.read (Elt F) f2) _ _ _ _ g8 g17 g18 g19
    ((View.read_writes_full _ _ _ _ _).trans (congrArg (k0_pay790 _) r1))
    ((View.read_writes_full _ _ _ _ _).trans (by rw [← r2, ← r7]; rfl))
    ((View.read_writes_full _ _ _ _ _).trans (congrArg (k0_pay791 _) r1))
    ((View.read_writes_full _ _ _ _ _).trans (by rw [← r2, ← r7]; rfl))
    (View.read_writes_full _ _ _ _ _) (View.read_writes_full _ _ _ _ _) (View.read_writes_full _ _ _ _ _) hst
  have r17 := (View.readAt_full (Val := Elt F) arg17.view g17 inb_S2048x128_S2048x128_0_0).trans o17
  have r18 := (View.readAt_full (Val := Elt F) arg18.view g18 inb_S2048x128_S2048x128_0_0).trans o18
  have r19 := (View.readAt_full (Val := Elt F) arg19.view g19 inb_S1x128_S1x128_0_0).trans o19
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr; swap; · iexact H8
    · ipureintro
      exact o8.trans (by rw [← r6]; rfl)
  isplitl [H9]
  · iexists _; isplitr; swap; · iexact H9
    · ipureintro
      refine (View.read_writes_full _ _ _ _ _).trans ?_
      rw [← r6]
      exact congrArg (fun w => k0_pay1 (k0_pay811 w (arg2.view.read (Elt F) f2) (dkAcc (arg1.view.read (Elt F) f1) (arg2.view.read (Elt F) f2) (arg3.view.read (Elt F) f3) (arg4.view.read (Elt F) f4) (arg5.view.read (Elt F) f5) _ (arg7.view.read (Elt F) f7))) (k0_pay812 (arg2.view.read (Elt F) f2))) r7
  isplitl [H10]
  · iexists _; isplitr; swap; · iexact H10
    · ipureintro
      refine (View.read_writes_full _ _ _ _ _).trans ?_
      rw [← r6]; rfl
  isplitl [H11]
  · iexists _; isplitr; swap; · iexact H11
    · ipureintro
      refine (View.read_writes_full _ _ _ _ _).trans ?_
      rw [← r6]; rfl
  isplitl [H12]
  · iexists _; isplitr; swap; · iexact H12
    · ipureintro
      refine (View.read_writes_full _ _ _ _ _).trans ?_
      rw [← r6]; rfl
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  iexists _; iexact H19

end Cert.Proof.Trips

end
-- ==== Proof.Run.lean ====
/- The run of the attention backward kernel: what every array holds when it has ended, and that the arguments are unchanged. -/
module

public import proofs.«01_k».proof.Proof.Body
public import proofs.«01_k».proof.Proof.Gen.KernelIdeal.Frame
public import Idealize.ShloMosaic.Lib.Claim

@[expose] public section

set_option maxRecDepth 16384

noncomputable section

namespace Cert.Proof.Run

open Cert.KernelIdeal Cert.KernelIdeal.Gen Cert.Proof.Trips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline on core `c`: the arrays as it finds them; after a point each input's buffer at its block and each output's
    at its function of the input blocks; an array several windows read is held by each at its part. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqOut (iblk m c 0 t) (iblk m c 1 t) (iblk m c 2 t) (iblk m c 3 t) (iblk m c 4 t) (iblk m c 5 t) (iblk m c 6 t)
    | ⟨8, _⟩ => dkOut (iblk m c 0 t) (iblk m c 1 t) (iblk m c 2 t) (iblk m c 3 t) (iblk m c 4 t) (iblk m c 5 t) (iblk m c 6 t)
    | ⟨9, _⟩ => dvOut (iblk m c 0 t) (iblk m c 1 t) (iblk m c 2 t) (iblk m c 3 t) (iblk m c 4 t) (iblk m c 5 t) (iblk m c 6 t)
    | ⟨10, _⟩ => gqOut (iblk m c 0 t) (iblk m c 1 t) (iblk m c 2 t) (iblk m c 3 t) (iblk m c 4 t) (iblk m c 5 t) (iblk m c 6 t)
    | ⟨11, _⟩ => gkOut (iblk m c 0 t) (iblk m c 1 t) (iblk m c 2 t) (iblk m c 3 t) (iblk m c 4 t) (iblk m c 5 t) (iblk m c 6 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = dqOut (iblk m c 0 t) (iblk m c 1 t) (iblk m c 2 t) (iblk m c 3 t) (iblk m c 4 t) (iblk m c 5 t) (iblk m c 6 t) := by dsimp only [dats]
theorem after0_8 (c : Dev nD) (t : Fin cfg0.N) : (dats m 0 c).after 8 t = dkOut (iblk m c 0 t) (iblk m c 1 t) (iblk m c 2 t) (iblk m c 3 t) (iblk m c 4 t) (iblk m c 5 t) (iblk m c 6 t) := by dsimp only [dats]
theorem after0_9 (c : Dev nD) (t : Fin cfg0.N) : (dats m 0 c).after 9 t = dvOut (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = gqOut (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = gkOut (iblk m c 0 t) (iblk m c 1 t) (iblk m c 2 t) (iblk m c 3 t) (iblk m c 4 t) (iblk m c 5 t) (iblk m c 6 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem phiA_eq (c : Dev nD) : (Pipeline.ΦA (Val := Elt F) spec0 c : sProp 𝕄)
    = iprop((Pipeline.scopedRest (Ix := Unit) (Name := ℕ) (U := UR sig nD τ) (Lvl := ℕ) (Val := Elt F) spec0 c : sProp 𝕄) ∗ ∃ r, prngReg c r) := rfl

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, after0_7, after0_8, after0_9, after0_10, after0_11, phiA_eq, scopedRest0_eq]
  iintro ⟨⟨⟨S0, S1, S2, S3, S4, S5, S6⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, H7, H8, H9, H10, H11, S0, S1, S2, S3, S4, S5, S6⟩
  isplitl [S0 S1 S2 S3 S4 S5 S6 HP]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends with the arrays at what the proof data say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) (run_main m ρ)) ((θ_run defs _ _).mono (fun _ h => h.2) (run_main_quiescent m ρ))

end Cert.Proof.Run

end
-- ==== Proof.Spec.lean ====
/- Stick-breaking attention of one head and its gradients, over the real numbers: arrays are functions of natural
   numbers, a sequence has `N` positions, and position `i` attends to the positions before it. -/
module

public import Idealize.ShloMosaic.PureOps.Ideal.Laws

@[expose] public section

noncomputable section

namespace Cert.Proof.Spec

open Finset

/-- The logarithm of the logistic function. -/
def ls (z : ℝ) : ℝ := min z 0 - Real.log (1 + Real.exp (-|z|))

/-- The logistic function and its complement add up to one. -/
theorem exp_ls_add (z : ℝ) : Real.exp (ls z) + Real.exp (ls z - z) = 1 := by
  have hp : (0 : ℝ) < 1 + Real.exp (-|z|) := by positivity
  have h : Real.exp (ls z) = Real.exp (min z 0) / (1 + Real.exp (-|z|)) := by
    rw [ls, Real.exp_sub, Real.exp_log hp]
  rw [Real.exp_sub, h]
  rcases le_total z 0 with hz | hz
  · rw [min_eq_left hz, abs_of_nonpos hz, neg_neg]
    have : (0 : ℝ) < Real.exp z := Real.exp_pos z
    have h1 : (0 : ℝ) < 1 + Real.exp z := by positivity
    field_simp
    ring
  · rw [min_eq_right hz, abs_of_nonneg hz, Real.exp_zero, Real.exp_neg]
    have : (0 : ℝ) < Real.exp z := Real.exp_pos z
    have h1 : (0 : ℝ) < 1 + Real.exp z := by positivity
    field_simp

/-- The same in base 2, of a score in base 2. -/
theorem ls_base2 (z : ℝ) : min (z * (Real.log 2)⁻¹) 0 - Real.log (1 + Real.rpow 2 (0 - |z * (Real.log 2)⁻¹|)) * (Real.log 2)⁻¹
    = ls z * (Real.log 2)⁻¹ := by
  have h2 : (0 : ℝ) < Real.log 2 := Real.log_pos (by norm_num)
  have hr : Real.rpow 2 (0 - |z * (Real.log 2)⁻¹|) = Real.exp (-|z|) := by
    show (2 : ℝ) ^ (0 - |z * (Real.log 2)⁻¹|) = _
    rw [Real.rpow_def_of_pos (by norm_num), zero_sub, abs_mul, abs_of_pos (inv_pos.2 h2)]
    congr 1
    field_simp
  rw [hr, ls, sub_mul, min_mul_of_nonneg _ _ (inv_nonneg.2 h2.le), zero_mul]

theorem rpow_base2 (x : ℝ) : Real.rpow 2 (x * (Real.log 2)⁻¹) = Real.exp x := by
  have h2 : (0 : ℝ) < Real.log 2 := Real.log_pos (by norm_num)
  show (2 : ℝ) ^ (x * (Real.log 2)⁻¹) = _
  rw [Real.rpow_def_of_pos (by norm_num)]
  congr 1
  field_simp

/-- The logarithm of the share of the stick that position `k` leaves, zero where `i` does not attend. -/
def L (z : ℕ → ℕ → ℝ) (i k : ℕ) : ℝ := if k < i then ls (z i k) - z i k else 0

/-- The attention weights of scores `z` over `N` positions. -/
def A (N : ℕ) (z : ℕ → ℕ → ℝ) (i k : ℕ) : ℝ := if k < i then Real.exp (ls (z i k) + ∑ c ∈ Ico (k + 1) N, L z i c) else 0

/-- The weights times the gradients `g` that reach them. -/
def E (N : ℕ) (z g : ℕ → ℕ → ℝ) (i k : ℕ) : ℝ := g i k * A N z i k

/-- The gradient of the scores. -/
def DZ (N : ℕ) (z g : ℕ → ℕ → ℝ) (i k : ℕ) : ℝ :=
  if k < i then E N z g i k - Real.exp (ls (z i k)) * (E N z g i k + ∑ c ∈ range k, E N z g i c) else 0

/-- The reciprocal root of a row's mean square. -/
def rr (eps : ℝ) (D : ℕ) (x : ℕ → ℕ → ℝ) (i : ℕ) : ℝ := (Real.sqrt ((∑ d ∈ range D, x i d * x i d) * (1 / 128) + eps))⁻¹

/-- A row divided by its root mean square. -/
def nh (eps : ℝ) (D : ℕ) (x : ℕ → ℕ → ℝ) (i d : ℕ) : ℝ := x i d * rr eps D x i

/-- The gradient of `x` from the gradient `g` of `nh x · w`. -/
def nb (eps : ℝ) (D : ℕ) (x : ℕ → ℕ → ℝ) (w : ℕ → ℝ) (g : ℕ → ℕ → ℝ) (i d : ℕ) : ℝ :=
  rr eps D x i * (g i d * w d - nh eps D x i d * ((∑ d ∈ range D, g i d * w d * nh eps D x i d) * (1 / 128)))

/-- One head's inputs. -/
structure Head where
  q : ℕ → ℕ → ℝ
  k : ℕ → ℕ → ℝ
  v : ℕ → ℕ → ℝ
  dO : ℕ → ℕ → ℝ
  wq : ℕ → ℝ
  wk : ℕ → ℝ
  C : ℝ
  eps : ℝ

namespace Head

variable (H : Head)

def qn (i d : ℕ) : ℝ := nh H.eps 128 H.q i d * H.wq d
def kn (i d : ℕ) : ℝ := nh H.eps 128 H.k i d * H.wk d
/-- The scores, -/
def z (i k : ℕ) : ℝ := (∑ d ∈ range 128, H.qn i d * H.kn k d) * H.C
/-- the gradients that reach the weights, -/
def g (i k : ℕ) : ℝ := ∑ d ∈ range 128, H.dO i d * H.v k d
/-- the weights, -/
def a : ℕ → ℕ → ℝ := A 2048 H.z
def e : ℕ → ℕ → ℝ := E 2048 H.z H.g
def dz : ℕ → ℕ → ℝ := DZ 2048 H.z H.g
/-- and the attention's result. -/
def o (i d : ℕ) : ℝ := ∑ k ∈ range 2048, H.a i k * H.v k d
def dqn (i d : ℕ) : ℝ := ∑ k ∈ range 2048, H.dz i k * (H.kn k d * H.C)
def dkn (k d : ℕ) : ℝ := ∑ i ∈ range 2048, H.dz i k * (H.qn i d * H.C)
/-- The gradients of the values, -/
def dv (k d : ℕ) : ℝ := ∑ i ∈ range 2048, H.a i k * H.dO i d
/-- the queries, -/
def dq : ℕ → ℕ → ℝ := nb H.eps 128 H.q H.wq H.dqn
/-- the keys, -/
def dk : ℕ → ℕ → ℝ := nb H.eps 128 H.k H.wk H.dkn
/-- and the norms' weights. -/
def gq (d : ℕ) : ℝ := ∑ i ∈ range 2048, H.dqn i d * nh H.eps 128 H.q i d
def gk (d : ℕ) : ℝ := ∑ i ∈ range 2048, H.dkn i d * nh H.eps 128 H.k i d

end Head

/-! ## Sums that stop early -/

theorem L_eq_zero {z : ℕ → ℕ → ℝ} {i k : ℕ} (h : i ≤ k) : L z i k = 0 := if_neg (by omega)
theorem A_eq_zero {N : ℕ} {z : ℕ → ℕ → ℝ} {i k : ℕ} (h : i ≤ k) : A N z i k = 0 := if_neg (by omega)
theorem E_eq_zero {N : ℕ} {z g : ℕ → ℕ → ℝ} {i k : ℕ} (h : i ≤ k) : E N z g i k = 0 := by rw [E, A_eq_zero h, mul_zero]
theorem DZ_eq_zero {N : ℕ} {z g : ℕ → ℕ → ℝ} {i k : ℕ} (h : i ≤ k) : DZ N z g i k = 0 := if_neg (by omega)

/-- A sum whose terms vanish from `M` on stops there. -/
theorem sum_Ico_stop (f : ℕ → ℝ) {a M N : ℕ} (hM : M ≤ N) (h : ∀ c, M ≤ c → f c = 0) : ∑ c ∈ Ico a N, f c = ∑ c ∈ Ico a M, f c := by
  symm
  refine sum_subset (Ico_subset_Ico_right hM) fun c hc hc' => h c ?_
  rw [mem_Ico] at hc hc'
  omega

theorem sum_range_stop (f : ℕ → ℝ) {M N : ℕ} (hM : M ≤ N) (h : ∀ c, M ≤ c → f c = 0) : ∑ c ∈ range N, f c = ∑ c ∈ range M, f c := by
  rw [range_eq_Ico, range_eq_Ico]
  exact sum_Ico_stop f hM h

/-- A sum over the part of a tile of 256 after its `c`-th place, as the tile's product with a triangle of ones. -/
theorem sum_tri (f : ℕ → ℝ) (n c : ℕ) : ∑ j ∈ range n, f j * (if c < j then 1 else 0) = ∑ j ∈ Ico (c + 1) n, f j := by
  simp only [mul_ite, mul_one, mul_zero]
  rw [← sum_filter]
  refine sum_congr ?_ fun _ _ => rfl
  ext j
  simp only [mem_filter, mem_range, mem_Ico]
  omega

theorem sum_tri' (f : ℕ → ℝ) (n c : ℕ) : ∑ j ∈ range n, f j * (if c ≤ j then 1 else 0) = ∑ j ∈ Ico c n, f j := by
  simp only [mul_ite, mul_one, mul_zero]
  rw [← sum_filter]
  refine sum_congr ?_ fun _ _ => rfl
  ext j
  simp only [mem_filter, mem_range, mem_Ico]
  omega

/-- A tile's sum, by place in the whole sequence. -/
theorem sum_tile (f : ℕ → ℝ) (b a n : ℕ) : ∑ j ∈ Ico a n, f (b + j) = ∑ c ∈ Ico (b + a) (b + n), f c := by
  rw [add_comm b a, add_comm b n, ← sum_Ico_add f a n b]

/-- The weights' gradients add up, along a row, to the product of the gradient with the attention's result. -/
theorem Head.rowDot (H : Head) (i : ℕ) : ∑ d ∈ range 128, H.dO i d * H.o i d = ∑ k ∈ range 2048, H.e i k := by
  simp only [Head.o, Head.e, E, Head.g, mul_sum, sum_mul]
  rw [sum_comm]
  refine sum_congr rfl fun k _ => sum_congr rfl fun d _ => ?_
  show H.dO i d * (H.a i k * H.v k d) = H.dO i d * H.v k d * H.a i k
  ring

end Cert.Proof.Spec

end
-- ==== Proof.Mat.lean ====
/- Matrices of real numbers as the kernel's arrays at the ideal instance: every operation of the kernel on such arrays
   gives such an array. -/
module

public import proofs.«01_k».proof.Proof.Spec
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.PureOps.IdealRules

@[expose] public section

noncomputable section

namespace Cert.Proof

open Idealize.ShloMosaic Idealize.ShloMosaic.ValueIdx
open Finset

/-- The extended real of a finite sum of reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [sum_insert ha, sum_insert ha, EReal.coe_add, ih]

/-- Sums over `Fin n` and over the numbers below `n`. -/
theorem coe_sum_fin (n : ℕ) (f : ℕ → ℝ) : (∑ k : Fin n, ((f k.val : ℝ) : EReal)) = ((∑ k ∈ range n, f k : ℝ) : EReal) := by
  rw [sum_range, coe_sum]

/-- The `n × m` array of a real matrix. -/
def mat (n m : ℕ) {φ : FTy} (f : ℕ → ℕ → ℝ) : FVec Ideal ⟨2, ![n, m]⟩ φ := fun y => ((f (y 0).val (y 1).val : ℝ) : EReal)

section

variable {n m : ℕ} {φ : FTy} (f g : ℕ → ℕ → ℝ)

theorem mat_apply (y : (⟨2, ![n, m]⟩ : Shape).Idx) : (mat n m f : FVec Ideal ⟨2, ![n, m]⟩ φ) y = ((f (y 0).val (y 1).val : ℝ) : EReal) := rfl

theorem mat_congr {f g : ℕ → ℕ → ℝ} (h : ∀ r c, r < n → c < m → f r c = g r c) : (mat n m f : FVec Ideal ⟨2, ![n, m]⟩ φ) = mat n m g :=
  funext fun y => congrArg (fun x : ℝ => (x : EReal)) (h _ _ (idx2_lt0 y) (idx2_lt1 y))

theorem addf_mat : addf (mat n m f : FVec Ideal ⟨2, ![n, m]⟩ φ) (mat n m g) = mat n m fun r c => f r c + g r c :=
  funext fun _ => (EReal.coe_add _ _).symm
theorem subf_mat : subf (mat n m f : FVec Ideal ⟨2, ![n, m]⟩ φ) (mat n m g) = mat n m fun r c => f r c - g r c :=
  funext fun _ => (EReal.coe_sub _ _).symm
theorem mulf_mat : mulf (mat n m f : FVec Ideal ⟨2, ![n, m]⟩ φ) (mat n m g) = mat n m fun r c => f r c * g r c :=
  funext fun _ => (EReal.coe_mul _ _).symm
theorem minimumf_mat : minimumf (mat n m f : FVec Ideal ⟨2, ![n, m]⟩ φ) (mat n m g) = mat n m fun r c => min (f r c) (g r c) :=
  funext fun _ => (EReal.coe_strictMono.monotone.map_min).symm
theorem absf_mat : absf (mat n m f : FVec Ideal ⟨2, ![n, m]⟩ φ) = mat n m fun r c => |f r c| := by
  funext y
  show max ((f _ _ : ℝ) : EReal) (-((f _ _ : ℝ) : EReal)) = _
  rw [← EReal.coe_neg, ← EReal.coe_strictMono.monotone.map_max]
  rfl
theorem exp2_mat : exp2 (mat n m f : FVec Ideal ⟨2, ![n, m]⟩ φ) = mat n m fun r c => Real.rpow 2 (f r c) := rfl
theorem log_mat (h : ∀ r c, 0 < f r c) : log (mat n m f : FVec Ideal ⟨2, ![n, m]⟩ φ) = mat n m fun r c => Real.log (f r c) := by
  funext y
  show Ideal.log ((f _ _ : ℝ) : EReal) = _
  rw [Ideal.log_coe, if_neg (not_le.2 (h _ _))]
  rfl
theorem rsqrt_mat (h : ∀ r c, 0 < f r c) : rsqrt (mat n m f : FVec Ideal ⟨2, ![n, m]⟩ φ) = mat n m fun r c => (Real.sqrt (f r c))⁻¹ := by
  funext y
  show Ideal.rsqrt ((f _ _ : ℝ) : EReal) = _
  rw [Ideal.rsqrt_coe, if_neg (not_lt.2 (h _ _).le), if_neg (h _ _).ne']
  rfl
theorem truncf_mat {ψ : FTy} (h : ψ.bits < φ.bits) : (truncf ψ (mat n m f : FVec Ideal ⟨2, ![n, m]⟩ φ) h) = mat n m f := rfl
theorem extf_mat {ψ : FTy} (h : φ.bits < ψ.bits) : (extf ψ (mat n m f : FVec Ideal ⟨2, ![n, m]⟩ φ) h) = mat n m f := rfl
theorem divf_const (c : ℝ) (hc : c ≠ 0) :
    divf (mat n m f : FVec Ideal ⟨2, ![n, m]⟩ φ) (mat n m fun _ _ => c) = mat n m fun r d => f r d * (1 / c) := by
  funext y
  show Ideal.div _ ((c : ℝ) : EReal) = _
  rw [Ideal.div_coe hc]
  exact (EReal.coe_mul _ _).symm
theorem broadcast_mat (c : ℝ) : (broadcast ⟨2, ![n, m]⟩ ((c : ℝ) : EReal) : FVec Ideal ⟨2, ![n, m]⟩ φ) = mat n m fun _ _ => c := rfl

theorem broadcastTo_col (h : (⟨2, ![n, 1]⟩ : Shape).Broadcasts ⟨2, ![n, m]⟩) :
    broadcastTo ⟨2, ![n, m]⟩ (mat n 1 f : FVec Ideal ⟨2, ![n, 1]⟩ φ) h = mat n m fun r _ => f r 0 := by
  funext y
  have hn := idx2_lt0 y
  refine (broadcastTo_apply (mat n 1 f) h y (ix2 (y 0) 0) fun a => ?_).trans rfl
  match a with
  | ⟨0, _⟩ =>
    show (y 0).val = if n = 1 then 0 else (y 0).val
    split <;> omega
  | ⟨1, _⟩ => rfl

theorem broadcastTo_row (h : (⟨2, ![1, m]⟩ : Shape).Broadcasts ⟨2, ![n, m]⟩) :
    broadcastTo ⟨2, ![n, m]⟩ (mat 1 m f : FVec Ideal ⟨2, ![1, m]⟩ φ) h = mat n m fun _ c => f 0 c := by
  funext y
  have hn := idx2_lt1 y
  refine (broadcastTo_apply (mat 1 m f) h y (ix2 0 (y 1)) fun a => ?_).trans rfl
  match a with
  | ⟨0, _⟩ => rfl
  | ⟨1, _⟩ =>
    show (y 1).val = if m = 1 then 0 else (y 1).val
    split <;> omega

/-- The sums of the rows, as a column. -/
theorem rowSums (acc : BitVec φ.bits) (h : (⟨2, ![n, m]⟩ : Shape).Reduces [1] ⟨1, ![n]⟩) (hφ : FKind.Formats φ) (hacc : acc = FKind.add.neutral φ hφ)
    (hc : (⟨1, ![n]⟩ : Shape).ShapeCasts ⟨2, ![n, 1]⟩) :
    shapeCast ⟨2, ![n, 1]⟩ (multiReduction .add [1] ⟨1, ![n]⟩ (mat n m f : FVec Ideal ⟨2, ![n, m]⟩ φ) acc h hφ hacc) hc
      = mat n 1 fun r _ => ∑ d ∈ range m, f r d := by
  funext y
  obtain ⟨i, u, rfl⟩ : ∃ (i : Fin n) (u : Fin 1), y = ix2 i u := ⟨y 0, y 1, eq_ix2 y⟩
  rw [shapeCast_a_a1_apply]
  refine (Ideal.multiReduction_add_single (a := (1 : Fin 2)) (mat n m f) acc h hφ hacc _).trans ?_
  refine (coe_sum_fin m fun d => f i.val d).trans ?_
  rfl

omit f g in
theorem lift_col (h : (⟨2, ![n, m]⟩ : Shape).Reduces [0] (⟨1, ![m]⟩ : Shape)) (t : Fin m)
    (k : Fin ((⟨2, ![n, m]⟩ : Shape).size 0)) : h.lift (ix1 t) k = ix2 (⟨k.val, k.isLt⟩ : Fin n) t := by
  funext c; apply Fin.ext
  fin_cases c <;> rfl

/-- The sums of the columns, -/
theorem colSums' (acc : BitVec φ.bits) (h : (⟨2, ![n, m]⟩ : Shape).Reduces [0] ⟨1, ![m]⟩) (hφ : FKind.Formats φ) (hacc : acc = FKind.add.neutral φ hφ) (i : Fin m) :
    multiReduction .add [0] ⟨1, ![m]⟩ (mat n m f : FVec Ideal ⟨2, ![n, m]⟩ φ) acc h hφ hacc (ix1 i) = ((∑ r ∈ range n, f r i.val : ℝ) : EReal) := by
  rw [Ideal.multiReduction_add_single, ← coe_sum_fin n fun d => f d i.val]
  refine sum_congr rfl fun k _ => ?_
  rw [lift_col]
  rfl

/-- as a row. -/
theorem colSums (acc : BitVec φ.bits) (h : (⟨2, ![n, m]⟩ : Shape).Reduces [0] ⟨1, ![m]⟩) (hφ : FKind.Formats φ) (hacc : acc = FKind.add.neutral φ hφ)
    (hc : (⟨1, ![m]⟩ : Shape).ShapeCasts ⟨2, ![1, m]⟩) :
    shapeCast ⟨2, ![1, m]⟩ (multiReduction .add [0] ⟨1, ![m]⟩ (mat n m f : FVec Ideal ⟨2, ![n, m]⟩ φ) acc h hφ hacc) hc
      = mat 1 m fun _ c => ∑ r ∈ range n, f r c := by
  funext y
  obtain ⟨u, i, rfl⟩ : ∃ (u : Fin 1) (i : Fin m), y = ix2 u i := ⟨y 0, y 1, eq_ix2 y⟩
  rw [shapeCast_a_1a_apply]
  exact colSums' f acc h hφ hacc i

end

/-! ## Products -/

/-- A product into zeros, from what its two operands are at each contracted position. -/
theorem matmul_mat {n m p q a b : ℕ} {φ₁ φ₂ : FTy} (d : DotDims ⟨2, ![n, m]⟩ ⟨2, ![p, q]⟩ ⟨2, ![a, b]⟩) (K : ℕ) (hr : d.contr.rank = 1)
    (hs : d.contr.size ⟨0, by rw [hr]; exact Nat.one_pos⟩ = K) (f g : ℕ → ℕ → ℝ) (F G : ℕ → ℕ → ℕ → ℝ)
    (hF : ∀ (j : (⟨2, ![a, b]⟩ : Shape).Idx) (k : d.contr.Idx),
      f (d.lhsIdx j k 0).val (d.lhsIdx j k 1).val = F (j 0).val (j 1).val (k ⟨0, by rw [hr]; exact Nat.one_pos⟩).val)
    (hG : ∀ (j : (⟨2, ![a, b]⟩ : Shape).Idx) (k : d.contr.Idx),
      g (d.rhsIdx j k 0).val (d.rhsIdx j k 1).val = G (j 0).val (j 1).val (k ⟨0, by rw [hr]; exact Nat.one_pos⟩).val) :
    matmul d none (mat n m f : FVec Ideal ⟨2, ![n, m]⟩ φ₁) (mat p q g : FVec Ideal ⟨2, ![p, q]⟩ φ₂) (constant (⟨2, ![a, b]⟩ : Shape) .f32 0x00000000#32)
      = mat a b fun r c => ∑ k ∈ range K, F r c k * G r c k := by
  funext j
  refine (Ideal.matmul_constant_zero_apply d none _ _ j).trans ?_
  rw [← Equiv.sum_comp (contrEquiv1 d K hr hs).symm]
  refine (sum_congr rfl fun k _ => ?_).trans (coe_sum_fin K fun k => F (j 0).val (j 1).val k * G (j 0).val (j 1).val k)
  have hk := contrEquiv1_symm_val d K hr hs k
  rw [mat_apply, mat_apply, hF, hG, hk, EReal.coe_mul]

end Cert.Proof

end
-- ==== Proof.TileVal.lean ====
/- What the kernel's tile computes, over the reals. -/
module

public import proofs.«01_k».proof.Proof.Mat
public import proofs.«01_k».proof.Proof.Tile

@[expose] public section

set_option maxRecDepth 16384

noncomputable section

namespace Cert.Proof

open Cert.KernelIdeal Cert.KernelIdeal.Gen
open Idealize.ShloMosaic Idealize.ShloMosaic.ValueIdx
open Finset Cert.Proof.Spec

/-! ## Constants -/

/-- The scale of the scores. -/
def scaleR : ℝ := 11863283 / 134217728
/-- The square mean's offset. -/
def epsR : ℝ := 8796093 / 8796093022208

theorem epsR_pos : 0 < epsR := by unfold epsR; norm_num

theorem lit_zero : (Scalar.ofBits .f32 0x00000000#32 : Ideal .f32) = ((0 : ℝ) : EReal) := by
  show Ideal.ofBits .f32 0x00000000#32 = _
  simp [Ideal.ofBits, Ideal.ieee, -EReal.coe_mul]
theorem lit_one : (Scalar.ofBits .f32 0x3F800000#32 : Ideal .f32) = ((1 : ℝ) : EReal) := by
  show Ideal.ofBits .f32 0x3F800000#32 = _
  simp [Ideal.ofBits, Ideal.ieee, -EReal.coe_mul]; norm_num
theorem lit_128 : (Scalar.ofBits .f32 0x43000000#32 : Ideal .f32) = ((128 : ℝ) : EReal) := by
  show Ideal.ofBits .f32 0x43000000#32 = _
  simp [Ideal.ofBits, Ideal.ieee, -EReal.coe_mul]; norm_num
theorem lit_scale : (Scalar.ofBits .f32 0x3DB504F3#32 : Ideal .f32) = ((scaleR : ℝ) : EReal) := by
  show Ideal.ofBits .f32 0x3DB504F3#32 = _
  unfold scaleR
  simp [Ideal.ofBits, Ideal.ieee, -EReal.coe_mul]; norm_num
theorem lit_eps : (Scalar.ofBits .f32 0x358637BD#32 : Ideal .f32) = ((epsR : ℝ) : EReal) := by
  show Ideal.ofBits .f32 0x358637BD#32 = _
  unfold epsR
  simp [Ideal.ofBits, Ideal.ieee, -EReal.coe_mul]; norm_num
theorem lit_two : (Scalar.ofBits .f32 0x40000000#32 : Ideal .f32) = ((2 : ℝ) : EReal) := by
  show Ideal.ofBits .f32 0x40000000#32 = _
  simp [Ideal.ofBits, Ideal.ieee, -EReal.coe_mul]; norm_num
theorem lit_neg_half : (Scalar.ofBits .f32 0xBF000000#32 : Ideal .f32) = ((-(1 / 2) : ℝ) : EReal) := by
  show Ideal.ofBits .f32 0xBF000000#32 = _
  simp [Ideal.ofBits, Ideal.ieee, -EReal.coe_mul]; norm_num
theorem lit_inf : (Scalar.ofBits .f32 0x7F800000#32 : Ideal .f32) = (⊤ : EReal) := by
  show Ideal.ofBits .f32 0x7F800000#32 = _
  simp [Ideal.ofBits, Ideal.ieee, -EReal.coe_mul]
theorem named_log2e : (Named.named κ "log2e" 0x3FB8AA3B#32 : Ideal .f32) = (((Real.log 2)⁻¹ : ℝ) : EReal) :=
  IdealRules.named_const.ideal_named_scalar _ _ _ _ rfl
theorem named_scale : (Named.named κ "qk_scale_log2e" 0x3E0293EE#32 : Ideal .f32) = ((scaleR * (Real.log 2)⁻¹ : ℝ) : EReal) :=
  IdealRules.named_const.ideal_named_scalar _ _ _ _ rfl

/-! ## Products -/

theorem dotNT (f g : ℕ → ℕ → ℝ) {φ₁ φ₂ : FTy} :
    matmul dot_S256x128_S256x128_S256x256_1_1_0_0_n_n none (mat 256 128 f : FVec Ideal S256x128 φ₁) (mat 256 128 g : FVec Ideal S256x128 φ₂) (constant S256x256 .f32 0x00000000#32)
      = mat 256 256 fun r c => ∑ k ∈ range 128, f r k * g c k :=
  matmul_mat _ 128 rfl rfl f g (fun r _ k => f r k) (fun _ c k => g c k) (fun _ _ => rfl) (fun _ _ => rfl)
theorem dotNN (f g : ℕ → ℕ → ℝ) {φ₁ φ₂ : FTy} :
    matmul dot_S256x256_S256x256_S256x256_1_0_0_1_n_n none (mat 256 256 f : FVec Ideal S256x256 φ₁) (mat 256 256 g : FVec Ideal S256x256 φ₂) (constant S256x256 .f32 0x00000000#32)
      = mat 256 256 fun r c => ∑ k ∈ range 256, f r k * g k c :=
  matmul_mat _ 256 rfl rfl f g (fun r _ k => f r k) (fun _ c k => g k c) (fun _ _ => rfl) (fun _ _ => rfl)
theorem dotNN' (f g : ℕ → ℕ → ℝ) {φ₁ φ₂ : FTy} :
    matmul dot_S256x256_S256x128_S256x128_1_0_0_1_n_n none (mat 256 256 f : FVec Ideal S256x256 φ₁) (mat 256 128 g : FVec Ideal S256x128 φ₂) (constant S256x128 .f32 0x00000000#32)
      = mat 256 128 fun r c => ∑ k ∈ range 256, f r k * g k c :=
  matmul_mat _ 256 rfl rfl f g (fun r _ k => f r k) (fun _ c k => g k c) (fun _ _ => rfl) (fun _ _ => rfl)
theorem dotTN (f g : ℕ → ℕ → ℝ) {φ₁ φ₂ : FTy} :
    matmul dot_S256x256_S256x128_S256x128_0_0_1_1_n_n none (mat 256 256 f : FVec Ideal S256x256 φ₁) (mat 256 128 g : FVec Ideal S256x128 φ₂) (constant S256x128 .f32 0x00000000#32)
      = mat 256 128 fun r c => ∑ k ∈ range 256, f k r * g k c :=
  matmul_mat _ 256 rfl rfl f g (fun r _ k => f k r) (fun _ c k => g k c) (fun _ _ => rfl) (fun _ _ => rfl)

/-! ## One tile -/

theorem score_mat (f g : ℕ → ℕ → ℝ) : score (F := Ideal) (mat 256 128 (φ := .bf16) f) (mat 256 128 (φ := .bf16) g) = mat 256 256 fun r c => ∑ k ∈ range 128, f r k * g c k :=
  dotNT f g

theorem logBeta_mat (z : ℕ → ℕ → ℝ) : logBeta (F := Ideal) (mat 256 256 fun r c => z r c * (Real.log 2)⁻¹) = mat 256 256 fun r c => ls (z r c) * (Real.log 2)⁻¹ := by
  unfold logBeta
  have hp : ∀ r c, 0 < 1 + Real.rpow 2 (0 - |z r c * (Real.log 2)⁻¹|) := fun r c =>
    add_pos one_pos (Real.rpow_pos_of_pos two_pos _)
  rw [lit_zero, lit_one, named_log2e, broadcast_mat, broadcast_mat, broadcast_mat, minimumf_mat, absf_mat, subf_mat, exp2_mat, addf_mat, log_mat _ hp, mulf_mat, subf_mat]
  exact mat_congr fun r c _ _ => ls_base2 _

theorem cmp32 {a b : ℕ} (ha : a < 256) (hb : b < 256) : (BitVec.ofNat 32 b).slt (BitVec.ofNat 32 a) = decide (b < a) := by
  rw [BitVec.slt_eq_decide, BitVec.toInt_ofNat', BitVec.toInt_ofNat']
  congr 1
  rw [Int.bmod_def, Int.bmod_def]
  refine propext ?_
  omega

theorem cmp32' {a b : ℕ} (ha : a < 256) (hb : b < 256) : (BitVec.ofNat 32 b).sle (BitVec.ofNat 32 a) = decide (b ≤ a) := by
  rw [BitVec.sle_eq_decide, BitVec.toInt_ofNat', BitVec.toInt_ofNat']
  congr 1
  rw [Int.bmod_def, Int.bmod_def]
  refine propext ?_
  omega

theorem below_apply (y : S256x256.Idx) : below y = BitVec.ofBool (decide ((y 1).val < (y 0).val)) := by
  show BitVec.ofBool ((iota .tc S256x256 32 [1] iota_S256x256_d1_w32 y).slt (iota .tc S256x256 32 [0] iota_S256x256_d0_w32 y)) = _
  rw [iota_single_apply, iota_single_apply, cmp32 (idx2_lt0 y) (idx2_lt1 y)]

theorem notAbove_apply (y : S256x256.Idx) :
    BitVec.ofBool ((iota .tc S256x256 32 [1] iota_S256x256_d1_w32 y).sle (iota .tc S256x256 32 [0] iota_S256x256_d0_w32 y)) = BitVec.ofBool (decide ((y 1).val ≤ (y 0).val)) := by
  rw [iota_single_apply, iota_single_apply, cmp32' (idx2_lt0 y) (idx2_lt1 y)]

theorem keep_mat (diag : Bool) (I J : ℕ) (f : ℕ → ℕ → ℝ) (h : diag = true → I = J) (h' : diag = false → J < I) :
    keep (F := Ideal) diag (mat 256 256 f) = mat 256 256 fun r c => if 256 * J + c < 256 * I + r then f r c else 0 := by
  cases diag with
  | false =>
    have := h' rfl
    exact mat_congr fun r c hr hc => (if_pos (by omega)).symm
  | true =>
    obtain rfl := h rfl
    funext y
    show (if below y = 1#1 then _ else (Scalar.ofBits .f32 0x00000000#32 : Ideal .f32)) = _
    rw [below_apply, lit_zero, mat_apply, mat_apply]
    by_cases hy : (y 1).val < (y 0).val
    · rw [decide_eq_true hy, if_pos (by rfl), if_pos (by omega)]
    · rw [decide_eq_false hy, if_neg (by decide), if_neg (by omega)]

theorem triL_mat : k0_pay800 (F := Ideal) = mat 256 256 fun r c => if c < r then 1 else 0 := by
  funext y
  show (((BitVec.setWidth 32 (below y)).toInt : ℝ) : EReal) = _
  rw [below_apply, mat_apply]
  by_cases hy : (y 1).val < (y 0).val
  · rw [decide_eq_true hy, if_pos hy, show (BitVec.setWidth 32 (BitVec.ofBool true)).toInt = 1 from by decide]; norm_num
  · rw [decide_eq_false hy, if_neg hy]; norm_num

theorem triE_mat : k0_pay801 (F := Ideal) = mat 256 256 fun r c => if c ≤ r then 1 else 0 := by
  funext y
  show (((BitVec.setWidth 32 (BitVec.ofBool ((iota .tc S256x256 32 [1] iota_S256x256_d1_w32 y).sle (iota .tc S256x256 32 [0] iota_S256x256_d0_w32 y)))).toInt : ℝ) : EReal) = _
  rw [notAbove_apply, mat_apply]
  by_cases hy : (y 1).val ≤ (y 0).val
  · rw [decide_eq_true hy, if_pos hy, show (BitVec.setWidth 32 (BitVec.ofBool true)).toInt = 1 from by decide]; norm_num
  · rw [decide_eq_false hy, if_neg hy]; norm_num

theorem splitDot_mat (f g : ℕ → ℕ → ℝ) : splitDot (F := Ideal) (mat 256 256 f) (mat 256 256 g) = mat 256 256 fun r c => ∑ k ∈ range 256, f r k * g k c := by
  unfold splitDot
  rw [truncf_mat, extf_mat, subf_mat, truncf_mat, dotNN, dotNN, addf_mat]
  refine mat_congr fun r c _ _ => ?_
  simp

theorem weight_mat (diag : Bool) (I J : ℕ) (h : diag = true → I = J) (h' : diag = false → J < I) (hI : I < 8) (z : ℕ → ℕ → ℝ) :
    weight (F := Ideal) diag (mat 256 256 fun r c => z (256 * I + r) (256 * J + c) * (Real.log 2)⁻¹) k0_pay800
      (mat 256 1 fun r _ => (∑ c ∈ Ico (256 * (J + 1)) (256 * (I + 1)), L z (256 * I + r) c) * (Real.log 2)⁻¹)
      = mat 256 256 fun r c => A 2048 z (256 * I + r) (256 * J + c) := by
  have hJI : J ≤ I := by cases diag with
    | false => exact (h' rfl).le
    | true => exact (h rfl).ge
  unfold weight logRest
  rw [logBeta_mat, subf_mat, keep_mat diag I J _ h h', triL_mat, splitDot_mat, addf_mat, broadcastTo_col, addf_mat, exp2_mat, keep_mat diag I J _ h h', truncf_mat]
  refine mat_congr fun r c hr hc => ?_
  rw [A]
  refine if_congr Iff.rfl ?_ rfl
  rw [← rpow_base2]
  congr 1
  rw [sum_tri, add_mul, add_assoc]
  congr 1
  have hL : ∀ k, (if 256 * J + k < 256 * I + r then ls (z (256 * I + r) (256 * J + k)) * (Real.log 2)⁻¹ - z (256 * I + r) (256 * J + k) * (Real.log 2)⁻¹ else 0)
      = L z (256 * I + r) (256 * J + k) * (Real.log 2)⁻¹ := fun k => by
    rw [L, ite_mul, zero_mul, sub_mul]
  simp only [hL]
  rw [← sum_mul, ← add_mul, sum_tile (L z (256 * I + r)) (256 * J) (c + 1) 256, show 256 * (J + 1) = 256 * J + 256 by ring,
    sum_Ico_consecutive _ (by omega) (by omega), ← sum_Ico_stop _ (N := 2048) (by omega) fun c hc => L_eq_zero (by omega), add_assoc]

theorem weightGrad_mat (a f g : ℕ → ℕ → ℝ) : weightGrad (F := Ideal) (mat 256 256 a) (mat 256 128 (φ := .bf16) f) (mat 256 128 (φ := .bf16) g)
    = mat 256 256 fun r c => (∑ d ∈ range 128, f r d * g c d) * a r c := by
  unfold weightGrad
  rw [dotNT, extf_mat, mulf_mat]

theorem scoreGrad_mat (diag : Bool) (I J : ℕ) (h : diag = true → I = J) (h' : diag = false → J < I) (hI : I < 8) (z g : ℕ → ℕ → ℝ) :
    scoreGrad (F := Ideal) diag (mat 256 256 fun r c => z (256 * I + r) (256 * J + c) * (Real.log 2)⁻¹)
      (mat 256 256 fun r c => E 2048 z g (256 * I + r) (256 * J + c)) k0_pay801
      (mat 256 1 fun r _ => ∑ k ∈ range 2048, E 2048 z g (256 * I + r) k)
      (mat 256 1 fun r _ => ∑ c ∈ Ico (256 * (J + 1)) (256 * (I + 1)), E 2048 z g (256 * I + r) c)
      = mat 256 256 fun r c => DZ 2048 z g (256 * I + r) (256 * J + c) := by
  have hJI : J ≤ I := by cases diag with
    | false => exact (h' rfl).le
    | true => exact (h rfl).ge
  unfold scoreGrad
  rw [logBeta_mat, exp2_mat, triE_mat, splitDot_mat, subf_mat, broadcastTo_col, subf_mat, addf_mat, mulf_mat, subf_mat, keep_mat diag I J _ h h', truncf_mat]
  refine mat_congr fun r c hr hc => ?_
  rw [DZ]
  refine if_congr Iff.rfl ?_ rfl
  rw [rpow_base2, sum_tri', sum_tile (E 2048 z g (256 * I + r)) (256 * J) c 256]
  have h0 : ∑ k ∈ range 2048, E 2048 z g (256 * I + r) k = ∑ k ∈ range (256 * (I + 1)), E 2048 z g (256 * I + r) k :=
    sum_range_stop _ (by omega) fun c hc => E_eq_zero (by omega)
  have h1 := sum_Ico_consecutive (E 2048 z g (256 * I + r)) (m := 256 * J + c) (n := 256 * (J + 1)) (k := 256 * (I + 1)) (by omega) (by omega)
  have h2 := sum_range_add_sum_Ico (E 2048 z g (256 * I + r)) (m := 256 * J + c) (n := 256 * (I + 1)) (by omega)
  rw [show 256 * J + 256 = 256 * (J + 1) by ring, h0, ← h2, ← h1]
  congr 3
  ring

theorem addRows_mat (c f : ℕ → ℕ → ℝ) : addRows (F := Ideal) (mat 256 1 c) (mat 256 256 f) = mat 256 1 fun r u => c r u + ∑ k ∈ range 256, f r k := by
  unfold addRows
  rw [show shapeCast S256x1 (multiReduction .add [1] S256 (mat 256 256 f : FVec Ideal S256x256 .f32) 0x00000000#32 reduces_S256x256_S256 (.inl rfl) rfl) shapeCasts_S256_S256x1 = _
    from rowSums f _ _ _ _ _, addf_mat]

theorem addTN_mat (c p x : ℕ → ℕ → ℝ) : addTN (F := Ideal) (mat 256 128 (φ := .f32) c) (mat 256 256 p) (mat 256 128 (φ := .bf16) x) = mat 256 128 fun r d => c r d + ∑ k ∈ range 256, p k r * x k d := by
  unfold addTN
  rw [shapeCast_self, dotTN, addf_mat]

end Cert.Proof

end
-- ==== Proof.HeadVal.lean ====
/- What the kernel computes for one head, over the reals. -/
module

public import proofs.«01_k».proof.Proof.TileVal
public import proofs.«01_k».proof.Proof.Model

@[expose] public section

set_option maxRecDepth 16384

noncomputable section

namespace Cert.Proof

open Cert.KernelIdeal Cert.KernelIdeal.Gen
open Idealize.ShloMosaic Idealize.ShloMosaic.ValueIdx
open Finset Cert.Proof.Spec Cert.Proof.Trips

/-! ## The norms -/

section Norm

variable (n : ℕ) (q : ℕ → ℕ → ℝ)

theorem meanSq_pos (r : ℕ) : 0 < (∑ d ∈ range 128, q r d * q r d) * (1 / 128) + epsR :=
  add_pos_of_nonneg_of_pos (mul_nonneg (sum_nonneg fun d _ => mul_self_nonneg _) (by norm_num)) epsR_pos

theorem pay788_mat : k0_pay788 (F := Ideal) (mat 256 128 (φ := .bf16) q) = mat 256 1 fun r _ => (∑ d ∈ range 128, q r d * q r d) * (1 / 128) + epsR := by
  unfold k0_pay788 k0_pay787
  dsimp only
  rw [extf_mat, mulf_mat, lit_128, lit_eps, broadcast_mat, broadcast_mat]
  rw [show shapeCast S256x1 (multiReduction .add [1] S256 (mat 256 128 fun r c => q r c * q r c : FVec Ideal S256x128 .f32) 0x00000000#32 reduces_S256x128_S256 (.inl rfl) rfl) shapeCasts_S256_S256x1 = _
    from rowSums _ _ _ _ _ _]
  rw [divf_const _ _ (by norm_num), addf_mat]

theorem pay802_mat : k0_pay802 (F := Ideal) (mat 256 1 fun r _ => (∑ d ∈ range 128, q r d * q r d) * (1 / 128) + epsR) = mat 256 1 fun r _ => rr epsR 128 q r :=
  rsqrt_mat _ fun r _ => meanSq_pos q r

theorem pay803_mat : k0_pay803 (F := Ideal) (mat 256 128 q) (mat 256 1 fun r _ => (∑ d ∈ range 128, q r d * q r d) * (1 / 128) + epsR) = mat 256 128 fun r d => nh epsR 128 q r d := by
  unfold k0_pay803
  dsimp only
  rw [pay802_mat, broadcastTo_col, mulf_mat]
  rfl

theorem pay804_mat (g : ℕ → ℕ → ℝ) (c : ℕ → ℝ) : k0_pay804 (F := Ideal) (mat 256 128 g) (mat 256 128 q) (mat 256 1 fun r _ => (∑ d ∈ range 128, q r d * q r d) * (1 / 128) + epsR) (mat 1 128 (φ := .f32) fun _ d => c d)
    = mat 1 128 fun _ d => c d + ∑ r ∈ range 256, g r d * nh epsR 128 q r d := by
  unfold k0_pay804
  dsimp only
  rw [pay803_mat, mulf_mat, shapeCast_self]
  rw [show shapeCast S1x128 (multiReduction .add [0] S128 (mat 256 128 fun r c => g r c * nh epsR 128 q r c : FVec Ideal S256x128 .f32) 0x00000000#32 reduces_S256x128_S128 (.inl rfl) rfl) shapeCasts_S128_S1x128 = _
    from colSums _ _ _ _ _ _]
  rw [addf_mat]

theorem pay805_mat (g : ℕ → ℕ → ℝ) (w : ℕ → ℝ) : k0_pay805 (F := Ideal) (mat 1 128 (φ := .f32) fun _ d => w d) (mat 256 128 g) (mat 256 128 q) (mat 256 1 fun r _ => (∑ d ∈ range 128, q r d * q r d) * (1 / 128) + epsR)
    = mat 256 128 fun r d => nb epsR 128 q w g r d := by
  unfold k0_pay805
  dsimp only
  rw [pay803_mat, pay802_mat, broadcastTo_row, mulf_mat, mulf_mat, lit_128, broadcast_mat]
  rw [show shapeCast S256x1 (multiReduction .add [1] S256 (mat 256 128 fun r c => g r c * w c * nh epsR 128 q r c : FVec Ideal S256x128 .f32) 0x00000000#32 reduces_S256x128_S256 (.inl rfl) rfl) shapeCasts_S256_S256x1 = _
    from rowSums _ _ _ _ _ _]
  rw [divf_const _ _ (by norm_num), broadcastTo_col, broadcastTo_col, mulf_mat, subf_mat, mulf_mat, truncf_mat]
  rfl

theorem pay789_mat : k0_pay789 (F := Ideal) (mat 2048 128 (φ := .bf16) q) = mat 2048 128 fun r d => nh epsR 128 q r d := by
  unfold k0_pay789
  dsimp only
  rw [extf_mat, mulf_mat, lit_128, lit_eps, broadcast_mat, broadcast_mat]
  rw [show shapeCast S2048x1 (multiReduction .add [1] S2048 (mat 2048 128 fun r c => q r c * q r c : FVec Ideal S2048x128 .f32) 0x00000000#32 reduces_S2048x128_S2048 (.inl rfl) rfl) shapeCasts_S2048_S2048x1 = _
    from rowSums _ _ _ _ _ _]
  rw [divf_const _ _ (by norm_num), addf_mat, rsqrt_mat _ fun r _ => meanSq_pos q r, broadcastTo_col, mulf_mat]
  rfl

theorem pay790_mat (w : ℕ → ℝ) : k0_pay790 (F := Ideal) (mat 1 128 (φ := .f32) fun _ d => w d) (mat 2048 128 (φ := .bf16) q) = mat 2048 128 fun r d => nh epsR 128 q r d * w d * (scaleR * (Real.log 2)⁻¹) := by
  unfold k0_pay790
  dsimp only
  rw [pay789_mat, broadcastTo_row, mulf_mat, named_scale, broadcast_mat, mulf_mat, truncf_mat, shapeCast_self]

theorem pay791_mat (w : ℕ → ℝ) : k0_pay791 (F := Ideal) (mat 1 128 (φ := .f32) fun _ d => w d) (mat 2048 128 (φ := .bf16) q) = mat 2048 128 fun r d => nh epsR 128 q r d * w d * scaleR := by
  unfold k0_pay791
  dsimp only
  rw [pay789_mat, broadcastTo_row, mulf_mat, lit_scale, broadcast_mat, mulf_mat, truncf_mat, shapeCast_self]

theorem pay794_mat : k0_pay794 (F := Ideal) (k0_pay792 (mat 2048 128 (φ := .bf16) q)) (k0_pay793 (mat 2048 128 (φ := .bf16) q)) (Scalar.ofBits .f32 0x358637BD#32) = mat 2048 128 fun r d => nh epsR 128 q r d :=
  pay789_mat q

theorem pay795_mat (w : ℕ → ℝ) : k0_pay795 (F := Ideal) (mat 1 128 (φ := .f32) fun _ d => w d) (k0_pay792 (mat 2048 128 (φ := .bf16) q)) (k0_pay793 (mat 2048 128 (φ := .bf16) q)) (Scalar.ofBits .f32 0x358637BD#32)
    = mat 2048 128 fun r d => nh epsR 128 q r d * w d := by
  unfold k0_pay795
  dsimp only
  rw [pay794_mat, broadcastTo_row, mulf_mat, truncf_mat, shapeCast_self]

theorem pay796_mat (w : ℕ → ℝ) : k0_pay796 (F := Ideal) (mat 1 128 (φ := .f32) fun _ d => w d) (k0_pay792 (mat 2048 128 (φ := .bf16) q)) (k0_pay793 (mat 2048 128 (φ := .bf16) q)) (Scalar.ofBits .f32 0x358637BD#32)
    = mat 2048 128 fun r d => nh epsR 128 q r d * w d * scaleR := by
  unfold k0_pay796
  dsimp only
  rw [pay794_mat, broadcastTo_row, mulf_mat, lit_scale, broadcast_mat, mulf_mat, truncf_mat, shapeCast_self]

theorem pay808_mat : k0_pay808 (F := Ideal) (mat 2048 128 (φ := .bf16) q) = mat 2048 1 fun r _ => rr epsR 128 q r := by
  unfold k0_pay808 k0_pay807
  dsimp only
  rw [extf_mat, mulf_mat, lit_128, lit_eps, broadcast_mat, broadcast_mat]
  rw [show shapeCast S2048x1 (multiReduction .add [1] S2048 (mat 2048 128 fun r c => q r c * q r c : FVec Ideal S2048x128 .f32) 0x00000000#32 reduces_S2048x128_S2048 (.inl rfl) rfl) shapeCasts_S2048_S2048x1 = _
    from rowSums _ _ _ _ _ _]
  rw [divf_const _ _ (by norm_num), addf_mat, rsqrt_mat _ fun r _ => meanSq_pos q r]
  rfl

theorem pay809_mat : k0_pay809 (F := Ideal) (mat 2048 128 (φ := .bf16) q) = mat 2048 128 fun r d => nh epsR 128 q r d := by
  unfold k0_pay809 k0_pay807
  dsimp only
  rw [pay808_mat, broadcastTo_col, extf_mat, mulf_mat]
  rfl

theorem pay810_mat (g : ℕ → ℕ → ℝ) : k0_pay810 (F := Ideal) (mat 2048 128 (φ := .bf16) q) (mat 2048 128 (φ := .f32) g)
    = shapeCast S1x1x128 (mat 1 128 fun _ d => ∑ r ∈ range 2048, g r d * nh epsR 128 q r d : FVec Ideal S1x128 .f32) shapeCasts_S1x128_S1x1x128 := by
  unfold k0_pay810
  dsimp only
  rw [pay809_mat, mulf_mat]
  rw [show shapeCast S1x128 (multiReduction .add [0] S128 (mat 2048 128 fun r c => g r c * nh epsR 128 q r c : FVec Ideal S2048x128 .f32) 0x00000000#32 reduces_S2048x128_S128 (.inl rfl) rfl) shapeCasts_S128_S1x128 = _
    from colSums _ _ _ _ _ _]

theorem dkOut_mat (g : ℕ → ℕ → ℝ) (w : ℕ → ℝ) : k0_pay1 (F := Ideal) (k0_pay811 (mat 1 128 (φ := .f32) fun _ d => w d) (mat 2048 128 (φ := .bf16) q) (mat 2048 128 (φ := .f32) g)) (k0_pay812 (mat 2048 128 (φ := .bf16) q))
    = mat 2048 128 fun r d => nb epsR 128 q w g r d := by
  unfold k0_pay1 k0_pay811 k0_pay812
  dsimp only
  rw [pay809_mat, pay808_mat, broadcastTo_row, mulf_mat, mulf_mat, lit_128, broadcast_mat]
  rw [show shapeCast S2048x1 (multiReduction .add [1] S2048 (mat 2048 128 fun r c => g r c * w c * nh epsR 128 q r c : FVec Ideal S2048x128 .f32) 0x00000000#32 reduces_S2048x128_S2048 (.inl rfl) rfl) shapeCasts_S2048_S2048x1 = _
    from rowSums _ _ _ _ _ _]
  rw [divf_const _ _ (by norm_num), broadcastTo_col, broadcastTo_col, mulf_mat, subf_mat, mulf_mat, truncf_mat]
  rfl

end Norm

/-! ## Blocks of rows -/

theorem blk_bf16 (f : ℕ → ℕ → ℝ) {j : ℕ} (hj : j < 8) : blk (F := Ideal) (e := .bf16) (mat 2048 128 (φ := .bf16) f) j = mat 256 128 (φ := .bf16) fun r d => f (256 * j + r) d := by
  funext y
  show ((f (256 * (j % 8) + 1 * (y 0).val) (0 + 1 * (y 1).val) : ℝ) : EReal) = ((f (256 * j + (y 0).val) (y 1).val : ℝ) : EReal)
  rw [Nat.mod_eq_of_lt hj, one_mul, one_mul, zero_add]

theorem unblk_bf16 (f : ℕ → ℕ → ℝ) (P : ℕ → Vec Ideal S256x128 .bf16) (h : ∀ j, j < 8 → P j = mat 256 128 (φ := .bf16) fun r d => f (256 * j + r) d) :
    unblk (F := Ideal) P = mat 2048 128 (φ := .bf16) f :=
  (eq_unblk (F := Ideal) (e := .bf16) (mat 2048 128 (φ := .bf16) f) P fun j hj => (blk_bf16 f hj).trans (h j hj).symm).symm

theorem blk_f32 (f : ℕ → ℕ → ℝ) {j : ℕ} (hj : j < 8) : blk (F := Ideal) (e := .f32) (mat 2048 128 (φ := .f32) f) j = mat 256 128 (φ := .f32) fun r d => f (256 * j + r) d := by
  funext y
  show ((f (256 * (j % 8) + 1 * (y 0).val) (0 + 1 * (y 1).val) : ℝ) : EReal) = ((f (256 * j + (y 0).val) (y 1).val : ℝ) : EReal)
  rw [Nat.mod_eq_of_lt hj, one_mul, one_mul, zero_add]

theorem unblk_f32 (f : ℕ → ℕ → ℝ) (P : ℕ → Vec Ideal S256x128 .f32) (h : ∀ j, j < 8 → P j = mat 256 128 (φ := .f32) fun r d => f (256 * j + r) d) :
    unblk (F := Ideal) P = mat 2048 128 (φ := .f32) f :=
  (eq_unblk (F := Ideal) (e := .f32) (mat 2048 128 (φ := .f32) f) P fun j hj => (blk_f32 f hj).trans (h j hj).symm).symm

/-- The blocks the loop reads are those of the head `H`. -/
structure IsReal (B : Blocks Ideal) (H : Head) : Prop where
  qn : ∀ i, i < 8 → B.qn i = mat 256 128 (φ := .bf16) fun r d => H.qn (256 * i + r) d * (scaleR * (Real.log 2)⁻¹)
  kn : ∀ i, i < 8 → B.kn i = mat 256 128 (φ := .bf16) fun r d => H.kn (256 * i + r) d
  qz : ∀ i, i < 8 → B.qz i = mat 256 128 (φ := .bf16) fun r d => H.qn (256 * i + r) d * scaleR
  kz : ∀ i, i < 8 → B.kz i = mat 256 128 (φ := .bf16) fun r d => H.kn (256 * i + r) d * scaleR
  v : ∀ i, i < 8 → B.v i = mat 256 128 (φ := .bf16) fun r d => H.v (256 * i + r) d
  dO : ∀ i, i < 8 → B.dO i = mat 256 128 (φ := .bf16) fun r d => H.dO (256 * i + r) d
  o : ∀ i, i < 8 → B.o i = mat 256 128 (φ := .f32) fun r d => H.o (256 * i + r) d
  q : ∀ i, i < 8 → B.q i = mat 256 128 (φ := .bf16) fun r d => H.q (256 * i + r) d
  triL : B.triL = k0_pay800
  triE : B.triE = k0_pay801

section Loop

variable {B : Blocks Ideal} {H : Head} (hB : IsReal B H) (hC : H.C = scaleR) (he : H.eps = epsR)
include hB hC

/-- What is carried to the `m`-th tile. -/
def carryR (H : Head) (i m : ℕ) : Carry Ideal :=
  ⟨mat 256 1 fun r _ => (∑ c ∈ Ico (256 * (i + 1 - m)) (256 * (i + 1)), L H.z (256 * i + r) c) * (Real.log 2)⁻¹,
    mat 256 1 fun r _ => ∑ c ∈ Ico (256 * (i + 1 - m)) (256 * (i + 1)), H.e (256 * i + r) c,
    mat 256 128 fun r d => ∑ c ∈ Ico (256 * (i + 1 - m)) (256 * (i + 1)), H.dz (256 * i + r) c * (H.kn c d * H.C)⟩

theorem s_mat {i m : ℕ} (hi : i < 8) (hm : m ≤ i) : B.s i m = mat 256 256 fun r c => H.z (256 * i + r) (256 * (i - m) + c) * (Real.log 2)⁻¹ := by
  unfold Blocks.s
  rw [hB.qn i hi, hB.kn (i - m) (by omega), score_mat]
  refine mat_congr fun r c _ _ => ?_
  rw [Head.z, hC, sum_mul, sum_mul]
  exact sum_congr rfl fun d _ => by ring

omit hB hC in
theorem beq_diag {i m : ℕ} (hm : m ≤ i) : (m.beq 0 = true → i = i - m) ∧ (m.beq 0 = false → i - m < i) := by
  cases m with
  | zero => exact ⟨fun _ => rfl, fun h => absurd h (by decide)⟩
  | succ m => exact ⟨fun h => absurd h (by simp [Nat.beq]), fun _ => by omega⟩

theorem a_mat {i m : ℕ} (hi : i < 8) (hm : m ≤ i) : B.a i m (carryR H i m) = mat 256 256 fun r c => H.a (256 * i + r) (256 * (i - m) + c) := by
  unfold Blocks.a carryR
  rw [s_mat hB hC hi hm, hB.triL, show i + 1 - m = i - m + 1 by omega]
  exact weight_mat _ i (i - m) (beq_diag hm).1 (beq_diag hm).2 hi H.z

theorem e_mat {i m : ℕ} (hi : i < 8) (hm : m ≤ i) : B.e i m (carryR H i m) = mat 256 256 fun r c => H.e (256 * i + r) (256 * (i - m) + c) := by
  unfold Blocks.e
  rw [a_mat hB hC hi hm, hB.dO i hi, hB.v (i - m) (by omega), weightGrad_mat]
  rfl

theorem rowDot_mat {i : ℕ} (hi : i < 8) : B.rowDot i = mat 256 1 fun r _ => ∑ k ∈ range 2048, H.e (256 * i + r) k := by
  unfold Blocks.rowDot
  rw [hB.dO i hi, hB.o i hi, shapeCast_self, extf_mat, mulf_mat]
  refine (rowSums _ _ _ _ _ _).trans (mat_congr fun r c _ _ => ?_)
  exact H.rowDot _

theorem dz_mat {i m : ℕ} (hi : i < 8) (hm : m ≤ i) : B.dz i m (carryR H i m) = mat 256 256 fun r c => H.dz (256 * i + r) (256 * (i - m) + c) := by
  unfold Blocks.dz
  rw [e_mat hB hC hi hm, s_mat hB hC hi hm, rowDot_mat hB hC hi, hB.triE, carryR, show i + 1 - m = i - m + 1 by omega]
  exact scoreGrad_mat _ i (i - m) (beq_diag hm).1 (beq_diag hm).2 hi H.z H.g

omit hB hC in
/-- A tile's sum before the sum of those to its right. -/
theorem add_tile (f : ℕ → ℝ) {i m : ℕ} (hm : m ≤ i) : ∑ c ∈ Ico (256 * (i + 1 - m)) (256 * (i + 1)), f c + ∑ k ∈ range 256, f (256 * (i - m) + k)
    = ∑ c ∈ Ico (256 * (i + 1 - (m + 1))) (256 * (i + 1)), f c := by
  rw [range_eq_Ico, sum_tile f (256 * (i - m)) 0 256, show i + 1 - (m + 1) = i - m by omega, show i + 1 - m = i - m + 1 by omega, add_comm,
    show 256 * (i - m) + 256 = 256 * (i - m + 1) by ring, add_zero]
  exact sum_Ico_consecutive f (by omega) (by omega)

theorem next_mat {i m : ℕ} (hi : i < 8) (hm : m ≤ i) : B.next i m (carryR H i m) = carryR H i (m + 1) := by
  unfold Blocks.next
  rw [e_mat hB hC hi hm, s_mat hB hC hi hm, dz_mat hB hC hi hm, hB.kz (i - m) (by omega), dotNN']
  unfold logRest
  rw [logBeta_mat, subf_mat, keep_mat _ i (i - m) _ (beq_diag hm).1 (beq_diag hm).2]
  unfold carryR
  dsimp only
  rw [addRows_mat, addRows_mat, addf_mat]
  congr 1
  · refine mat_congr fun r _ _ _ => ?_
    rw [← add_tile _ hm, add_mul, sum_mul (range 256)]
    congr 1
    refine sum_congr rfl fun k _ => ?_
    rw [L, ite_mul, zero_mul, sub_mul]
  · exact mat_congr fun r _ _ _ => add_tile _ hm
  · refine mat_congr fun r d _ _ => ?_
    rw [← hC]
    exact add_tile (fun c => H.dz (256 * i + r) c * (H.kn c d * H.C)) hm

theorem carry_mat {i : ℕ} (hi : i < 8) : ∀ m, m ≤ i + 1 → B.carry i m = carryR H i m
  | 0, _ => by
    show (⟨_, _, _⟩ : Carry Ideal) = _
    unfold carryR
    rw [lit_zero]
    congr 1
    · refine (broadcast_mat 0).trans (mat_congr fun r _ _ _ => ?_)
      simp
    · refine (broadcast_mat 0).trans (mat_congr fun r _ _ _ => ?_)
      simp
    · refine (broadcast_mat 0).trans (mat_congr fun r _ _ _ => ?_)
      simp
  | m + 1, hm => by
    show B.next i m (B.carry i m) = _
    rw [carry_mat hi m (by omega), next_mat hB hC hi (by omega)]

theorem dqn_mat {i : ℕ} (hi : i < 8) : B.dqn i = mat 256 128 fun r d => H.dqn (256 * i + r) d := by
  unfold Blocks.dqn
  rw [carry_mat hB hC hi _ le_rfl]
  unfold carryR
  dsimp only
  refine mat_congr fun r d hr _ => ?_
  rw [Nat.sub_self, mul_zero, ← range_eq_Ico, Head.dqn]
  refine (sum_range_stop _ (by omega) fun c hc => ?_).symm
  rw [Head.dz, DZ_eq_zero (by omega), zero_mul]

omit hB hC in
/-- A block's sum after the sum of the blocks before. -/
theorem add_block (f : ℕ → ℝ) (n : ℕ) : ∑ x ∈ range (256 * n), f x + ∑ k ∈ range 256, f (256 * n + k) = ∑ x ∈ range (256 * (n + 1)), f x := by
  rw [mul_add, mul_one, sum_range_add]

theorem dvAt_mat {j : ℕ} (hj : j < 8) : ∀ n, n ≤ 8 → dvAt B (blk (k0_pay798 (F := Ideal))) n j = mat 256 128 (φ := .f32) fun r d => ∑ x ∈ range (256 * n), H.a x (256 * j + r) * H.dO x d
  | 0, _ => by
    show blk (F := Ideal) (e := .f32) (k0_pay798 (F := Ideal)) j = _
    have h0 : k0_pay798 (F := Ideal) = mat 2048 128 fun _ _ => 0 := by
      unfold k0_pay798
      dsimp only
      rw [lit_zero, broadcast_mat, shapeCast_self]
    rw [h0]
    refine (blk_f32 _ hj).trans (mat_congr fun r d _ _ => ?_)
    simp
  | n + 1, hn => by
    show (if j ≤ n then B.dvStep n j (dvAt B (blk (k0_pay798 (F := Ideal))) n j) else dvAt B (blk (k0_pay798 (F := Ideal))) n j) = _
    rw [dvAt_mat hj n (by omega)]
    by_cases hjn : j ≤ n
    · rw [if_pos hjn]
      unfold Blocks.dvStep
      rw [carry_mat hB hC (by omega) _ (by omega), a_mat hB hC (by omega) (by omega), hB.dO n (by omega), addTN_mat, show n - (n - j) = j by omega]
      exact mat_congr fun r d _ _ => add_block (fun x => H.a x (256 * j + r) * H.dO x d) n
    · rw [if_neg hjn]
      refine mat_congr fun r d _ _ => ?_
      rw [← add_block, sum_eq_zero (s := range 256), add_zero]
      intro c hc
      rw [mem_range] at hc
      rw [Head.a, A_eq_zero (by omega), zero_mul]

theorem dkAt_mat {j : ℕ} (hj : j < 8) : ∀ n, n ≤ 8 → dkAt B (blk (k0_pay797 (F := Ideal))) n j = mat 256 128 (φ := .f32) fun r d => ∑ x ∈ range (256 * n), H.dz x (256 * j + r) * (H.qn x d * H.C)
  | 0, _ => by
    show blk (F := Ideal) (e := .f32) (k0_pay797 (F := Ideal)) j = _
    have h0 : k0_pay797 (F := Ideal) = mat 2048 128 fun _ _ => 0 := by
      unfold k0_pay797
      dsimp only
      rw [lit_zero, broadcast_mat, shapeCast_self]
    rw [h0]
    refine (blk_f32 _ hj).trans (mat_congr fun r d _ _ => ?_)
    simp
  | n + 1, hn => by
    show (if j ≤ n then B.dkStep n j (dkAt B (blk (k0_pay797 (F := Ideal))) n j) else dkAt B (blk (k0_pay797 (F := Ideal))) n j) = _
    rw [dkAt_mat hj n (by omega)]
    by_cases hjn : j ≤ n
    · rw [if_pos hjn]
      unfold Blocks.dkStep
      rw [carry_mat hB hC (by omega) _ (by omega), dz_mat hB hC (by omega) (by omega), hB.qz n (by omega), addTN_mat, show n - (n - j) = j by omega, ← hC]
      exact mat_congr fun r d _ _ => add_block (fun x => H.dz x (256 * j + r) * (H.qn x d * H.C)) n
    · rw [if_neg hjn]
      refine mat_congr fun r d _ _ => ?_
      rw [← add_block, sum_eq_zero (s := range 256), add_zero]
      intro c hc
      rw [mem_range] at hc
      rw [Head.dz, DZ_eq_zero (by omega), zero_mul]

include he

theorem gqAt_mat : ∀ n, n ≤ 8 → gqAt B (k0_pay799 (F := Ideal)) n = mat 1 128 (φ := .f32) fun _ d => ∑ x ∈ range (256 * n), H.dqn x d * nh H.eps 128 H.q x d
  | 0, _ => by
    show k0_pay799 (F := Ideal) = _
    unfold k0_pay799
    dsimp only
    rw [lit_zero, broadcast_mat, shapeCast_self]
    exact mat_congr fun r d _ _ => by simp
  | n + 1, hn => by
    show B.gqStep n (gqAt B (k0_pay799 (F := Ideal)) n) = _
    rw [gqAt_mat n (by omega)]
    unfold Blocks.gqStep k0_pay787
    dsimp only
    rw [dqn_mat hB hC (by omega), hB.q n (by omega), pay788_mat, extf_mat]
    refine (pay804_mat (fun r d => H.q (256 * n + r) d) (fun r d => H.dqn (256 * n + r) d) _).trans (mat_congr fun r d _ _ => ?_)
    rw [← add_block, he]
    rfl

theorem dqBlock_mat {i : ℕ} (hi : i < 8) : B.dq i (mat 1 128 (φ := .f32) fun _ d => H.wq d) = mat 256 128 fun r d => H.dq (256 * i + r) d := by
  unfold Blocks.dq k0_pay787
  dsimp only
  rw [dqn_mat hB hC hi, hB.q i hi, pay788_mat, extf_mat]
  refine (pay805_mat (fun r d => H.q (256 * i + r) d) (fun r d => H.dqn (256 * i + r) d) H.wq).trans (mat_congr fun r d _ _ => ?_)
  rw [Head.dq, he]
  rfl

end Loop

/-! ## The outputs -/

section Out

variable (H : Head) (hC : H.C = scaleR) (he : H.eps = epsR)
include hC he

theorem theBlocks_real : IsReal (theBlocks (F := Ideal) (mat 2048 128 (φ := .bf16) H.q) (mat 2048 128 (φ := .bf16) H.k) (mat 2048 128 (φ := .bf16) H.v) (mat 2048 128 (φ := .bf16) H.dO)
    (mat 2048 128 (φ := .f32) H.o) (mat 1 128 (φ := .f32) fun _ d => H.wq d) (mat 1 128 (φ := .f32) fun _ d => H.wk d)) H where
  qn i hi := by
    show blk (F := Ideal) (e := .bf16) (k0_pay790 (F := Ideal) _ _) i = _
    rw [pay790_mat, ← he]
    exact blk_bf16 (fun r d => H.qn r d * (scaleR * (Real.log 2)⁻¹)) hi
  kn i hi := by
    show blk (F := Ideal) (e := .bf16) (k0_pay795 (F := Ideal) _ _ _ _) i = _
    rw [pay795_mat, ← he]
    exact blk_bf16 H.kn hi
  qz i hi := by
    show blk (F := Ideal) (e := .bf16) (k0_pay791 (F := Ideal) _ _) i = _
    rw [pay791_mat, ← he]
    exact blk_bf16 (fun r d => H.qn r d * scaleR) hi
  kz i hi := by
    show blk (F := Ideal) (e := .bf16) (k0_pay796 (F := Ideal) _ _ _ _) i = _
    rw [pay796_mat, ← he]
    exact blk_bf16 (fun r d => H.kn r d * scaleR) hi
  v i hi := blk_bf16 H.v hi
  dO i hi := blk_bf16 H.dO hi
  o i hi := blk_f32 H.o hi
  q i hi := blk_bf16 H.q hi
  triL := rfl
  triE := rfl

theorem dqOut_mat : dqOut (F := Ideal) (mat 2048 128 (φ := .bf16) H.q) (mat 2048 128 (φ := .bf16) H.k) (mat 2048 128 (φ := .bf16) H.v) (mat 2048 128 (φ := .bf16) H.dO)
    (mat 2048 128 (φ := .f32) H.o) (mat 1 128 (φ := .f32) fun _ d => H.wq d) (mat 1 128 (φ := .f32) fun _ d => H.wk d) = mat 2048 128 (φ := .bf16) H.dq :=
  unblk_bf16 H.dq _ fun _ hj => dqBlock_mat (theBlocks_real H hC he) hC he hj

theorem dvAcc_mat : dvAcc (F := Ideal) (mat 2048 128 (φ := .bf16) H.q) (mat 2048 128 (φ := .bf16) H.k) (mat 2048 128 (φ := .bf16) H.v) (mat 2048 128 (φ := .bf16) H.dO)
    (mat 2048 128 (φ := .f32) H.o) (mat 1 128 (φ := .f32) fun _ d => H.wq d) (mat 1 128 (φ := .f32) fun _ d => H.wk d) = mat 2048 128 (φ := .f32) H.dv :=
  unblk_bf16 H.dv _ fun _ hj => dvAt_mat (theBlocks_real H hC he) hC hj 8 le_rfl

theorem dkAcc_mat : dkAcc (F := Ideal) (mat 2048 128 (φ := .bf16) H.q) (mat 2048 128 (φ := .bf16) H.k) (mat 2048 128 (φ := .bf16) H.v) (mat 2048 128 (φ := .bf16) H.dO)
    (mat 2048 128 (φ := .f32) H.o) (mat 1 128 (φ := .f32) fun _ d => H.wq d) (mat 1 128 (φ := .f32) fun _ d => H.wk d) = mat 2048 128 (φ := .f32) H.dkn :=
  unblk_bf16 H.dkn _ fun _ hj => dkAt_mat (theBlocks_real H hC he) hC hj 8 le_rfl

theorem dvOut_mat : dvOut (F := Ideal) (mat 2048 128 (φ := .bf16) H.q) (mat 2048 128 (φ := .bf16) H.k) (mat 2048 128 (φ := .bf16) H.v) (mat 2048 128 (φ := .bf16) H.dO)
    (mat 2048 128 (φ := .f32) H.o) (mat 1 128 (φ := .f32) fun _ d => H.wq d) (mat 1 128 (φ := .f32) fun _ d => H.wk d) = mat 2048 128 (φ := .bf16) H.dv := by
  unfold dvOut k0_pay2
  rw [dvAcc_mat H hC he]
  rfl

theorem dkOut_mat' : dkOut (F := Ideal) (mat 2048 128 (φ := .bf16) H.q) (mat 2048 128 (φ := .bf16) H.k) (mat 2048 128 (φ := .bf16) H.v) (mat 2048 128 (φ := .bf16) H.dO)
    (mat 2048 128 (φ := .f32) H.o) (mat 1 128 (φ := .f32) fun _ d => H.wq d) (mat 1 128 (φ := .f32) fun _ d => H.wk d) = mat 2048 128 (φ := .bf16) H.dk := by
  unfold dkOut
  rw [dkAcc_mat H hC he, dkOut_mat, ← he]
  rfl

theorem gqOut_mat : gqOut (F := Ideal) (mat 2048 128 (φ := .bf16) H.q) (mat 2048 128 (φ := .bf16) H.k) (mat 2048 128 (φ := .bf16) H.v) (mat 2048 128 (φ := .bf16) H.dO)
    (mat 2048 128 (φ := .f32) H.o) (mat 1 128 (φ := .f32) fun _ d => H.wq d) (mat 1 128 (φ := .f32) fun _ d => H.wk d)
    = shapeCast S1x1x128 (mat 1 128 fun _ d => H.gq d : FVec Ideal S1x128 .f32) shapeCasts_S1x128_S1x1x128 := by
  unfold gqOut k0_pay806
  dsimp only
  rw [gqAt_mat (theBlocks_real H hC he) hC he 8 le_rfl]
  rfl

theorem gkOut_mat : gkOut (F := Ideal) (mat 2048 128 (φ := .bf16) H.q) (mat 2048 128 (φ := .bf16) H.k) (mat 2048 128 (φ := .bf16) H.v) (mat 2048 128 (φ := .bf16) H.dO)
    (mat 2048 128 (φ := .f32) H.o) (mat 1 128 (φ := .f32) fun _ d => H.wq d) (mat 1 128 (φ := .f32) fun _ d => H.wk d)
    = shapeCast S1x1x128 (mat 1 128 fun _ d => H.gk d : FVec Ideal S1x128 .f32) shapeCasts_S1x128_S1x1x128 := by
  unfold gkOut
  rw [dkAcc_mat H hC he, pay810_mat, ← he]
  rfl

end Out

end Cert.Proof

end
-- ==== Proof.Prefix.lean ====
/- The forward pass the kernel's host lines compute before the grid runs: each line of host operations read buffer by buffer,
   and the array of the attention's outputs named as the reference's own stage. -/
module

public import proofs.«01_k».proof.Proof.Gen.KernelIdeal.Frame
public import proofs.«01_k».proof.Proof.Gen.ReferenceIdeal.Read
public import Idealize.ShloMosaic.Lib.StableHlo.RunRead
public import Idealize.ShloMosaic.Lib.Pipeline.Frame

@[expose] public section

set_option maxRecDepth 16384

noncomputable section

namespace Cert.Proof.Prefix

open Idealize.ShloMosaic Idealize.ShloMosaic.TcCoe Idealize.ShloMosaic.StableHlo
open Cert.KernelIdeal Cert.KernelIdeal.Gen
open Cert.ReferenceIdeal.Read

variable {F : FTy → Type} [FloatOps F] [Named F]

variable (x0 : (⟨S2048x8192, .bf16⟩ : BufTy).Contents (Elt F)) (x2 x3 : (⟨S1x128, .f32⟩ : BufTy).Contents (Elt F))
  (X : Valuation τ sig (Elt F))

set_option maxHeartbeats 2000000 in
theorem hostOps0_v38 (h0 : X (Proc.devRef .tc main_arg0) = x0) (h2 : X (Proc.devRef .tc main_arg2) = x2) (h3 : X (Proc.devRef .tc main_arg3) = x3) :
    after (hostOps0 (F := F)) X (Proc.devRef .tc main_v38) = val_main_v48 (F := F) x0 x2 x3 := by
  unfold hostOps0
  after_reads_simp
  rw [h0, h2, h3]
  rfl

set_option maxHeartbeats 2000000 in
theorem hostOps0_v44 (h0 : X (Proc.devRef .tc main_arg0) = x0) (h2 : X (Proc.devRef .tc main_arg2) = x2) (h3 : X (Proc.devRef .tc main_arg3) = x3) :
    after (hostOps0 (F := F)) X (Proc.devRef .tc main_v44) = val_main_v54 (F := F) := by
  unfold hostOps0
  after_reads_simp
  rfl

set_option maxHeartbeats 2000000 in
theorem hostOps0_v35 (h0 : X (Proc.devRef .tc main_arg0) = x0) (h2 : X (Proc.devRef .tc main_arg2) = x2) (h3 : X (Proc.devRef .tc main_arg3) = x3) :
    after (hostOps0 (F := F)) X (Proc.devRef .tc main_v35) = val_main_v45 (F := F) x0 := by
  unfold hostOps0
  after_reads_simp
  rw [h0]
  rfl

theorem hostOps0_1_v38 : after (hostOps0_1 (F := F)) X (Proc.devRef .tc main_v38) = X (Proc.devRef .tc main_v38) := by
  unfold hostOps0_1
  after_reads_simp

theorem hostOps0_1_v44 : after (hostOps0_1 (F := F)) X (Proc.devRef .tc main_v44) = X (Proc.devRef .tc main_v44) := by
  unfold hostOps0_1
  after_reads_simp

theorem hostOps0_1_v35 : after (hostOps0_1 (F := F)) X (Proc.devRef .tc main_v35) = X (Proc.devRef .tc main_v35) := by
  unfold hostOps0_1
  after_reads_simp

set_option maxHeartbeats 2000000 in
theorem hostOps0_1_v45 (h_v38 : X (Proc.devRef .tc main_v38) = val_main_v48 (F := F) x0 x2 x3) (h_v44 : X (Proc.devRef .tc main_v44) = val_main_v54 (F := F)) (h_v35 : X (Proc.devRef .tc main_v35) = val_main_v45 (F := F) x0) :
    after (hostOps0_1 (F := F)) X (Proc.devRef .tc main_v45) = val_main_v55_0 (F := F) x0 x2 x3 := by
  unfold hostOps0_1
  after_reads_simp
  simp only [h_v38, h_v44, h_v35]
  rfl

theorem hostOps0_2_v44 : after (hostOps0_2 (F := F)) X (Proc.devRef .tc main_v44) = X (Proc.devRef .tc main_v44) := by
  unfold hostOps0_2
  after_reads_simp

theorem hostOps0_2_v35 : after (hostOps0_2 (F := F)) X (Proc.devRef .tc main_v35) = X (Proc.devRef .tc main_v35) := by
  unfold hostOps0_2
  after_reads_simp

theorem hostOps0_2_v45 : after (hostOps0_2 (F := F)) X (Proc.devRef .tc main_v45) = X (Proc.devRef .tc main_v45) := by
  unfold hostOps0_2
  after_reads_simp

set_option maxHeartbeats 2000000 in
theorem hostOps0_2_v46 (h_v38 : X (Proc.devRef .tc main_v38) = val_main_v48 (F := F) x0 x2 x3) (h_v44 : X (Proc.devRef .tc main_v44) = val_main_v54 (F := F)) (h_v35 : X (Proc.devRef .tc main_v35) = val_main_v45 (F := F) x0) (h_v45 : X (Proc.devRef .tc main_v45) = val_main_v55_0 (F := F) x0 x2 x3) :
    after (hostOps0_2 (F := F)) X (Proc.devRef .tc main_v46) = val_main_v56 (F := F) x0 x2 x3 := by
  unfold hostOps0_2
  after_reads_simp
  simp only [h_v38, h_v44, h_v35, h_v45]
  rfl

set_option maxHeartbeats 2000000 in
theorem hostOps0_2_cst_6 (h_v38 : X (Proc.devRef .tc main_v38) = val_main_v48 (F := F) x0 x2 x3) (h_v44 : X (Proc.devRef .tc main_v44) = val_main_v54 (F := F)) (h_v35 : X (Proc.devRef .tc main_v35) = val_main_v45 (F := F) x0) (h_v45 : X (Proc.devRef .tc main_v45) = val_main_v55_0 (F := F) x0 x2 x3) :
    after (hostOps0_2 (F := F)) X (Proc.devRef .tc main_cst_6) = val_main_cst_10 (F := F) := by
  unfold hostOps0_2
  after_reads_simp
  rfl

theorem hostOps0_3_v44 : after (hostOps0_3 (F := F)) X (Proc.devRef .tc main_v44) = X (Proc.devRef .tc main_v44) := by
  unfold hostOps0_3
  after_reads_simp

theorem hostOps0_3_v35 : after (hostOps0_3 (F := F)) X (Proc.devRef .tc main_v35) = X (Proc.devRef .tc main_v35) := by
  unfold hostOps0_3
  after_reads_simp

theorem hostOps0_3_v45 : after (hostOps0_3 (F := F)) X (Proc.devRef .tc main_v45) = X (Proc.devRef .tc main_v45) := by
  unfold hostOps0_3
  after_reads_simp

set_option maxHeartbeats 2000000 in
theorem hostOps0_3_v47 (h_v44 : X (Proc.devRef .tc main_v44) = val_main_v54 (F := F)) (h_v35 : X (Proc.devRef .tc main_v35) = val_main_v45 (F := F) x0) (h_v45 : X (Proc.devRef .tc main_v45) = val_main_v55_0 (F := F) x0 x2 x3) (h_v46 : X (Proc.devRef .tc main_v46) = val_main_v56 (F := F) x0 x2 x3) (h_cst_6 : X (Proc.devRef .tc main_cst_6) = val_main_cst_10 (F := F)) :
    after (hostOps0_3 (F := F)) X (Proc.devRef .tc main_v47) = val_main_v57_0 (F := F) x0 x2 x3 := by
  unfold hostOps0_3
  after_reads_simp
  simp only [h_v44, h_v35, h_v45, h_v46, h_cst_6]
  rfl

theorem hostOps0_4_v44 : after (hostOps0_4 (F := F)) X (Proc.devRef .tc main_v44) = X (Proc.devRef .tc main_v44) := by
  unfold hostOps0_4
  after_reads_simp

theorem hostOps0_4_v35 : after (hostOps0_4 (F := F)) X (Proc.devRef .tc main_v35) = X (Proc.devRef .tc main_v35) := by
  unfold hostOps0_4
  after_reads_simp

theorem hostOps0_4_v45 : after (hostOps0_4 (F := F)) X (Proc.devRef .tc main_v45) = X (Proc.devRef .tc main_v45) := by
  unfold hostOps0_4
  after_reads_simp

theorem hostOps0_4_v47 : after (hostOps0_4 (F := F)) X (Proc.devRef .tc main_v47) = X (Proc.devRef .tc main_v47) := by
  unfold hostOps0_4
  after_reads_simp

set_option maxHeartbeats 2000000 in
theorem hostOps0_4_v48 (h_v44 : X (Proc.devRef .tc main_v44) = val_main_v54 (F := F)) (h_v35 : X (Proc.devRef .tc main_v35) = val_main_v45 (F := F) x0) (h_v45 : X (Proc.devRef .tc main_v45) = val_main_v55_0 (F := F) x0 x2 x3) (h_v47 : X (Proc.devRef .tc main_v47) = val_main_v57_0 (F := F) x0 x2 x3) :
    after (hostOps0_4 (F := F)) X (Proc.devRef .tc main_v48) = val_main_v58 (F := F) x0 x2 x3 := by
  unfold hostOps0_4
  after_reads_simp
  simp only [h_v44, h_v35, h_v45, h_v47]
  rfl

theorem hostOps0_5_v44 : after (hostOps0_5 (F := F)) X (Proc.devRef .tc main_v44) = X (Proc.devRef .tc main_v44) := by
  unfold hostOps0_5
  after_reads_simp

theorem hostOps0_5_v35 : after (hostOps0_5 (F := F)) X (Proc.devRef .tc main_v35) = X (Proc.devRef .tc main_v35) := by
  unfold hostOps0_5
  after_reads_simp

set_option maxHeartbeats 2000000 in
theorem hostOps0_5_v51 (h_v44 : X (Proc.devRef .tc main_v44) = val_main_v54 (F := F)) (h_v35 : X (Proc.devRef .tc main_v35) = val_main_v45 (F := F) x0) (h_v45 : X (Proc.devRef .tc main_v45) = val_main_v55_0 (F := F) x0 x2 x3) (h_v47 : X (Proc.devRef .tc main_v47) = val_main_v57_0 (F := F) x0 x2 x3) (h_v48 : X (Proc.devRef .tc main_v48) = val_main_v58 (F := F) x0 x2 x3) :
    after (hostOps0_5 (F := F)) X (Proc.devRef .tc main_v51) = val_main_v61 (F := F) x0 x2 x3 := by
  unfold hostOps0_5
  after_reads_simp
  simp only [h_v44, h_v35, h_v45, h_v47, h_v48]
  rfl

set_option maxHeartbeats 2000000 in
theorem hostOps0_5_cst_7 (h_v44 : X (Proc.devRef .tc main_v44) = val_main_v54 (F := F)) (h_v35 : X (Proc.devRef .tc main_v35) = val_main_v45 (F := F) x0) (h_v45 : X (Proc.devRef .tc main_v45) = val_main_v55_0 (F := F) x0 x2 x3) (h_v47 : X (Proc.devRef .tc main_v47) = val_main_v57_0 (F := F) x0 x2 x3) (h_v48 : X (Proc.devRef .tc main_v48) = val_main_v58 (F := F) x0 x2 x3) :
    after (hostOps0_5 (F := F)) X (Proc.devRef .tc main_cst_7) = val_main_cst_11 (F := F) := by
  unfold hostOps0_5
  after_reads_simp
  rfl

set_option maxHeartbeats 2000000 in
theorem hostOps0_6_v52 (h_v44 : X (Proc.devRef .tc main_v44) = val_main_v54 (F := F)) (h_v35 : X (Proc.devRef .tc main_v35) = val_main_v45 (F := F) x0) (h_v51 : X (Proc.devRef .tc main_v51) = val_main_v61 (F := F) x0 x2 x3) (h_cst_7 : X (Proc.devRef .tc main_cst_7) = val_main_cst_11 (F := F)) :
    after (hostOps0_6 (F := F)) X (Proc.devRef .tc main_v52) = val_main_v62_0 (F := F) x0 x2 x3 := by
  unfold hostOps0_6
  after_reads_simp
  simp only [h_v44, h_v35, h_v51, h_cst_7]
  rfl

theorem hostOps0_6_v35 : after (hostOps0_6 (F := F)) X (Proc.devRef .tc main_v35) = X (Proc.devRef .tc main_v35) := by
  unfold hostOps0_6
  after_reads_simp

set_option maxHeartbeats 2000000 in
theorem hostOps0_7_v55 (h_v52 : X (Proc.devRef .tc main_v52) = val_main_v62_0 (F := F) x0 x2 x3) (h_v35 : X (Proc.devRef .tc main_v35) = val_main_v45 (F := F) x0) :
    after (hostOps0_7 (F := F)) X (Proc.devRef .tc main_v55) = val_main_v65 (F := F) x0 x2 x3 := by
  unfold hostOps0_7
  after_reads_simp
  simp only [h_v52, h_v35]
  rfl

/-- After all the host lines the kernel runs before its grid, the attention's output array is the reference's. -/
theorem flatten_v55 (h0 : X (Proc.devRef .tc main_arg0) = x0) (h2 : X (Proc.devRef .tc main_arg2) = x2) (h3 : X (Proc.devRef .tc main_arg3) = x3) :
    after (List.flatten [hostOps0 (F := F), hostOps0_1, hostOps0_2, hostOps0_3, hostOps0_4, hostOps0_5, hostOps0_6, hostOps0_7]) X (Proc.devRef .tc main_v55)
      = val_main_v65 (F := F) x0 x2 x3 := by
  simp only [List.flatten_cons, List.flatten_nil, List.append_nil, after_append]
  have a1_v38 := hostOps0_v38 x0 x2 x3 X h0 h2 h3
  have a1_v44 := hostOps0_v44 x0 x2 x3 X h0 h2 h3
  have a1_v35 := hostOps0_v35 x0 x2 x3 X h0 h2 h3
  generalize after (hostOps0 (F := F)) X = X1 at *
  have a2_v38 := (hostOps0_1_v38 X1).trans a1_v38
  have a2_v44 := (hostOps0_1_v44 X1).trans a1_v44
  have a2_v35 := (hostOps0_1_v35 X1).trans a1_v35
  have a2_v45 := hostOps0_1_v45 x0 x2 x3 X1 a1_v38 a1_v44 a1_v35
  generalize after (hostOps0_1 (F := F)) X1 = X2 at *
  have a3_v44 := (hostOps0_2_v44 X2).trans a2_v44
  have a3_v35 := (hostOps0_2_v35 X2).trans a2_v35
  have a3_v45 := (hostOps0_2_v45 X2).trans a2_v45
  have a3_v46 := hostOps0_2_v46 x0 x2 x3 X2 a2_v38 a2_v44 a2_v35 a2_v45
  have a3_cst_6 := hostOps0_2_cst_6 x0 x2 x3 X2 a2_v38 a2_v44 a2_v35 a2_v45
  generalize after (hostOps0_2 (F := F)) X2 = X3 at *
  have a4_v44 := (hostOps0_3_v44 X3).trans a3_v44
  have a4_v35 := (hostOps0_3_v35 X3).trans a3_v35
  have a4_v45 := (hostOps0_3_v45 X3).trans a3_v45
  have a4_v47 := hostOps0_3_v47 x0 x2 x3 X3 a3_v44 a3_v35 a3_v45 a3_v46 a3_cst_6
  generalize after (hostOps0_3 (F := F)) X3 = X4 at *
  have a5_v44 := (hostOps0_4_v44 X4).trans a4_v44
  have a5_v35 := (hostOps0_4_v35 X4).trans a4_v35
  have a5_v45 := (hostOps0_4_v45 X4).trans a4_v45
  have a5_v47 := (hostOps0_4_v47 X4).trans a4_v47
  have a5_v48 := hostOps0_4_v48 x0 x2 x3 X4 a4_v44 a4_v35 a4_v45 a4_v47
  generalize after (hostOps0_4 (F := F)) X4 = X5 at *
  have a6_v44 := (hostOps0_5_v44 X5).trans a5_v44
  have a6_v35 := (hostOps0_5_v35 X5).trans a5_v35
  have a6_v51 := hostOps0_5_v51 x0 x2 x3 X5 a5_v44 a5_v35 a5_v45 a5_v47 a5_v48
  have a6_cst_7 := hostOps0_5_cst_7 x0 x2 x3 X5 a5_v44 a5_v35 a5_v45 a5_v47 a5_v48
  generalize after (hostOps0_5 (F := F)) X5 = X6 at *
  have a7_v52 := hostOps0_6_v52 x0 x2 x3 X6 a6_v44 a6_v35 a6_v51 a6_cst_7
  have a7_v35 := (hostOps0_6_v35 X6).trans a6_v35
  generalize after (hostOps0_6 (F := F)) X6 = X7 at *
  have a8_v55 := hostOps0_7_v55 x0 x2 x3 X7 a7_v52 a7_v35
  exact a8_v55

/-- The array of the attention's outputs the grid reads is the reference's stage over the kernel's own arguments. -/
theorem V_v55 (m : (ℓ : Loc nD τ sig) → Buf (Elt F) ℓ) (c : Dev nD) :
    V m c main_v55 = val_main_v65 (F := F) (m ((c : Thread nD τ).loc main_arg0)) (m ((c : Thread nD τ).loc main_arg2)) (m ((c : Thread nD τ).loc main_arg3)) :=
  flatten_v55 _ _ _ (fun b => m (c, b)) rfl rfl rfl

end Cert.Proof.Prefix

end
-- ==== Proof.Cumsum.lean ====
/- The running sums of the reference along the last axis, of arrays of real numbers. -/
module

public import proofs.«01_k».proof.Proof.Mat
public import proofs.«01_k».proof.Proof.Spec
public import Idealize.ShloMosaic.Lib.StableHlo

@[expose] public section

noncomputable section

namespace Cert.Proof

open Idealize.ShloMosaic Idealize.ShloMosaic.ValueIdx
open Finset

theorem numel_row (N : ℕ) : (⟨3, ![1, 1, N]⟩ : Shape).numel = N := by
  show ∏ a : Fin 3, (![1, 1, N] : Fin 3 → ℕ) a = N
  rw [Fin.prod_univ_three]
  show 1 * 1 * N = N
  rw [one_mul, one_mul]

theorem symm_row {N : ℕ} (n : Fin (⟨3, ![1, 1, N]⟩ : Shape).numel) :
    (⟨3, ![1, 1, N]⟩ : Shape).rowMajor.symm n = ix3 (0 : Fin 1) (0 : Fin 1) (n.cast (numel_row N)) :=
  ((⟨3, ![1, 1, N]⟩ : Shape).rowMajor.symm_apply_eq).2 (Fin.ext (by
    rw [Shape.rowMajor_val_three]
    show n.val = (0 * 1 + 0) * N + n.val
    omega))

theorem foldl_coe {ι : Type} (l : List ι) (g : ι → EReal) (f : ι → ℝ) (hg : ∀ a ∈ l, g a = ((f a : ℝ) : EReal))
    (v : EReal) (z : ℝ) (hv : v = (z : EReal)) : l.foldl (fun r a => r + g a) v = ((z + (l.map f).sum : ℝ) : EReal) := by
  induction l generalizing v z with
  | nil => simpa using hv
  | cons a l ih =>
    rw [List.foldl_cons, ih (fun b hb => hg b (List.mem_cons_of_mem _ hb)) _ (z + f a) (by
      rw [hv, hg a List.mem_cons_self]; exact (EReal.coe_add z (f a)).symm), List.map_cons, List.sum_cons, add_assoc]

theorem sum_finRange {M N : ℕ} (h : M = N) (f : ℕ → ℝ) : ((List.finRange M).map fun n => f n.val).sum = ∑ k ∈ range N, f k := by
  subst h
  rw [sum_range, Fin.sum_univ_def]

variable {A B N : ℕ} {φ : FTy} (x : FVec Ideal ⟨3, ![A, B, N + 1]⟩ φ) (f : ℕ → ℕ → ℕ → ℝ) (hx : ∀ y, x y = ((f (y 0).val (y 1).val (y 2).val : ℝ) : EReal))
  (init : FVec Ideal ⟨0, ![]⟩ φ) (hu : 0 < (⟨0, ![]⟩ : Shape).numel) (hinit : init (Shape.Idx.first hu) = ((0 : ℝ) : EReal))
include hx hinit

/-- The running sum from the left, the own place in it. -/
theorem cumsum (h : (⟨3, ![A, B, N + 1]⟩ : Shape).ReduceWindows (![1, 1, N + 1] : Fin 3 → ℕ) ![1, 1, 1] ![0, 0, N] ![0, 0, 0] ⟨3, ![A, B, N + 1]⟩)
    (j : (⟨3, ![A, B, N + 1]⟩ : Shape).Idx) :
    Host.reduceWindowAdd ![1, 1, N + 1] ![1, 1, 1] ![0, 0, N] ![0, 0, 0] x init h hu j = ((∑ c ∈ range ((j 2).val + 1), f (j 0).val (j 1).val c : ℝ) : EReal) := by
  have hj : (j 2).val < N + 1 := (j 2).isLt
  have hj0 : (j 0).val < A := (j 0).isLt
  have hj1 : (j 1).val < B := (j 1).isLt
  unfold Host.reduceWindowAdd
  rw [Ideal.hostReduceWindowAdd_def]
  unfold Ideal.hostReduceWindowAdd Host.reduceWindow
  refine (foldl_coe _ _ (fun n => if N ≤ (j 2).val + n.val then f (j 0).val (j 1).val ((j 2).val + n.val - N) else 0) (fun n _ => ?_) _ 0 hinit).trans ?_
  · have hw0 : ((⟨3, ![1, 1, N + 1]⟩ : Shape).rowMajor.symm n 0).val = 0 := by rw [symm_row]; rfl
    have hw1 : ((⟨3, ![1, 1, N + 1]⟩ : Shape).rowMajor.symm n 1).val = 0 := by rw [symm_row]; rfl
    have hw : ((⟨3, ![1, 1, N + 1]⟩ : Shape).rowMajor.symm n 2).val = n.val := by rw [symm_row]; rfl
    have hn : n.val < N + 1 := (n.cast (numel_row _)).isLt
    dsimp only
    split
    · next hin =>
      have h2 := hin 2
      change N ≤ (j 2).val * 1 + ((⟨3, ![1, 1, N + 1]⟩ : Shape).rowMajor.symm n 2).val
        ∧ (j 2).val * 1 + ((⟨3, ![1, 1, N + 1]⟩ : Shape).rowMajor.symm n 2).val - N < N + 1 at h2
      rw [hw] at h2
      rw [if_pos (by omega), hx]
      show ((f ((j 0).val * 1 + ((⟨3, ![1, 1, N + 1]⟩ : Shape).rowMajor.symm n 0).val - 0) ((j 1).val * 1 + ((⟨3, ![1, 1, N + 1]⟩ : Shape).rowMajor.symm n 1).val - 0)
        ((j 2).val * 1 + ((⟨3, ![1, 1, N + 1]⟩ : Shape).rowMajor.symm n 2).val - N) : ℝ) : EReal) = _
      rw [hw0, hw1, hw, mul_one, mul_one, mul_one, add_zero, add_zero, Nat.sub_zero, Nat.sub_zero]
    · next hin =>
      rw [if_neg fun hle => hin fun a => by
        match a with
        | ⟨0, _⟩ =>
          show 0 ≤ (j 0).val * 1 + ((⟨3, ![1, 1, N + 1]⟩ : Shape).rowMajor.symm n 0).val ∧ (j 0).val * 1 + ((⟨3, ![1, 1, N + 1]⟩ : Shape).rowMajor.symm n 0).val - 0 < A
          rw [hw0]
          omega
        | ⟨1, _⟩ =>
          show 0 ≤ (j 1).val * 1 + ((⟨3, ![1, 1, N + 1]⟩ : Shape).rowMajor.symm n 1).val ∧ (j 1).val * 1 + ((⟨3, ![1, 1, N + 1]⟩ : Shape).rowMajor.symm n 1).val - 0 < B
          rw [hw1]
          omega
        | ⟨2, _⟩ =>
          show N ≤ (j 2).val * 1 + ((⟨3, ![1, 1, N + 1]⟩ : Shape).rowMajor.symm n 2).val
            ∧ (j 2).val * 1 + ((⟨3, ![1, 1, N + 1]⟩ : Shape).rowMajor.symm n 2).val - N < N + 1
          rw [hw]
          omega]
      exact hinit
  · refine congrArg (fun r : ℝ => (r : EReal)) ?_
    rw [zero_add]
    refine (sum_finRange (numel_row (N + 1)) fun w => if N ≤ (j 2).val + w then f (j 0).val (j 1).val ((j 2).val + w - N) else 0).trans ?_
    generalize (j 2).val = t at hj ⊢
    generalize (j 0).val = a
    generalize (j 1).val = b
    obtain ⟨d, hd⟩ : ∃ d, N = t + d := ⟨N - t, by omega⟩
    rw [show N + 1 = d + (t + 1) by omega, sum_range_add, sum_eq_zero (s := range d), zero_add]
    · refine sum_congr rfl fun c _ => ?_
      rw [if_pos (by omega)]
      congr 1
      omega
    · intro c hc
      rw [mem_range] at hc
      exact if_neg (by omega)

/-- The running sum from the right, the own place in it. -/
theorem cumsumRev (h : (⟨3, ![A, B, N + 1]⟩ : Shape).ReduceWindows (![1, 1, N + 1] : Fin 3 → ℕ) ![1, 1, 1] ![0, 0, 0] ![0, 0, N] ⟨3, ![A, B, N + 1]⟩)
    (j : (⟨3, ![A, B, N + 1]⟩ : Shape).Idx) :
    Host.reduceWindowAdd ![1, 1, N + 1] ![1, 1, 1] ![0, 0, 0] ![0, 0, N] x init h hu j = ((∑ c ∈ Ico (j 2).val (N + 1), f (j 0).val (j 1).val c : ℝ) : EReal) := by
  have hj : (j 2).val < N + 1 := (j 2).isLt
  have hj0 : (j 0).val < A := (j 0).isLt
  have hj1 : (j 1).val < B := (j 1).isLt
  unfold Host.reduceWindowAdd
  rw [Ideal.hostReduceWindowAdd_def]
  unfold Ideal.hostReduceWindowAdd Host.reduceWindow
  refine (foldl_coe _ _ (fun n => if (j 2).val + n.val < N + 1 then f (j 0).val (j 1).val ((j 2).val + n.val) else 0) (fun n _ => ?_) _ 0 hinit).trans ?_
  · have hw0 : ((⟨3, ![1, 1, N + 1]⟩ : Shape).rowMajor.symm n 0).val = 0 := by rw [symm_row]; rfl
    have hw1 : ((⟨3, ![1, 1, N + 1]⟩ : Shape).rowMajor.symm n 1).val = 0 := by rw [symm_row]; rfl
    have hw : ((⟨3, ![1, 1, N + 1]⟩ : Shape).rowMajor.symm n 2).val = n.val := by rw [symm_row]; rfl
    have hn : n.val < N + 1 := (n.cast (numel_row _)).isLt
    dsimp only
    split
    · next hin =>
      have h2 := hin 2
      change 0 ≤ (j 2).val * 1 + ((⟨3, ![1, 1, N + 1]⟩ : Shape).rowMajor.symm n 2).val
        ∧ (j 2).val * 1 + ((⟨3, ![1, 1, N + 1]⟩ : Shape).rowMajor.symm n 2).val - 0 < N + 1 at h2
      rw [hw] at h2
      rw [if_pos (by omega), hx]
      show ((f ((j 0).val * 1 + ((⟨3, ![1, 1, N + 1]⟩ : Shape).rowMajor.symm n 0).val - 0) ((j 1).val * 1 + ((⟨3, ![1, 1, N + 1]⟩ : Shape).rowMajor.symm n 1).val - 0)
        ((j 2).val * 1 + ((⟨3, ![1, 1, N + 1]⟩ : Shape).rowMajor.symm n 2).val - 0) : ℝ) : EReal) = _
      rw [hw0, hw1, hw, mul_one, mul_one, mul_one, add_zero, add_zero, Nat.sub_zero, Nat.sub_zero, Nat.sub_zero]
    · next hin =>
      rw [if_neg fun hle => hin fun a => by
        match a with
        | ⟨0, _⟩ =>
          show 0 ≤ (j 0).val * 1 + ((⟨3, ![1, 1, N + 1]⟩ : Shape).rowMajor.symm n 0).val ∧ (j 0).val * 1 + ((⟨3, ![1, 1, N + 1]⟩ : Shape).rowMajor.symm n 0).val - 0 < A
          rw [hw0]
          omega
        | ⟨1, _⟩ =>
          show 0 ≤ (j 1).val * 1 + ((⟨3, ![1, 1, N + 1]⟩ : Shape).rowMajor.symm n 1).val ∧ (j 1).val * 1 + ((⟨3, ![1, 1, N + 1]⟩ : Shape).rowMajor.symm n 1).val - 0 < B
          rw [hw1]
          omega
        | ⟨2, _⟩ =>
          show 0 ≤ (j 2).val * 1 + ((⟨3, ![1, 1, N + 1]⟩ : Shape).rowMajor.symm n 2).val
            ∧ (j 2).val * 1 + ((⟨3, ![1, 1, N + 1]⟩ : Shape).rowMajor.symm n 2).val - 0 < N + 1
          rw [hw]
          omega]
      exact hinit
  · refine congrArg (fun r : ℝ => (r : EReal)) ?_
    rw [zero_add]
    refine (sum_finRange (numel_row (N + 1)) fun w => if (j 2).val + w < N + 1 then f (j 0).val (j 1).val ((j 2).val + w) else 0).trans ?_
    rw [sum_Ico_eq_sum_range, Spec.sum_range_stop _ (M := N + 1 - (j 2).val) (by omega) fun c hc => if_neg (by omega)]
    refine sum_congr rfl fun c hc => ?_
    rw [mem_range] at hc
    exact if_pos (by omega)

end Cert.Proof

end
-- ==== Proof.RefVal.lean ====
/- What the reference's stages are, over the reals: each stage's element is the number the specification of one head gives. -/
module

public import proofs.«01_k».proof.Proof.Cumsum
public import proofs.«01_k».proof.Proof.TileVal
public import proofs.«01_k».proof.Proof.Gen.ReferenceIdeal.Read

@[expose] public section

set_option maxRecDepth 16384

noncomputable section

namespace Cert.Proof

open Idealize.ShloMosaic Idealize.ShloMosaic.ValueIdx
open Finset Cert.Proof.Spec

/-! ## Operations on elements that are reals -/

section

variable {a b : Ideal .f32} {x y : ℝ}

theorem c_to {z : Ideal .f32} (h : z = ((x : ℝ) : EReal)) (e : x = y) : z = ((y : ℝ) : EReal) := h.trans (congrArg _ e)
theorem mul_c (ha : a = ((x : ℝ) : EReal)) (hb : b = ((y : ℝ) : EReal)) : FloatOps.mulf a b = ((x * y : ℝ) : EReal) := by
  subst ha hb; exact (EReal.coe_mul _ _).symm
theorem add_c (ha : a = ((x : ℝ) : EReal)) (hb : b = ((y : ℝ) : EReal)) : FloatOps.addf a b = ((x + y : ℝ) : EReal) := by
  subst ha hb; exact (EReal.coe_add _ _).symm
theorem sub_c (ha : a = ((x : ℝ) : EReal)) (hb : b = ((y : ℝ) : EReal)) : FloatOps.subf a b = ((x - y : ℝ) : EReal) := by
  subst ha hb; exact (EReal.coe_sub _ _).symm
theorem neg_c (ha : a = ((x : ℝ) : EReal)) : FloatOps.hostNegf a = ((-x : ℝ) : EReal) := by
  subst ha; exact (EReal.coe_neg _).symm
theorem max_c (ha : a = ((x : ℝ) : EReal)) (hb : b = ((y : ℝ) : EReal)) : FloatOps.maximumf a b = ((max x y : ℝ) : EReal) := by
  subst ha hb; exact (EReal.coe_strictMono.monotone.map_max).symm
theorem abs_c (ha : a = ((x : ℝ) : EReal)) : FloatOps.hostAbsf a = ((|x| : ℝ) : EReal) := by
  subst ha
  show max ((x : ℝ) : EReal) (-((x : ℝ) : EReal)) = _
  rw [← EReal.coe_neg, ← EReal.coe_strictMono.monotone.map_max]
  rfl
theorem exp_c (ha : a = ((x : ℝ) : EReal)) : FloatOps.hostUnary .exp a = ((Real.exp x : ℝ) : EReal) := by
  subst ha; rfl
theorem log1p_c (ha : a = ((x : ℝ) : EReal)) (h : 0 < x) : FloatOps.hostUnary .log1p a = ((Real.log (1 + x) : ℝ) : EReal) := by
  subst ha
  show Ideal.log (((1 : ℝ) : EReal) + ((x : ℝ) : EReal)) = _
  rw [← EReal.coe_add, Ideal.log_coe, if_neg (by linarith)]
theorem rsqrt_c (ha : a = ((x : ℝ) : EReal)) (h : 0 < x) : FloatOps.hostUnary .rsqrt a = (((Real.sqrt x)⁻¹ : ℝ) : EReal) := by
  subst ha
  show Ideal.rsqrt ((x : ℝ) : EReal) = _
  rw [Ideal.rsqrt_coe, if_neg (not_lt.2 h.le), if_neg h.ne']
theorem div_c (ha : a = ((x : ℝ) : EReal)) (hb : b = ((y : ℝ) : EReal)) (h : y ≠ 0) : FloatOps.hostDivf a b = ((x * (1 / y) : ℝ) : EReal) := by
  subst ha hb
  show Ideal.div ((x : ℝ) : EReal) ((y : ℝ) : EReal) = _
  rw [Ideal.div_coe h]
  exact (EReal.coe_mul _ _).symm
theorem sum_c (n : ℕ) (f : ℕ → ℝ) {c : EReal} {g : Fin n → EReal} (hc : c = ((0 : ℝ) : EReal)) (h : ∀ k, g k = ((f k.val : ℝ) : EReal)) :
    c + ∑ k, g k = ((∑ k ∈ range n, f k : ℝ) : EReal) := by
  rw [hc, EReal.coe_zero, zero_add, ← coe_sum_fin]
  exact Finset.sum_congr rfl fun k _ => h k
theorem dot_c (n : ℕ) (f f' : ℕ → ℝ) {g g' : Fin n → EReal} (h : ∀ k, g k = ((f k.val : ℝ) : EReal)) (h' : ∀ k, g' k = ((f' k.val : ℝ) : EReal)) :
    ∑ k, g k * g' k = ((∑ k ∈ range n, f k * f' k : ℝ) : EReal) := by
  rw [← coe_sum_fin]
  exact Finset.sum_congr rfl fun k _ => by rw [h, h', EReal.coe_mul]
theorem sel_c {c : BitVec 1} {p : Prop} [Decidable p] (hc : c = if p then 1#1 else 0#1) (ha : a = ((x : ℝ) : EReal)) (hb : b = ((y : ℝ) : EReal)) :
    Scalar.select c a b = ((if p then x else y : ℝ) : EReal) := by
  subst hc ha hb
  unfold Scalar.select
  by_cases hp : p
  · rw [if_pos hp, if_pos hp]; exact if_pos rfl
  · rw [if_neg hp, if_neg hp, if_neg (by decide)]
theorem sel_no {c : BitVec 1} (hc : c = 0#1) (hb : b = ((y : ℝ) : EReal)) : Scalar.select c a b = ((y : ℝ) : EReal) := by
  subst hc hb
  unfold Scalar.select
  rw [if_neg (by decide)]
theorem une_self (a : Ideal .f32) : FloatOps.cmpf .une a a = 0#1 := by
  show BitVec.ofBool (decide (a ≠ a)) = _
  simp
theorem oeq_top (ha : a = ((x : ℝ) : EReal)) (hb : b = (⊤ : EReal)) : FloatOps.cmpf .oeq a b = 0#1 := by
  subst ha hb
  show BitVec.ofBool (decide (((x : ℝ) : EReal) = ⊤)) = _
  simp

end

theorem slt_c {a b : ℕ} (ha : a < 2048) (hb : b < 2048) :
    IntOp.cmpi .slt (BitVec.ofNat 32 b) (BitVec.ofNat 32 a) = if b < a then 1#1 else 0#1 := by
  show BitVec.ofBool ((BitVec.ofNat 32 b).slt (BitVec.ofNat 32 a)) = _
  have e : (BitVec.ofNat 32 b).slt (BitVec.ofNat 32 a) = decide (b < a) := by
    rw [BitVec.slt_eq_decide, BitVec.toInt_ofNat', BitVec.toInt_ofNat']
    congr 1
    rw [Int.bmod_def, Int.bmod_def]
    refine propext ?_
    omega
  rw [e]
  by_cases h : b < a <;> simp [h]

/-! ## The reference -/

open Cert.ReferenceIdeal Cert.ReferenceIdeal.Gen Cert.ReferenceIdeal.Read

/-- Head `h` of the projections `P`, whose result's gradient is `D`. -/
def headOf (P D : ℕ → ℕ → ℝ) (wq wk : ℕ → ℝ) (h : ℕ) : Head where
  q i d := P i (1024 + 128 * h + d)
  k i d := P i (2048 + 128 * h + d)
  v i d := P i (3072 + 128 * h + d)
  dO i d := D i (128 * h + d)
  wq := wq
  wk := wk
  C := scaleR
  eps := epsR

/-- The arguments are arrays of reals, where the attention reads them. -/
structure Inputs (x0 : (⟨S2048x8192, .bf16⟩ : BufTy).Contents (Elt Ideal)) (x1 : (⟨S2048x1024, .bf16⟩ : BufTy).Contents (Elt Ideal)) (x2 x3 : (⟨S1x128, .f32⟩ : BufTy).Contents (Elt Ideal))
    (P D : ℕ → ℕ → ℝ) (wq wk : ℕ → ℝ) : Prop where
  h0 : ∀ y, 1024 ≤ (y 1).val → (y 1).val < 4096 → x0 y = ((P (y 0).val (y 1).val : ℝ) : EReal)
  h1 : ∀ y, x1 y = ((D (y 0).val (y 1).val : ℝ) : EReal)
  h2 : ∀ y, x2 y = ((wq (y 1).val : ℝ) : EReal)
  h3 : ∀ y, x3 y = ((wk (y 1).val : ℝ) : EReal)

variable {x0 : (⟨S2048x8192, .bf16⟩ : BufTy).Contents (Elt Ideal)} {x1 : (⟨S2048x1024, .bf16⟩ : BufTy).Contents (Elt Ideal)} {x2 x3 : (⟨S1x128, .f32⟩ : BufTy).Contents (Elt Ideal)}
  {P D : ℕ → ℕ → ℝ} {wq wk : ℕ → ℝ} (I : Inputs x0 x1 x2 x3 P D wq wk)
include I

theorem R9 (y : S8x2048x128.Idx) : val_main_v9 (F := Ideal) x0 y = (((headOf P D wq wk (y 0).val).q (y 1).val (y 2).val : ℝ) : EReal) := by
  have hh : (y 0).val < 8 := (y 0).isLt
  have hi : (y 1).val < 2048 := (y 1).isLt
  have hd : (y 2).val < 128 := (y 2).isLt
  rw [val_main_v9_apply, val_main_v2_apply, val_main_v1_apply, val_main_v0_apply]
  have e0 : ((idx_main_v1 (idx_main_v2 (idx_main_v9 y))) 0).val = (y 1).val := by
    show (((y 1).val * 8 + (y 0).val) * 128 + (y 2).val) / 1024 = (y 1).val
    omega
  have e1 : ((idx_main_v1 (idx_main_v2 (idx_main_v9 y))) 1).val = 1024 + 128 * (y 0).val + (y 2).val := by
    show 1024 + (((y 1).val * 8 + (y 0).val) * 128 + (y 2).val) % 1024 = 1024 + 128 * (y 0).val + (y 2).val
    omega
  refine (I.h0 _ (by rw [e1]; omega) (by rw [e1]; omega)).trans ?_
  rw [e0, e1]
  rfl

theorem R27 (y : S8x2048x128.Idx) : val_main_v27 (F := Ideal) x0 y = (((headOf P D wq wk (y 0).val).k (y 1).val (y 2).val : ℝ) : EReal) := by
  have hh : (y 0).val < 8 := (y 0).isLt
  have hi : (y 1).val < 2048 := (y 1).isLt
  have hd : (y 2).val < 128 := (y 2).isLt
  rw [val_main_v27_apply, val_main_v4_apply, val_main_v3_apply, val_main_v0_apply]
  have e0 : ((idx_main_v3 (idx_main_v4 (idx_main_v27 y))) 0).val = (y 1).val := by
    show (((y 1).val * 8 + (y 0).val) * 128 + (y 2).val) / 1024 = (y 1).val
    omega
  have e1 : ((idx_main_v3 (idx_main_v4 (idx_main_v27 y))) 1).val = 2048 + 128 * (y 0).val + (y 2).val := by
    show 2048 + (((y 1).val * 8 + (y 0).val) * 128 + (y 2).val) % 1024 = 2048 + 128 * (y 0).val + (y 2).val
    omega
  refine (I.h0 _ (by rw [e1]; omega) (by rw [e1]; omega)).trans ?_
  rw [e0, e1]
  rfl

theorem R45 (y : S8x2048x128.Idx) : val_main_v45 (F := Ideal) x0 y = (((headOf P D wq wk (y 0).val).v (y 1).val (y 2).val : ℝ) : EReal) := by
  have hh : (y 0).val < 8 := (y 0).isLt
  have hi : (y 1).val < 2048 := (y 1).isLt
  have hd : (y 2).val < 128 := (y 2).isLt
  rw [val_main_v45_apply, val_main_v6_apply, val_main_v5_apply, val_main_v0_apply]
  have e0 : ((idx_main_v5 (idx_main_v6 (idx_main_v45 y))) 0).val = (y 1).val := by
    show (((y 1).val * 8 + (y 0).val) * 128 + (y 2).val) / 1024 = (y 1).val
    omega
  have e1 : ((idx_main_v5 (idx_main_v6 (idx_main_v45 y))) 1).val = 3072 + 128 * (y 0).val + (y 2).val := by
    show 3072 + (((y 1).val * 8 + (y 0).val) * 128 + (y 2).val) % 1024 = 3072 + 128 * (y 0).val + (y 2).val
    omega
  refine (I.h0 _ (by rw [e1]; omega) (by rw [e1]; omega)).trans ?_
  rw [e0, e1]
  rfl

theorem R68 (y : S8x2048x128.Idx) : val_main_v68 (F := Ideal) x1 y = (((headOf P D wq wk (y 0).val).dO (y 1).val (y 2).val : ℝ) : EReal) := by
  have hh : (y 0).val < 8 := (y 0).isLt
  have hi : (y 1).val < 2048 := (y 1).isLt
  have hd : (y 2).val < 128 := (y 2).isLt
  rw [val_main_v68_apply, val_main_v67_apply, val_main_v66_apply]
  have e0 : ((idx_main_v67 (idx_main_v68 y)) 0).val = (y 1).val := by
    show (((y 1).val * 8 + (y 0).val) * 128 + (y 2).val) / 1024 = (y 1).val
    omega
  have e1 : ((idx_main_v67 (idx_main_v68 y)) 1).val = 128 * (y 0).val + (y 2).val := by
    show (((y 1).val * 8 + (y 0).val) * 128 + (y 2).val) % 1024 = 128 * (y 0).val + (y 2).val
    omega
  refine (I.h1 _).trans ?_
  rw [e0, e1]
  rfl

theorem R10 (y : S8x2048x128.Idx) : val_main_v10 (F := Ideal) x0 y = (((headOf P D wq wk (y 0).val).q (y 1).val (y 2).val * (headOf P D wq wk (y 0).val).q (y 1).val (y 2).val : ℝ) : EReal) :=
  (val_main_v10_apply x0 y).trans (mul_c (R9 I y) (R9 I y))

theorem R13 (y : S8x2048.Idx) : val_main_v13 (F := Ideal) x0 y = (((∑ d ∈ range 128, (headOf P D wq wk (y 0).val).q (y 1).val d * (headOf P D wq wk (y 0).val).q (y 1).val d) : ℝ) : EReal) :=
  (val_main_v13_apply x0 y).trans (sum_c 128 (fun d => (headOf P D wq wk (y 0).val).q (y 1).val d * (headOf P D wq wk (y 0).val).q (y 1).val d) ((val_main_cst_0_apply _).trans lit_zero) fun k => R10 I (idx_main_v13 y k))

theorem R18 (y : S8x2048x1.Idx) : val_main_v18 (F := Ideal) x0 y = (((∑ d ∈ range 128, (headOf P D wq wk (y 0).val).q (y 1).val d * (headOf P D wq wk (y 0).val).q (y 1).val d) * (1 / 128) + (headOf P D wq wk (y 0).val).eps : ℝ) : EReal) :=
  (val_main_v18_apply x0 y).trans (add_c ((val_main_v16_apply x0 y).trans (div_c ((val_main_v14_apply x0 y).trans (R13 I (idx_main_v14 y))) ((val_main_v15_apply _).trans ((val_main_cst_1_apply _).trans lit_128)) (by norm_num))) ((val_main_v17_apply _).trans ((val_main_cst_2_apply _).trans lit_eps)))

omit I in
theorem pos_q (H : Head) (h : 0 < H.eps) (i : ℕ) : 0 < (∑ d ∈ range 128, H.q i d * H.q i d) * (1 / 128) + H.eps := by
  have := Finset.sum_nonneg fun d (_ : d ∈ range 128) => mul_self_nonneg (H.q i d)
  linarith

theorem R19 (y : S8x2048x1.Idx) : val_main_v19 (F := Ideal) x0 y = ((rr (headOf P D wq wk (y 0).val).eps 128 (headOf P D wq wk (y 0).val).q (y 1).val : ℝ) : EReal) :=
  (val_main_v19_apply x0 y).trans (rsqrt_c (R18 I y) (pos_q _ epsR_pos _))

theorem R22 (y : S8x2048x1.Idx) : val_main_v22 (F := Ideal) x0 y = ((-(1 / 2) * (rr (headOf P D wq wk (y 0).val).eps 128 (headOf P D wq wk (y 0).val).q (y 1).val * (1 / ((∑ d ∈ range 128, (headOf P D wq wk (y 0).val).q (y 1).val d * (headOf P D wq wk (y 0).val).q (y 1).val d) * (1 / 128) + (headOf P D wq wk (y 0).val).eps))) : ℝ) : EReal) :=
  (val_main_v22_apply x0 y).trans (mul_c ((val_main_v21_apply _).trans ((val_main_cst_3_apply _).trans lit_neg_half)) ((val_main_v20_apply x0 y).trans (div_c (R19 I y) (R18 I y) (pos_q _ epsR_pos _).ne')))

theorem R24 (y : S8x2048x128.Idx) : val_main_v24 (F := Ideal) x0 y = ((nh (headOf P D wq wk (y 0).val).eps 128 (headOf P D wq wk (y 0).val).q (y 1).val (y 2).val : ℝ) : EReal) :=
  (val_main_v24_apply x0 y).trans (mul_c (R9 I y) ((val_main_v23_apply x0 y).trans (R19 I (idx_main_v23 y))))

theorem R25 (y : S8x2048x128.Idx) : val_main_v25 (F := Ideal) x2 y = (((headOf P D wq wk (y 0).val).wq (y 2).val : ℝ) : EReal) :=
  (val_main_v25_apply x2 y).trans ((val_main_v7_apply x2 _).trans (I.h2 _))

theorem R26 (y : S8x2048x128.Idx) : val_main_v26 (F := Ideal) x0 x2 y = (((headOf P D wq wk (y 0).val).qn (y 1).val (y 2).val : ℝ) : EReal) :=
  (val_main_v26_apply x0 x2 y).trans (mul_c (R24 I y) (R25 I y))

theorem R28 (y : S8x2048x128.Idx) : val_main_v28 (F := Ideal) x0 y = (((headOf P D wq wk (y 0).val).k (y 1).val (y 2).val * (headOf P D wq wk (y 0).val).k (y 1).val (y 2).val : ℝ) : EReal) :=
  (val_main_v28_apply x0 y).trans (mul_c (R27 I y) (R27 I y))

theorem R31 (y : S8x2048.Idx) : val_main_v31 (F := Ideal) x0 y = (((∑ d ∈ range 128, (headOf P D wq wk (y 0).val).k (y 1).val d * (headOf P D wq wk (y 0).val).k (y 1).val d) : ℝ) : EReal) :=
  (val_main_v31_apply x0 y).trans (sum_c 128 (fun d => (headOf P D wq wk (y 0).val).k (y 1).val d * (headOf P D wq wk (y 0).val).k (y 1).val d) ((val_main_cst_5_apply _).trans lit_zero) fun k => R28 I (idx_main_v31 y k))

theorem R36 (y : S8x2048x1.Idx) : val_main_v36 (F := Ideal) x0 y = (((∑ d ∈ range 128, (headOf P D wq wk (y 0).val).k (y 1).val d * (headOf P D wq wk (y 0).val).k (y 1).val d) * (1 / 128) + (headOf P D wq wk (y 0).val).eps : ℝ) : EReal) :=
  (val_main_v36_apply x0 y).trans (add_c ((val_main_v34_apply x0 y).trans (div_c ((val_main_v32_apply x0 y).trans (R31 I (idx_main_v32 y))) ((val_main_v33_apply _).trans ((val_main_cst_6_apply _).trans lit_128)) (by norm_num))) ((val_main_v35_apply _).trans ((val_main_cst_7_apply _).trans lit_eps)))

omit I in
theorem pos_k (H : Head) (h : 0 < H.eps) (i : ℕ) : 0 < (∑ d ∈ range 128, H.k i d * H.k i d) * (1 / 128) + H.eps := by
  have := Finset.sum_nonneg fun d (_ : d ∈ range 128) => mul_self_nonneg (H.k i d)
  linarith

theorem R37 (y : S8x2048x1.Idx) : val_main_v37 (F := Ideal) x0 y = ((rr (headOf P D wq wk (y 0).val).eps 128 (headOf P D wq wk (y 0).val).k (y 1).val : ℝ) : EReal) :=
  (val_main_v37_apply x0 y).trans (rsqrt_c (R36 I y) (pos_k _ epsR_pos _))

theorem R40 (y : S8x2048x1.Idx) : val_main_v40 (F := Ideal) x0 y = ((-(1 / 2) * (rr (headOf P D wq wk (y 0).val).eps 128 (headOf P D wq wk (y 0).val).k (y 1).val * (1 / ((∑ d ∈ range 128, (headOf P D wq wk (y 0).val).k (y 1).val d * (headOf P D wq wk (y 0).val).k (y 1).val d) * (1 / 128) + (headOf P D wq wk (y 0).val).eps))) : ℝ) : EReal) :=
  (val_main_v40_apply x0 y).trans (mul_c ((val_main_v39_apply _).trans ((val_main_cst_8_apply _).trans lit_neg_half)) ((val_main_v38_apply x0 y).trans (div_c (R37 I y) (R36 I y) (pos_k _ epsR_pos _).ne')))

theorem R42 (y : S8x2048x128.Idx) : val_main_v42 (F := Ideal) x0 y = ((nh (headOf P D wq wk (y 0).val).eps 128 (headOf P D wq wk (y 0).val).k (y 1).val (y 2).val : ℝ) : EReal) :=
  (val_main_v42_apply x0 y).trans (mul_c (R27 I y) ((val_main_v41_apply x0 y).trans (R37 I (idx_main_v41 y))))

theorem R43 (y : S8x2048x128.Idx) : val_main_v43 (F := Ideal) x3 y = (((headOf P D wq wk (y 0).val).wk (y 2).val : ℝ) : EReal) :=
  (val_main_v43_apply x3 y).trans ((val_main_v8_apply x3 _).trans (I.h3 _))

theorem R44 (y : S8x2048x128.Idx) : val_main_v44 (F := Ideal) x0 x3 y = (((headOf P D wq wk (y 0).val).kn (y 1).val (y 2).val : ℝ) : EReal) :=
  (val_main_v44_apply x0 x3 y).trans (mul_c (R42 I y) (R43 I y))

theorem R48 (y : S8x2048x2048.Idx) : val_main_v48 (F := Ideal) x0 x2 x3 y = (((headOf P D wq wk (y 0).val).z (y 1).val (y 2).val : ℝ) : EReal) :=
  (val_main_v48_apply x0 x2 x3 y).trans (mul_c ((val_main_v46_apply x0 x2 x3 y).trans (dot_c 128 (fun d => (headOf P D wq wk (y 0).val).qn (y 1).val d) (fun d => (headOf P D wq wk (y 0).val).kn (y 2).val d) (fun k => R26 I (lidx_main_v46 y k)) fun k => R44 I (ridx_main_v46 y k))) ((val_main_v47_apply _).trans ((val_main_cst_9_apply _).trans lit_scale)))

omit I in
theorem R54 (y : S2048x2048.Idx) : val_main_v54 (F := Ideal) y = if (y 1).val < (y 0).val then 1#1 else 0#1 := by
  rw [val_main_v54_apply, val_main_v52_apply, val_main_v53_apply, val_main_v50_apply, val_main_v51_apply, val_main_v49_apply, val_main_v49_apply]
  exact slt_c (idx2_lt0 y) (idx2_lt1 y)
omit I in
theorem R57_1 (y : S8x2048x2048.Idx) : val_main_v57_1 (F := Ideal) y = if (y 2).val < (y 1).val then 1#1 else 0#1 :=
  (val_main_v57_1_apply y).trans (R54 (idx_main_v57_1 y))
omit I in
theorem R62_1 (y : S8x2048x2048.Idx) : val_main_v62_1 (F := Ideal) y = if (y 2).val < (y 1).val then 1#1 else 0#1 :=
  (val_main_v62_1_apply y).trans (R54 (idx_main_v62_1 y))

theorem Rn (y : S8x2048x2048.Idx) : val_main_call0_v0 (F := Ideal) x0 x2 x3 y = ((-((headOf P D wq wk (y 0).val).z (y 1).val (y 2).val) : ℝ) : EReal) :=
  (val_main_call0_v0_apply x0 x2 x3 y).trans (neg_c (R48 I y))

theorem Rn3 (y : S8x2048x2048.Idx) : val_main_call0_call0_v3 (F := Ideal) x0 x2 x3 y = ((-((headOf P D wq wk (y 0).val).z (y 1).val (y 2).val) : ℝ) : EReal) :=
  c_to ((val_main_call0_call0_v3_apply x0 x2 x3 y).trans (sub_c (Rn I y) ((val_main_call0_call0_v2_apply _).trans ((val_main_call0_call0_cst_apply _).trans lit_zero)))) (sub_zero _)

omit I in
theorem ls_neg (z : ℝ) : max (-z) 0 + Real.log (1 + Real.exp (-|-z|)) = -ls z := by
  rw [ls, abs_neg, neg_sub, sub_eq_neg_add, ← max_neg_neg, neg_zero]

theorem Rls (y : S8x2048x2048.Idx) : val_main_call0_v1_0 (F := Ideal) x0 x2 x3 y = ((-ls ((headOf P D wq wk (y 0).val).z (y 1).val (y 2).val) : ℝ) : EReal) :=
  (val_main_call0_v1_0_apply x0 x2 x3 y).trans (sel_no ((val_main_call0_call0_v4_apply x0 x2 x3 y).trans (une_self _)) (c_to ((val_main_call0_call0_v11_apply x0 x2 x3 y).trans (add_c ((val_main_call0_call0_v1_apply x0 x2 x3 y).trans (max_c (Rn I y) ((val_main_call0_call0_v0_apply _).trans ((val_main_call0_call0_cst_apply _).trans lit_zero)))) ((val_main_call0_call0_v10_apply x0 x2 x3 y).trans (log1p_c ((val_main_call0_call0_v9_apply x0 x2 x3 y).trans (exp_c ((val_main_call0_call0_v8_apply x0 x2 x3 y).trans (neg_c ((val_main_call0_call0_v7_apply x0 x2 x3 y).trans (abs_c (Rn3 I y))))))) (Real.exp_pos _))))) (ls_neg _)))

theorem R55_1 (y : S8x2048x2048.Idx) : val_main_v55_1 (F := Ideal) x0 x2 x3 y = ((Real.exp (ls ((headOf P D wq wk (y 0).val).z (y 1).val (y 2).val) - (headOf P D wq wk (y 0).val).z (y 1).val (y 2).val) : ℝ) : EReal) :=
  c_to ((val_main_v55_1_apply x0 x2 x3 y).trans (exp_c ((val_main_call0_call0_v21_apply x0 x2 x3 y).trans (sub_c
    ((val_main_call0_call0_v16_apply x0 x2 x3 y).trans (sel_no ((val_main_call0_call0_v14_apply x0 x2 x3 y).trans (oeq_top (Rn I y) ((val_main_call0_call0_v13_apply _).trans ((val_main_call0_call0_cst_0_apply _).trans lit_inf)))) (Rn I y)))
    ((val_main_call0_call0_v20_apply x0 x2 x3 y).trans (sel_no ((val_main_call0_call0_v18_apply x0 x2 x3 y).trans (oeq_top (Rls I y) ((val_main_call0_call0_v17_apply _).trans ((val_main_call0_call0_cst_2_apply _).trans lit_inf)))) (Rls I y))))))) (by congr 1; ring)

theorem R55_0 (y : S8x2048x2048.Idx) : val_main_v55_0 (F := Ideal) x0 x2 x3 y = ((ls ((headOf P D wq wk (y 0).val).z (y 1).val (y 2).val) : ℝ) : EReal) :=
  c_to ((val_main_v55_0_apply x0 x2 x3 y).trans (neg_c (Rls I y))) (neg_neg _)

theorem R57_0 (y : S8x2048x2048.Idx) : val_main_v57_0 (F := Ideal) x0 x2 x3 y = ((L (headOf P D wq wk (y 0).val).z (y 1).val (y 2).val : ℝ) : EReal) :=
  (val_main_v57_0_apply x0 x2 x3 y).trans (sel_c (R57_1 y) ((val_main_v56_apply x0 x2 x3 y).trans (sub_c (R55_0 I y) (R48 I y))) ((val_main_call1_v2_apply _).trans ((val_main_call1_v0_apply _).trans ((val_main_cst_10_apply _).trans lit_zero))))

theorem R58 (y : S8x2048x2048.Idx) : val_main_v58 (F := Ideal) x0 x2 x3 y = ((∑ c ∈ Ico (y 2).val 2048, L (headOf P D wq wk (y 0).val).z (y 1).val c : ℝ) : EReal) :=
  cumsumRev (N := 2047) (val_main_v57_0 (F := Ideal) x0 x2 x3) (fun h i k => L (headOf P D wq wk h).z i k) (fun y => R57_0 I y) (val_main_call2_v0 (F := Ideal)) h_S_
    ((val_main_call2_v0_apply _).trans ((val_main_call2_cst_apply _).trans lit_zero)) reduceWindows_S8x2048x2048_S8x2048x2048_w1s1p0_0_w1s1p0_0_w2048s1p0_2047 y

theorem R59 (y : S8x2048x2048.Idx) : val_main_v59 (F := Ideal) x0 x2 x3 y = ((∑ c ∈ Ico ((y 2).val + 1) 2048, L (headOf P D wq wk (y 0).val).z (y 1).val c : ℝ) : EReal) :=
  c_to ((val_main_v59_apply x0 x2 x3 y).trans (sub_c (R58 I y) (R57_0 I y)))
    (by rw [Finset.sum_eq_sum_Ico_succ_bot (show (y 2).val < 2048 from (y 2).isLt), add_sub_cancel_left])

theorem R61 (y : S8x2048x2048.Idx) : val_main_v61 (F := Ideal) x0 x2 x3 y = ((Real.exp (ls ((headOf P D wq wk (y 0).val).z (y 1).val (y 2).val) + ∑ c ∈ Ico ((y 2).val + 1) 2048, L (headOf P D wq wk (y 0).val).z (y 1).val c) : ℝ) : EReal) :=
  (val_main_v61_apply x0 x2 x3 y).trans (exp_c ((val_main_v60_apply x0 x2 x3 y).trans (add_c (R55_0 I y) (R59 I y))))

theorem R62_0 (y : S8x2048x2048.Idx) : val_main_v62_0 (F := Ideal) x0 x2 x3 y = (((headOf P D wq wk (y 0).val).a (y 1).val (y 2).val : ℝ) : EReal) :=
  (val_main_v62_0_apply x0 x2 x3 y).trans (sel_c (R62_1 y) (R61 I y) ((val_main_call3_v2_apply _).trans ((val_main_call3_v0_apply _).trans ((val_main_cst_11_apply _).trans lit_zero))))

theorem R63 (y : S8x2048x128.Idx) : val_main_v63 (F := Ideal) x0 x2 x3 y = (((headOf P D wq wk (y 0).val).o (y 1).val (y 2).val : ℝ) : EReal) :=
  (val_main_v63_apply x0 x2 x3 y).trans (dot_c 2048 (fun k => (headOf P D wq wk (y 0).val).a (y 1).val k) (fun k => (headOf P D wq wk (y 0).val).v k (y 2).val) (fun k => R62_0 I (lidx_main_v63 y k)) fun k => R45 I (ridx_main_v63 y k))

theorem R70 (y : S8x2048x128.Idx) : val_main_v70 (F := Ideal) x0 x1 x2 x3 y = (((headOf P D wq wk (y 0).val).dv (y 1).val (y 2).val : ℝ) : EReal) :=
  c_to ((val_main_v70_apply x0 x1 x2 x3 y).trans ((val_main_v69_apply x0 x1 x2 x3 _).trans (dot_c 2048 (fun i => (headOf P D wq wk (y 0).val).dO i (y 2).val) (fun i => (headOf P D wq wk (y 0).val).a i (y 1).val)
    (fun k => R68 I (lidx_main_v69 (idx_main_v70 y) k)) fun k => R62_0 I (ridx_main_v69 (idx_main_v70 y) k)))) (Finset.sum_congr rfl fun _ _ => mul_comm _ _)

theorem R71 (y : S8x2048x2048.Idx) : val_main_v71 (F := Ideal) x0 x1 y = (((headOf P D wq wk (y 0).val).g (y 1).val (y 2).val : ℝ) : EReal) :=
  (val_main_v71_apply x0 x1 y).trans (dot_c 128 (fun d => (headOf P D wq wk (y 0).val).dO (y 1).val d) (fun d => (headOf P D wq wk (y 0).val).v (y 2).val d) (fun k => R68 I (lidx_main_v71 y k)) fun k => R45 I (ridx_main_v71 y k))

theorem R73 (y : S8x2048x2048.Idx) : val_main_v73 (F := Ideal) x0 x1 x2 x3 y = (((headOf P D wq wk (y 0).val).e (y 1).val (y 2).val : ℝ) : EReal) :=
  c_to ((val_main_v73_apply x0 x1 x2 x3 y).trans (mul_c ((val_main_v72_apply x0 x1 y).trans (sel_c (R62_1 y) (R71 I y) ((val_main_call4_v0_apply _).trans ((val_main_call4_cst_apply _).trans lit_zero)))) (R61 I y)))
    (by
      show (if _ then _ else _) * _ = _ * (if _ then _ else _)
      split
      · rfl
      · rw [zero_mul, mul_zero])

theorem R75 (y : S8x2048x2048.Idx) : val_main_v75 (F := Ideal) x0 x1 x2 x3 y = ((∑ c ∈ range ((y 2).val + 1), (headOf P D wq wk (y 0).val).e (y 1).val c : ℝ) : EReal) :=
  cumsum (N := 2047) (val_main_v73 (F := Ideal) x0 x1 x2 x3) (fun h i k => (headOf P D wq wk h).e i k) (fun y => R73 I y) (val_main_call5_v0 (F := Ideal)) h_S_
    ((val_main_call5_v0_apply _).trans ((val_main_call5_cst_apply _).trans lit_zero)) reduceWindows_S8x2048x2048_S8x2048x2048_w1s1p0_0_w1s1p0_0_w2048s1p2047_0 y

theorem R77 (y : S8x2048x2048.Idx) : val_main_v77 (F := Ideal) x0 x1 x2 x3 y = ((if (y 2).val < (y 1).val then ∑ c ∈ range (y 2).val, (headOf P D wq wk (y 0).val).e (y 1).val c else 0 : ℝ) : EReal) :=
  (val_main_v77_apply x0 x1 x2 x3 y).trans (sel_c (R57_1 y) (c_to ((val_main_v76_apply x0 x1 x2 x3 y).trans (add_c ((val_main_v74_apply x0 x1 x2 x3 y).trans (neg_c (R73 I y))) (R75 I y)))
    (by rw [Finset.sum_range_succ]; ring)) ((val_main_call6_v0_apply _).trans ((val_main_call6_cst_apply _).trans lit_zero)))

omit I in
theorem dz_eq (N : ℕ) (z g : ℕ → ℕ → ℝ) (i k : ℕ) :
    -(if k < i then ∑ c ∈ range k, E N z g i c else 0)
      + -(-(E N z g i k + if k < i then ∑ c ∈ range k, E N z g i c else 0) * Real.exp (ls (z i k) - z i k)) = DZ N z g i k := by
  have h := exp_ls_add (z i k)
  unfold DZ
  by_cases hk : k < i
  · rw [if_pos hk, if_pos hk, ← sub_eq_iff_eq_add'.2 h.symm]
    ring
  · rw [if_neg hk, if_neg hk, E_eq_zero (by omega)]
    ring

theorem R81 (y : S8x2048x2048.Idx) : val_main_v81 (F := Ideal) x0 x1 x2 x3 y = (((headOf P D wq wk (y 0).val).dz (y 1).val (y 2).val : ℝ) : EReal) :=
  c_to ((val_main_v81_apply x0 x1 x2 x3 y).trans (add_c ((val_main_v78_apply x0 x1 x2 x3 y).trans (neg_c (R77 I y)))
    ((val_main_v80_apply x0 x1 x2 x3 y).trans (neg_c ((val_main_call7_v1_apply x0 x1 x2 x3 y).trans (mul_c ((val_main_call7_v0_apply x0 x1 x2 x3 y).trans (neg_c ((val_main_v79_apply x0 x1 x2 x3 y).trans (add_c (R73 I y) (R77 I y))))) (R55_1 I y))))))) (dz_eq 2048 _ _ _ _)

theorem R83 (y : S8x2048x2048.Idx) : val_main_v83 (F := Ideal) x0 x1 x2 x3 y = (((headOf P D wq wk (y 0).val).dz (y 1).val (y 2).val * (headOf P D wq wk (y 0).val).C : ℝ) : EReal) :=
  (val_main_v83_apply x0 x1 x2 x3 y).trans (mul_c (R81 I y) ((val_main_v82_apply _).trans ((val_main_cst_12_apply _).trans lit_scale)))

theorem R84 (y : S8x2048x128.Idx) : val_main_v84 (F := Ideal) x0 x1 x2 x3 y = (((headOf P D wq wk (y 0).val).dkn (y 1).val (y 2).val : ℝ) : EReal) :=
  c_to ((val_main_v84_apply x0 x1 x2 x3 y).trans (dot_c 2048 (fun i => (headOf P D wq wk (y 0).val).dz i (y 1).val * (headOf P D wq wk (y 0).val).C) (fun i => (headOf P D wq wk (y 0).val).qn i (y 2).val) (fun k => R83 I (lidx_main_v84 y k)) fun k => R26 I (ridx_main_v84 y k)))
    (Finset.sum_congr rfl fun _ _ => by ring)

theorem R85 (y : S8x2048x128.Idx) : val_main_v85 (F := Ideal) x0 x1 x2 x3 y = (((headOf P D wq wk (y 0).val).dqn (y 1).val (y 2).val : ℝ) : EReal) :=
  c_to ((val_main_v85_apply x0 x1 x2 x3 y).trans (dot_c 2048 (fun k => (headOf P D wq wk (y 0).val).dz (y 1).val k * (headOf P D wq wk (y 0).val).C) (fun k => (headOf P D wq wk (y 0).val).kn k (y 2).val) (fun k => R83 I (lidx_main_v85 y k)) fun k => R44 I (ridx_main_v85 y k)))
    (Finset.sum_congr rfl fun _ _ => by ring)

omit I in
theorem nb_eq {eps : ℝ} {x : ℕ → ℕ → ℝ} (w : ℕ → ℝ) (g : ℕ → ℕ → ℝ) (i d : ℕ) (h : 0 < (∑ d ∈ range 128, x i d * x i d) * (1 / 128) + eps) :
    g i d * w d * rr eps 128 x i
      + ((∑ d ∈ range 128, x i d * (g i d * w d)) * (-(1 / 2) * (rr eps 128 x i * (1 / ((∑ d ∈ range 128, x i d * x i d) * (1 / 128) + eps)))) * (1 / 128)) * (2 * x i d)
      = nb eps 128 x w g i d := by
  have hr : 1 / ((∑ d ∈ range 128, x i d * x i d) * (1 / 128) + eps) = rr eps 128 x i * rr eps 128 x i := by
    rw [rr, ← mul_inv, Real.mul_self_sqrt h.le, one_div]
  have hs : ∑ d ∈ range 128, g i d * w d * nh eps 128 x i d = (∑ d ∈ range 128, x i d * (g i d * w d)) * rr eps 128 x i := by
    rw [Finset.sum_mul]
    exact Finset.sum_congr rfl fun d _ => by rw [nh]; ring
  rw [hr, nb, hs, nh]
  ring

theorem R91 (y : S8x2048x128.Idx) : val_main_v91 (F := Ideal) x0 x1 x2 x3 y = (((headOf P D wq wk (y 0).val).dkn (y 1).val (y 2).val * (headOf P D wq wk (y 0).val).wk (y 2).val : ℝ) : EReal) :=
  (val_main_v91_apply x0 x1 x2 x3 y).trans (mul_c (R84 I y) ((val_main_v90_apply x3 y).trans ((val_main_v8_apply x3 _).trans (I.h3 _))))

theorem R92 (y : S8x2048x128.Idx) : val_main_v92 (F := Ideal) x0 x1 x2 x3 y = (((headOf P D wq wk (y 0).val).k (y 1).val (y 2).val * ((headOf P D wq wk (y 0).val).dkn (y 1).val (y 2).val * (headOf P D wq wk (y 0).val).wk (y 2).val) : ℝ) : EReal) :=
  (val_main_v92_apply x0 x1 x2 x3 y).trans (mul_c (R27 I y) (R91 I y))

theorem R93 (y : S8x2048.Idx) : val_main_v93 (F := Ideal) x0 x1 x2 x3 y = (((∑ d ∈ range 128, (headOf P D wq wk (y 0).val).k (y 1).val d * ((headOf P D wq wk (y 0).val).dkn (y 1).val d * (headOf P D wq wk (y 0).val).wk d)) : ℝ) : EReal) :=
  (val_main_v93_apply x0 x1 x2 x3 y).trans (sum_c 128 (fun d => (headOf P D wq wk (y 0).val).k (y 1).val d * ((headOf P D wq wk (y 0).val).dkn (y 1).val d * (headOf P D wq wk (y 0).val).wk d)) ((val_main_cst_14_apply _).trans lit_zero) fun k => R92 I (idx_main_v93 y k))

theorem R94 (y : S8x2048x1.Idx) : val_main_v94 (F := Ideal) x0 x1 x2 x3 y = (((∑ d ∈ range 128, (headOf P D wq wk (y 0).val).k (y 1).val d * ((headOf P D wq wk (y 0).val).dkn (y 1).val d * (headOf P D wq wk (y 0).val).wk d)) : ℝ) : EReal) := by
  have h0 : (y 0).val < 8 := (y 0).isLt
  have h1 : (y 1).val < 2048 := (y 1).isLt
  have h2 : (y 2).val < 1 := (y 2).isLt
  have e0 : ((idx_main_v94 y) 0).val = (y 0).val := by
    show (((y 0).val * 2048 + (y 1).val) * 1 + (y 2).val) / 2048 = (y 0).val
    omega
  have e1 : ((idx_main_v94 y) 1).val = (y 1).val := by
    show (((y 0).val * 2048 + (y 1).val) * 1 + (y 2).val) % 2048 = (y 1).val
    omega
  refine (val_main_v94_apply x0 x1 x2 x3 y).trans ((R93 I _).trans ?_)
  rw [e0, e1]

theorem R99 (y : S8x2048x1.Idx) : val_main_v99 (F := Ideal) x0 x1 x2 x3 y = (((∑ d ∈ range 128, (headOf P D wq wk (y 0).val).k (y 1).val d * ((headOf P D wq wk (y 0).val).dkn (y 1).val d * (headOf P D wq wk (y 0).val).wk d)) * (-(1 / 2) * (rr (headOf P D wq wk (y 0).val).eps 128 (headOf P D wq wk (y 0).val).k (y 1).val * (1 / ((∑ d ∈ range 128, (headOf P D wq wk (y 0).val).k (y 1).val d * (headOf P D wq wk (y 0).val).k (y 1).val d) * (1 / 128) + (headOf P D wq wk (y 0).val).eps)))) * (1 / 128) : ℝ) : EReal) :=
  (val_main_v99_apply x0 x1 x2 x3 y).trans (div_c ((val_main_v97_apply x0 x1 x2 x3 y).trans (mul_c (R94 I y) (R40 I y))) ((val_main_v98_apply _).trans ((val_main_cst_15_apply _).trans lit_128)) (by norm_num))

theorem R100 (y : S8x2048.Idx) : val_main_v100 (F := Ideal) x0 x1 x2 x3 y = (((∑ d ∈ range 128, (headOf P D wq wk (y 0).val).k (y 1).val d * ((headOf P D wq wk (y 0).val).dkn (y 1).val d * (headOf P D wq wk (y 0).val).wk d)) * (-(1 / 2) * (rr (headOf P D wq wk (y 0).val).eps 128 (headOf P D wq wk (y 0).val).k (y 1).val * (1 / ((∑ d ∈ range 128, (headOf P D wq wk (y 0).val).k (y 1).val d * (headOf P D wq wk (y 0).val).k (y 1).val d) * (1 / 128) + (headOf P D wq wk (y 0).val).eps)))) * (1 / 128) : ℝ) : EReal) :=
  c_to ((val_main_v100_apply x0 x1 x2 x3 y).trans (sum_c 1 (fun _ => (∑ d ∈ range 128, (headOf P D wq wk (y 0).val).k (y 1).val d * ((headOf P D wq wk (y 0).val).dkn (y 1).val d * (headOf P D wq wk (y 0).val).wk d)) * (-(1 / 2) * (rr (headOf P D wq wk (y 0).val).eps 128 (headOf P D wq wk (y 0).val).k (y 1).val * (1 / ((∑ d ∈ range 128, (headOf P D wq wk (y 0).val).k (y 1).val d * (headOf P D wq wk (y 0).val).k (y 1).val d) * (1 / 128) + (headOf P D wq wk (y 0).val).eps)))) * (1 / 128)) ((val_main_cst_16_apply _).trans lit_zero) fun k => R99 I (idx_main_v100 y k))) (Finset.sum_range_one _)

theorem R103 (y : S8x2048x128.Idx) : val_main_v103 (F := Ideal) x0 x1 x2 x3 y = (((headOf P D wq wk (y 0).val).dk (y 1).val (y 2).val : ℝ) : EReal) :=
  c_to ((val_main_v103_apply x0 x1 x2 x3 y).trans (add_c ((val_main_v96_apply x0 x1 x2 x3 y).trans (mul_c (R91 I y) ((val_main_v95_apply x0 y).trans (R37 I (idx_main_v95 y)))))
    ((val_main_v102_apply x0 x1 x2 x3 y).trans (mul_c ((val_main_v101_apply x0 x1 x2 x3 y).trans (R100 I (idx_main_v101 y))) ((val_main_v30_apply x0 y).trans (mul_c ((val_main_v29_apply _).trans ((val_main_cst_4_apply _).trans lit_two)) (R27 I y)))))))
    (nb_eq _ _ _ _ (pos_k _ epsR_pos _))

theorem R109 (y : S8x2048x128.Idx) : val_main_v109 (F := Ideal) x0 x1 x2 x3 y = (((headOf P D wq wk (y 0).val).dqn (y 1).val (y 2).val * (headOf P D wq wk (y 0).val).wq (y 2).val : ℝ) : EReal) :=
  (val_main_v109_apply x0 x1 x2 x3 y).trans (mul_c (R85 I y) ((val_main_v108_apply x2 y).trans ((val_main_v7_apply x2 _).trans (I.h2 _))))

theorem R110 (y : S8x2048x128.Idx) : val_main_v110 (F := Ideal) x0 x1 x2 x3 y = (((headOf P D wq wk (y 0).val).q (y 1).val (y 2).val * ((headOf P D wq wk (y 0).val).dqn (y 1).val (y 2).val * (headOf P D wq wk (y 0).val).wq (y 2).val) : ℝ) : EReal) :=
  (val_main_v110_apply x0 x1 x2 x3 y).trans (mul_c (R9 I y) (R109 I y))

theorem R111 (y : S8x2048.Idx) : val_main_v111 (F := Ideal) x0 x1 x2 x3 y = (((∑ d ∈ range 128, (headOf P D wq wk (y 0).val).q (y 1).val d * ((headOf P D wq wk (y 0).val).dqn (y 1).val d * (headOf P D wq wk (y 0).val).wq d)) : ℝ) : EReal) :=
  (val_main_v111_apply x0 x1 x2 x3 y).trans (sum_c 128 (fun d => (headOf P D wq wk (y 0).val).q (y 1).val d * ((headOf P D wq wk (y 0).val).dqn (y 1).val d * (headOf P D wq wk (y 0).val).wq d)) ((val_main_cst_18_apply _).trans lit_zero) fun k => R110 I (idx_main_v111 y k))

theorem R112 (y : S8x2048x1.Idx) : val_main_v112 (F := Ideal) x0 x1 x2 x3 y = (((∑ d ∈ range 128, (headOf P D wq wk (y 0).val).q (y 1).val d * ((headOf P D wq wk (y 0).val).dqn (y 1).val d * (headOf P D wq wk (y 0).val).wq d)) : ℝ) : EReal) := by
  have h0 : (y 0).val < 8 := (y 0).isLt
  have h1 : (y 1).val < 2048 := (y 1).isLt
  have h2 : (y 2).val < 1 := (y 2).isLt
  have e0 : ((idx_main_v112 y) 0).val = (y 0).val := by
    show (((y 0).val * 2048 + (y 1).val) * 1 + (y 2).val) / 2048 = (y 0).val
    omega
  have e1 : ((idx_main_v112 y) 1).val = (y 1).val := by
    show (((y 0).val * 2048 + (y 1).val) * 1 + (y 2).val) % 2048 = (y 1).val
    omega
  refine (val_main_v112_apply x0 x1 x2 x3 y).trans ((R111 I _).trans ?_)
  rw [e0, e1]

theorem R117 (y : S8x2048x1.Idx) : val_main_v117 (F := Ideal) x0 x1 x2 x3 y = (((∑ d ∈ range 128, (headOf P D wq wk (y 0).val).q (y 1).val d * ((headOf P D wq wk (y 0).val).dqn (y 1).val d * (headOf P D wq wk (y 0).val).wq d)) * (-(1 / 2) * (rr (headOf P D wq wk (y 0).val).eps 128 (headOf P D wq wk (y 0).val).q (y 1).val * (1 / ((∑ d ∈ range 128, (headOf P D wq wk (y 0).val).q (y 1).val d * (headOf P D wq wk (y 0).val).q (y 1).val d) * (1 / 128) + (headOf P D wq wk (y 0).val).eps)))) * (1 / 128) : ℝ) : EReal) :=
  (val_main_v117_apply x0 x1 x2 x3 y).trans (div_c ((val_main_v115_apply x0 x1 x2 x3 y).trans (mul_c (R112 I y) (R22 I y))) ((val_main_v116_apply _).trans ((val_main_cst_19_apply _).trans lit_128)) (by norm_num))

theorem R118 (y : S8x2048.Idx) : val_main_v118 (F := Ideal) x0 x1 x2 x3 y = (((∑ d ∈ range 128, (headOf P D wq wk (y 0).val).q (y 1).val d * ((headOf P D wq wk (y 0).val).dqn (y 1).val d * (headOf P D wq wk (y 0).val).wq d)) * (-(1 / 2) * (rr (headOf P D wq wk (y 0).val).eps 128 (headOf P D wq wk (y 0).val).q (y 1).val * (1 / ((∑ d ∈ range 128, (headOf P D wq wk (y 0).val).q (y 1).val d * (headOf P D wq wk (y 0).val).q (y 1).val d) * (1 / 128) + (headOf P D wq wk (y 0).val).eps)))) * (1 / 128) : ℝ) : EReal) :=
  c_to ((val_main_v118_apply x0 x1 x2 x3 y).trans (sum_c 1 (fun _ => (∑ d ∈ range 128, (headOf P D wq wk (y 0).val).q (y 1).val d * ((headOf P D wq wk (y 0).val).dqn (y 1).val d * (headOf P D wq wk (y 0).val).wq d)) * (-(1 / 2) * (rr (headOf P D wq wk (y 0).val).eps 128 (headOf P D wq wk (y 0).val).q (y 1).val * (1 / ((∑ d ∈ range 128, (headOf P D wq wk (y 0).val).q (y 1).val d * (headOf P D wq wk (y 0).val).q (y 1).val d) * (1 / 128) + (headOf P D wq wk (y 0).val).eps)))) * (1 / 128)) ((val_main_cst_20_apply _).trans lit_zero) fun k => R117 I (idx_main_v118 y k))) (Finset.sum_range_one _)

theorem R121 (y : S8x2048x128.Idx) : val_main_v121 (F := Ideal) x0 x1 x2 x3 y = (((headOf P D wq wk (y 0).val).dq (y 1).val (y 2).val : ℝ) : EReal) :=
  c_to ((val_main_v121_apply x0 x1 x2 x3 y).trans (add_c ((val_main_v114_apply x0 x1 x2 x3 y).trans (mul_c (R109 I y) ((val_main_v113_apply x0 y).trans (R19 I (idx_main_v113 y)))))
    ((val_main_v120_apply x0 x1 x2 x3 y).trans (mul_c ((val_main_v119_apply x0 x1 x2 x3 y).trans (R118 I (idx_main_v119 y))) ((val_main_v12_apply x0 y).trans (mul_c ((val_main_v11_apply _).trans ((val_main_cst_apply _).trans lit_two)) (R9 I y)))))))
    (nb_eq _ _ _ _ (pos_q _ epsR_pos _))

theorem R88 (y : S8x128.Idx) : val_main_v88 (F := Ideal) x0 x1 x2 x3 y = (((headOf P D wq wk (y 0).val).gk (y 1).val : ℝ) : EReal) :=
  c_to ((val_main_v88_apply x0 x1 x2 x3 y).trans (sum_c 2048 (fun i => nh (headOf P D wq wk (y 0).val).eps 128 (headOf P D wq wk (y 0).val).k i (y 1).val * (headOf P D wq wk (y 0).val).dkn i (y 1).val)
    ((val_main_cst_13_apply _).trans lit_zero) fun k => (val_main_v87_apply x0 x1 x2 x3 _).trans (mul_c (R42 I (idx_main_v88 y k)) (R84 I (idx_main_v88 y k)))))
    (Finset.sum_congr rfl fun _ _ => mul_comm _ _)
/-- The gradient of the keys' norm weights, for each head. -/
theorem out_gk (y : S8x1x128.Idx) : val_main_v89 (F := Ideal) x0 x1 x2 x3 y = (((headOf P D wq wk (y 0).val).gk (y 2).val : ℝ) : EReal) := by
  have h0 : (y 0).val < 8 := (y 0).isLt
  have h1 : (y 1).val < 1 := (y 1).isLt
  have h2 : (y 2).val < 128 := (y 2).isLt
  have e0 : ((idx_main_v89 y) 0).val = (y 0).val := by
    show (((y 0).val * 1 + (y 1).val) * 128 + (y 2).val) / 128 = (y 0).val
    omega
  have e1 : ((idx_main_v89 y) 1).val = (y 2).val := by
    show (((y 0).val * 1 + (y 1).val) * 128 + (y 2).val) % 128 = (y 2).val
    omega
  refine (val_main_v89_apply x0 x1 x2 x3 y).trans ((R88 I _).trans ?_)
  rw [e0, e1]

theorem R106 (y : S8x128.Idx) : val_main_v106 (F := Ideal) x0 x1 x2 x3 y = (((headOf P D wq wk (y 0).val).gq (y 1).val : ℝ) : EReal) :=
  c_to ((val_main_v106_apply x0 x1 x2 x3 y).trans (sum_c 2048 (fun i => nh (headOf P D wq wk (y 0).val).eps 128 (headOf P D wq wk (y 0).val).q i (y 1).val * (headOf P D wq wk (y 0).val).dqn i (y 1).val)
    ((val_main_cst_17_apply _).trans lit_zero) fun k => (val_main_v105_apply x0 x1 x2 x3 _).trans (mul_c (R24 I (idx_main_v106 y k)) (R85 I (idx_main_v106 y k)))))
    (Finset.sum_congr rfl fun _ _ => mul_comm _ _)
/-- The gradient of the queries' norm weights, for each head. -/
theorem out_gq (y : S8x1x128.Idx) : val_main_v107 (F := Ideal) x0 x1 x2 x3 y = (((headOf P D wq wk (y 0).val).gq (y 2).val : ℝ) : EReal) := by
  have h0 : (y 0).val < 8 := (y 0).isLt
  have h1 : (y 1).val < 1 := (y 1).isLt
  have h2 : (y 2).val < 128 := (y 2).isLt
  have e0 : ((idx_main_v107 y) 0).val = (y 0).val := by
    show (((y 0).val * 1 + (y 1).val) * 128 + (y 2).val) / 128 = (y 0).val
    omega
  have e1 : ((idx_main_v107 y) 1).val = (y 2).val := by
    show (((y 0).val * 1 + (y 1).val) * 128 + (y 2).val) % 128 = (y 2).val
    omega
  refine (val_main_v107_apply x0 x1 x2 x3 y).trans ((R106 I _).trans ?_)
  rw [e0, e1]

/-- The attention's result, -/
theorem out_o (y : S2048x1024.Idx) : val_main_v65 (F := Ideal) x0 x2 x3 y = (((headOf P D wq wk ((y 1).val / 128)).o (y 0).val ((y 1).val % 128) : ℝ) : EReal) := by
  have h0 : (y 0).val < 2048 := idx2_lt0 y
  have h1 : (y 1).val < 1024 := idx2_lt1 y
  have e0 : ((idx_main_v64 (idx_main_v65 y)) 0).val = (y 1).val / 128 := by
    show ((y 0).val * 1024 + (y 1).val) / 128 % 8 = (y 1).val / 128
    omega
  have e1 : ((idx_main_v64 (idx_main_v65 y)) 1).val = (y 0).val := by
    show ((y 0).val * 1024 + (y 1).val) / 1024 = (y 0).val
    omega
  have e2 : ((idx_main_v64 (idx_main_v65 y)) 2).val = (y 1).val % 128 := by
    show ((y 0).val * 1024 + (y 1).val) % 128 = (y 1).val % 128
    omega
  have e : val_main_v65 (F := Ideal) x0 x2 x3 y = _ := (val_main_v65_apply x0 x2 x3 y).trans ((val_main_v64_apply x0 x2 x3 _).trans (R63 I _))
  rw [e0, e1, e2] at e
  exact e

/-- the gradients of the queries, -/
theorem out_dq (y : S2048x1024.Idx) : val_main_v124 (F := Ideal) x0 x1 x2 x3 y = (((headOf P D wq wk ((y 1).val / 128)).dq (y 0).val ((y 1).val % 128) : ℝ) : EReal) := by
  have h0 : (y 0).val < 2048 := idx2_lt0 y
  have h1 : (y 1).val < 1024 := idx2_lt1 y
  have e0 : ((idx_main_v122 (idx_main_v123 y)) 0).val = (y 1).val / 128 := by
    show ((y 0).val * 1024 + (y 1).val) / 128 % 8 = (y 1).val / 128
    omega
  have e1 : ((idx_main_v122 (idx_main_v123 y)) 1).val = (y 0).val := by
    show ((y 0).val * 1024 + (y 1).val) / 1024 = (y 0).val
    omega
  have e2 : ((idx_main_v122 (idx_main_v123 y)) 2).val = (y 1).val % 128 := by
    show ((y 0).val * 1024 + (y 1).val) % 128 = (y 1).val % 128
    omega
  have e : val_main_v123 (F := Ideal) x0 x1 x2 x3 y = _ := (val_main_v123_apply x0 x1 x2 x3 y).trans ((val_main_v122_apply x0 x1 x2 x3 _).trans (R121 I _))
  rw [e0, e1, e2] at e
  exact e

/-- of the keys -/
theorem out_dk (y : S2048x1024.Idx) : val_main_v126 (F := Ideal) x0 x1 x2 x3 y = (((headOf P D wq wk ((y 1).val / 128)).dk (y 0).val ((y 1).val % 128) : ℝ) : EReal) := by
  have h0 : (y 0).val < 2048 := idx2_lt0 y
  have h1 : (y 1).val < 1024 := idx2_lt1 y
  have e0 : ((idx_main_v104 (idx_main_v125 y)) 0).val = (y 1).val / 128 := by
    show ((y 0).val * 1024 + (y 1).val) / 128 % 8 = (y 1).val / 128
    omega
  have e1 : ((idx_main_v104 (idx_main_v125 y)) 1).val = (y 0).val := by
    show ((y 0).val * 1024 + (y 1).val) / 1024 = (y 0).val
    omega
  have e2 : ((idx_main_v104 (idx_main_v125 y)) 2).val = (y 1).val % 128 := by
    show ((y 0).val * 1024 + (y 1).val) % 128 = (y 1).val % 128
    omega
  have e : val_main_v125 (F := Ideal) x0 x1 x2 x3 y = _ := (val_main_v125_apply x0 x1 x2 x3 y).trans ((val_main_v104_apply x0 x1 x2 x3 _).trans (R103 I _))
  rw [e0, e1, e2] at e
  exact e

/-- and of the values, the heads side by side. -/
theorem out_dv (y : S2048x1024.Idx) : val_main_v128 (F := Ideal) x0 x1 x2 x3 y = (((headOf P D wq wk ((y 1).val / 128)).dv (y 0).val ((y 1).val % 128) : ℝ) : EReal) := by
  have h0 : (y 0).val < 2048 := idx2_lt0 y
  have h1 : (y 1).val < 1024 := idx2_lt1 y
  have e0 : ((idx_main_v86 (idx_main_v127 y)) 0).val = (y 1).val / 128 := by
    show ((y 0).val * 1024 + (y 1).val) / 128 % 8 = (y 1).val / 128
    omega
  have e1 : ((idx_main_v86 (idx_main_v127 y)) 1).val = (y 0).val := by
    show ((y 0).val * 1024 + (y 1).val) / 1024 = (y 0).val
    omega
  have e2 : ((idx_main_v86 (idx_main_v127 y)) 2).val = (y 1).val % 128 := by
    show ((y 0).val * 1024 + (y 1).val) % 128 = (y 1).val % 128
    omega
  have e : val_main_v127 (F := Ideal) x0 x1 x2 x3 y = _ := (val_main_v127_apply x0 x1 x2 x3 y).trans ((val_main_v86_apply x0 x1 x2 x3 _).trans (R70 I _))
  rw [e0, e1, e2] at e
  exact e

end Cert.Proof

end
-- ==== Proof.KernelVal.lean ====
/- What the kernel's arrays hold when its run has ended: the blocks a point reads are one head's matrices, and each array it
   writes is the reference's stage. -/
module

public import proofs.«01_k».proof.Proof.HeadVal
public import proofs.«01_k».proof.Proof.Prefix
public import proofs.«01_k».proof.Proof.RefVal
public import proofs.«01_k».proof.Proof.Run
public import Idealize.ShloMosaic.Lib.Pipeline.ValueKit

@[expose] public section

set_option maxRecDepth 16384

noncomputable section

namespace Cert.Proof.KernelVal

open Cert.KernelIdeal Cert.KernelIdeal.Gen
open Idealize.ShloMosaic Idealize.ShloMosaic.TcCoe Idealize.ShloMosaic.ValueIdx
open Cert.Proof Cert.Proof.Trips Cert.Proof.Run Cert.Proof.Spec
open Cert.ReferenceIdeal.Read

/-! ## The places of the blocks -/

theorem idx0 : ∀ t : Fin cfg0.N, win0_0.index t = ![0, 8 + t.val] := by decide +kernel
theorem idx1 : ∀ t : Fin cfg0.N, win0_1.index t = ![0, 16 + t.val] := by decide +kernel
theorem idx2 : ∀ t : Fin cfg0.N, win0_2.index t = ![0, 24 + t.val] := by decide +kernel
theorem idx3 : ∀ t : Fin cfg0.N, win0_3.index t = ![0, t.val] := by decide +kernel
theorem idx4 : ∀ t : Fin cfg0.N, win0_4.index t = ![0, t.val] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, t.val] := by decide +kernel
theorem idx8 : ∀ t : Fin cfg0.N, win0_8.index t = ![0, t.val] := by decide +kernel
theorem idx9 : ∀ t : Fin cfg0.N, win0_9.index t = ![0, t.val] := by decide +kernel
theorem idx10 : ∀ t : Fin cfg0.N, win0_10.index t = ![t.val, 0, 0] := by decide +kernel
theorem idx11 : ∀ t : Fin cfg0.N, win0_11.index t = ![t.val, 0, 0] := by decide +kernel

theorem point_lt (t : Fin cfg0.N) : t.val < 8 := lt_of_lt_of_eq t.isLt N_0

variable (m : (ℓ : Loc nD τ sig) → Buf (Elt Ideal) ℓ) (c : Dev nD)
  {P D : ℕ → ℕ → ℝ} {wq wk : ℕ → ℝ}

/-- A gain's gradient, stored with a leading axis of one, at an element. -/
theorem gain_apply (f : ℕ → ℝ) (y : S1x1x128.Idx) :
    shapeCast S1x1x128 (mat 1 128 fun _ d => f d : FVec Ideal S1x128 .f32) shapeCasts_S1x128_S1x1x128 y = ((f (y 2).val : ℝ) : EReal) := by
  have h0 : (y 0).val < 1 := (y 0).isLt
  have h1 : (y 1).val < 1 := (y 1).isLt
  have h2 : (y 2).val < 128 := (y 2).isLt
  rw [shapeCast_apply _ shapeCasts_S1x128_S1x1x128 y (ValueIdx.ix2 (y 1) (y 2)) (by
    rewrite [Shape.rowMajor_val_three, Shape.rowMajor_val_two]
    show (y 1).val * 128 + (y 2).val = ((y 0).val * 1 + (y 1).val) * 128 + (y 2).val
    omega)]
  rfl

/-- The real numbers of the arguments on core `c`. -/
abbrev In (P D : ℕ → ℕ → ℝ) (wq wk : ℕ → ℝ) : Prop :=
  Inputs (m ((c : Thread nD τ).loc main_arg0)) (m ((c : Thread nD τ).loc main_arg1)) (m ((c : Thread nD τ).loc main_arg2)) (m ((c : Thread nD τ).loc main_arg3)) P D wq wk

variable {m c} (I : In m c P D wq wk) (t : Fin cfg0.N)
include I

theorem iblk_0 : iblk m c 0 t = mat 2048 128 (φ := .bf16) (headOf P D wq wk t.val).q := by
  funext y
  have h0 : (y 0).val < 2048 := (y 0).isLt
  have h1 : (y 1).val < 128 := (y 1).isLt
  have ht := point_lt t
  have e : iblk m c 0 t y = m ((c : Thread nD τ).loc main_arg0) (((cfg0.win 0).blk t).view.emb y) := congrFun (V_main_arg0 m c) _
  have e0 : ((((cfg0.win 0).blk t).view.emb y) 0 : ℕ) = (y 0).val := by blk_simp [idx0]
  have e1 : ((((cfg0.win 0).blk t).view.emb y) 1 : ℕ) = 1024 + 128 * t.val + (y 1).val := by blk_simp [idx0]; omega
  rw [e, I.h0 _ (by rw [e1]; omega) (by rw [e1]; omega), e0, e1]
  rfl

theorem iblk_1 : iblk m c 1 t = mat 2048 128 (φ := .bf16) (headOf P D wq wk t.val).k := by
  funext y
  have h0 : (y 0).val < 2048 := (y 0).isLt
  have h1 : (y 1).val < 128 := (y 1).isLt
  have ht := point_lt t
  have e : iblk m c 1 t y = m ((c : Thread nD τ).loc main_arg0) (((cfg0.win 1).blk t).view.emb y) := congrFun (V_main_arg0 m c) _
  have e0 : ((((cfg0.win 1).blk t).view.emb y) 0 : ℕ) = (y 0).val := by blk_simp [idx1]
  have e1 : ((((cfg0.win 1).blk t).view.emb y) 1 : ℕ) = 2048 + 128 * t.val + (y 1).val := by blk_simp [idx1]; omega
  rw [e, I.h0 _ (by rw [e1]; omega) (by rw [e1]; omega), e0, e1]
  rfl

theorem iblk_2 : iblk m c 2 t = mat 2048 128 (φ := .bf16) (headOf P D wq wk t.val).v := by
  funext y
  have h0 : (y 0).val < 2048 := (y 0).isLt
  have h1 : (y 1).val < 128 := (y 1).isLt
  have ht := point_lt t
  have e : iblk m c 2 t y = m ((c : Thread nD τ).loc main_arg0) (((cfg0.win 2).blk t).view.emb y) := congrFun (V_main_arg0 m c) _
  have e0 : ((((cfg0.win 2).blk t).view.emb y) 0 : ℕ) = (y 0).val := by blk_simp [idx2]
  have e1 : ((((cfg0.win 2).blk t).view.emb y) 1 : ℕ) = 3072 + 128 * t.val + (y 1).val := by blk_simp [idx2]; omega
  rw [e, I.h0 _ (by rw [e1]; omega) (by rw [e1]; omega), e0, e1]
  rfl

theorem iblk_3 : iblk m c 3 t = mat 2048 128 (φ := .bf16) (headOf P D wq wk t.val).dO := by
  funext y
  have h0 : (y 0).val < 2048 := (y 0).isLt
  have h1 : (y 1).val < 128 := (y 1).isLt
  have ht := point_lt t
  have e : iblk m c 3 t y = m ((c : Thread nD τ).loc main_arg1) (((cfg0.win 3).blk t).view.emb y) := congrFun (V_main_arg1 m c) _
  have e0 : ((((cfg0.win 3).blk t).view.emb y) 0 : ℕ) = (y 0).val := by blk_simp [idx3]
  have e1 : ((((cfg0.win 3).blk t).view.emb y) 1 : ℕ) = 128 * t.val + (y 1).val := by blk_simp [idx3]; omega
  rw [e, I.h1, e0, e1]
  rfl

theorem iblk_4 : iblk m c 4 t = mat 2048 128 (φ := .f32) (headOf P D wq wk t.val).o := by
  funext y
  have h0 : (y 0).val < 2048 := (y 0).isLt
  have h1 : (y 1).val < 128 := (y 1).isLt
  have ht := point_lt t
  have e : iblk m c 4 t y = val_main_v65 (F := Ideal) (m ((c : Thread nD τ).loc main_arg0)) (m ((c : Thread nD τ).loc main_arg2)) (m ((c : Thread nD τ).loc main_arg3)) (((cfg0.win 4).blk t).view.emb y) := congrFun (Prefix.V_v55 m c) _
  have e0 : ((((cfg0.win 4).blk t).view.emb y) 0 : ℕ) = (y 0).val := by blk_simp [idx4]
  have e1 : ((((cfg0.win 4).blk t).view.emb y) 1 : ℕ) = 128 * t.val + (y 1).val := by blk_simp [idx4]; omega
  rw [e, out_o I, e0, e1, show (128 * t.val + (y 1).val) / 128 = t.val by omega, show (128 * t.val + (y 1).val) % 128 = (y 1).val by omega]
  rfl

theorem iblk_5 : iblk m c 5 t = mat 1 128 (φ := .f32) fun _ d => (headOf P D wq wk t.val).wq d := by
  funext y
  have e : iblk m c 5 t y = m ((c : Thread nD τ).loc main_arg2) (((cfg0.win 5).blk t).view.emb y) := congrFun (V_main_arg2 m c) _
  have e1 : ((((cfg0.win 5).blk t).view.emb y) 1 : ℕ) = (y 1).val := by blk_simp [idx5]
  rw [e, I.h2, e1]
  rfl

theorem iblk_6 : iblk m c 6 t = mat 1 128 (φ := .f32) fun _ d => (headOf P D wq wk t.val).wk d := by
  funext y
  have e : iblk m c 6 t y = m ((c : Thread nD τ).loc main_arg3) (((cfg0.win 6).blk t).view.emb y) := congrFun (V_main_arg3 m c) _
  have e1 : ((((cfg0.win 6).blk t).view.emb y) 1 : ℕ) = (y 1).val := by blk_simp [idx6]
  rw [e, I.h3, e1]
  rfl

/-! ## The arrays the grid writes -/

omit t in
set_option maxHeartbeats 1000000 in
theorem arr_7 : (dats m 0 c).arrAt 7 (cfgs 0).N = val_main_v124 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have h0 : (y 0).val < 2048 := (y 0).isLt
  have h1 : (y 1).val < 128 := (y 1).isLt
  have ht := point_lt t
  have e0 : ((((cfg0.win 7).blk t).view.emb y) 0 : ℕ) = (y 0).val := by blk_simp [idx7]
  have e1 : ((((cfg0.win 7).blk t).view.emb y) 1 : ℕ) = 128 * t.val + (y 1).val := by blk_simp [idx7]; omega
  have e := out_dq I (((cfg0.win 7).blk t).view.emb y)
  rw [e0, e1, show (128 * t.val + (y 1).val) / 128 = t.val by omega, show (128 * t.val + (y 1).val) % 128 = (y 1).val by omega] at e
  refine Eq.trans ?_ e.symm
  blk_simp
  rw [after0_7, iblk_0 I t, iblk_1 I t, iblk_2 I t, iblk_3 I t, iblk_4 I t, iblk_5 I t, iblk_6 I t]
  exact congrFun (dqOut_mat (headOf P D wq wk t.val) rfl rfl) y

omit t in
set_option maxHeartbeats 1000000 in
theorem arr_8 : (dats m 0 c).arrAt 8 (cfgs 0).N = val_main_v126 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have h0 : (y 0).val < 2048 := (y 0).isLt
  have h1 : (y 1).val < 128 := (y 1).isLt
  have ht := point_lt t
  have e0 : ((((cfg0.win 8).blk t).view.emb y) 0 : ℕ) = (y 0).val := by blk_simp [idx8]
  have e1 : ((((cfg0.win 8).blk t).view.emb y) 1 : ℕ) = 128 * t.val + (y 1).val := by blk_simp [idx8]; omega
  have e := out_dk I (((cfg0.win 8).blk t).view.emb y)
  rw [e0, e1, show (128 * t.val + (y 1).val) / 128 = t.val by omega, show (128 * t.val + (y 1).val) % 128 = (y 1).val by omega] at e
  refine Eq.trans ?_ e.symm
  blk_simp
  rw [after0_8, iblk_0 I t, iblk_1 I t, iblk_2 I t, iblk_3 I t, iblk_4 I t, iblk_5 I t, iblk_6 I t]
  exact congrFun (dkOut_mat' (headOf P D wq wk t.val) rfl rfl) y

omit t in
set_option maxHeartbeats 1000000 in
theorem arr_9 : (dats m 0 c).arrAt 9 (cfgs 0).N = val_main_v128 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t hf y => ?_
  have h0 : (y 0).val < 2048 := (y 0).isLt
  have h1 : (y 1).val < 128 := (y 1).isLt
  have ht := point_lt t
  have e0 : ((((cfg0.win 9).blk t).view.emb y) 0 : ℕ) = (y 0).val := by blk_simp [idx9]
  have e1 : ((((cfg0.win 9).blk t).view.emb y) 1 : ℕ) = 128 * t.val + (y 1).val := by blk_simp [idx9]; omega
  have e := out_dv I (((cfg0.win 9).blk t).view.emb y)
  rw [e0, e1, show (128 * t.val + (y 1).val) / 128 = t.val by omega, show (128 * t.val + (y 1).val) % 128 = (y 1).val by omega] at e
  refine Eq.trans ?_ e.symm
  blk_simp
  rw [after0_9, iblk_0 I t, iblk_1 I t, iblk_2 I t, iblk_3 I t, iblk_4 I t, iblk_5 I t, iblk_6 I t]
  exact congrFun (dvOut_mat (headOf P D wq wk t.val) rfl rfl) y

omit t in
set_option maxHeartbeats 1000000 in
theorem arr_10 : (dats m 0 c).arrAt 10 (cfgs 0).N = val_main_v107 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t hf y => ?_
  have h0 : (y 0).val < 1 := (y 0).isLt
  have h1 : (y 1).val < 1 := (y 1).isLt
  have h2 : (y 2).val < 128 := (y 2).isLt
  have ht := point_lt t
  have e0 : ((((cfg0.win 10).blk t).view.emb y) 0 : ℕ) = t.val := by blk_simp [idx10]
  have e2 : ((((cfg0.win 10).blk t).view.emb y) 2 : ℕ) = (y 2).val := by blk_simp [idx10]
  have e := out_gq I (((cfg0.win 10).blk t).view.emb y)
  rw [e0, e2] at e
  refine Eq.trans ?_ e.symm
  blk_simp
  rw [after0_10, iblk_0 I t, iblk_1 I t, iblk_2 I t, iblk_3 I t, iblk_4 I t, iblk_5 I t, iblk_6 I t, gqOut_mat (headOf P D wq wk t.val) rfl rfl]
  exact gain_apply _ y

omit t in
set_option maxHeartbeats 1000000 in
theorem arr_11 : (dats m 0 c).arrAt 11 (cfgs 0).N = val_main_v89 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t hf y => ?_
  have h0 : (y 0).val < 1 := (y 0).isLt
  have h1 : (y 1).val < 1 := (y 1).isLt
  have h2 : (y 2).val < 128 := (y 2).isLt
  have ht := point_lt t
  have e0 : ((((cfg0.win 11).blk t).view.emb y) 0 : ℕ) = t.val := by blk_simp [idx11]
  have e2 : ((((cfg0.win 11).blk t).view.emb y) 2 : ℕ) = (y 2).val := by blk_simp [idx11]
  have e := out_gk I (((cfg0.win 11).blk t).view.emb y)
  rw [e0, e2] at e
  refine Eq.trans ?_ e.symm
  blk_simp
  rw [after0_11, iblk_0 I t, iblk_1 I t, iblk_2 I t, iblk_3 I t, iblk_4 I t, iblk_5 I t, iblk_6 I t, gkOut_mat (headOf P D wq wk t.val) rfl rfl]
  exact gain_apply _ y

end Cert.Proof.KernelVal

end
-- ==== Proof.Value.lean ====
/- The kernel's results are the reference's: where the arguments read are finite, both runs end with the same five arrays. -/
module

public import proofs.«01_k».proof.Defs
public import proofs.«01_k».proof.Proof.KernelVal
public import proofs.«01_k».proof.Proof.Gen.ReferenceIdeal.Run
public import proofs.«01_k».proof.Proof.Gen.ReferenceIdeal.Read

@[expose] public section

set_option maxRecDepth 16384

noncomputable section

namespace Cert.Proof.Value

open Idealize.ShloMosaic Idealize.ShloMosaic.TcCoe Idealize.SL.Sem
open Cert.Proof Cert.Proof.Run Cert.Proof.KernelVal
open Cert.ReferenceIdeal.Read

/-! ## The precondition -/

/-- The shape relations the precondition's operations take. -/
theorem pre_facts : Cert.Pre_finite.Facts where
  slices_S2048x8192_S2048x3072_0_1024 := by decide
  bitsLt_bf16_f32 := by decide
  bcast_S_S2048x3072 := by decide
  bcast_S_S2048x1024 := by decide
  bcast_S_S1x128 := by decide

/-- An extended real below infinity in absolute value is a real number. -/
theorem real_of_abs_lt (x : EReal) (h : Ideal.cmp .olt (max x (-x)) (Ideal.ofBits .f32 0x7F800000#32) = 1#1) : x = ((x.toReal : ℝ) : EReal) := by
  rw [show Ideal.ofBits .f32 0x7F800000#32 = ⊤ by simp [Ideal.ofBits, Ideal.ieee]] at h
  have hlt : max x (-x) < ⊤ := by
    by_contra hn
    simp [Ideal.cmp, hn] at h
  refine (EReal.coe_toReal (fun e => ?_) (fun e => ?_)).symm <;> subst e <;> simp at hlt

section

variable (m : (ℓ : Loc Cert.KernelIdeal.nD Cert.KernelIdeal.τ Cert.KernelIdeal.sig) → Buf (Elt Ideal) ℓ)
  (h : Cert.Pre_KernelIdeal_finite (hPre_finite := pre_facts) m) (c : Dev Cert.KernelIdeal.nD)

/-- The real number at a place of a matrix of extended reals. -/
def realAt {n k : ℕ} (x : (⟨2, ![n, k]⟩ : Shape).Idx → EReal) (i j : ℕ) : ℝ :=
  if hij : i < n ∧ j < k then (x (ValueIdx.ix2 ⟨i, hij.1⟩ ⟨j, hij.2⟩)).toReal else 0

theorem realAt_val {n k : ℕ} (x : (⟨2, ![n, k]⟩ : Shape).Idx → EReal) (y : (⟨2, ![n, k]⟩ : Shape).Idx) : realAt x (y 0).val (y 1).val = (x y).toReal := by
  unfold realAt
  rw [dif_pos ⟨ValueIdx.idx2_lt0 y, ValueIdx.idx2_lt1 y⟩]
  congr 2
  funext a
  match a with
  | ⟨0, _⟩ => rfl
  | ⟨1, _⟩ => rfl

include h in
/-- Where the precondition holds, the arguments read are real numbers. -/
theorem inputs : In m c (realAt (m ((c.tc : Thread Cert.KernelIdeal.nD Cert.KernelIdeal.τ).loc Cert.KernelIdeal.main_arg0)))
    (realAt (m ((c.tc : Thread Cert.KernelIdeal.nD Cert.KernelIdeal.τ).loc Cert.KernelIdeal.main_arg1)))
    (realAt (m ((c.tc : Thread Cert.KernelIdeal.nD Cert.KernelIdeal.τ).loc Cert.KernelIdeal.main_arg2)) 0)
    (realAt (m ((c.tc : Thread Cert.KernelIdeal.nD Cert.KernelIdeal.τ).loc Cert.KernelIdeal.main_arg3)) 0) where
  h0 y h1 h4 := by
    have e := real_of_abs_lt _ (congrFun (h c).1 (ValueIdx.ix2 (y 0) ⟨(y 1).val - 1024, by omega⟩))
    rw [realAt_val]
    have hs : extf .f32 (extractStridedSlice Cert.Pre_finite.S2048x3072 ![0, 1024] (m ((c.tc : Thread Cert.KernelIdeal.nD Cert.KernelIdeal.τ).loc Cert.KernelIdeal.main_arg0)) pre_facts.slices_S2048x8192_S2048x3072_0_1024 : FVec Ideal Cert.Pre_finite.S2048x3072 .bf16) pre_facts.bitsLt_bf16_f32 (ValueIdx.ix2 (y 0) ⟨(y 1).val - 1024, by omega⟩)
        = m ((c.tc : Thread Cert.KernelIdeal.nD Cert.KernelIdeal.τ).loc Cert.KernelIdeal.main_arg0) y :=
      extractStridedSlice_apply _ _ pre_facts.slices_S2048x8192_S2048x3072_0_1024 _ y fun a => match a with
        | ⟨0, _⟩ => (Nat.zero_add _).symm
        | ⟨1, _⟩ => (show (y 1).val = 1024 + ((y 1).val - 1024) by omega)
    have e' := e
    dsimp only at e'
    rw [hs] at e'
    exact e'
  h1 y := (real_of_abs_lt _ (congrFun (h c).2.1 y)).trans (congrArg _ (realAt_val _ y).symm)
  h2 y := by
    have h0 : (y 0).val = 0 := by have := ValueIdx.idx2_lt0 y; omega
    exact (real_of_abs_lt _ (congrFun (h c).2.2.1 y)).trans (congrArg _ ((realAt_val _ y).symm.trans (by rw [h0])))
  h3 y := by
    have h0 : (y 0).val = 0 := by have := ValueIdx.idx2_lt0 y; omega
    exact (real_of_abs_lt _ (congrFun (h c).2.2.2 y)).trans (congrArg _ ((realAt_val _ y).symm.trans (by rw [h0])))

end

/-! ## The two runs -/

set_option maxHeartbeats 2000000 in
/-- Every run of the kernel ends with the reference's stages over the kernel's own arguments, and the arguments unchanged. -/
theorem kernel_run (m : (ℓ : Loc Cert.KernelIdeal.nD Cert.KernelIdeal.τ Cert.KernelIdeal.sig) → Buf (Elt Ideal) ℓ) (g : Dev Cert.KernelIdeal.nD → PrngReg)
    (h : Cert.Pre_KernelIdeal_finite (hPre_finite := pre_facts) m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v56_0) = val_main_v124 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v56_1) = val_main_v126 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v56_2) = val_main_v128 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v56_3) = val_main_v107 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_v56_4) = val_main_v89 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run Cert.KernelIdeal.defs _ _).mono (fun r hr c => ?_) (run_main m g)
  have o0 : r.2.mem ((c.tc : Thread Cert.KernelIdeal.nD Cert.KernelIdeal.τ).loc Cert.KernelIdeal.main_v56_0) = (dats m 0 c).arrAt 7 (Cert.KernelIdeal.cfgs 0).N := (hr c).1 7
  rw [arr_7 (inputs m h c)] at o0
  have o1 : r.2.mem ((c.tc : Thread Cert.KernelIdeal.nD Cert.KernelIdeal.τ).loc Cert.KernelIdeal.main_v56_1) = (dats m 0 c).arrAt 8 (Cert.KernelIdeal.cfgs 0).N := (hr c).1 8
  rw [arr_8 (inputs m h c)] at o1
  have o2 : r.2.mem ((c.tc : Thread Cert.KernelIdeal.nD Cert.KernelIdeal.τ).loc Cert.KernelIdeal.main_v56_2) = (dats m 0 c).arrAt 9 (Cert.KernelIdeal.cfgs 0).N := (hr c).1 9
  rw [arr_9 (inputs m h c)] at o2
  have o3 : r.2.mem ((c.tc : Thread Cert.KernelIdeal.nD Cert.KernelIdeal.τ).loc Cert.KernelIdeal.main_v56_3) = (dats m 0 c).arrAt 10 (Cert.KernelIdeal.cfgs 0).N := (hr c).1 10
  rw [arr_10 (inputs m h c)] at o3
  have o4 : r.2.mem ((c.tc : Thread Cert.KernelIdeal.nD Cert.KernelIdeal.τ).loc Cert.KernelIdeal.main_v56_4) = (dats m 0 c).arrAt 11 (Cert.KernelIdeal.cfgs 0).N := (hr c).1 11
  rw [arr_11 (inputs m h c)] at o4
  exact ⟨o0, o1, o2, o3, o4,
      ((hr c).1 2).trans (((dats m 0 c).arrAt_in 2 rfl _).trans ((A_eq m c 2).trans (Cert.KernelIdeal.Gen.V_main_arg0 m c))),
      ((hr c).1 3).trans (((dats m 0 c).arrAt_in 3 rfl _).trans ((A_eq m c 3).trans (Cert.KernelIdeal.Gen.V_main_arg1 m c))),
      ((hr c).1 5).trans (((dats m 0 c).arrAt_in 5 rfl _).trans ((A_eq m c 5).trans (Cert.KernelIdeal.Gen.V_main_arg2 m c))),
      ((hr c).1 6).trans (((dats m 0 c).arrAt_in 6 rfl _).trans ((A_eq m c 6).trans (Cert.KernelIdeal.Gen.V_main_arg3 m c)))⟩

/-- Every run of the reference ends with its stages over its arguments, and the arguments unchanged. -/
theorem reference_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v124) = val_main_v124 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v126) = val_main_v126 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v128) = val_main_v128 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v107) = val_main_v107 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_v89) = val_main_v89 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono (fun r hr c =>
    ⟨(hr c).1.trans (val_main_v124_eq _), (hr c).2.1.trans (val_main_v126_eq _), (hr c).2.2.1.trans (val_main_v128_eq _),
      (hr c).2.2.2.1.trans (val_main_v107_eq _), (hr c).2.2.2.2.1.trans (val_main_v89_eq _), (hr c).2.2.2.2.2⟩) (Cert.ReferenceIdeal.Value.run (F := Ideal) m' g')

/-- The kernel and the reference end with the same results. -/
theorem algebraic : Cert.algebraic_KernelIdeal_ReferenceIdeal_pre_finite (hKernelIdeal := Cert.KernelIdeal.Gen.facts) (hReferenceIdeal := Cert.ReferenceIdeal.Gen.facts) (hPre_finite := pre_facts) :=
  fun m g m' g' h hm => ⟨_, _, _, _, _, kernel_run m g h,
    (θ_run Cert.ReferenceIdeal.defs _ _).mono (fun r hr c => by
      obtain ⟨e0, e1, e2, e3⟩ := hm c
      have hc := hr c
      rw [← e0, ← e1, ← e2, ← e3]
      exact hc) (reference_run m' g')⟩

end Cert.Proof.Value

end
-- ==== Proof.lean ====
/- The claims of this directory, assembled: the kernel's run, its idealization's and the reference's, the constants the
   idealization names, and the equality of the results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Hidden.Frame
public import proofs.«01_k».proof.Proof.Gen.GradFf2.Frame
public import proofs.«01_k».proof.Proof.Gen.GradFf1.Frame
public import proofs.«01_k».proof.Proof.Gen.GradH2.Frame
public import proofs.«01_k».proof.Proof.Gen.GradO.Frame
public import proofs.«01_k».proof.Proof.Gen.Gates.Frame
public import proofs.«01_k».proof.Proof.Gen.GradUp.Frame
public import proofs.«01_k».proof.Proof.Gen.Branches.Frame
public import proofs.«01_k».proof.Proof.Gen.Loss.Frame
public import proofs.«01_k».proof.Proof.Gen.Norm
public import proofs.«01_k».proof.Proof.Gen.NormIdeal
public import proofs.«01_k».proof.Proof.Gen.NormIdeal.Value
public import proofs.«01_k».proof.Proof.Gen.Norm.Frame
public import proofs.«01_k».proof.Proof.Gen.NormIdeal.Frame
public import proofs.«01_k».proof.Proof.Gen.NormRefIdeal.Run
public import proofs.«01_k».proof.Proof.Gen.NormRefIdeal.Read
public import proofs.«01_k».proof.Proof.Gen.GradNorm1
public import proofs.«01_k».proof.Proof.Gen.GradNorm1Ideal
public import proofs.«01_k».proof.Proof.Gen.GradNorm1Ideal.Value
public import proofs.«01_k».proof.Proof.Gen.GradNorm1.Frame
public import proofs.«01_k».proof.Proof.Gen.GradNorm1Ideal.Frame
public import proofs.«01_k».proof.Proof.Gen.GradNorm1RefIdeal.Run
public import proofs.«01_k».proof.Proof.Gen.GradNorm1RefIdeal.Read
public import proofs.«01_k».proof.Proof.Gen.GradNorm2
public import proofs.«01_k».proof.Proof.Gen.GradNorm2Ideal
public import proofs.«01_k».proof.Proof.Gen.GradNorm2Ideal.Value
public import proofs.«01_k».proof.Proof.Gen.GradNorm2.Frame
public import proofs.«01_k».proof.Proof.Gen.GradNorm2Ideal.Frame
public import proofs.«01_k».proof.Proof.Gen.GradNorm2RefIdeal.Run
public import proofs.«01_k».proof.Proof.Gen.GradNorm2RefIdeal.Read
public import proofs.«01_k».proof.Proof.Mlp.Hidden
public import proofs.«01_k».proof.Proof.Mlp.GradFf2
public import proofs.«01_k».proof.Proof.Mlp.GradFf1
public import proofs.«01_k».proof.Proof.Mlp.GradH2
public import proofs.«01_k».proof.Proof.Mixer.GradO
public import proofs.«01_k».proof.Proof.Mixer.Gates
public import proofs.«01_k».proof.Proof.Mixer.GradUp
public import proofs.«01_k».proof.Proof.Mixer.Branches
public import proofs.«01_k».proof.Proof.Mixer.Loss
public import proofs.«01_k».proof.Proof.Mixer.Norm
public import proofs.«01_k».proof.Proof.Mixer.GradNorm1
public import proofs.«01_k».proof.Proof.Mixer.GradNorm2
public import proofs.«01_k».proof.Proof.Run
public import proofs.«01_k».proof.Proof.Value
public import proofs.«01_k».proof.Proof.Bitwise.Run
public import Idealize.ShloMosaic.Lib.Quiescent

@[expose] public section

noncomputable section

namespace Cert.Proof

open Idealize.ShloMosaic Idealize.SL.Sem

theorem frame_p : Cert.quiescent_Kernel := fun m g _ => Bitwise.Run.frame m g

theorem frame_pi : Cert.quiescent_KernelIdeal := fun m g _ => Run.frame m g

theorem frame_ri : Cert.quiescent_ReferenceIdeal := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

theorem preserves : Cert.preserves_Kernel_KernelIdeal :=
  ⟨IdealRules.named_const.statement Cert.KernelIdeal.κ "qk_scale_log2e" .f32 0x3E0293EE#32 _ rfl,
    IdealRules.named_const.statement Cert.KernelIdeal.κ "log2e" .f32 0x3FB8AA3B#32 _ rfl⟩

theorem frame_Hidden : Cert.quiescent_HiddenRefIdeal (hHiddenRefIdeal := Cert.HiddenRefIdeal.Gen.facts) := fun m g _ =>
  (θ_run Cert.HiddenRefIdeal.defs _ _).mono (fun r h => ⟨fun c => (h c).2, sem_eq_zero_of_no_sems (by decide) r.2⟩)
    (Cert.HiddenRefIdeal.Value.run (F := Ideal) m g)

theorem frame_GradFf2 : Cert.quiescent_GradFf2RefIdeal (hGradFf2RefIdeal := Cert.GradFf2RefIdeal.Gen.facts) := fun m g _ =>
  (θ_run Cert.GradFf2RefIdeal.defs _ _).mono (fun r h => ⟨fun c => (h c).2, sem_eq_zero_of_no_sems (by decide) r.2⟩)
    (Cert.GradFf2RefIdeal.Value.run (F := Ideal) m g)

theorem frame_GradFf1 : Cert.quiescent_GradFf1RefIdeal (hGradFf1RefIdeal := Cert.GradFf1RefIdeal.Gen.facts) := fun m g _ =>
  (θ_run Cert.GradFf1RefIdeal.defs _ _).mono (fun r h => ⟨fun c => (h c).2, sem_eq_zero_of_no_sems (by decide) r.2⟩)
    (Cert.GradFf1RefIdeal.Value.run (F := Ideal) m g)

theorem frame_GradH2 : Cert.quiescent_GradH2RefIdeal (hGradH2RefIdeal := Cert.GradH2RefIdeal.Gen.facts) := fun m g _ =>
  (θ_run Cert.GradH2RefIdeal.defs _ _).mono (fun r h => ⟨fun c => (h c).2, sem_eq_zero_of_no_sems (by decide) r.2⟩)
    (Cert.GradH2RefIdeal.Value.run (F := Ideal) m g)

theorem frame_GradO : Cert.quiescent_GradORefIdeal (hGradORefIdeal := Cert.GradORefIdeal.Gen.facts) := fun m g _ =>
  (θ_run Cert.GradORefIdeal.defs _ _).mono (fun r h => ⟨fun c => (h c).2, sem_eq_zero_of_no_sems (by decide) r.2⟩)
    (Cert.GradORefIdeal.Value.run (F := Ideal) m g)

theorem frame_Gates : Cert.quiescent_GatesRefIdeal (hGatesRefIdeal := Cert.GatesRefIdeal.Gen.facts) := fun m g _ =>
  (θ_run Cert.GatesRefIdeal.defs _ _).mono (fun r h => ⟨fun c => (h c).2.2.2.2, sem_eq_zero_of_no_sems (by decide) r.2⟩)
    (Cert.GatesRefIdeal.Value.run (F := Ideal) m g)

theorem frame_GradUp : Cert.quiescent_GradUpRefIdeal (hGradUpRefIdeal := Cert.GradUpRefIdeal.Gen.facts) := fun m g _ =>
  (θ_run Cert.GradUpRefIdeal.defs _ _).mono (fun r h => ⟨fun c => (h c).2.2, sem_eq_zero_of_no_sems (by decide) r.2⟩)
    (Cert.GradUpRefIdeal.Value.run (F := Ideal) m g)

theorem frame_Branches : Cert.quiescent_BranchesRefIdeal (hBranchesRefIdeal := Cert.BranchesRefIdeal.Gen.facts) := fun m g _ =>
  (θ_run Cert.BranchesRefIdeal.defs _ _).mono (fun r h => ⟨fun c => (h c).2.2, sem_eq_zero_of_no_sems (by decide) r.2⟩)
    (Cert.BranchesRefIdeal.Value.run (F := Ideal) m g)

theorem frame_Loss : Cert.quiescent_LossRefIdeal (hLossRefIdeal := Cert.LossRefIdeal.Gen.facts) := fun m g _ =>
  (θ_run Cert.LossRefIdeal.defs _ _).mono (fun r h => ⟨fun c => (h c).2.2.2.2, sem_eq_zero_of_no_sems (by decide) r.2⟩)
    (Cert.LossRefIdeal.Value.run (F := Ideal) m g)

theorem frame_Norm : Cert.quiescent_NormRefIdeal (hNormRefIdeal := Cert.NormRefIdeal.Gen.facts) := fun m g _ =>
  (θ_run Cert.NormRefIdeal.defs _ _).mono (fun r h => ⟨fun c => (h c).2, sem_eq_zero_of_no_sems (by decide) r.2⟩)
    (Cert.NormRefIdeal.Value.run (F := Ideal) m g)

theorem frame_GradNorm1 : Cert.quiescent_GradNorm1RefIdeal (hGradNorm1RefIdeal := Cert.GradNorm1RefIdeal.Gen.facts) := fun m g _ =>
  (θ_run Cert.GradNorm1RefIdeal.defs _ _).mono (fun r h => ⟨fun c => (h c).2.2.2.2, sem_eq_zero_of_no_sems (by decide) r.2⟩)
    (Cert.GradNorm1RefIdeal.Value.run (F := Ideal) m g)

theorem frame_GradNorm2 : Cert.quiescent_GradNorm2RefIdeal (hGradNorm2RefIdeal := Cert.GradNorm2RefIdeal.Gen.facts) := fun m g _ =>
  (θ_run Cert.GradNorm2RefIdeal.defs _ _).mono (fun r h => ⟨fun c => (h c).2.2.2.2.2.2, sem_eq_zero_of_no_sems (by decide) r.2⟩)
    (Cert.GradNorm2RefIdeal.Value.run (F := Ideal) m g)

theorem claim : Cert.Claim :=
  ⟨Cert.Kernel.Gen.facts, Cert.KernelIdeal.Gen.facts, Cert.ReferenceIdeal.Gen.facts,
    Cert.Hidden.Gen.facts, Cert.HiddenIdeal.Gen.facts, Cert.HiddenRefIdeal.Gen.facts, Cert.GradFf2.Gen.facts, Cert.GradFf2Ideal.Gen.facts, Cert.GradFf2RefIdeal.Gen.facts, Cert.GradFf1.Gen.facts, Cert.GradFf1Ideal.Gen.facts, Cert.GradFf1RefIdeal.Gen.facts, Cert.GradH2.Gen.facts, Cert.GradH2Ideal.Gen.facts, Cert.GradH2RefIdeal.Gen.facts,
    Cert.GradO.Gen.facts, Cert.GradOIdeal.Gen.facts, Cert.GradORefIdeal.Gen.facts,
    Cert.Gates.Gen.facts, Cert.GatesIdeal.Gen.facts, Cert.GatesRefIdeal.Gen.facts,
    Cert.GradUp.Gen.facts, Cert.GradUpIdeal.Gen.facts, Cert.GradUpRefIdeal.Gen.facts,
    Cert.Branches.Gen.facts, Cert.BranchesIdeal.Gen.facts, Cert.BranchesRefIdeal.Gen.facts,
    Cert.Loss.Gen.facts, Cert.LossIdeal.Gen.facts, Cert.LossRefIdeal.Gen.facts,
    Cert.Norm.Gen.facts, Cert.NormIdeal.Gen.facts, Cert.NormRefIdeal.Gen.facts,
    Cert.GradNorm1.Gen.facts, Cert.GradNorm1Ideal.Gen.facts, Cert.GradNorm1RefIdeal.Gen.facts,
    Cert.GradNorm2.Gen.facts, Cert.GradNorm2Ideal.Gen.facts, Cert.GradNorm2RefIdeal.Gen.facts,
    Value.pre_facts, frame_p, frame_pi, fun m g _ => Run.frame m g, frame_ri, fun m g _ => frame_ri m g trivial,
    fun m g _ => Cert.Hidden.Gen.frame m g, fun m g _ => Cert.HiddenIdeal.Gen.frame m g, frame_Hidden,
    fun m g _ => Cert.GradFf2.Gen.frame m g, fun m g _ => Cert.GradFf2Ideal.Gen.frame m g, frame_GradFf2,
    fun m g _ => Cert.GradFf1.Gen.frame m g, fun m g _ => Cert.GradFf1Ideal.Gen.frame m g, frame_GradFf1,
    fun m g _ => Cert.GradH2.Gen.frame m g, fun m g _ => Cert.GradH2Ideal.Gen.frame m g, frame_GradH2,
    fun m g _ => Cert.GradO.Gen.frame m g, fun m g _ => Cert.GradOIdeal.Gen.frame m g, frame_GradO,
    fun m g _ => Cert.Gates.Gen.frame m g, fun m g _ => Cert.GatesIdeal.Gen.frame m g, frame_Gates,
    fun m g _ => Cert.GradUp.Gen.frame m g, fun m g _ => Cert.GradUpIdeal.Gen.frame m g, frame_GradUp,
    fun m g _ => Cert.Branches.Gen.frame m g, fun m g _ => Cert.BranchesIdeal.Gen.frame m g, frame_Branches,
    fun m g _ => Cert.Loss.Gen.frame m g, fun m g _ => Cert.LossIdeal.Gen.frame m g, frame_Loss,
    fun m g _ => Cert.Norm.Gen.frame m g, fun m g _ => Cert.NormIdeal.Gen.frame m g, frame_Norm,
    fun m g _ => Cert.GradNorm1.Gen.frame m g, fun m g _ => Cert.GradNorm1Ideal.Gen.frame m g, frame_GradNorm1,
    fun m g _ => Cert.GradNorm2.Gen.frame m g, fun m g _ => Cert.GradNorm2Ideal.Gen.frame m g, frame_GradNorm2,
    preserves, Value.algebraic, trivial, Mlp.Hidden.algebraic, trivial, Mlp.GradFf2.algebraic, trivial, Mlp.GradFf1.algebraic, trivial, Mlp.GradH2.algebraic,
    trivial, Mixer.GradO.algebraic, trivial, Mixer.Gates.algebraic, trivial, Mixer.GradUp.algebraic, trivial, Mixer.Branches.algebraic, trivial, Mixer.Loss.algebraic,
    trivial, Mixer.Norm.algebraic, trivial, Mixer.GradNorm1.algebraic, trivial, Mixer.GradNorm2.algebraic⟩

end Cert.Proof

end
